-- ==== Defs.lean ====
def Pre_Kernel [hPre_faces_in_range : Cert.Pre_faces_in_range.Facts] (m : (ℓ : Loc Cert.Kernel.nD Cert.Kernel.τ Cert.Kernel.sig) → Buf (Elt Bits) ℓ) : Prop :=
  ∀ c : Dev Cert.Kernel.nD,
    (Cert.Pre_faces_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_faces_in_range : Cert.Pre_faces_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_faces_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_nearest_set_apart [hPre_nearest_set_apart : Cert.Pre_nearest_set_apart.Facts] (m : (ℓ : Loc Cert.KernelIdeal.nD Cert.KernelIdeal.τ Cert.KernelIdeal.sig) → Buf (Elt Ideal) ℓ) : Prop :=
  ∀ c : Dev Cert.KernelIdeal.nD,
    (Cert.Pre_nearest_set_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nearest_set_apart [hPre_nearest_set_apart : Cert.Pre_nearest_set_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nearest_set_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_faces_in_range : Cert.Pre_faces_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_faces_in_range : Cert.Pre_faces_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_nearest_set_apart [hKernelIdeal : Cert.KernelIdeal.Facts] [hPre_nearest_set_apart : Cert.Pre_nearest_set_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nearest_set_apart m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_nearest_set_apart [hReferenceIdeal : Cert.ReferenceIdeal.Facts] [hPre_nearest_set_apart : Cert.Pre_nearest_set_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nearest_set_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_nearest_set_apart [hKernelIdeal : Cert.KernelIdeal.Facts] [hReferenceIdeal : Cert.ReferenceIdeal.Facts] [hPre_nearest_set_apart : Cert.Pre_nearest_set_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nearest_set_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_faces_in_range : Cert.Pre_faces_in_range.Facts) (hPre_nearest_set_apart : Cert.Pre_nearest_set_apart.Facts),
    quiescent_Kernel (hKernel := hKernel) (hPre_faces_in_range := hPre_faces_in_range)
    ∧ quiescent_KernelIdeal (hKernelIdeal := hKernelIdeal) (hPre_faces_in_range := hPre_faces_in_range)
    ∧ quiescent_KernelIdeal_pre_nearest_set_apart (hKernelIdeal := hKernelIdeal) (hPre_nearest_set_apart := hPre_nearest_set_apart)
    ∧ quiescent_ReferenceIdeal (hReferenceIdeal := hReferenceIdeal)
    ∧ quiescent_ReferenceIdeal_pre_nearest_set_apart (hReferenceIdeal := hReferenceIdeal) (hPre_nearest_set_apart := hPre_nearest_set_apart)
    ∧ preserves_Kernel_KernelIdeal
    ∧ algebraic_KernelIdeal_ReferenceIdeal_pre_nearest_set_apart (hKernelIdeal := hKernelIdeal) (hReferenceIdeal := hReferenceIdeal) (hPre_nearest_set_apart := hPre_nearest_set_apart)
-- ==== Pre_faces_in_range.lean ====
abbrev S10000x3 : Shape := ⟨2, ![10000, 3]⟩
abbrev S4096x3 : Shape := ⟨2, ![4096, 3]⟩
abbrev S4096 : Shape := ⟨1, ![4096]⟩
abbrev S_ : Shape := ⟨0, ![]⟩

class Facts : Prop where
  bcast_S_S4096x3 : S_.BroadcastsInDim S4096x3 (![] : Fin 0 → Fin S4096x3.rank)

variable [Facts]

def fn {F : FTy → Type} [FloatOps F] (main_arg0 : FVec F S10000x3 .f32) (main_arg1 : IVec S4096x3 32) (main_arg2 : FVec F S4096 .f32) : IVec S4096x3 1 :=
  let main_c : IVec S_ 32 := constantI S_ 32 0#32
  let main_v0 : IVec S4096x3 32 := broadcastInDim S4096x3 ![] bcast_S_S4096x3 main_c
  let main_v1 : IVec S4096x3 1 := cmpi .sge main_arg1 main_v0
  let main_c_0 : IVec S_ 32 := constantI S_ 32 10000#32
  let main_v2 : IVec S4096x3 32 := broadcastInDim S4096x3 ![] bcast_S_S4096x3 main_c_0
  let main_v3 : IVec S4096x3 1 := cmpi .slt main_arg1 main_v2
  let main_v4 : IVec S4096x3 1 := andi main_v1 main_v3
  main_v4
-- ==== Pre_nearest_set_apart.lean ====
abbrev S10000x3 : Shape := ⟨2, ![10000, 3]⟩
abbrev S4096x3 : Shape := ⟨2, ![4096, 3]⟩
abbrev S4096 : Shape := ⟨1, ![4096]⟩
abbrev S_ : Shape := ⟨0, ![]⟩
abbrev S4096x3x1 : Shape := ⟨3, ![4096, 3, 1]⟩
abbrev S4096x3x3 : Shape := ⟨3, ![4096, 3, 3]⟩
abbrev S4096x1x3 : Shape := ⟨3, ![4096, 1, 3]⟩
abbrev S1x4096x3 : Shape := ⟨3, ![1, 4096, 3]⟩
abbrev S4096x4096x3 : Shape := ⟨3, ![4096, 4096, 3]⟩
abbrev S4096x4096 : Shape := ⟨2, ![4096, 4096]⟩
abbrev S4096x21 : Shape := ⟨2, ![4096, 21]⟩
abbrev S4096x1 : Shape := ⟨2, ![4096, 1]⟩

class Facts : Prop where
  bcast_S_S4096x3 : S_.BroadcastsInDim S4096x3 (![] : Fin 0 → Fin S4096x3.rank)
  bcast_S4096x3_S4096x3x1_0_1 : S4096x3.BroadcastsInDim S4096x3x1 (![0, 1] : Fin 2 → Fin S4096x3x1.rank)
  reducesTo_S4096x3x3_S4096x3_d1 : S4096x3x3.ReducesTo [1] S4096x3
  h_S_ : 0 < S_.numel
  bcast_S4096x3_S4096x1x3_0_2 : S4096x3.BroadcastsInDim S4096x1x3 (![0, 2] : Fin 2 → Fin S4096x1x3.rank)
  bcast_S4096x3_S1x4096x3_1_2 : S4096x3.BroadcastsInDim S1x4096x3 (![1, 2] : Fin 2 → Fin S1x4096x3.rank)
  bcast_S4096x1x3_S4096x4096x3_0_1_2 : S4096x1x3.BroadcastsInDim S4096x4096x3 (![0, 1, 2] : Fin 3 → Fin S4096x4096x3.rank)
  bcast_S1x4096x3_S4096x4096x3_0_1_2 : S1x4096x3.BroadcastsInDim S4096x4096x3 (![0, 1, 2] : Fin 3 → Fin S4096x4096x3.rank)
  reducesTo_S4096x4096x3_S4096x4096_d2 : S4096x4096x3.ReducesTo [2] S4096x4096
  sliceFits_S4096x4096_S4096x21 : S4096x4096.Slices (fun _ => 0) S4096x21
  slices_S4096x21_S4096x1_0_19 : S4096x21.Slices ![0, 19] S4096x1
  shapeCasts_S4096x1_S4096 : S4096x1.ShapeCasts S4096
  slices_S4096x21_S4096x1_0_20 : S4096x21.Slices ![0, 20] S4096x1
  bcast_S4096_S4096x1_0 : S4096.BroadcastsInDim S4096x1 (![0] : Fin 1 → Fin S4096x1.rank)
  bcast_S4096x1_S4096x3_0_1 : S4096x1.BroadcastsInDim S4096x3 (![0, 1] : Fin 2 → Fin S4096x3.rank)
  gather_S10000x3_S4096x3x1_S4096x3x3_2_0_n_n_0_2_13_wf : GatherDims.WF S10000x3 S4096x3x1 S4096x3x3 [2] [0] [] [0] [] 2 ![1, 3]

variable [Facts]

def gather_S10000x3_S4096x3x1_S4096x3x3_2_0_n_n_0_2_13 : GatherDims S10000x3 S4096x3x1 S4096x3x3 where
  offsetDims := [2]
  collapsedSliceDims := [0]
  operandBatchingDims := []
  startIndicesBatchingDims := []
  startIndexMap := [0]
  indexVectorDim := 2
  sliceSizes := ![1, 3]
  wf := gather_S10000x3_S4096x3x1_S4096x3x3_2_0_n_n_0_2_13_wf
def fn_part1 {F : FTy → Type} [FloatOps F] (main_arg1 : IVec S4096x3 32) (main_v17 : FVec F S4096x4096 .f32) (main_values : FVec F S4096x21 .f32) : IVec S4096x3 1 :=
  let main_indices : IVec S4096x21 32 := (fun x => (Host.topK S4096x21 1 (FloatOps.cmpfTotal .gt) x sliceFits_S4096x4096_S4096x21).2) main_v17
  let main_v18 : FVec F S4096x1 .f32 := (extractStridedSlice S4096x1 ![0, 19] · slices_S4096x21_S4096x1_0_19) main_values
  let main_v19 : FVec F S4096 .f32 := shapeCast S4096 main_v18 shapeCasts_S4096x1_S4096
  let main_v20 : FVec F S4096x1 .f32 := (extractStridedSlice S4096x1 ![0, 20] · slices_S4096x21_S4096x1_0_20) main_values
  let main_v21 : FVec F S4096 .f32 := shapeCast S4096 main_v20 shapeCasts_S4096x1_S4096
  let main_v22 : IVec S4096 1 := cmpf .ogt main_v19 main_v21
  let main_c_3 : IVec S_ 32 := constantI S_ 32 0#32
  let main_v23 : IVec S4096x3 32 := broadcastInDim S4096x3 ![] bcast_S_S4096x3 main_c_3
  let main_v24 : IVec S4096x3 1 := cmpi .sge main_arg1 main_v23
  let main_c_4 : IVec S_ 32 := constantI S_ 32 10000#32
  let main_v25 : IVec S4096x3 32 := broadcastInDim S4096x3 ![] bcast_S_S4096x3 main_c_4
  let main_v26 : IVec S4096x3 1 := cmpi .slt main_arg1 main_v25
  let main_v27 : IVec S4096x3 1 := andi main_v24 main_v26
  let main_v28 : IVec S4096x1 1 := broadcastInDim S4096x1 ![0] bcast_S4096_S4096x1_0 main_v22
  let main_v29 : IVec S4096x3 1 := broadcastInDim S4096x3 ![0, 1] bcast_S4096x1_S4096x3_0_1 main_v28
  let main_v30 : IVec S4096x3 1 := andi main_v27 main_v29
  main_v30

def fn {F : FTy → Type} [FloatOps F] (main_arg0 : FVec F S10000x3 .f32) (main_arg1 : IVec S4096x3 32) (main_arg2 : FVec F S4096 .f32) : IVec S4096x3 1 :=
  let main_c : IVec S_ 32 := constantI S_ 32 0#32
  let main_v0 : IVec S4096x3 32 := broadcastInDim S4096x3 ![] bcast_S_S4096x3 main_c
  let main_v1 : IVec S4096x3 1 := cmpi .slt main_arg1 main_v0
  let main_c_0 : IVec S_ 32 := constantI S_ 32 10000#32
  let main_v2 : IVec S4096x3 32 := broadcastInDim S4096x3 ![] bcast_S_S4096x3 main_c_0
  let main_v3 : IVec S4096x3 32 := addi main_arg1 main_v2
  let main_v4 : IVec S4096x3 32 := select main_v1 main_v3 main_arg1
  let main_v5 : IVec S4096x3x1 32 := broadcastInDim S4096x3x1 ![0, 1] bcast_S4096x3_S4096x3x1_0_1 main_v4
  let main_v6 : FVec F S4096x3x3 .f32 := (fun x i => Host.gather gather_S10000x3_S4096x3x1_S4096x3x3_2_0_n_n_0_2_13 x i) main_arg0 main_v5
  let main_cst : FVec F S_ .f32 := constant S_ .f32 0x00000000#32
  let main_v7 : FVec F S4096x3 .f32 := (fun x v => Host.reduceAdd x v reducesTo_S4096x3x3_S4096x3_d1 h_S_) main_v6 main_cst
  let main_cst_1 : FVec F S_ .f32 := constant S_ .f32 0x40400000#32
  let main_v8 : FVec F S4096x3 .f32 := broadcastInDim S4096x3 ![] bcast_S_S4096x3 main_cst_1
  let main_v9 : FVec F S4096x3 .f32 := Host.divf main_v7 main_v8
  let main_v10 : FVec F S4096x1x3 .f32 := broadcastInDim S4096x1x3 ![0, 2] bcast_S4096x3_S4096x1x3_0_2 main_v9
  let main_v11 : FVec F S1x4096x3 .f32 := broadcastInDim S1x4096x3 ![1, 2] bcast_S4096x3_S1x4096x3_1_2 main_v9
  let main_v12 : FVec F S4096x4096x3 .f32 := broadcastInDim S4096x4096x3 ![0, 1, 2] bcast_S4096x1x3_S4096x4096x3_0_1_2 main_v10
  let main_v13 : FVec F S4096x4096x3 .f32 := broadcastInDim S4096x4096x3 ![0, 1, 2] bcast_S1x4096x3_S4096x4096x3_0_1_2 main_v11
  let main_v14 : FVec F S4096x4096x3 .f32 := subf main_v12 main_v13
  let main_v15 : FVec F S4096x4096x3 .f32 := mulf main_v14 main_v14
  let main_cst_2 : FVec F S_ .f32 := constant S_ .f32 0x00000000#32
  let main_v16 : FVec F S4096x4096 .f32 := (fun x v => Host.reduceAdd x v reducesTo_S4096x4096x3_S4096x4096_d2 h_S_) main_v15 main_cst_2
  let main_v17 : FVec F S4096x4096 .f32 := Host.negf main_v16
  let main_values : FVec F S4096x21 .f32 := (fun x => (Host.topK S4096x21 1 (FloatOps.cmpfTotal .gt) x sliceFits_S4096x4096_S4096x21).1) main_v17
  fn_part1 (F := F) main_arg1 main_v17 main_values
-- ==== Kernel.lean ====
abbrev S10000x3 : Shape := ⟨2, ![10000, 3]⟩
abbrev S4096x3 : Shape := ⟨2, ![4096, 3]⟩
abbrev S4096 : Shape := ⟨1, ![4096]⟩
abbrev S3 : Shape := ⟨1, ![3]⟩
abbrev S_ : Shape := ⟨0, ![]⟩
abbrev S4096x3x1 : Shape := ⟨3, ![4096, 3, 1]⟩
abbrev S4096x3x3 : Shape := ⟨3, ![4096, 3, 3]⟩
abbrev S4096x1 : Shape := ⟨2, ![4096, 1]⟩
abbrev S10000x1 : Shape := ⟨2, ![10000, 1]⟩
abbrev S10000 : Shape := ⟨1, ![10000]⟩
abbrev S4096x60 : Shape := ⟨2, ![4096, 60]⟩
abbrev S4112 : Shape := ⟨1, ![4112]⟩
abbrev S128x60 : Shape := ⟨2, ![128, 60]⟩
abbrev S32 : Shape := ⟨1, ![32]⟩
abbrev S16 : Shape := ⟨1, ![16]⟩
abbrev S1 : Shape := ⟨1, ![1]⟩
abbrev S3x1 : Shape := ⟨2, ![3, 1]⟩
abbrev S1x4096x1x3 : Shape := ⟨4, ![1, 4096, 1, 3]⟩
abbrev S1x4096x20x3 : Shape := ⟨4, ![1, 4096, 20, 3]⟩
abbrev S1x1 : Shape := ⟨2, ![1, 1]⟩
abbrev S1x4096x60 : Shape := ⟨3, ![1, 4096, 60]⟩
abbrev S1x1x1 : Shape := ⟨3, ![1, 1, 1]⟩

abbrev nBuf : Table → Nat
  | .hbm => 85
  | .local .tc .vmem => 11
  | .local .scVector .vmem => 16
  | _ => 0

abbrev bufTy : (tb : Table) → Fin (nBuf tb) → BufTy
  | .hbm, ⟨0, _⟩ => ⟨S10000x3, .f32⟩
  | .hbm, ⟨1, _⟩ => ⟨S4096x3, .i32⟩
  | .hbm, ⟨2, _⟩ => ⟨S4096, .f32⟩
  | .hbm, ⟨3, _⟩ => ⟨S3, .i32⟩
  | .hbm, ⟨4, _⟩ => ⟨S_, .i32⟩
  | .hbm, ⟨5, _⟩ => ⟨S4096x3, .i32⟩
  | .hbm, ⟨6, _⟩ => ⟨S4096x3, .i1⟩
  | .hbm, ⟨7, _⟩ => ⟨S_, .i32⟩
  | .hbm, ⟨8, _⟩ => ⟨S4096x3, .i32⟩
  | .hbm, ⟨9, _⟩ => ⟨S4096x3, .i32⟩
  | .hbm, ⟨10, _⟩ => ⟨S4096x3, .i32⟩
  | .hbm, ⟨11, _⟩ => ⟨S4096x3x1, .i32⟩
  | .hbm, ⟨12, _⟩ => ⟨S4096x3x3, .f32⟩
  | .hbm, ⟨13, _⟩ => ⟨S_, .f32⟩
  | .hbm, ⟨14, _⟩ => ⟨S4096x3, .f32⟩
  | .hbm, ⟨15, _⟩ => ⟨S_, .f32⟩
  | .hbm, ⟨16, _⟩ => ⟨S4096x3, .f32⟩
  | .hbm, ⟨17, _⟩ => ⟨S4096x3, .f32⟩
  | .hbm, ⟨18, _⟩ => ⟨S4096x1, .f32⟩
  | .hbm, ⟨19, _⟩ => ⟨S4096, .f32⟩
  | .hbm, ⟨20, _⟩ => ⟨S4096x1, .f32⟩
  | .hbm, ⟨21, _⟩ => ⟨S4096, .f32⟩
  | .hbm, ⟨22, _⟩ => ⟨S4096x1, .f32⟩
  | .hbm, ⟨23, _⟩ => ⟨S4096, .f32⟩
  | .hbm, ⟨24, _⟩ => ⟨S10000x1, .f32⟩
  | .hbm, ⟨25, _⟩ => ⟨S10000, .f32⟩
  | .hbm, ⟨26, _⟩ => ⟨S10000x1, .f32⟩
  | .hbm, ⟨27, _⟩ => ⟨S10000, .f32⟩
  | .hbm, ⟨28, _⟩ => ⟨S10000x1, .f32⟩
  | .hbm, ⟨29, _⟩ => ⟨S10000, .f32⟩
  | .hbm, ⟨30, _⟩ => ⟨S4096x1, .i32⟩
  | .hbm, ⟨31, _⟩ => ⟨S4096, .i32⟩
  | .hbm, ⟨32, _⟩ => ⟨S4096x1, .i32⟩
  | .hbm, ⟨33, _⟩ => ⟨S4096, .i32⟩
  | .hbm, ⟨34, _⟩ => ⟨S4096x1, .i32⟩
  | .hbm, ⟨35, _⟩ => ⟨S4096, .i32⟩
  | .hbm, ⟨36, _⟩ => ⟨S4096x60, .f32⟩
  | .hbm, ⟨37, _⟩ => ⟨S4096x60, .f32⟩
  | .hbm, ⟨38, _⟩ => ⟨S4096x60, .f32⟩
  | .hbm, ⟨39, _⟩ => ⟨S_, .i32⟩
  | .hbm, ⟨40, _⟩ => ⟨S3, .i32⟩
  | .hbm, ⟨41, _⟩ => ⟨S3, .i1⟩
  | .hbm, ⟨42, _⟩ => ⟨S_, .i32⟩
  | .hbm, ⟨43, _⟩ => ⟨S3, .i32⟩
  | .hbm, ⟨44, _⟩ => ⟨S3, .i32⟩
  | .hbm, ⟨45, _⟩ => ⟨S3, .i32⟩
  | .hbm, ⟨46, _⟩ => ⟨S3x1, .i32⟩
  | .hbm, ⟨47, _⟩ => ⟨S4096x3, .i32⟩
  | .hbm, ⟨48, _⟩ => ⟨S_, .i32⟩
  | .hbm, ⟨49, _⟩ => ⟨S4096x3, .i32⟩
  | .hbm, ⟨50, _⟩ => ⟨S4096x3, .i1⟩
  | .hbm, ⟨51, _⟩ => ⟨S_, .i32⟩
  | .hbm, ⟨52, _⟩ => ⟨S4096x3, .i32⟩
  | .hbm, ⟨53, _⟩ => ⟨S4096x3, .i32⟩
  | .hbm, ⟨54, _⟩ => ⟨S4096x3, .i32⟩
  | .hbm, ⟨55, _⟩ => ⟨S4096x3x1, .i32⟩
  | .hbm, ⟨56, _⟩ => ⟨S4096x3x3, .f32⟩
  | .hbm, ⟨57, _⟩ => ⟨S_, .i32⟩
  | .hbm, ⟨58, _⟩ => ⟨S4096x3, .i32⟩
  | .hbm, ⟨59, _⟩ => ⟨S4096x3, .i1⟩
  | .hbm, ⟨60, _⟩ => ⟨S_, .i32⟩
  | .hbm, ⟨61, _⟩ => ⟨S4096x3, .i32⟩
  | .hbm, ⟨62, _⟩ => ⟨S4096x3, .i32⟩
  | .hbm, ⟨63, _⟩ => ⟨S4096x3, .i32⟩
  | .hbm, ⟨64, _⟩ => ⟨S4096x3x1, .i32⟩
  | .hbm, ⟨65, _⟩ => ⟨S4096x3x3, .f32⟩
  | .hbm, ⟨66, _⟩ => ⟨S4096x3x3, .f32⟩
  | .hbm, ⟨67, _⟩ => ⟨S4096x3x1, .f32⟩
  | .hbm, ⟨68, _⟩ => ⟨S4096x3, .f32⟩
  | .hbm, ⟨69, _⟩ => ⟨S4096x3x1, .f32⟩
  | .hbm, ⟨70, _⟩ => ⟨S4096x3, .f32⟩
  | .hbm, ⟨71, _⟩ => ⟨S4096x3x1, .f32⟩
  | .hbm, ⟨72, _⟩ => ⟨S4096x3, .f32⟩
  | .hbm, ⟨73, _⟩ => ⟨S1x4096x1x3, .f32⟩
  | .hbm, ⟨74, _⟩ => ⟨S1x4096x20x3, .f32⟩
  | .hbm, ⟨75, _⟩ => ⟨S4096x60, .f32⟩
  | .hbm, ⟨76, _⟩ => ⟨S1x4096x1x3, .f32⟩
  | .hbm, ⟨77, _⟩ => ⟨S1x4096x20x3, .f32⟩
  | .hbm, ⟨78, _⟩ => ⟨S4096x60, .f32⟩
  | .hbm, ⟨79, _⟩ => ⟨S1x4096x1x3, .f32⟩
  | .hbm, ⟨80, _⟩ => ⟨S1x4096x20x3, .f32⟩
  | .hbm, ⟨81, _⟩ => ⟨S4096x60, .f32⟩
  | .hbm, ⟨82, _⟩ => ⟨S4096x1, .f32⟩
  | .hbm, ⟨83, _⟩ => ⟨S1x1, .f32⟩
  | .hbm, ⟨84, _⟩ => ⟨S_, .f32⟩
  | .local .tc .vmem, ⟨0, _⟩ => ⟨S4096x60, .f32⟩
  | .local .tc .vmem, ⟨1, _⟩ => ⟨S4096x60, .f32⟩
  | .local .tc .vmem, ⟨2, _⟩ => ⟨S4096x60, .f32⟩
  | .local .tc .vmem, ⟨3, _⟩ => ⟨S4096x3, .f32⟩
  | .local .tc .vmem, ⟨4, _⟩ => ⟨S4096x3, .f32⟩
  | .local .tc .vmem, ⟨5, _⟩ => ⟨S4096x3, .f32⟩
  | .local .tc .vmem, ⟨6, _⟩ => ⟨S4096x60, .f32⟩
  | .local .tc .vmem, ⟨7, _⟩ => ⟨S4096x60, .f32⟩
  | .local .tc .vmem, ⟨8, _⟩ => ⟨S4096x60, .f32⟩
  | .local .tc .vmem, ⟨9, _⟩ => ⟨S4096x1, .f32⟩
  | .local .tc .vmem, ⟨10, _⟩ => ⟨S1x1, .f32⟩
  | .local .scVector .vmem, ⟨0, _⟩ => ⟨S4112, .f32⟩
  | .local .scVector .vmem, ⟨1, _⟩ => ⟨S4112, .f32⟩
  | .local .scVector .vmem, ⟨2, _⟩ => ⟨S4112, .f32⟩
  | .local .scVector .vmem, ⟨3, _⟩ => ⟨S4096, .f32⟩
  | .local .scVector .vmem, ⟨4, _⟩ => ⟨S4112, .i32⟩
  | .local .scVector .vmem, ⟨5, _⟩ => ⟨S10000, .f32⟩
  | .local .scVector .vmem, ⟨6, _⟩ => ⟨S10000, .f32⟩
  | .local .scVector .vmem, ⟨7, _⟩ => ⟨S10000, .f32⟩
  | .local .scVector .vmem, ⟨8, _⟩ => ⟨S4096, .i32⟩
  | .local .scVector .vmem, ⟨9, _⟩ => ⟨S4096, .i32⟩
  | .local .scVector .vmem, ⟨10, _⟩ => ⟨S4096, .i32⟩
  | .local .scVector .vmem, ⟨11, _⟩ => ⟨S128x60, .f32⟩
  | .local .scVector .vmem, ⟨12, _⟩ => ⟨S128x60, .f32⟩
  | .local .scVector .vmem, ⟨13, _⟩ => ⟨S128x60, .f32⟩
  | .local .scVector .vmem, ⟨14, _⟩ => ⟨S32, .f32⟩
  | .local .scVector .vmem, ⟨15, _⟩ => ⟨S32, .i32⟩
  | _, _ => ⟨S10000x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_c_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28_0 : Ref sig .tc := ⟨.hbm, 36, rfl⟩
abbrev main_v28_1 : Ref sig .tc := ⟨.hbm, 37, rfl⟩
abbrev main_v28_2 : Ref sig .tc := ⟨.hbm, 38, rfl⟩
abbrev main_c_3 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_5 : Ref sig .tc := ⟨.hbm, 48, rfl⟩
abbrev main_v36 : Ref sig .tc := ⟨.hbm, 49, rfl⟩
abbrev main_v37 : Ref sig .tc := ⟨.hbm, 50, rfl⟩
abbrev main_c_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_7 : Ref sig .tc := ⟨.hbm, 57, rfl⟩
abbrev main_v43 : Ref sig .tc := ⟨.hbm, 58, rfl⟩
abbrev main_v44 : Ref sig .tc := ⟨.hbm, 59, rfl⟩
abbrev main_c_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v11_scv : Ref sig .scVector := ⟨.hbm, 19, rfl⟩
abbrev main_v13_scv : Ref sig .scVector := ⟨.hbm, 21, rfl⟩
abbrev main_v15_scv : Ref sig .scVector := ⟨.hbm, 23, rfl⟩
abbrev main_v17_scv : Ref sig .scVector := ⟨.hbm, 25, rfl⟩
abbrev main_v19_scv : Ref sig .scVector := ⟨.hbm, 27, rfl⟩
abbrev main_v21_scv : Ref sig .scVector := ⟨.hbm, 29, rfl⟩
abbrev main_v23_scv : Ref sig .scVector := ⟨.hbm, 31, rfl⟩
abbrev main_v25_scv : Ref sig .scVector := ⟨.hbm, 33, rfl⟩
abbrev main_v27_scv : Ref sig .scVector := ⟨.hbm, 35, rfl⟩
abbrev main_v28_0_scv : Ref sig .scVector := ⟨.hbm, 36, rfl⟩
abbrev main_v28_1_scv : Ref sig .scVector := ⟨.hbm, 37, rfl⟩
abbrev main_v28_2_scv : Ref sig .scVector := ⟨.hbm, 38, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc1_stg10_0 : Ref sig .tc := ⟨.vmem, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev cc0_scratch15 : Ref sig .scVector := ⟨.vmem, 15, rfl⟩
abbrev cc1_sem0_0 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c128_i32_1 : BitVec 32 := 128#32
  let v4 : BitVec 32 := Scalar.addi c0_i32_0 c128_i32_1
  let c1_i32 : BitVec 32 := 1#32
  ⟨c0_i32_0, v4, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_0 : BitVec 32 := 0#32
  let c1_i32 : BitVec 32 := 1#32
  let arg31 : BitVec 32 := Scf.iv c0_i32_0 c1_i32 k0_t1
  let v5 : BitVec 32 := Scalar.addi v2 arg31
  let v6 : Index := Scalar.indexCast v5
  ![v6.toNat]
@[reducible] def k0_t2_loop : Scf.Loop 32 :=
  let c0_i32_4 : BitVec 32 := 0#32
  let c64_i32 : BitVec 32 := 64#32
  let v25 : BitVec 32 := Scalar.addi c0_i32_4 c64_i32
  let c1_i32_5 : BitVec 32 := 1#32
  ⟨c0_i32_4, v25, c1_i32_5⟩
def k0_off2 (k0_t2 : Fin k0_t2_loop.trips) (c0_i32_68 : BitVec 32) : Fin 1 → Nat :=
  let c0_i32_4 : BitVec 32 := 0#32
  let c1_i32_5 : BitVec 32 := 1#32
  let arg32 : BitVec 32 := Scf.iv c0_i32_4 c1_i32_5 k0_t2
  let c64_i32_67 : BitVec 32 := 64#32
  let v164 : BitVec 32 := Scalar.muli arg32 c64_i32_67
  let v165 : BitVec 32 := Scalar.addi v164 c0_i32_68
  let v166 : Index := Scalar.indexCast v165
  ![v166.toNat]
def k0_off3 (k0_t2 : Fin k0_t2_loop.trips) (c0_i32_68 : BitVec 32) : Fin 1 → Nat :=
  let c0_i32_4 : BitVec 32 := 0#32
  let c1_i32_5 : BitVec 32 := 1#32
  let arg32 : BitVec 32 := Scf.iv c0_i32_4 c1_i32_5 k0_t2
  let c64_i32_67 : BitVec 32 := 64#32
  let v164 : BitVec 32 := Scalar.muli arg32 c64_i32_67
  let v165 : BitVec 32 := Scalar.addi v164 c0_i32_68
  let v180 : Index := Scalar.indexCast v165
  ![v180.toNat]
@[reducible] def k0_t3_loop : Scf.Loop 32 :=
  let c0_i32_9 : BitVec 32 := 0#32
  let c16_i32 : BitVec 32 := 16#32
  let v31 : BitVec 32 := Scalar.addi c0_i32_9 c16_i32
  let c1_i32_10 : BitVec 32 := 1#32
  ⟨c0_i32_9, v31, c1_i32_10⟩

def k0_chk1 (v164 : IVec S16 32) : Prop :=
  (∀ a x, ((![v164] : Fin 1 → IVec S16 32) a x).toNat < S32.size a)
theorem k0_idx1_inb : ∀ (v164 : IVec S16 32) (k0_hw1 : k0_chk1 v164), ∀ a x, ((![v164] : Fin 1 → IVec S16 32) a x).toNat < S32.size a := fun v164 k0_hw1 => k0_hw1

def k0_chk2 (v32 : IVec S16 32) : Prop :=
  (∀ a x, ((![v32] : Fin 1 → IVec S16 32) a x).toNat < S32.size a) ∧
  (∀ a x, ((![v32] : Fin 1 → IVec S16 32) a x).toNat < S32.size a)
theorem k0_idx2_inb : ∀ (v32 : IVec S16 32) (k0_hw2 : k0_chk2 v32), ∀ a x, ((![v32] : Fin 1 → IVec S16 32) a x).toNat < S32.size a := fun v32 k0_hw2 => k0_hw2.1
theorem k0_idx3_inb : ∀ (v32 : IVec S16 32) (k0_hw2 : k0_chk2 v32), ∀ a x, ((![v32] : Fin 1 → IVec S16 32) a x).toNat < S32.size a := fun v32 k0_hw2 => k0_hw2.2
@[reducible] def k0_t4_loop : Scf.Loop 32 :=
  let c0_i32_17 : BitVec 32 := 0#32
  let c16_i32_18 : BitVec 32 := 16#32
  let v39 : BitVec 32 := Scalar.addi c0_i32_17 c16_i32_18
  let c1_i32_19 : BitVec 32 := 1#32
  ⟨c0_i32_17, v39, c1_i32_19⟩

def k0_chk3 (v164 : IVec S16 32) : Prop :=
  (∀ a x, ((![v164] : Fin 1 → IVec S16 32) a x).toNat < S32.size a)
theorem k0_idx4_inb : ∀ (v164 : IVec S16 32) (k0_hw3 : k0_chk3 v164), ∀ a x, ((![v164] : Fin 1 → IVec S16 32) a x).toNat < S32.size a := fun v164 k0_hw3 => k0_hw3

def k0_chk4 (v40 : IVec S16 32) : Prop :=
  (∀ a x, ((![v40] : Fin 1 → IVec S16 32) a x).toNat < S32.size a) ∧
  (∀ a x, ((![v40] : Fin 1 → IVec S16 32) a x).toNat < S32.size a)
theorem k0_idx5_inb : ∀ (v40 : IVec S16 32) (k0_hw4 : k0_chk4 v40), ∀ a x, ((![v40] : Fin 1 → IVec S16 32) a x).toNat < S32.size a := fun v40 k0_hw4 => k0_hw4.1
theorem k0_idx6_inb : ∀ (v40 : IVec S16 32) (k0_hw4 : k0_chk4 v40), ∀ a x, ((![v40] : Fin 1 → IVec S16 32) a x).toNat < S32.size a := fun v40 k0_hw4 => k0_hw4.2

def k0_chk5 (v46 : IVec S16 32) : Prop :=
  (∀ a x, ((![v46] : Fin 1 → IVec S16 32) a x).toNat < S32.size a)
theorem k0_idx7_inb : ∀ (v46 : IVec S16 32) (k0_hw5 : k0_chk5 v46), ∀ a x, ((![v46] : Fin 1 → IVec S16 32) a x).toNat < S32.size a := fun v46 k0_hw5 => k0_hw5
@[reducible] def k0_t5_loop : Scf.Loop 32 :=
  let c0_i32_27 : BitVec 32 := 0#32
  let c16_i32_28 : BitVec 32 := 16#32
  let v53 : BitVec 32 := Scalar.addi c0_i32_27 c16_i32_28
  let c1_i32_29 : BitVec 32 := 1#32
  ⟨c0_i32_27, v53, c1_i32_29⟩

def k0_chk6 (v164 : IVec S16 32) : Prop :=
  (∀ a x, ((![v164] : Fin 1 → IVec S16 32) a x).toNat < S32.size a)
theorem k0_idx8_inb : ∀ (v164 : IVec S16 32) (k0_hw6 : k0_chk6 v164), ∀ a x, ((![v164] : Fin 1 → IVec S16 32) a x).toNat < S32.size a := fun v164 k0_hw6 => k0_hw6

def k0_chk7 (v54 : IVec S16 32) : Prop :=
  (∀ a x, ((![v54] : Fin 1 → IVec S16 32) a x).toNat < S32.size a) ∧
  (∀ a x, ((![v54] : Fin 1 → IVec S16 32) a x).toNat < S32.size a)
theorem k0_idx9_inb : ∀ (v54 : IVec S16 32) (k0_hw7 : k0_chk7 v54), ∀ a x, ((![v54] : Fin 1 → IVec S16 32) a x).toNat < S32.size a := fun v54 k0_hw7 => k0_hw7.1
theorem k0_idx10_inb : ∀ (v54 : IVec S16 32) (k0_hw7 : k0_chk7 v54), ∀ a x, ((![v54] : Fin 1 → IVec S16 32) a x).toNat < S32.size a := fun v54 k0_hw7 => k0_hw7.2
@[reducible] def k0_t6_loop : Scf.Loop 32 :=
  let c0_i32_34 : BitVec 32 := 0#32
  let c128_i32_35 : BitVec 32 := 128#32
  let v60 : BitVec 32 := Scalar.addi c0_i32_34 c128_i32_35
  let c1_i32_36 : BitVec 32 := 1#32
  ⟨c0_i32_34, v60, c1_i32_36⟩
def k0_off4 (k0_t6 : Fin k0_t6_loop.trips) : Fin 1 → Nat :=
  let c0_i32_34 : BitVec 32 := 0#32
  let c1_i32_36 : BitVec 32 := 1#32
  let arg32 : BitVec 32 := Scf.iv c0_i32_34 c1_i32_36 k0_t6
  let c32_i32 : BitVec 32 := 32#32
  let v164 : BitVec 32 := Scalar.muli arg32 c32_i32
  let v165 : Index := Scalar.indexCast v164
  ![v165.toNat]
def k0_off5 (k0_t6 : Fin k0_t6_loop.trips) : Fin 1 → Nat :=
  let c0_i32_34 : BitVec 32 := 0#32
  let c1_i32_36 : BitVec 32 := 1#32
  let arg32 : BitVec 32 := Scf.iv c0_i32_34 c1_i32_36 k0_t6
  let c32_i32 : BitVec 32 := 32#32
  let v164 : BitVec 32 := Scalar.muli arg32 c32_i32
  let c16_i32_67 : BitVec 32 := 16#32
  let v167 : BitVec 32 := Scalar.addi v164 c16_i32_67
  let v168 : Index := Scalar.indexCast v167
  ![v168.toNat]
def k0_cond1 (v179 : BitVec 32) : BitVec 1 :=
  let c0_i32_70 : BitVec 32 := 0#32
  let v180 : BitVec 1 := Scalar.cmpi .sgt v179 c0_i32_70
  let v181 : BitVec 32 := Scalar.extui v180
  let c0_i32_71 : BitVec 32 := 0#32
  let v182 : BitVec 1 := Scalar.cmpi .ne v181 c0_i32_71
  v182

def k0_chk8 (v179 : BitVec 32) (v194 : IVec S16 32) : Prop :=
  (∀ (k0_h1 : k0_cond1 v179 = 1#1), ∀ a x, ((![v194] : Fin 1 → IVec S16 32) a x).toNat < S4112.size a)
theorem k0_idx11_inb : ∀ (v179 : BitVec 32) (v194 : IVec S16 32) (k0_hw8 : k0_chk8 v179 v194), ∀ (k0_h1 : k0_cond1 v179 = 1#1), ∀ a x, ((![v194] : Fin 1 → IVec S16 32) a x).toNat < S4112.size a := fun v179 v194 k0_hw8 k0_h1 => k0_hw8 k0_h1

def k0_chk9 (v179 : BitVec 32) (v210 : IVec S16 32) : Prop :=
  (∀ (k0_h1 : k0_cond1 v179 = 1#1), ∀ a x, ((![v210] : Fin 1 → IVec S16 32) a x).toNat < S4112.size a)
theorem k0_idx12_inb : ∀ (v179 : BitVec 32) (v210 : IVec S16 32) (k0_hw9 : k0_chk9 v179 v210), ∀ (k0_h1 : k0_cond1 v179 = 1#1), ∀ a x, ((![v210] : Fin 1 → IVec S16 32) a x).toNat < S4112.size a := fun v179 v210 k0_hw9 k0_h1 => k0_hw9 k0_h1
@[reducible] def k0_t7_loop (v61 : BitVec 32) : Scf.Loop 32 :=
  let c0_i32_50 : BitVec 32 := 0#32
  let c15_i32_38 : BitVec 32 := 15#32
  let v62 : BitVec 32 := Scalar.addi v61 c15_i32_38
  let c0_i32_40 : BitVec 32 := 0#32
  let v64 : BitVec 1 := Scalar.cmpi .sgt v62 c0_i32_40
  let v65 : BitVec 32 := Scalar.extui v64
  let c0_i32_41 : BitVec 32 := 0#32
  let v66 : BitVec 1 := Scalar.cmpi .slt v62 c0_i32_41
  let v67 : BitVec 32 := Scalar.extui v66
  let v68 : BitVec 32 := Scalar.subi v65 v67
  let c16_i32_39 : BitVec 32 := 16#32
  let c0_i32_42 : BitVec 32 := 0#32
  let v69 : BitVec 1 := Scalar.cmpi .sgt c16_i32_39 c0_i32_42
  let v70 : BitVec 32 := Scalar.extui v69
  let c0_i32_43 : BitVec 32 := 0#32
  let v71 : BitVec 1 := Scalar.cmpi .slt c16_i32_39 c0_i32_43
  let v72 : BitVec 32 := Scalar.extui v71
  let v73 : BitVec 32 := Scalar.subi v70 v72
  let v74 : BitVec 1 := Scalar.cmpi .ne v68 v73
  let v75 : BitVec 32 := Scalar.remsi v62 c16_i32_39
  let c0_i32_44 : BitVec 32 := 0#32
  let v76 : BitVec 1 := Scalar.cmpi .ne v75 c0_i32_44
  let v77 : BitVec 1 := Scalar.andi v74 v76
  let v63 : BitVec 32 := Scalar.divsi v62 c16_i32_39
  let c1_i32_45 : BitVec 32 := 1#32
  let v78 : BitVec 32 := Scalar.subi v63 c1_i32_45
  let v79 : BitVec 32 := Scalar.select v77 v78 v63
  let v84 : BitVec 32 := Scalar.subi v79 c0_i32_50
  let c1_i32_51 : BitVec 32 := 1#32
  let v86 : BitVec 32 := Scalar.divsi v84 c1_i32_51
  let v87 : BitVec 32 := Scalar.muli v86 c1_i32_51
  let v88 : BitVec 32 := Scalar.addi c0_i32_50 v87
  let c1_i32_52 : BitVec 32 := 1#32
  ⟨c0_i32_50, v88, c1_i32_52⟩

def k0_off6 (v61 : BitVec 32) (k0_t7 : Fin (k0_t7_loop v61).trips) : Fin 1 → Nat :=
  let c0_i32_50 : BitVec 32 := 0#32
  let c1_i32_52 : BitVec 32 := 1#32
  let arg32 : BitVec 32 := Scf.iv c0_i32_50 c1_i32_52 k0_t7
  let c16_i32_67 : BitVec 32 := 16#32
  let v164 : BitVec 32 := Scalar.muli arg32 c16_i32_67
  let v165 : Index := Scalar.indexCast v164
  ![v165.toNat]

def k0_chk11 (v173 : IVec S16 32) : Prop :=
  (∀ a x, ((![v173] : Fin 1 → IVec S16 32) a x).toNat < S4096.size a)
theorem k0_idx13_inb : ∀ (v173 : IVec S16 32) (k0_hw11 : k0_chk11 v173), ∀ a x, ((![v173] : Fin 1 → IVec S16 32) a x).toNat < S4096.size a := fun v173 k0_hw11 => k0_hw11
@[reducible] def k0_t8_loop : Scf.Loop 32 :=
  let c0_i32_74 : BitVec 32 := 0#32
  let c16_i32_75 : BitVec 32 := 16#32
  let v181 : BitVec 32 := Scalar.addi c0_i32_74 c16_i32_75
  let c1_i32_76 : BitVec 32 := 1#32
  ⟨c0_i32_74, v181, c1_i32_76⟩

def k0_chk12 (v237 : IVec S16 32) : Prop :=
  (∀ a x, ((![v237] : Fin 1 → IVec S16 32) a x).toNat < S32.size a)
theorem k0_idx14_inb : ∀ (v237 : IVec S16 32) (k0_hw12 : k0_chk12 v237), ∀ a x, ((![v237] : Fin 1 → IVec S16 32) a x).toNat < S32.size a := fun v237 k0_hw12 => k0_hw12

def k0_chk13 (v182 : IVec S16 32) : Prop :=
  (∀ a x, ((![v182] : Fin 1 → IVec S16 32) a x).toNat < S32.size a) ∧
  (∀ a x, ((![v182] : Fin 1 → IVec S16 32) a x).toNat < S32.size a)
theorem k0_idx15_inb : ∀ (v182 : IVec S16 32) (k0_hw13 : k0_chk13 v182), ∀ a x, ((![v182] : Fin 1 → IVec S16 32) a x).toNat < S32.size a := fun v182 k0_hw13 => k0_hw13.1
theorem k0_idx16_inb : ∀ (v182 : IVec S16 32) (k0_hw13 : k0_chk13 v182), ∀ a x, ((![v182] : Fin 1 → IVec S16 32) a x).toNat < S32.size a := fun v182 k0_hw13 => k0_hw13.2

def k0_chk14 (v188 : IVec S16 32) : Prop :=
  (∀ a x, ((![v188] : Fin 1 → IVec S16 32) a x).toNat < S32.size a)
theorem k0_idx17_inb : ∀ (v188 : IVec S16 32) (k0_hw14 : k0_chk14 v188), ∀ a x, ((![v188] : Fin 1 → IVec S16 32) a x).toNat < S32.size a := fun v188 k0_hw14 => k0_hw14

def k0_chk15 (v193 : IVec S16 32) : Prop :=
  (∀ a x, ((![v193] : Fin 1 → IVec S16 32) a x).toNat < S32.size a)
theorem k0_idx18_inb : ∀ (v193 : IVec S16 32) (k0_hw15 : k0_chk15 v193), ∀ a x, ((![v193] : Fin 1 → IVec S16 32) a x).toNat < S32.size a := fun v193 k0_hw15 => k0_hw15
@[reducible] def k0_t9_loop : Scf.Loop 32 :=
  let c0_i32_87 : BitVec 32 := 0#32
  let c16_i32_88 : BitVec 32 := 16#32
  let v202 : BitVec 32 := Scalar.addi c0_i32_87 c16_i32_88
  let c1_i32_89 : BitVec 32 := 1#32
  ⟨c0_i32_87, v202, c1_i32_89⟩

def k0_chk16 (v237 : IVec S16 32) : Prop :=
  (∀ a x, ((![v237] : Fin 1 → IVec S16 32) a x).toNat < S32.size a)
theorem k0_idx19_inb : ∀ (v237 : IVec S16 32) (k0_hw16 : k0_chk16 v237), ∀ a x, ((![v237] : Fin 1 → IVec S16 32) a x).toNat < S32.size a := fun v237 k0_hw16 => k0_hw16

def k0_chk17 (v203 : IVec S16 32) : Prop :=
  (∀ a x, ((![v203] : Fin 1 → IVec S16 32) a x).toNat < S32.size a) ∧
  (∀ a x, ((![v203] : Fin 1 → IVec S16 32) a x).toNat < S32.size a)
theorem k0_idx20_inb : ∀ (v203 : IVec S16 32) (k0_hw17 : k0_chk17 v203), ∀ a x, ((![v203] : Fin 1 → IVec S16 32) a x).toNat < S32.size a := fun v203 k0_hw17 => k0_hw17.1
theorem k0_idx21_inb : ∀ (v203 : IVec S16 32) (k0_hw17 : k0_chk17 v203), ∀ a x, ((![v203] : Fin 1 → IVec S16 32) a x).toNat < S32.size a := fun v203 k0_hw17 => k0_hw17.2

def k0_chk18 (v209 : IVec S16 32) : Prop :=
  (∀ a x, ((![v209] : Fin 1 → IVec S16 32) a x).toNat < S32.size a)
theorem k0_idx22_inb : ∀ (v209 : IVec S16 32) (k0_hw18 : k0_chk18 v209), ∀ a x, ((![v209] : Fin 1 → IVec S16 32) a x).toNat < S32.size a := fun v209 k0_hw18 => k0_hw18

def k0_chk19 (v214 : IVec S16 32) : Prop :=
  (∀ a x, ((![v214] : Fin 1 → IVec S16 32) a x).toNat < S32.size a)
theorem k0_idx23_inb : ∀ (v214 : IVec S16 32) (k0_hw19 : k0_chk19 v214), ∀ a x, ((![v214] : Fin 1 → IVec S16 32) a x).toNat < S32.size a := fun v214 k0_hw19 => k0_hw19
@[reducible] def k0_t10_loop : Scf.Loop 32 :=
  let c0_i32_100 : BitVec 32 := 0#32
  let c16_i32_101 : BitVec 32 := 16#32
  let v225 : BitVec 32 := Scalar.addi c0_i32_100 c16_i32_101
  let c1_i32_102 : BitVec 32 := 1#32
  ⟨c0_i32_100, v225, c1_i32_102⟩

def k0_chk20 (v237 : IVec S16 32) : Prop :=
  (∀ a x, ((![v237] : Fin 1 → IVec S16 32) a x).toNat < S32.size a)
theorem k0_idx24_inb : ∀ (v237 : IVec S16 32) (k0_hw20 : k0_chk20 v237), ∀ a x, ((![v237] : Fin 1 → IVec S16 32) a x).toNat < S32.size a := fun v237 k0_hw20 => k0_hw20

def k0_chk21 (v226 : IVec S16 32) : Prop :=
  (∀ a x, ((![v226] : Fin 1 → IVec S16 32) a x).toNat < S32.size a) ∧
  (∀ a x, ((![v226] : Fin 1 → IVec S16 32) a x).toNat < S32.size a)
theorem k0_idx25_inb : ∀ (v226 : IVec S16 32) (k0_hw21 : k0_chk21 v226), ∀ a x, ((![v226] : Fin 1 → IVec S16 32) a x).toNat < S32.size a := fun v226 k0_hw21 => k0_hw21.1
theorem k0_idx26_inb : ∀ (v226 : IVec S16 32) (k0_hw21 : k0_chk21 v226), ∀ a x, ((![v226] : Fin 1 → IVec S16 32) a x).toNat < S32.size a := fun v226 k0_hw21 => k0_hw21.2
@[reducible] def k0_t11_loop : Scf.Loop 32 :=
  let c0_i32_109 : BitVec 32 := 0#32
  let c16_i32_110 : BitVec 32 := 16#32
  let v233 : BitVec 32 := Scalar.addi c0_i32_109 c16_i32_110
  let c1_i32_111 : BitVec 32 := 1#32
  ⟨c0_i32_109, v233, c1_i32_111⟩

def k0_chk22 (v237 : IVec S16 32) : Prop :=
  (∀ a x, ((![v237] : Fin 1 → IVec S16 32) a x).toNat < S32.size a)
theorem k0_idx27_inb : ∀ (v237 : IVec S16 32) (k0_hw22 : k0_chk22 v237), ∀ a x, ((![v237] : Fin 1 → IVec S16 32) a x).toNat < S32.size a := fun v237 k0_hw22 => k0_hw22

def k0_chk23 (v234 : IVec S16 32) : Prop :=
  (∀ a x, ((![v234] : Fin 1 → IVec S16 32) a x).toNat < S32.size a) ∧
  (∀ a x, ((![v234] : Fin 1 → IVec S16 32) a x).toNat < S32.size a)
theorem k0_idx28_inb : ∀ (v234 : IVec S16 32) (k0_hw23 : k0_chk23 v234), ∀ a x, ((![v234] : Fin 1 → IVec S16 32) a x).toNat < S32.size a := fun v234 k0_hw23 => k0_hw23.1
theorem k0_idx29_inb : ∀ (v234 : IVec S16 32) (k0_hw23 : k0_chk23 v234), ∀ a x, ((![v234] : Fin 1 → IVec S16 32) a x).toNat < S32.size a := fun v234 k0_hw23 => k0_hw23.2
@[reducible] def k0_t12_loop (v61 : BitVec 32) : Scf.Loop 32 :=
  let c0_i32_50 : BitVec 32 := 0#32
  let c15_i32_38 : BitVec 32 := 15#32
  let v62 : BitVec 32 := Scalar.addi v61 c15_i32_38
  let c0_i32_40 : BitVec 32 := 0#32
  let v64 : BitVec 1 := Scalar.cmpi .sgt v62 c0_i32_40
  let v65 : BitVec 32 := Scalar.extui v64
  let c0_i32_41 : BitVec 32 := 0#32
  let v66 : BitVec 1 := Scalar.cmpi .slt v62 c0_i32_41
  let v67 : BitVec 32 := Scalar.extui v66
  let v68 : BitVec 32 := Scalar.subi v65 v67
  let c16_i32_39 : BitVec 32 := 16#32
  let c0_i32_42 : BitVec 32 := 0#32
  let v69 : BitVec 1 := Scalar.cmpi .sgt c16_i32_39 c0_i32_42
  let v70 : BitVec 32 := Scalar.extui v69
  let c0_i32_43 : BitVec 32 := 0#32
  let v71 : BitVec 1 := Scalar.cmpi .slt c16_i32_39 c0_i32_43
  let v72 : BitVec 32 := Scalar.extui v71
  let v73 : BitVec 32 := Scalar.subi v70 v72
  let v74 : BitVec 1 := Scalar.cmpi .ne v68 v73
  let v75 : BitVec 32 := Scalar.remsi v62 c16_i32_39
  let c0_i32_44 : BitVec 32 := 0#32
  let v76 : BitVec 1 := Scalar.cmpi .ne v75 c0_i32_44
  let v77 : BitVec 1 := Scalar.andi v74 v76
  let v63 : BitVec 32 := Scalar.divsi v62 c16_i32_39
  let c1_i32_45 : BitVec 32 := 1#32
  let v78 : BitVec 32 := Scalar.subi v63 c1_i32_45
  let v79 : BitVec 32 := Scalar.select v77 v78 v63
  let v84 : BitVec 32 := Scalar.subi v79 c0_i32_50
  let c1_i32_51 : BitVec 32 := 1#32
  let v86 : BitVec 32 := Scalar.divsi v84 c1_i32_51
  let v87 : BitVec 32 := Scalar.muli v86 c1_i32_51
  let v88 : BitVec 32 := Scalar.addi c0_i32_50 v87
  let v85 : BitVec 32 := Scalar.addi c0_i32_50 v84
  let c1_i32_53 : BitVec 32 := 1#32
  ⟨v88, v85, c1_i32_53⟩
def k0_off7 (v61 : BitVec 32) (k0_t12 : Fin (k0_t12_loop v61).trips) : Fin 1 → Nat :=
  let c0_i32_50 : BitVec 32 := 0#32
  let c15_i32_38 : BitVec 32 := 15#32
  let v62 : BitVec 32 := Scalar.addi v61 c15_i32_38
  let c0_i32_40 : BitVec 32 := 0#32
  let v64 : BitVec 1 := Scalar.cmpi .sgt v62 c0_i32_40
  let v65 : BitVec 32 := Scalar.extui v64
  let c0_i32_41 : BitVec 32 := 0#32
  let v66 : BitVec 1 := Scalar.cmpi .slt v62 c0_i32_41
  let v67 : BitVec 32 := Scalar.extui v66
  let v68 : BitVec 32 := Scalar.subi v65 v67
  let c16_i32_39 : BitVec 32 := 16#32
  let c0_i32_42 : BitVec 32 := 0#32
  let v69 : BitVec 1 := Scalar.cmpi .sgt c16_i32_39 c0_i32_42
  let v70 : BitVec 32 := Scalar.extui v69
  let c0_i32_43 : BitVec 32 := 0#32
  let v71 : BitVec 1 := Scalar.cmpi .slt c16_i32_39 c0_i32_43
  let v72 : BitVec 32 := Scalar.extui v71
  let v73 : BitVec 32 := Scalar.subi v70 v72
  let v74 : BitVec 1 := Scalar.cmpi .ne v68 v73
  let v75 : BitVec 32 := Scalar.remsi v62 c16_i32_39
  let c0_i32_44 : BitVec 32 := 0#32
  let v76 : BitVec 1 := Scalar.cmpi .ne v75 c0_i32_44
  let v77 : BitVec 1 := Scalar.andi v74 v76
  let v63 : BitVec 32 := Scalar.divsi v62 c16_i32_39
  let c1_i32_45 : BitVec 32 := 1#32
  let v78 : BitVec 32 := Scalar.subi v63 c1_i32_45
  let v79 : BitVec 32 := Scalar.select v77 v78 v63
  let v84 : BitVec 32 := Scalar.subi v79 c0_i32_50
  let c1_i32_51 : BitVec 32 := 1#32
  let v86 : BitVec 32 := Scalar.divsi v84 c1_i32_51
  let v87 : BitVec 32 := Scalar.muli v86 c1_i32_51
  let v88 : BitVec 32 := Scalar.addi c0_i32_50 v87
  let c1_i32_53 : BitVec 32 := 1#32
  let arg32 : BitVec 32 := Scf.iv v88 c1_i32_53 k0_t12
  let c16_i32_67 : BitVec 32 := 16#32
  let v164 : BitVec 32 := Scalar.muli arg32 c16_i32_67
  let v165 : Index := Scalar.indexCast v164
  ![v165.toNat]

def k0_chk10 (v61 : BitVec 32) : Prop :=
  ((k0_t7_loop v61).OK) ∧
  (∀ k0_t7 : Fin (k0_t7_loop v61).trips, ∀ a, (k0_off6 v61 k0_t7) a + S16.size a ≤ S4112.size a) ∧
  ((k0_t12_loop v61).OK) ∧
  (∀ k0_t12 : Fin (k0_t12_loop v61).trips, ∀ a, (k0_off7 v61 k0_t12) a + S16.size a ≤ S4112.size a)
theorem k0_t7_ok : ∀ (v61 : BitVec 32) (k0_hw10 : k0_chk10 v61), (k0_t7_loop v61).OK := fun v61 k0_hw10 => k0_hw10.1
theorem k0_off6_inb : ∀ (v61 : BitVec 32) (k0_hw10 : k0_chk10 v61) (k0_t7 : Fin (k0_t7_loop v61).trips), ∀ a, (k0_off6 v61 k0_t7) a + S16.size a ≤ S4112.size a := fun v61 k0_hw10 k0_t7 => k0_hw10.2.1 k0_t7
theorem k0_t12_ok : ∀ (v61 : BitVec 32) (k0_hw10 : k0_chk10 v61), (k0_t12_loop v61).OK := fun v61 k0_hw10 => k0_hw10.2.2.1
theorem k0_off7_inb : ∀ (v61 : BitVec 32) (k0_hw10 : k0_chk10 v61) (k0_t12 : Fin (k0_t12_loop v61).trips), ∀ a, (k0_off7 v61 k0_t12) a + S16.size a ≤ S4112.size a := fun v61 k0_hw10 k0_t12 => k0_hw10.2.2.2 k0_t12

def k0_chk24 (v173 : IVec S16 32) : Prop :=
  (∀ a x, ((![v173] : Fin 1 → IVec S16 32) a x).toNat < S4096.size a)
theorem k0_idx30_inb : ∀ (v173 : IVec S16 32) (k0_hw24 : k0_chk24 v173), ∀ a x, ((![v173] : Fin 1 → IVec S16 32) a x).toNat < S4096.size a := fun v173 k0_hw24 => k0_hw24
@[reducible] def k0_t13_loop : Scf.Loop 32 :=
  let c0_i32_74 : BitVec 32 := 0#32
  let c16_i32_75 : BitVec 32 := 16#32
  let v181 : BitVec 32 := Scalar.addi c0_i32_74 c16_i32_75
  let c1_i32_76 : BitVec 32 := 1#32
  ⟨c0_i32_74, v181, c1_i32_76⟩

def k0_chk25 (v237 : IVec S16 32) : Prop :=
  (∀ a x, ((![v237] : Fin 1 → IVec S16 32) a x).toNat < S32.size a)
theorem k0_idx31_inb : ∀ (v237 : IVec S16 32) (k0_hw25 : k0_chk25 v237), ∀ a x, ((![v237] : Fin 1 → IVec S16 32) a x).toNat < S32.size a := fun v237 k0_hw25 => k0_hw25

def k0_chk26 (v182 : IVec S16 32) : Prop :=
  (∀ a x, ((![v182] : Fin 1 → IVec S16 32) a x).toNat < S32.size a) ∧
  (∀ a x, ((![v182] : Fin 1 → IVec S16 32) a x).toNat < S32.size a)
theorem k0_idx32_inb : ∀ (v182 : IVec S16 32) (k0_hw26 : k0_chk26 v182), ∀ a x, ((![v182] : Fin 1 → IVec S16 32) a x).toNat < S32.size a := fun v182 k0_hw26 => k0_hw26.1
theorem k0_idx33_inb : ∀ (v182 : IVec S16 32) (k0_hw26 : k0_chk26 v182), ∀ a x, ((![v182] : Fin 1 → IVec S16 32) a x).toNat < S32.size a := fun v182 k0_hw26 => k0_hw26.2

def k0_chk27 (v188 : IVec S16 32) : Prop :=
  (∀ a x, ((![v188] : Fin 1 → IVec S16 32) a x).toNat < S32.size a)
theorem k0_idx34_inb : ∀ (v188 : IVec S16 32) (k0_hw27 : k0_chk27 v188), ∀ a x, ((![v188] : Fin 1 → IVec S16 32) a x).toNat < S32.size a := fun v188 k0_hw27 => k0_hw27

def k0_chk28 (v193 : IVec S16 32) : Prop :=
  (∀ a x, ((![v193] : Fin 1 → IVec S16 32) a x).toNat < S32.size a)
theorem k0_idx35_inb : ∀ (v193 : IVec S16 32) (k0_hw28 : k0_chk28 v193), ∀ a x, ((![v193] : Fin 1 → IVec S16 32) a x).toNat < S32.size a := fun v193 k0_hw28 => k0_hw28
@[reducible] def k0_t14_loop : Scf.Loop 32 :=
  let c0_i32_87 : BitVec 32 := 0#32
  let c16_i32_88 : BitVec 32 := 16#32
  let v202 : BitVec 32 := Scalar.addi c0_i32_87 c16_i32_88
  let c1_i32_89 : BitVec 32 := 1#32
  ⟨c0_i32_87, v202, c1_i32_89⟩

def k0_chk29 (v237 : IVec S16 32) : Prop :=
  (∀ a x, ((![v237] : Fin 1 → IVec S16 32) a x).toNat < S32.size a)
theorem k0_idx36_inb : ∀ (v237 : IVec S16 32) (k0_hw29 : k0_chk29 v237), ∀ a x, ((![v237] : Fin 1 → IVec S16 32) a x).toNat < S32.size a := fun v237 k0_hw29 => k0_hw29

def k0_chk30 (v203 : IVec S16 32) : Prop :=
  (∀ a x, ((![v203] : Fin 1 → IVec S16 32) a x).toNat < S32.size a) ∧
  (∀ a x, ((![v203] : Fin 1 → IVec S16 32) a x).toNat < S32.size a)
theorem k0_idx37_inb : ∀ (v203 : IVec S16 32) (k0_hw30 : k0_chk30 v203), ∀ a x, ((![v203] : Fin 1 → IVec S16 32) a x).toNat < S32.size a := fun v203 k0_hw30 => k0_hw30.1
theorem k0_idx38_inb : ∀ (v203 : IVec S16 32) (k0_hw30 : k0_chk30 v203), ∀ a x, ((![v203] : Fin 1 → IVec S16 32) a x).toNat < S32.size a := fun v203 k0_hw30 => k0_hw30.2

def k0_chk31 (v209 : IVec S16 32) : Prop :=
  (∀ a x, ((![v209] : Fin 1 → IVec S16 32) a x).toNat < S32.size a)
theorem k0_idx39_inb : ∀ (v209 : IVec S16 32) (k0_hw31 : k0_chk31 v209), ∀ a x, ((![v209] : Fin 1 → IVec S16 32) a x).toNat < S32.size a := fun v209 k0_hw31 => k0_hw31

def k0_chk32 (v214 : IVec S16 32) : Prop :=
  (∀ a x, ((![v214] : Fin 1 → IVec S16 32) a x).toNat < S32.size a)
theorem k0_idx40_inb : ∀ (v214 : IVec S16 32) (k0_hw32 : k0_chk32 v214), ∀ a x, ((![v214] : Fin 1 → IVec S16 32) a x).toNat < S32.size a := fun v214 k0_hw32 => k0_hw32
@[reducible] def k0_t15_loop : Scf.Loop 32 :=
  let c0_i32_100 : BitVec 32 := 0#32
  let c16_i32_101 : BitVec 32 := 16#32
  let v225 : BitVec 32 := Scalar.addi c0_i32_100 c16_i32_101
  let c1_i32_102 : BitVec 32 := 1#32
  ⟨c0_i32_100, v225, c1_i32_102⟩

def k0_chk33 (v237 : IVec S16 32) : Prop :=
  (∀ a x, ((![v237] : Fin 1 → IVec S16 32) a x).toNat < S32.size a)
theorem k0_idx41_inb : ∀ (v237 : IVec S16 32) (k0_hw33 : k0_chk33 v237), ∀ a x, ((![v237] : Fin 1 → IVec S16 32) a x).toNat < S32.size a := fun v237 k0_hw33 => k0_hw33

def k0_chk34 (v226 : IVec S16 32) : Prop :=
  (∀ a x, ((![v226] : Fin 1 → IVec S16 32) a x).toNat < S32.size a) ∧
  (∀ a x, ((![v226] : Fin 1 → IVec S16 32) a x).toNat < S32.size a)
theorem k0_idx42_inb : ∀ (v226 : IVec S16 32) (k0_hw34 : k0_chk34 v226), ∀ a x, ((![v226] : Fin 1 → IVec S16 32) a x).toNat < S32.size a := fun v226 k0_hw34 => k0_hw34.1
theorem k0_idx43_inb : ∀ (v226 : IVec S16 32) (k0_hw34 : k0_chk34 v226), ∀ a x, ((![v226] : Fin 1 → IVec S16 32) a x).toNat < S32.size a := fun v226 k0_hw34 => k0_hw34.2
@[reducible] def k0_t16_loop : Scf.Loop 32 :=
  let c0_i32_109 : BitVec 32 := 0#32
  let c16_i32_110 : BitVec 32 := 16#32
  let v233 : BitVec 32 := Scalar.addi c0_i32_109 c16_i32_110
  let c1_i32_111 : BitVec 32 := 1#32
  ⟨c0_i32_109, v233, c1_i32_111⟩

def k0_chk35 (v237 : IVec S16 32) : Prop :=
  (∀ a x, ((![v237] : Fin 1 → IVec S16 32) a x).toNat < S32.size a)
theorem k0_idx44_inb : ∀ (v237 : IVec S16 32) (k0_hw35 : k0_chk35 v237), ∀ a x, ((![v237] : Fin 1 → IVec S16 32) a x).toNat < S32.size a := fun v237 k0_hw35 => k0_hw35

def k0_chk36 (v234 : IVec S16 32) : Prop :=
  (∀ a x, ((![v234] : Fin 1 → IVec S16 32) a x).toNat < S32.size a) ∧
  (∀ a x, ((![v234] : Fin 1 → IVec S16 32) a x).toNat < S32.size a)
theorem k0_idx45_inb : ∀ (v234 : IVec S16 32) (k0_hw36 : k0_chk36 v234), ∀ a x, ((![v234] : Fin 1 → IVec S16 32) a x).toNat < S32.size a := fun v234 k0_hw36 => k0_hw36.1
theorem k0_idx46_inb : ∀ (v234 : IVec S16 32) (k0_hw36 : k0_chk36 v234), ∀ a x, ((![v234] : Fin 1 → IVec S16 32) a x).toNat < S32.size a := fun v234 k0_hw36 => k0_hw36.2

def k0_chk37 (v90_1 : IVec S16 32) : Prop :=
  (∀ a x, ((![v90_1] : Fin 1 → IVec S16 32) a x).toNat < S4096.size a) ∧
  (∀ a x, ((![v90_1] : Fin 1 → IVec S16 32) a x).toNat < S4096.size a) ∧
  (∀ a x, ((![v90_1] : Fin 1 → IVec S16 32) a x).toNat < S4096.size a)
theorem k0_idx47_inb : ∀ (v90_1 : IVec S16 32) (k0_hw37 : k0_chk37 v90_1), ∀ a x, ((![v90_1] : Fin 1 → IVec S16 32) a x).toNat < S4096.size a := fun v90_1 k0_hw37 => k0_hw37.1
theorem k0_idx48_inb : ∀ (v90_1 : IVec S16 32) (k0_hw37 : k0_chk37 v90_1), ∀ a x, ((![v90_1] : Fin 1 → IVec S16 32) a x).toNat < S4096.size a := fun v90_1 k0_hw37 => k0_hw37.2.1
theorem k0_idx49_inb : ∀ (v90_1 : IVec S16 32) (k0_hw37 : k0_chk37 v90_1), ∀ a x, ((![v90_1] : Fin 1 → IVec S16 32) a x).toNat < S4096.size a := fun v90_1 k0_hw37 => k0_hw37.2.2

def k0_chk38 (v94 : IVec S16 32) : Prop :=
  (∀ a x, ((![v94] : Fin 1 → IVec S16 32) a x).toNat < S10000.size a) ∧
  (∀ a x, ((![v94] : Fin 1 → IVec S16 32) a x).toNat < S10000.size a) ∧
  (∀ a x, ((![v94] : Fin 1 → IVec S16 32) a x).toNat < S10000.size a)
theorem k0_idx50_inb : ∀ (v94 : IVec S16 32) (k0_hw38 : k0_chk38 v94), ∀ a x, ((![v94] : Fin 1 → IVec S16 32) a x).toNat < S10000.size a := fun v94 k0_hw38 => k0_hw38.1
theorem k0_idx51_inb : ∀ (v94 : IVec S16 32) (k0_hw38 : k0_chk38 v94), ∀ a x, ((![v94] : Fin 1 → IVec S16 32) a x).toNat < S10000.size a := fun v94 k0_hw38 => k0_hw38.2.1
theorem k0_idx52_inb : ∀ (v94 : IVec S16 32) (k0_hw38 : k0_chk38 v94), ∀ a x, ((![v94] : Fin 1 → IVec S16 32) a x).toNat < S10000.size a := fun v94 k0_hw38 => k0_hw38.2.2

def k0_chk39 (v95 : IVec S16 32) : Prop :=
  (∀ a x, ((![v95] : Fin 1 → IVec S16 32) a x).toNat < S10000.size a) ∧
  (∀ a x, ((![v95] : Fin 1 → IVec S16 32) a x).toNat < S10000.size a) ∧
  (∀ a x, ((![v95] : Fin 1 → IVec S16 32) a x).toNat < S10000.size a)
theorem k0_idx53_inb : ∀ (v95 : IVec S16 32) (k0_hw39 : k0_chk39 v95), ∀ a x, ((![v95] : Fin 1 → IVec S16 32) a x).toNat < S10000.size a := fun v95 k0_hw39 => k0_hw39.1
theorem k0_idx54_inb : ∀ (v95 : IVec S16 32) (k0_hw39 : k0_chk39 v95), ∀ a x, ((![v95] : Fin 1 → IVec S16 32) a x).toNat < S10000.size a := fun v95 k0_hw39 => k0_hw39.2.1
theorem k0_idx55_inb : ∀ (v95 : IVec S16 32) (k0_hw39 : k0_chk39 v95), ∀ a x, ((![v95] : Fin 1 → IVec S16 32) a x).toNat < S10000.size a := fun v95 k0_hw39 => k0_hw39.2.2

def k0_chk40 (v96 : IVec S16 32) : Prop :=
  (∀ a x, ((![v96] : Fin 1 → IVec S16 32) a x).toNat < S10000.size a) ∧
  (∀ a x, ((![v96] : Fin 1 → IVec S16 32) a x).toNat < S10000.size a) ∧
  (∀ a x, ((![v96] : Fin 1 → IVec S16 32) a x).toNat < S10000.size a)
theorem k0_idx56_inb : ∀ (v96 : IVec S16 32) (k0_hw40 : k0_chk40 v96), ∀ a x, ((![v96] : Fin 1 → IVec S16 32) a x).toNat < S10000.size a := fun v96 k0_hw40 => k0_hw40.1
theorem k0_idx57_inb : ∀ (v96 : IVec S16 32) (k0_hw40 : k0_chk40 v96), ∀ a x, ((![v96] : Fin 1 → IVec S16 32) a x).toNat < S10000.size a := fun v96 k0_hw40 => k0_hw40.2.1
theorem k0_idx58_inb : ∀ (v96 : IVec S16 32) (k0_hw40 : k0_chk40 v96), ∀ a x, ((![v96] : Fin 1 → IVec S16 32) a x).toNat < S10000.size a := fun v96 k0_hw40 => k0_hw40.2.2

def k0_chk41 (v91 : IVec S16 32) (v111 : IVec S16 32) : Prop :=
  (∀ a x, ((![v91, v111] : Fin 2 → IVec S16 32) a x).toNat < S128x60.size a) ∧
  (∀ a x, ((![v91, v111] : Fin 2 → IVec S16 32) a x).toNat < S128x60.size a) ∧
  (∀ a x, ((![v91, v111] : Fin 2 → IVec S16 32) a x).toNat < S128x60.size a)
theorem k0_idx59_inb : ∀ (v91 : IVec S16 32) (v111 : IVec S16 32) (k0_hw41 : k0_chk41 v91 v111), ∀ a x, ((![v91, v111] : Fin 2 → IVec S16 32) a x).toNat < S128x60.size a := fun v91 v111 k0_hw41 => k0_hw41.1
theorem k0_idx60_inb : ∀ (v91 : IVec S16 32) (v111 : IVec S16 32) (k0_hw41 : k0_chk41 v91 v111), ∀ a x, ((![v91, v111] : Fin 2 → IVec S16 32) a x).toNat < S128x60.size a := fun v91 v111 k0_hw41 => k0_hw41.2.1
theorem k0_idx61_inb : ∀ (v91 : IVec S16 32) (v111 : IVec S16 32) (k0_hw41 : k0_chk41 v91 v111), ∀ a x, ((![v91, v111] : Fin 2 → IVec S16 32) a x).toNat < S128x60.size a := fun v91 v111 k0_hw41 => k0_hw41.2.2

def k0_chk42 (v91 : IVec S16 32) (v116 : IVec S16 32) : Prop :=
  (∀ a x, ((![v91, v116] : Fin 2 → IVec S16 32) a x).toNat < S128x60.size a) ∧
  (∀ a x, ((![v91, v116] : Fin 2 → IVec S16 32) a x).toNat < S128x60.size a) ∧
  (∀ a x, ((![v91, v116] : Fin 2 → IVec S16 32) a x).toNat < S128x60.size a)
theorem k0_idx62_inb : ∀ (v91 : IVec S16 32) (v116 : IVec S16 32) (k0_hw42 : k0_chk42 v91 v116), ∀ a x, ((![v91, v116] : Fin 2 → IVec S16 32) a x).toNat < S128x60.size a := fun v91 v116 k0_hw42 => k0_hw42.1
theorem k0_idx63_inb : ∀ (v91 : IVec S16 32) (v116 : IVec S16 32) (k0_hw42 : k0_chk42 v91 v116), ∀ a x, ((![v91, v116] : Fin 2 → IVec S16 32) a x).toNat < S128x60.size a := fun v91 v116 k0_hw42 => k0_hw42.2.1
theorem k0_idx64_inb : ∀ (v91 : IVec S16 32) (v116 : IVec S16 32) (k0_hw42 : k0_chk42 v91 v116), ∀ a x, ((![v91, v116] : Fin 2 → IVec S16 32) a x).toNat < S128x60.size a := fun v91 v116 k0_hw42 => k0_hw42.2.2

def k0_chk43 (v91 : IVec S16 32) (v121 : IVec S16 32) : Prop :=
  (∀ a x, ((![v91, v121] : Fin 2 → IVec S16 32) a x).toNat < S128x60.size a) ∧
  (∀ a x, ((![v91, v121] : Fin 2 → IVec S16 32) a x).toNat < S128x60.size a) ∧
  (∀ a x, ((![v91, v121] : Fin 2 → IVec S16 32) a x).toNat < S128x60.size a)
theorem k0_idx65_inb : ∀ (v91 : IVec S16 32) (v121 : IVec S16 32) (k0_hw43 : k0_chk43 v91 v121), ∀ a x, ((![v91, v121] : Fin 2 → IVec S16 32) a x).toNat < S128x60.size a := fun v91 v121 k0_hw43 => k0_hw43.1
theorem k0_idx66_inb : ∀ (v91 : IVec S16 32) (v121 : IVec S16 32) (k0_hw43 : k0_chk43 v91 v121), ∀ a x, ((![v91, v121] : Fin 2 → IVec S16 32) a x).toNat < S128x60.size a := fun v91 v121 k0_hw43 => k0_hw43.2.1
theorem k0_idx67_inb : ∀ (v91 : IVec S16 32) (v121 : IVec S16 32) (k0_hw43 : k0_chk43 v91 v121), ∀ a x, ((![v91, v121] : Fin 2 → IVec S16 32) a x).toNat < S128x60.size a := fun v91 v121 k0_hw43 => k0_hw43.2.2

def k0_chk44 (v126 : IVec S16 32) : Prop :=
  (∀ a x, ((![v126] : Fin 1 → IVec S16 32) a x).toNat < S4096.size a) ∧
  (∀ a x, ((![v126] : Fin 1 → IVec S16 32) a x).toNat < S4096.size a) ∧
  (∀ a x, ((![v126] : Fin 1 → IVec S16 32) a x).toNat < S4096.size a)
theorem k0_idx68_inb : ∀ (v126 : IVec S16 32) (k0_hw44 : k0_chk44 v126), ∀ a x, ((![v126] : Fin 1 → IVec S16 32) a x).toNat < S4096.size a := fun v126 k0_hw44 => k0_hw44.1
theorem k0_idx69_inb : ∀ (v126 : IVec S16 32) (k0_hw44 : k0_chk44 v126), ∀ a x, ((![v126] : Fin 1 → IVec S16 32) a x).toNat < S4096.size a := fun v126 k0_hw44 => k0_hw44.2.1
theorem k0_idx70_inb : ∀ (v126 : IVec S16 32) (k0_hw44 : k0_chk44 v126), ∀ a x, ((![v126] : Fin 1 → IVec S16 32) a x).toNat < S4096.size a := fun v126 k0_hw44 => k0_hw44.2.2

def k0_chk45 (v127 : IVec S16 32) : Prop :=
  (∀ a x, ((![v127] : Fin 1 → IVec S16 32) a x).toNat < S10000.size a) ∧
  (∀ a x, ((![v127] : Fin 1 → IVec S16 32) a x).toNat < S10000.size a) ∧
  (∀ a x, ((![v127] : Fin 1 → IVec S16 32) a x).toNat < S10000.size a)
theorem k0_idx71_inb : ∀ (v127 : IVec S16 32) (k0_hw45 : k0_chk45 v127), ∀ a x, ((![v127] : Fin 1 → IVec S16 32) a x).toNat < S10000.size a := fun v127 k0_hw45 => k0_hw45.1
theorem k0_idx72_inb : ∀ (v127 : IVec S16 32) (k0_hw45 : k0_chk45 v127), ∀ a x, ((![v127] : Fin 1 → IVec S16 32) a x).toNat < S10000.size a := fun v127 k0_hw45 => k0_hw45.2.1
theorem k0_idx73_inb : ∀ (v127 : IVec S16 32) (k0_hw45 : k0_chk45 v127), ∀ a x, ((![v127] : Fin 1 → IVec S16 32) a x).toNat < S10000.size a := fun v127 k0_hw45 => k0_hw45.2.2

def k0_chk46 (v128 : IVec S16 32) : Prop :=
  (∀ a x, ((![v128] : Fin 1 → IVec S16 32) a x).toNat < S10000.size a) ∧
  (∀ a x, ((![v128] : Fin 1 → IVec S16 32) a x).toNat < S10000.size a) ∧
  (∀ a x, ((![v128] : Fin 1 → IVec S16 32) a x).toNat < S10000.size a)
theorem k0_idx74_inb : ∀ (v128 : IVec S16 32) (k0_hw46 : k0_chk46 v128), ∀ a x, ((![v128] : Fin 1 → IVec S16 32) a x).toNat < S10000.size a := fun v128 k0_hw46 => k0_hw46.1
theorem k0_idx75_inb : ∀ (v128 : IVec S16 32) (k0_hw46 : k0_chk46 v128), ∀ a x, ((![v128] : Fin 1 → IVec S16 32) a x).toNat < S10000.size a := fun v128 k0_hw46 => k0_hw46.2.1
theorem k0_idx76_inb : ∀ (v128 : IVec S16 32) (k0_hw46 : k0_chk46 v128), ∀ a x, ((![v128] : Fin 1 → IVec S16 32) a x).toNat < S10000.size a := fun v128 k0_hw46 => k0_hw46.2.2

def k0_chk47 (v129 : IVec S16 32) : Prop :=
  (∀ a x, ((![v129] : Fin 1 → IVec S16 32) a x).toNat < S10000.size a) ∧
  (∀ a x, ((![v129] : Fin 1 → IVec S16 32) a x).toNat < S10000.size a) ∧
  (∀ a x, ((![v129] : Fin 1 → IVec S16 32) a x).toNat < S10000.size a)
theorem k0_idx77_inb : ∀ (v129 : IVec S16 32) (k0_hw47 : k0_chk47 v129), ∀ a x, ((![v129] : Fin 1 → IVec S16 32) a x).toNat < S10000.size a := fun v129 k0_hw47 => k0_hw47.1
theorem k0_idx78_inb : ∀ (v129 : IVec S16 32) (k0_hw47 : k0_chk47 v129), ∀ a x, ((![v129] : Fin 1 → IVec S16 32) a x).toNat < S10000.size a := fun v129 k0_hw47 => k0_hw47.2.1
theorem k0_idx79_inb : ∀ (v129 : IVec S16 32) (k0_hw47 : k0_chk47 v129), ∀ a x, ((![v129] : Fin 1 → IVec S16 32) a x).toNat < S10000.size a := fun v129 k0_hw47 => k0_hw47.2.2

def k0_chk48 (v91 : IVec S16 32) (v146 : IVec S16 32) : Prop :=
  (∀ a x, ((![v91, v146] : Fin 2 → IVec S16 32) a x).toNat < S128x60.size a) ∧
  (∀ a x, ((![v91, v146] : Fin 2 → IVec S16 32) a x).toNat < S128x60.size a) ∧
  (∀ a x, ((![v91, v146] : Fin 2 → IVec S16 32) a x).toNat < S128x60.size a)
theorem k0_idx80_inb : ∀ (v91 : IVec S16 32) (v146 : IVec S16 32) (k0_hw48 : k0_chk48 v91 v146), ∀ a x, ((![v91, v146] : Fin 2 → IVec S16 32) a x).toNat < S128x60.size a := fun v91 v146 k0_hw48 => k0_hw48.1
theorem k0_idx81_inb : ∀ (v91 : IVec S16 32) (v146 : IVec S16 32) (k0_hw48 : k0_chk48 v91 v146), ∀ a x, ((![v91, v146] : Fin 2 → IVec S16 32) a x).toNat < S128x60.size a := fun v91 v146 k0_hw48 => k0_hw48.2.1
theorem k0_idx82_inb : ∀ (v91 : IVec S16 32) (v146 : IVec S16 32) (k0_hw48 : k0_chk48 v91 v146), ∀ a x, ((![v91, v146] : Fin 2 → IVec S16 32) a x).toNat < S128x60.size a := fun v91 v146 k0_hw48 => k0_hw48.2.2

def k0_chk49 (v91 : IVec S16 32) (v153 : IVec S16 32) : Prop :=
  (∀ a x, ((![v91, v153] : Fin 2 → IVec S16 32) a x).toNat < S128x60.size a) ∧
  (∀ a x, ((![v91, v153] : Fin 2 → IVec S16 32) a x).toNat < S128x60.size a) ∧
  (∀ a x, ((![v91, v153] : Fin 2 → IVec S16 32) a x).toNat < S128x60.size a)
theorem k0_idx83_inb : ∀ (v91 : IVec S16 32) (v153 : IVec S16 32) (k0_hw49 : k0_chk49 v91 v153), ∀ a x, ((![v91, v153] : Fin 2 → IVec S16 32) a x).toNat < S128x60.size a := fun v91 v153 k0_hw49 => k0_hw49.1
theorem k0_idx84_inb : ∀ (v91 : IVec S16 32) (v153 : IVec S16 32) (k0_hw49 : k0_chk49 v91 v153), ∀ a x, ((![v91, v153] : Fin 2 → IVec S16 32) a x).toNat < S128x60.size a := fun v91 v153 k0_hw49 => k0_hw49.2.1
theorem k0_idx85_inb : ∀ (v91 : IVec S16 32) (v153 : IVec S16 32) (k0_hw49 : k0_chk49 v91 v153), ∀ a x, ((![v91, v153] : Fin 2 → IVec S16 32) a x).toNat < S128x60.size a := fun v91 v153 k0_hw49 => k0_hw49.2.2

def k0_chk50 (v91 : IVec S16 32) (v160 : IVec S16 32) : Prop :=
  (∀ a x, ((![v91, v160] : Fin 2 → IVec S16 32) a x).toNat < S128x60.size a) ∧
  (∀ a x, ((![v91, v160] : Fin 2 → IVec S16 32) a x).toNat < S128x60.size a) ∧
  (∀ a x, ((![v91, v160] : Fin 2 → IVec S16 32) a x).toNat < S128x60.size a)
theorem k0_idx86_inb : ∀ (v91 : IVec S16 32) (v160 : IVec S16 32) (k0_hw50 : k0_chk50 v91 v160), ∀ a x, ((![v91, v160] : Fin 2 → IVec S16 32) a x).toNat < S128x60.size a := fun v91 v160 k0_hw50 => k0_hw50.1
theorem k0_idx87_inb : ∀ (v91 : IVec S16 32) (v160 : IVec S16 32) (k0_hw50 : k0_chk50 v91 v160), ∀ a x, ((![v91, v160] : Fin 2 → IVec S16 32) a x).toNat < S128x60.size a := fun v91 v160 k0_hw50 => k0_hw50.2.1
theorem k0_idx88_inb : ∀ (v91 : IVec S16 32) (v160 : IVec S16 32) (k0_hw50 : k0_chk50 v91 v160), ∀ a x, ((![v91, v160] : Fin 2 → IVec S16 32) a x).toNat < S128x60.size a := fun v91 v160 k0_hw50 => k0_hw50.2.2
def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3_r9 : BitVec 32 := 0#32
  ![v2.toNat, 0]
abbrev grid1 : Pipeline.Grid := .none

abbrev stage1_0 : Fin 1 → Memref sig .tc .vmem S4096x60 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4096x60 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4096x60 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S4096x3 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S4096x3 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S4096x3 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S4096x60 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S4096x60 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S4096x60 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S4096x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x3 : Shape := ⟨2, ![10000, 3]⟩
abbrev S4096x3 : Shape := ⟨2, ![4096, 3]⟩
abbrev S4096 : Shape := ⟨1, ![4096]⟩
abbrev S3 : Shape := ⟨1, ![3]⟩
abbrev S_ : Shape := ⟨0, ![]⟩
abbrev S4096x3x1 : Shape := ⟨3, ![4096, 3, 1]⟩
abbrev S4096x3x3 : Shape := ⟨3, ![4096, 3, 3]⟩
abbrev S4096x1x3 : Shape := ⟨3, ![4096, 1, 3]⟩
abbrev S1x4096x3 : Shape := ⟨3, ![1, 4096, 3]⟩
abbrev S4096x4096x3 : Shape := ⟨3, ![4096, 4096, 3]⟩
abbrev S4096x4096 : Shape := ⟨2, ![4096, 4096]⟩
abbrev S4096x20 : Shape := ⟨2, ![4096, 20]⟩
abbrev S3x1 : Shape := ⟨2, ![3, 1]⟩
abbrev S4096x20x1 : Shape := ⟨3, ![4096, 20, 1]⟩
abbrev S4096x20x3 : Shape := ⟨3, ![4096, 20, 3]⟩
abbrev S4096x20x3x1 : Shape := ⟨4, ![4096, 20, 3, 1]⟩
abbrev S4096x20x3x3 : Shape := ⟨4, ![4096, 20, 3, 3]⟩
abbrev S4096x1x1x3 : Shape := ⟨4, ![4096, 1, 1, 3]⟩
abbrev S1x4096x20x3 : Shape := ⟨4, ![1, 4096, 20, 3]⟩
abbrev S3x4096x20x3 : Shape := ⟨4, ![3, 4096, 20, 3]⟩
abbrev S4096x1x3x3 : Shape := ⟨4, ![4096, 1, 3, 3]⟩

abbrev nBuf : Space → Nat
  | .hbm => 288
  | .vmem => 0
  | .smem => 0
  | _ => 0

abbrev hbmTy0_0 (i : Nat) : BufTy := match i % 128 with
  | 0 => ⟨S10000x3, .f32⟩
  | 1 => ⟨S4096x3, .i32⟩
  | 2 => ⟨S4096, .f32⟩
  | 3 => ⟨S3, .i32⟩
  | 4 => ⟨S_, .i32⟩
  | 5 => ⟨S4096x3, .i32⟩
  | 6 => ⟨S4096x3, .i1⟩
  | 7 => ⟨S_, .i32⟩
  | 8 => ⟨S4096x3, .i32⟩
  | 9 => ⟨S4096x3, .i32⟩
  | 10 => ⟨S4096x3, .i32⟩
  | 11 => ⟨S4096x3x1, .i32⟩
  | 12 => ⟨S4096x3x3, .f32⟩
  | 13 => ⟨S_, .f32⟩
  | 14 => ⟨S4096x3, .f32⟩
  | 15 => ⟨S_, .f32⟩
  | 16 => ⟨S4096x3, .f32⟩
  | 17 => ⟨S4096x3, .f32⟩
  | 18 => ⟨S4096x1x3, .f32⟩
  | 19 => ⟨S1x4096x3, .f32⟩
  | 20 => ⟨S4096x4096x3, .f32⟩
  | 21 => ⟨S4096x4096x3, .f32⟩
  | 22 => ⟨S4096x4096x3, .f32⟩
  | 23 => ⟨S4096x4096x3, .f32⟩
  | 24 => ⟨S_, .f32⟩
  | 25 => ⟨S4096x4096, .f32⟩
  | 26 => ⟨S4096x4096, .f32⟩
  | 27 => ⟨S4096x20, .f32⟩
  | 28 => ⟨S4096x20, .i32⟩
  | 29 => ⟨S_, .i32⟩
  | 30 => ⟨S3, .i32⟩
  | 31 => ⟨S3, .i1⟩
  | 32 => ⟨S_, .i32⟩
  | 33 => ⟨S3, .i32⟩
  | 34 => ⟨S3, .i32⟩
  | 35 => ⟨S3, .i32⟩
  | 36 => ⟨S3x1, .i32⟩
  | 37 => ⟨S4096x3, .i32⟩
  | 38 => ⟨S_, .i32⟩
  | 39 => ⟨S4096x3, .i32⟩
  | 40 => ⟨S4096x3, .i1⟩
  | 41 => ⟨S_, .i32⟩
  | 42 => ⟨S4096x3, .i32⟩
  | 43 => ⟨S4096x3, .i32⟩
  | 44 => ⟨S4096x3, .i32⟩
  | 45 => ⟨S4096x3x1, .i32⟩
  | 46 => ⟨S4096x3x3, .f32⟩
  | 47 => ⟨S_, .i32⟩
  | 48 => ⟨S4096x3, .i32⟩
  | 49 => ⟨S4096x3, .i1⟩
  | 50 => ⟨S_, .i32⟩
  | 51 => ⟨S4096x3, .i32⟩
  | 52 => ⟨S4096x3, .i32⟩
  | 53 => ⟨S4096x3, .i32⟩
  | 54 => ⟨S4096x3x1, .i32⟩
  | 55 => ⟨S4096x3x3, .f32⟩
  | 56 => ⟨S4096x3x3, .f32⟩
  | 57 => ⟨S_, .i32⟩
  | 58 => ⟨S4096x20, .i32⟩
  | 59 => ⟨S4096x20, .i1⟩
  | 60 => ⟨S_, .i32⟩
  | 61 => ⟨S4096x20, .i32⟩
  | 62 => ⟨S4096x20, .i32⟩
  | 63 => ⟨S4096x20, .i32⟩
  | 64 => ⟨S4096x20x1, .i32⟩
  | 65 => ⟨S4096x20x3, .i32⟩
  | 66 => ⟨S_, .i32⟩
  | 67 => ⟨S3, .i32⟩
  | 68 => ⟨S3, .i1⟩
  | 69 => ⟨S_, .i32⟩
  | 70 => ⟨S3, .i32⟩
  | 71 => ⟨S3, .i32⟩
  | 72 => ⟨S3, .i32⟩
  | 73 => ⟨S3x1, .i32⟩
  | 74 => ⟨S4096x20x3, .i32⟩
  | 75 => ⟨S_, .i32⟩
  | 76 => ⟨S4096x20x3, .i32⟩
  | 77 => ⟨S4096x20x3, .i1⟩
  | 78 => ⟨S_, .i32⟩
  | 79 => ⟨S4096x20x3, .i32⟩
  | 80 => ⟨S4096x20x3, .i32⟩
  | 81 => ⟨S4096x20x3, .i32⟩
  | 82 => ⟨S4096x20x3x1, .i32⟩
  | 83 => ⟨S4096x20x3x3, .f32⟩
  | 84 => ⟨S_, .i32⟩
  | 85 => ⟨S4096x20x3, .i32⟩
  | 86 => ⟨S4096x20x3, .i1⟩
  | 87 => ⟨S_, .i32⟩
  | 88 => ⟨S4096x20x3, .i32⟩
  | 89 => ⟨S4096x20x3, .i32⟩
  | 90 => ⟨S4096x20x3, .i32⟩
  | 91 => ⟨S4096x20x3x1, .i32⟩
  | 92 => ⟨S4096x20x3x3, .f32⟩
  | 93 => ⟨S4096x20x3x3, .f32⟩
  | 94 => ⟨S_, .f32⟩
  | 95 => ⟨S4096, .f32⟩
  | 96 => ⟨S4096x1x3, .f32⟩
  | 97 => ⟨S4096x3, .f32⟩
  | 98 => ⟨S4096x1x1x3, .f32⟩
  | 99 => ⟨S4096x20x3x3, .f32⟩
  | 100 => ⟨S4096x20x3x1, .f32⟩
  | 101 => ⟨S4096x20x3, .f32⟩
  | 102 => ⟨S4096x20x3x1, .f32⟩
  | 103 => ⟨S4096x20x3, .f32⟩
  | 104 => ⟨S4096x20x3x1, .f32⟩
  | 105 => ⟨S4096x20x3, .f32⟩
  | 106 => ⟨S4096x20x3x1, .f32⟩
  | 107 => ⟨S4096x20x3, .f32⟩
  | 108 => ⟨S4096x20x3x1, .f32⟩
  | 109 => ⟨S4096x20x3, .f32⟩
  | 110 => ⟨S4096x20x3x1, .f32⟩
  | 111 => ⟨S4096x20x3, .f32⟩
  | 112 => ⟨S4096x20x3, .f32⟩
  | 113 => ⟨S4096x20x3, .f32⟩
  | 114 => ⟨S4096x20x3, .f32⟩
  | 115 => ⟨S4096x20x3, .f32⟩
  | 116 => ⟨S4096x20x3, .f32⟩
  | 117 => ⟨S4096x20x3, .f32⟩
  | 118 => ⟨S4096x20x3, .f32⟩
  | 119 => ⟨S4096x20x3, .f32⟩
  | 120 => ⟨S4096x20x3, .f32⟩
  | 121 => ⟨S1x4096x20x3, .f32⟩
  | 122 => ⟨S1x4096x20x3, .f32⟩
  | 123 => ⟨S1x4096x20x3, .f32⟩
  | 124 => ⟨S3x4096x20x3, .f32⟩
  | 125 => ⟨S4096x20x3x3, .f32⟩
  | 126 => ⟨S4096x20x3x3, .f32⟩
  | 127 => ⟨S_, .f32⟩
  | _ => ⟨S10000x3, .f32⟩

abbrev hbmTy0_1 (i : Nat) : BufTy := match i % 128 with
  | 0 => ⟨S4096x20x3, .f32⟩
  | 1 => ⟨S4096x20x3x3, .f32⟩
  | 2 => ⟨S_, .f32⟩
  | 3 => ⟨S4096x20x3, .f32⟩
  | 4 => ⟨S4096x20x3, .f32⟩
  | 5 => ⟨S4096x1x3x3, .f32⟩
  | 6 => ⟨S4096x20x3x3, .f32⟩
  | 7 => ⟨S4096x20x3x3, .f32⟩
  | 8 => ⟨S_, .f32⟩
  | 9 => ⟨S4096x20x3, .f32⟩
  | 10 => ⟨S4096x20x3, .f32⟩
  | 11 => ⟨S_, .f32⟩
  | 12 => ⟨S4096x20x3, .f32⟩
  | 13 => ⟨S4096x20x3, .i1⟩
  | 14 => ⟨S_, .f32⟩
  | 15 => ⟨S4096x20x3, .f32⟩
  | 16 => ⟨S4096x20x3, .i1⟩
  | 17 => ⟨S4096x20x3, .i1⟩
  | 18 => ⟨S_, .f32⟩
  | 19 => ⟨S4096x20x3, .f32⟩
  | 20 => ⟨S4096x20x3, .i1⟩
  | 21 => ⟨S4096x20x3, .i1⟩
  | 22 => ⟨S_, .f32⟩
  | 23 => ⟨S4096x20x3, .f32⟩
  | 24 => ⟨S4096x20x3, .i1⟩
  | 25 => ⟨S4096x20x3, .i1⟩
  | 26 => ⟨S4096x20x3, .i32⟩
  | 27 => ⟨S_, .i32⟩
  | 28 => ⟨S4096, .i32⟩
  | 29 => ⟨S4096, .f32⟩
  | 30 => ⟨S4096, .f32⟩
  | 31 => ⟨S4096x1x3, .f32⟩
  | 32 => ⟨S4096x3, .f32⟩
  | 33 => ⟨S4096x1x1x3, .f32⟩
  | 34 => ⟨S4096x20x3x3, .f32⟩
  | 35 => ⟨S4096x20x3x1, .f32⟩
  | 36 => ⟨S4096x20x3, .f32⟩
  | 37 => ⟨S4096x20x3x1, .f32⟩
  | 38 => ⟨S4096x20x3, .f32⟩
  | 39 => ⟨S4096x20x3x1, .f32⟩
  | 40 => ⟨S4096x20x3, .f32⟩
  | 41 => ⟨S4096x20x3x1, .f32⟩
  | 42 => ⟨S4096x20x3, .f32⟩
  | 43 => ⟨S4096x20x3x1, .f32⟩
  | 44 => ⟨S4096x20x3, .f32⟩
  | 45 => ⟨S4096x20x3x1, .f32⟩
  | 46 => ⟨S4096x20x3, .f32⟩
  | 47 => ⟨S4096x20x3, .f32⟩
  | 48 => ⟨S4096x20x3, .f32⟩
  | 49 => ⟨S4096x20x3, .f32⟩
  | 50 => ⟨S4096x20x3, .f32⟩
  | 51 => ⟨S4096x20x3, .f32⟩
  | 52 => ⟨S4096x20x3, .f32⟩
  | 53 => ⟨S4096x20x3, .f32⟩
  | 54 => ⟨S4096x20x3, .f32⟩
  | 55 => ⟨S4096x20x3, .f32⟩
  | 56 => ⟨S1x4096x20x3, .f32⟩
  | 57 => ⟨S1x4096x20x3, .f32⟩
  | 58 => ⟨S1x4096x20x3, .f32⟩
  | 59 => ⟨S3x4096x20x3, .f32⟩
  | 60 => ⟨S4096x20x3x3, .f32⟩
  | 61 => ⟨S4096x20x3x3, .f32⟩
  | 62 => ⟨S_, .f32⟩
  | 63 => ⟨S4096x20x3, .f32⟩
  | 64 => ⟨S4096x20x3x3, .f32⟩
  | 65 => ⟨S_, .f32⟩
  | 66 => ⟨S4096x20x3, .f32⟩
  | 67 => ⟨S4096x20x3, .f32⟩
  | 68 => ⟨S4096x1x3x3, .f32⟩
  | 69 => ⟨S4096x20x3x3, .f32⟩
  | 70 => ⟨S4096x20x3x3, .f32⟩
  | 71 => ⟨S_, .f32⟩
  | 72 => ⟨S4096x20x3, .f32⟩
  | 73 => ⟨S4096x20x3, .f32⟩
  | 74 => ⟨S_, .f32⟩
  | 75 => ⟨S4096x20x3, .f32⟩
  | 76 => ⟨S4096x20x3, .i1⟩
  | 77 => ⟨S_, .f32⟩
  | 78 => ⟨S4096x20x3, .f32⟩
  | 79 => ⟨S4096x20x3, .i1⟩
  | 80 => ⟨S4096x20x3, .i1⟩
  | 81 => ⟨S_, .f32⟩
  | 82 => ⟨S4096x20x3, .f32⟩
  | 83 => ⟨S4096x20x3, .i1⟩
  | 84 => ⟨S4096x20x3, .i1⟩
  | 85 => ⟨S_, .f32⟩
  | 86 => ⟨S4096x20x3, .f32⟩
  | 87 => ⟨S4096x20x3, .i1⟩
  | 88 => ⟨S4096x20x3, .i1⟩
  | 89 => ⟨S4096x20x3, .i32⟩
  | 90 => ⟨S_, .i32⟩
  | 91 => ⟨S4096, .i32⟩
  | 92 => ⟨S4096, .f32⟩
  | 93 => ⟨S4096, .f32⟩
  | 94 => ⟨S4096x1x3, .f32⟩
  | 95 => ⟨S4096x3, .f32⟩
  | 96 => ⟨S4096x1x1x3, .f32⟩
  | 97 => ⟨S4096x20x3x3, .f32⟩
  | 98 => ⟨S4096x20x3x1, .f32⟩
  | 99 => ⟨S4096x20x3, .f32⟩
  | 100 => ⟨S4096x20x3x1, .f32⟩
  | 101 => ⟨S4096x20x3, .f32⟩
  | 102 => ⟨S4096x20x3x1, .f32⟩
  | 103 => ⟨S4096x20x3, .f32⟩
  | 104 => ⟨S4096x20x3x1, .f32⟩
  | 105 => ⟨S4096x20x3, .f32⟩
  | 106 => ⟨S4096x20x3x1, .f32⟩
  | 107 => ⟨S4096x20x3, .f32⟩
  | 108 => ⟨S4096x20x3x1, .f32⟩
  | 109 => ⟨S4096x20x3, .f32⟩
  | 110 => ⟨S4096x20x3, .f32⟩
  | 111 => ⟨S4096x20x3, .f32⟩
  | 112 => ⟨S4096x20x3, .f32⟩
  | 113 => ⟨S4096x20x3, .f32⟩
  | 114 => ⟨S4096x20x3, .f32⟩
  | 115 => ⟨S4096x20x3, .f32⟩
  | 116 => ⟨S4096x20x3, .f32⟩
  | 117 => ⟨S4096x20x3, .f32⟩
  | 118 => ⟨S4096x20x3, .f32⟩
  | 119 => ⟨S1x4096x20x3, .f32⟩
  | 120 => ⟨S1x4096x20x3, .f32⟩
  | 121 => ⟨S1x4096x20x3, .f32⟩
  | 122 => ⟨S3x4096x20x3, .f32⟩
  | 123 => ⟨S4096x20x3x3, .f32⟩
  | 124 => ⟨S4096x20x3x3, .f32⟩
  | 125 => ⟨S_, .f32⟩
  | 126 => ⟨S4096x20x3, .f32⟩
  | 127 => ⟨S4096x20x3x3, .f32⟩
  | _ => ⟨S10000x3, .f32⟩

abbrev hbmTy0_2 (i : Nat) : BufTy := match i % 128 with
  | 0 => ⟨S_, .f32⟩
  | 1 => ⟨S4096x20x3, .f32⟩
  | 2 => ⟨S4096x20x3, .f32⟩
  | 3 => ⟨S4096x1x3x3, .f32⟩
  | 4 => ⟨S4096x20x3x3, .f32⟩
  | 5 => ⟨S4096x20x3x3, .f32⟩
  | 6 => ⟨S_, .f32⟩
  | 7 => ⟨S4096x20x3, .f32⟩
  | 8 => ⟨S4096x20x3, .f32⟩
  | 9 => ⟨S_, .f32⟩
  | 10 => ⟨S4096x20x3, .f32⟩
  | 11 => ⟨S4096x20x3, .i1⟩
  | 12 => ⟨S_, .f32⟩
  | 13 => ⟨S4096x20x3, .f32⟩
  | 14 => ⟨S4096x20x3, .i1⟩
  | 15 => ⟨S4096x20x3, .i1⟩
  | 16 => ⟨S_, .f32⟩
  | 17 => ⟨S4096x20x3, .f32⟩
  | 18 => ⟨S4096x20x3, .i1⟩
  | 19 => ⟨S4096x20x3, .i1⟩
  | 20 => ⟨S_, .f32⟩
  | 21 => ⟨S4096x20x3, .f32⟩
  | 22 => ⟨S4096x20x3, .i1⟩
  | 23 => ⟨S4096x20x3, .i1⟩
  | 24 => ⟨S4096x20x3, .i32⟩
  | 25 => ⟨S_, .i32⟩
  | 26 => ⟨S4096, .i32⟩
  | 27 => ⟨S4096, .f32⟩
  | 28 => ⟨S4096, .f32⟩
  | 29 => ⟨S4096, .f32⟩
  | 30 => ⟨S_, .f32⟩
  | 31 => ⟨S_, .f32⟩
  | _ => ⟨S10000x3, .f32⟩

abbrev hbmTy (i : Nat) : BufTy := match i / 128 with
  | 0 => hbmTy0_0 i
  | 1 => hbmTy0_1 i
  | 2 => hbmTy0_2 i
  | _ => ⟨S10000x3, .f32⟩

abbrev bufTy : (tb : Table) → Fin (tcTables nBuf tb) → BufTy
  | .hbm, ⟨i, _⟩ => hbmTy i
  | _, _ => ⟨S10000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_c_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_values : Ref sig .tc := ⟨.hbm, 27, rfl⟩
abbrev main_indices : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_c_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_8 : Ref sig .tc := ⟨.hbm, 47, rfl⟩
abbrev main_v32 : Ref sig .tc := ⟨.hbm, 48, rfl⟩
abbrev main_v33 : Ref sig .tc := ⟨.hbm, 49, rfl⟩
abbrev main_c_9 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_10 : Ref sig .tc := ⟨.hbm, 57, rfl⟩
abbrev main_v40 : Ref sig .tc := ⟨.hbm, 58, rfl⟩
abbrev main_v41 : Ref sig .tc := ⟨.hbm, 59, rfl⟩
abbrev main_c_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_12 : Ref sig .tc := ⟨.hbm, 66, rfl⟩
abbrev main_v47 : Ref sig .tc := ⟨.hbm, 67, rfl⟩
abbrev main_v48 : Ref sig .tc := ⟨.hbm, 68, rfl⟩
abbrev main_c_13 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_14 : Ref sig .tc := ⟨.hbm, 75, rfl⟩
abbrev main_v54 : Ref sig .tc := ⟨.hbm, 76, rfl⟩
abbrev main_v55 : Ref sig .tc := ⟨.hbm, 77, rfl⟩
abbrev main_c_15 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_16 : Ref sig .tc := ⟨.hbm, 84, rfl⟩
abbrev main_v61 : Ref sig .tc := ⟨.hbm, 85, rfl⟩
abbrev main_v62 : Ref sig .tc := ⟨.hbm, 86, rfl⟩
abbrev main_c_17 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_18 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_call0_v0 : Ref sig .tc := ⟨.hbm, 100, rfl⟩
abbrev main_call0_v1 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_call0_v5 : Ref sig .tc := ⟨.hbm, 105, rfl⟩
abbrev main_call0_v6 : Ref sig .tc := ⟨.hbm, 106, rfl⟩
abbrev main_call0_v7 : Ref sig .tc := ⟨.hbm, 107, rfl⟩
abbrev main_call0_v8 : Ref sig .tc := ⟨.hbm, 108, rfl⟩
abbrev main_call0_v9 : Ref sig .tc := ⟨.hbm, 109, rfl⟩
abbrev main_call0_v10 : Ref sig .tc := ⟨.hbm, 110, rfl⟩
abbrev main_call0_v11 : Ref sig .tc := ⟨.hbm, 111, rfl⟩
abbrev main_call0_v12 : Ref sig .tc := ⟨.hbm, 112, rfl⟩
abbrev main_call0_v13 : Ref sig .tc := ⟨.hbm, 113, rfl⟩
abbrev main_call0_v14 : Ref sig .tc := ⟨.hbm, 114, rfl⟩
abbrev main_call0_v15 : Ref sig .tc := ⟨.hbm, 115, rfl⟩
abbrev main_call0_v16 : Ref sig .tc := ⟨.hbm, 116, rfl⟩
abbrev main_call0_v17 : Ref sig .tc := ⟨.hbm, 117, rfl⟩
abbrev main_call0_v18 : Ref sig .tc := ⟨.hbm, 118, rfl⟩
abbrev main_call0_v19 : Ref sig .tc := ⟨.hbm, 119, rfl⟩
abbrev main_call0_v20 : Ref sig .tc := ⟨.hbm, 120, rfl⟩
abbrev main_call0_v21 : Ref sig .tc := ⟨.hbm, 121, rfl⟩
abbrev main_call0_v22 : Ref sig .tc := ⟨.hbm, 122, rfl⟩
abbrev main_call0_v23 : Ref sig .tc := ⟨.hbm, 123, rfl⟩
abbrev main_call0_v24 : Ref sig .tc := ⟨.hbm, 124, rfl⟩
abbrev main_v74 : Ref sig .tc := ⟨.hbm, 125, rfl⟩
abbrev main_v75 : Ref sig .tc := ⟨.hbm, 126, rfl⟩
abbrev main_cst_19 : Ref sig .tc := ⟨.hbm, 127, rfl⟩
abbrev main_v76 : Ref sig .tc := ⟨.hbm, 128, rfl⟩
abbrev main_v77 : Ref sig .tc := ⟨.hbm, 129, rfl⟩
abbrev main_cst_20 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_cst_21 : Ref sig .tc := ⟨.hbm, 136, rfl⟩
abbrev main_v83 : Ref sig .tc := ⟨.hbm, 137, rfl⟩
abbrev main_v84 : Ref sig .tc := ⟨.hbm, 138, rfl⟩
abbrev main_cst_22 : Ref sig .tc := ⟨.hbm, 139, rfl⟩
abbrev main_v85 : Ref sig .tc := ⟨.hbm, 140, rfl⟩
abbrev main_v86 : Ref sig .tc := ⟨.hbm, 141, rfl⟩
abbrev main_cst_23 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_cst_24 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_cst_25 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_c_26 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_call1_v0 : Ref sig .tc := ⟨.hbm, 163, rfl⟩
abbrev main_call1_v1 : Ref sig .tc := ⟨.hbm, 164, rfl⟩
abbrev main_call1_v2 : Ref sig .tc := ⟨.hbm, 165, rfl⟩
abbrev main_call1_v3 : Ref sig .tc := ⟨.hbm, 166, rfl⟩
abbrev main_call1_v4 : Ref sig .tc := ⟨.hbm, 167, rfl⟩
abbrev main_call1_v5 : Ref sig .tc := ⟨.hbm, 168, rfl⟩
abbrev main_call1_v6 : Ref sig .tc := ⟨.hbm, 169, rfl⟩
abbrev main_call1_v7 : Ref sig .tc := ⟨.hbm, 170, rfl⟩
abbrev main_call1_v8 : Ref sig .tc := ⟨.hbm, 171, rfl⟩
abbrev main_call1_v9 : Ref sig .tc := ⟨.hbm, 172, rfl⟩
abbrev main_call1_v10 : Ref sig .tc := ⟨.hbm, 173, rfl⟩
abbrev main_call1_v11 : Ref sig .tc := ⟨.hbm, 174, rfl⟩
abbrev main_call1_v12 : Ref sig .tc := ⟨.hbm, 175, rfl⟩
abbrev main_call1_v13 : Ref sig .tc := ⟨.hbm, 176, rfl⟩
abbrev main_call1_v14 : Ref sig .tc := ⟨.hbm, 177, rfl⟩
abbrev main_call1_v15 : Ref sig .tc := ⟨.hbm, 178, rfl⟩
abbrev main_call1_v16 : Ref sig .tc := ⟨.hbm, 179, rfl⟩
abbrev main_call1_v17 : Ref sig .tc := ⟨.hbm, 180, rfl⟩
abbrev main_call1_v18 : Ref sig .tc := ⟨.hbm, 181, rfl⟩
abbrev main_call1_v19 : Ref sig .tc := ⟨.hbm, 182, rfl⟩
abbrev main_call1_v20 : Ref sig .tc := ⟨.hbm, 183, rfl⟩
abbrev main_call1_v21 : Ref sig .tc := ⟨.hbm, 184, rfl⟩
abbrev main_call1_v22 : Ref sig .tc := ⟨.hbm, 185, rfl⟩
abbrev main_call1_v23 : Ref sig .tc := ⟨.hbm, 186, rfl⟩
abbrev main_call1_v24 : Ref sig .tc := ⟨.hbm, 187, rfl⟩
abbrev main_v104 : Ref sig .tc := ⟨.hbm, 188, rfl⟩
abbrev main_v105 : Ref sig .tc := ⟨.hbm, 189, rfl⟩
abbrev main_cst_27 : Ref sig .tc := ⟨.hbm, 190, rfl⟩
abbrev main_v106 : Ref sig .tc := ⟨.hbm, 191, rfl⟩
abbrev main_v107 : Ref sig .tc := ⟨.hbm, 192, rfl⟩
abbrev main_cst_28 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_cst_29 : Ref sig .tc := ⟨.hbm, 199, rfl⟩
abbrev main_v113 : Ref sig .tc := ⟨.hbm, 200, rfl⟩
abbrev main_v114 : Ref sig .tc := ⟨.hbm, 201, rfl⟩
abbrev main_cst_30 : Ref sig .tc := ⟨.hbm, 202, rfl⟩
abbrev main_v115 : Ref sig .tc := ⟨.hbm, 203, rfl⟩
abbrev main_v116 : Ref sig .tc := ⟨.hbm, 204, rfl⟩
abbrev main_cst_31 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_cst_32 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_cst_33 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_c_34 : Ref sig .tc := ⟨.hbm, 218, rfl⟩
abbrev main_v127 : Ref sig .tc := ⟨.hbm, 219, rfl⟩
abbrev main_v128 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_call2_v0 : Ref sig .tc := ⟨.hbm, 226, rfl⟩
abbrev main_call2_v1 : Ref sig .tc := ⟨.hbm, 227, rfl⟩
abbrev main_call2_v2 : Ref sig .tc := ⟨.hbm, 228, rfl⟩
abbrev main_call2_v3 : Ref sig .tc := ⟨.hbm, 229, rfl⟩
abbrev main_call2_v4 : Ref sig .tc := ⟨.hbm, 230, rfl⟩
abbrev main_call2_v5 : Ref sig .tc := ⟨.hbm, 231, rfl⟩
abbrev main_call2_v6 : Ref sig .tc := ⟨.hbm, 232, rfl⟩
abbrev main_call2_v7 : Ref sig .tc := ⟨.hbm, 233, rfl⟩
abbrev main_call2_v8 : Ref sig .tc := ⟨.hbm, 234, rfl⟩
abbrev main_call2_v9 : Ref sig .tc := ⟨.hbm, 235, rfl⟩
abbrev main_call2_v10 : Ref sig .tc := ⟨.hbm, 236, rfl⟩
abbrev main_call2_v11 : Ref sig .tc := ⟨.hbm, 237, rfl⟩
abbrev main_call2_v12 : Ref sig .tc := ⟨.hbm, 238, rfl⟩
abbrev main_call2_v13 : Ref sig .tc := ⟨.hbm, 239, rfl⟩
abbrev main_call2_v14 : Ref sig .tc := ⟨.hbm, 240, rfl⟩
abbrev main_call2_v15 : Ref sig .tc := ⟨.hbm, 241, rfl⟩
abbrev main_call2_v16 : Ref sig .tc := ⟨.hbm, 242, rfl⟩
abbrev main_call2_v17 : Ref sig .tc := ⟨.hbm, 243, rfl⟩
abbrev main_call2_v18 : Ref sig .tc := ⟨.hbm, 244, rfl⟩
abbrev main_call2_v19 : Ref sig .tc := ⟨.hbm, 245, rfl⟩
abbrev main_call2_v20 : Ref sig .tc := ⟨.hbm, 246, rfl⟩
abbrev main_call2_v21 : Ref sig .tc := ⟨.hbm, 247, rfl⟩
abbrev main_call2_v22 : Ref sig .tc := ⟨.hbm, 248, rfl⟩
abbrev main_call2_v23 : Ref sig .tc := ⟨.hbm, 249, rfl⟩
abbrev main_call2_v24 : Ref sig .tc := ⟨.hbm, 250, rfl⟩
abbrev main_v134 : Ref sig .tc := ⟨.hbm, 251, rfl⟩
abbrev main_v135 : Ref sig .tc := ⟨.hbm, 252, rfl⟩
abbrev main_cst_35 : Ref sig .tc := ⟨.hbm, 253, rfl⟩
abbrev main_v136 : Ref sig .tc := ⟨.hbm, 254, rfl⟩
abbrev main_v137 : Ref sig .tc := ⟨.hbm, 255, rfl⟩
abbrev main_cst_36 : Ref sig .tc := ⟨.hbm, 256, rfl⟩
abbrev main_v138 : Ref sig .tc := ⟨.hbm, 257, rfl⟩
abbrev main_v139 : Ref sig .tc := ⟨.hbm, 258, rfl⟩
abbrev main_v140 : Ref sig .tc := ⟨.hbm, 259, rfl⟩
abbrev main_v141 : Ref sig .tc := ⟨.hbm, 260, rfl⟩
abbrev main_v142 : Ref sig .tc := ⟨.hbm, 261, rfl⟩
abbrev main_cst_37 : Ref sig .tc := ⟨.hbm, 262, rfl⟩
abbrev main_v143 : Ref sig .tc := ⟨.hbm, 263, rfl⟩
abbrev main_v144 : Ref sig .tc := ⟨.hbm, 264, rfl⟩
abbrev main_cst_38 : Ref sig .tc := ⟨.hbm, 265, rfl⟩
abbrev main_v145 : Ref sig .tc := ⟨.hbm, 266, rfl⟩
abbrev main_v146 : Ref sig .tc := ⟨.hbm, 267, rfl⟩
abbrev main_cst_39 : Ref sig .tc := ⟨.hbm, 268, rfl⟩
abbrev main_v147 : Ref sig .tc := ⟨.hbm, 269, rfl⟩
abbrev main_v148 : Ref sig .tc := ⟨.hbm, 270, rfl⟩
abbrev main_v149 : Ref sig .tc := ⟨.hbm, 271, rfl⟩
abbrev main_cst_40 : Ref sig .tc := ⟨.hbm, 272, rfl⟩
abbrev main_v150 : Ref sig .tc := ⟨.hbm, 273, rfl⟩
abbrev main_v151 : Ref sig .tc := ⟨.hbm, 274, rfl⟩
abbrev main_v152 : Ref sig .tc := ⟨.hbm, 275, rfl⟩
abbrev main_cst_41 : Ref sig .tc := ⟨.hbm, 276, rfl⟩
abbrev main_v153 : Ref sig .tc := ⟨.hbm, 277, rfl⟩
abbrev main_v154 : Ref sig .tc := ⟨.hbm, 278, rfl⟩
abbrev main_v155 : Ref sig .tc := ⟨.hbm, 279, rfl⟩
abbrev main_v156 : Ref sig .tc := ⟨.hbm, 280, rfl⟩
abbrev main_c_42 : Ref sig .tc := ⟨.hbm, 281, rfl⟩
abbrev main_v157 : Ref sig .tc := ⟨.hbm, 282, rfl⟩
abbrev main_v158 : Ref sig .tc := ⟨.hbm, 283, rfl⟩
abbrev main_v159 : Ref sig .tc := ⟨.hbm, 284, rfl⟩
abbrev main_v160 : Ref sig .tc := ⟨.hbm, 285, rfl⟩
abbrev main_cst_43 : Ref sig .tc := ⟨.hbm, 286, rfl⟩
abbrev main_v161 : Ref sig .tc := ⟨.hbm, 287, rfl⟩

abbrev nD : Nat := 1
abbrev τ : Topo := Topo.v7x

variable {F : FTy → Type} [FloatOps F]
-- ==== Proof.Base.lean ====
/-
  The kernel's program as the launch reads it, the resource algebra, and what one vector subcore holds of its own
  sixteen scratch buffers: `St` lists their contents, `Hold` owns them at those contents.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Knn

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev 𝒱₀ : Variants := Variants.none
abbrev 𝒱 : Variants := 𝒱₀.lift
abbrev v₀ : 𝒱.V := Sum.inl none

abbrev UH : Type := URounds (GSem nD τ sig) ℕ
/-- The ghost state of the TensorCore call's staging cells. -/
abbrev UP : Type := URounds (GSem nD τ sig) Unit
abbrev UU : Type := (UH × UP) × Counters

local notation "𝕄" => MT nD τ sig (HIx 1) (Elt F) ℕ UU ℕ

/-- The thread of the vector subcore at mesh coordinates `i`. -/
abbrev th (d : Dev nD) (i : grid0.Coords) : Thread nD τ := V d ((i 0).castLE hcore0) ((i 1).castLE hsub0)

/-- A memref's elements held outright at the values `f`. -/
def Own (c : Thread nD τ) {s : Shape} {e : EltTy} (M : Memref sig c.2.kind .vmem s e) (f : s.Idx → Elt F e) : sProp 𝕄 :=
  iprop(∃ g, ⌜M.view.read (Elt F) g = f⌝ ∗ (M.view.loc c ↦[M.view.set]{fullShare} g))

/-- The contents of a vector subcore's scratch buffers. -/
structure St (F : FTy → Type) where
  kx : FVec F S4112 .f32
  ky : FVec F S4112 .f32
  kz : FVec F S4112 .f32
  dist : FVec F S4096 .f32
  cand : IVec S4112 32
  vx : FVec F S10000 .f32
  vy : FVec F S10000 .f32
  vz : FVec F S10000 .f32
  fa : IVec S4096 32
  fb : IVec S4096 32
  fc : IVec S4096 32
  ox : FVec F S128x60 .f32
  oy : FVec F S128x60 .f32
  oz : FVec F S128x60 .f32
  keys : FVec F S32 .f32
  vals : IVec S32 32

abbrev mKx : Memref sig .scVector .vmem S4112 .f32 := Memref.whole cc0_scratch0
abbrev mKy : Memref sig .scVector .vmem S4112 .f32 := Memref.whole cc0_scratch1
abbrev mKz : Memref sig .scVector .vmem S4112 .f32 := Memref.whole cc0_scratch2
abbrev mDist : Memref sig .scVector .vmem S4096 .f32 := Memref.whole cc0_scratch3
abbrev mCand : Memref sig .scVector .vmem S4112 .i32 := Memref.whole cc0_scratch4
abbrev mVx : Memref sig .scVector .vmem S10000 .f32 := Memref.whole cc0_scratch5
abbrev mVy : Memref sig .scVector .vmem S10000 .f32 := Memref.whole cc0_scratch6
abbrev mVz : Memref sig .scVector .vmem S10000 .f32 := Memref.whole cc0_scratch7
abbrev mFa : Memref sig .scVector .vmem S4096 .i32 := Memref.whole cc0_scratch8
abbrev mFb : Memref sig .scVector .vmem S4096 .i32 := Memref.whole cc0_scratch9
abbrev mFc : Memref sig .scVector .vmem S4096 .i32 := Memref.whole cc0_scratch10
abbrev mOx : Memref sig .scVector .vmem S128x60 .f32 := Memref.whole cc0_scratch11
abbrev mOy : Memref sig .scVector .vmem S128x60 .f32 := Memref.whole cc0_scratch12
abbrev mOz : Memref sig .scVector .vmem S128x60 .f32 := Memref.whole cc0_scratch13
abbrev mKeys : Memref sig .scVector .vmem S32 .f32 := Memref.whole cc0_scratch14
abbrev mVals : Memref sig .scVector .vmem S32 .i32 := Memref.whole cc0_scratch15

/-- The scratch buffers held outright at the contents `st`. -/
def Hold (d : Dev nD) (i : grid0.Coords) (st : St F) : sProp 𝕄 :=
  iprop(Own (th d i) mKx st.kx ∗ Own (th d i) mKy st.ky ∗ Own (th d i) mKz st.kz ∗ Own (th d i) mDist st.dist
    ∗ Own (th d i) mCand st.cand ∗ Own (th d i) mVx st.vx ∗ Own (th d i) mVy st.vy ∗ Own (th d i) mVz st.vz
    ∗ Own (th d i) mFa st.fa ∗ Own (th d i) mFb st.fb ∗ Own (th d i) mFc st.fc
    ∗ Own (th d i) mOx st.ox ∗ Own (th d i) mOy st.oy ∗ Own (th d i) mOz st.oz
    ∗ Own (th d i) mKeys st.keys ∗ Own (th d i) mVals st.vals)

/-- `M` is one of the held buffers: its contents are `get st`, and it goes back at any others as `put st f`. -/
def Slot (d : Dev nD) (i : grid0.Coords) {s : Shape} {e : EltTy} (M : Memref sig .scVector .vmem s e)
    (get : St F → s.Idx → Elt F e) (put : St F → (s.Idx → Elt F e) → St F) : Prop :=
  (∀ st : St F, Hold d i st ⊢ iprop(Own (th d i) M (get st) ∗ (∀ f, Own (th d i) M f -∗ Hold d i (put st f))))
    ∧ ∀ st, put st (get st) = st

section Slots
variable (d : Dev nD) (i : grid0.Coords)

theorem slotKx : Slot (F := F) d i mKx St.kx (fun st f => { st with kx := f }) := by
  refine ⟨fun st => ?_, fun _ => rfl⟩; unfold Hold
  iintro ⟨H1, H2, H3, H4, H5, H6, H7, H8, H9, H10, H11, H12, H13, H14, H15, H16⟩
  isplitl [H1]
  · iexact H1
  iintro %f H1
  iframe ∗
theorem slotKy : Slot (F := F) d i mKy St.ky (fun st f => { st with ky := f }) := by
  refine ⟨fun st => ?_, fun _ => rfl⟩; unfold Hold
  iintro ⟨H1, H2, H3, H4, H5, H6, H7, H8, H9, H10, H11, H12, H13, H14, H15, H16⟩
  isplitl [H2]
  · iexact H2
  iintro %f H2
  iframe ∗
theorem slotKz : Slot (F := F) d i mKz St.kz (fun st f => { st with kz := f }) := by
  refine ⟨fun st => ?_, fun _ => rfl⟩; unfold Hold
  iintro ⟨H1, H2, H3, H4, H5, H6, H7, H8, H9, H10, H11, H12, H13, H14, H15, H16⟩
  isplitl [H3]
  · iexact H3
  iintro %f H3
  iframe ∗
theorem slotDist : Slot (F := F) d i mDist St.dist (fun st f => { st with dist := f }) := by
  refine ⟨fun st => ?_, fun _ => rfl⟩; unfold Hold
  iintro ⟨H1, H2, H3, H4, H5, H6, H7, H8, H9, H10, H11, H12, H13, H14, H15, H16⟩
  isplitl [H4]
  · iexact H4
  iintro %f H4
  iframe ∗
theorem slotCand : Slot (F := F) d i mCand St.cand (fun st f => { st with cand := f }) := by
  refine ⟨fun st => ?_, fun _ => rfl⟩; unfold Hold
  iintro ⟨H1, H2, H3, H4, H5, H6, H7, H8, H9, H10, H11, H12, H13, H14, H15, H16⟩
  isplitl [H5]
  · iexact H5
  iintro %f H5
  iframe ∗
theorem slotVx : Slot (F := F) d i mVx St.vx (fun st f => { st with vx := f }) := by
  refine ⟨fun st => ?_, fun _ => rfl⟩; unfold Hold
  iintro ⟨H1, H2, H3, H4, H5, H6, H7, H8, H9, H10, H11, H12, H13, H14, H15, H16⟩
  isplitl [H6]
  · iexact H6
  iintro %f H6
  iframe ∗
theorem slotVy : Slot (F := F) d i mVy St.vy (fun st f => { st with vy := f }) := by
  refine ⟨fun st => ?_, fun _ => rfl⟩; unfold Hold
  iintro ⟨H1, H2, H3, H4, H5, H6, H7, H8, H9, H10, H11, H12, H13, H14, H15, H16⟩
  isplitl [H7]
  · iexact H7
  iintro %f H7
  iframe ∗
theorem slotVz : Slot (F := F) d i mVz St.vz (fun st f => { st with vz := f }) := by
  refine ⟨fun st => ?_, fun _ => rfl⟩; unfold Hold
  iintro ⟨H1, H2, H3, H4, H5, H6, H7, H8, H9, H10, H11, H12, H13, H14, H15, H16⟩
  isplitl [H8]
  · iexact H8
  iintro %f H8
  iframe ∗
theorem slotFa : Slot (F := F) d i mFa St.fa (fun st f => { st with fa := f }) := by
  refine ⟨fun st => ?_, fun _ => rfl⟩; unfold Hold
  iintro ⟨H1, H2, H3, H4, H5, H6, H7, H8, H9, H10, H11, H12, H13, H14, H15, H16⟩
  isplitl [H9]
  · iexact H9
  iintro %f H9
  iframe ∗
theorem slotFb : Slot (F := F) d i mFb St.fb (fun st f => { st with fb := f }) := by
  refine ⟨fun st => ?_, fun _ => rfl⟩; unfold Hold
  iintro ⟨H1, H2, H3, H4, H5, H6, H7, H8, H9, H10, H11, H12, H13, H14, H15, H16⟩
  isplitl [H10]
  · iexact H10
  iintro %f H10
  iframe ∗
theorem slotFc : Slot (F := F) d i mFc St.fc (fun st f => { st with fc := f }) := by
  refine ⟨fun st => ?_, fun _ => rfl⟩; unfold Hold
  iintro ⟨H1, H2, H3, H4, H5, H6, H7, H8, H9, H10, H11, H12, H13, H14, H15, H16⟩
  isplitl [H11]
  · iexact H11
  iintro %f H11
  iframe ∗
theorem slotOx : Slot (F := F) d i mOx St.ox (fun st f => { st with ox := f }) := by
  refine ⟨fun st => ?_, fun _ => rfl⟩; unfold Hold
  iintro ⟨H1, H2, H3, H4, H5, H6, H7, H8, H9, H10, H11, H12, H13, H14, H15, H16⟩
  isplitl [H12]
  · iexact H12
  iintro %f H12
  iframe ∗
theorem slotOy : Slot (F := F) d i mOy St.oy (fun st f => { st with oy := f }) := by
  refine ⟨fun st => ?_, fun _ => rfl⟩; unfold Hold
  iintro ⟨H1, H2, H3, H4, H5, H6, H7, H8, H9, H10, H11, H12, H13, H14, H15, H16⟩
  isplitl [H13]
  · iexact H13
  iintro %f H13
  iframe ∗
theorem slotOz : Slot (F := F) d i mOz St.oz (fun st f => { st with oz := f }) := by
  refine ⟨fun st => ?_, fun _ => rfl⟩; unfold Hold
  iintro ⟨H1, H2, H3, H4, H5, H6, H7, H8, H9, H10, H11, H12, H13, H14, H15, H16⟩
  isplitl [H14]
  · iexact H14
  iintro %f H14
  iframe ∗
theorem slotKeys : Slot (F := F) d i mKeys St.keys (fun st f => { st with keys := f }) := by
  refine ⟨fun st => ?_, fun _ => rfl⟩; unfold Hold
  iintro ⟨H1, H2, H3, H4, H5, H6, H7, H8, H9, H10, H11, H12, H13, H14, H15, H16⟩
  isplitl [H15]
  · iexact H15
  iintro %f H15
  iframe ∗
theorem slotVals : Slot (F := F) d i mVals St.vals (fun st f => { st with vals := f }) := by
  refine ⟨fun st => ?_, fun _ => rfl⟩; unfold Hold
  iintro ⟨H1, H2, H3, H4, H5, H6, H7, H8, H9, H10, H11, H12, H13, H14, H15, H16⟩
  isplitl [H16]
  · iexact H16
  iintro %f H16
  iframe ∗

end Slots

end Cert.Proof.Knn

end
-- ==== Proof.Host.lean ====
/-
  The host part of the kernel's program: its operations before the SparseCore call, between the two calls, and after the TensorCore call,
  and the program as the run of these in order.
-/
module

public import proofs.«01_k».proof.Proof.Base
public import Idealize.ShloMosaic.Lib.Pipeline.Regions
public import Idealize.ShloMosaic.Lib.StableHlo.Run

@[expose] public section

set_option maxRecDepth 16384

noncomputable section

namespace Cert.Proof.Knn

open Cert.KernelIdeal Cert.KernelIdeal.Gen

open Idealize.ShloMosaic Idealize.ShloMosaic.TcCoe
open Idealize.SL.Sem

variable {F : FTy → Type} [FloatOps F]

/-- The operations before the SparseCore call. -/
def opsA : List (HloOp τ sig (Elt F)) :=
  [ StableHlo.nullary main_c (fun i => lit0 (S3.rowMajor i)),
    StableHlo.nullary main_c_0 (constantI S_ 32 0#32),
    StableHlo.unary main_c_0 main_v0 (broadcastInDim S4096x3 ![] bcast_S_S4096x3 : (⟨S_, .i32⟩ : BufTy).Contents (Elt F) → (⟨S4096x3, .i32⟩ : BufTy).Contents (Elt F)),
    StableHlo.binary main_arg1 main_v0 main_v1 (cmpi .slt : (⟨S4096x3, .i32⟩ : BufTy).Contents (Elt F) → (⟨S4096x3, .i32⟩ : BufTy).Contents (Elt F) → (⟨S4096x3, .i1⟩ : BufTy).Contents (Elt F)),
    StableHlo.nullary main_c_1 (constantI S_ 32 10000#32),
    StableHlo.unary main_c_1 main_v2 (broadcastInDim S4096x3 ![] bcast_S_S4096x3 : (⟨S_, .i32⟩ : BufTy).Contents (Elt F) → (⟨S4096x3, .i32⟩ : BufTy).Contents (Elt F)),
    StableHlo.binary main_arg1 main_v2 main_v3 (addi : (⟨S4096x3, .i32⟩ : BufTy).Contents (Elt F) → (⟨S4096x3, .i32⟩ : BufTy).Contents (Elt F) → (⟨S4096x3, .i32⟩ : BufTy).Contents (Elt F)),
    StableHlo.ternary main_v1 main_v3 main_arg1 main_v4 (select : (⟨S4096x3, .i1⟩ : BufTy).Contents (Elt F) → (⟨S4096x3, .i32⟩ : BufTy).Contents (Elt F) → (⟨S4096x3, .i32⟩ : BufTy).Contents (Elt F) → (⟨S4096x3, .i32⟩ : BufTy).Contents (Elt F)),
    StableHlo.unary main_v4 main_v5 (broadcastInDim S4096x3x1 ![0, 1] bcast_S4096x3_S4096x3x1_0_1 : (⟨S4096x3, .i32⟩ : BufTy).Contents (Elt F) → (⟨S4096x3x1, .i32⟩ : BufTy).Contents (Elt F)),
    StableHlo.binary main_arg0 main_v5 main_v6 ((fun x i => Host.gather gather_S10000x3_S4096x3x1_S4096x3x3_2_0_n_n_0_2_13 x i) : (⟨S10000x3, .f32⟩ : BufTy).Contents (Elt F) → (⟨S4096x3x1, .i32⟩ : BufTy).Contents (Elt F) → (⟨S4096x3x3, .f32⟩ : BufTy).Contents (Elt F)),
    StableHlo.nullary main_cst (constant S_ .f32 0x00000000#32),
    StableHlo.binary main_v6 main_cst main_v7 ((fun x v => Host.reduceAdd x v reducesTo_S4096x3x3_S4096x3_d1 h_S_) : (⟨S4096x3x3, .f32⟩ : BufTy).Contents (Elt F) → (⟨S_, .f32⟩ : BufTy).Contents (Elt F) → (⟨S4096x3, .f32⟩ : BufTy).Contents (Elt F)),
    StableHlo.nullary main_cst_2 (constant S_ .f32 0x40400000#32),
    StableHlo.unary main_cst_2 main_v8 (broadcastInDim S4096x3 ![] bcast_S_S4096x3 : (⟨S_, .f32⟩ : BufTy).Contents (Elt F) → (⟨S4096x3, .f32⟩ : BufTy).Contents (Elt F)),
    StableHlo.binary main_v7 main_v8 main_v9 (Host.divf : (⟨S4096x3, .f32⟩ : BufTy).Contents (Elt F) → (⟨S4096x3, .f32⟩ : BufTy).Contents (Elt F) → (⟨S4096x3, .f32⟩ : BufTy).Contents (Elt F)),
    StableHlo.unary main_v9 main_v10 ((extractStridedSlice S4096x1 ![0, 0] · slices_S4096x3_S4096x1_0_0) : (⟨S4096x3, .f32⟩ : BufTy).Contents (Elt F) → (⟨S4096x1, .f32⟩ : BufTy).Contents (Elt F)),
    StableHlo.reshape main_v10 main_v11 (rfl : (.f32 : EltTy) = .f32) shapeCasts_S4096x1_S4096,
    StableHlo.unary main_v9 main_v12 ((extractStridedSlice S4096x1 ![0, 1] · slices_S4096x3_S4096x1_0_1) : (⟨S4096x3, .f32⟩ : BufTy).Contents (Elt F) → (⟨S4096x1, .f32⟩ : BufTy).Contents (Elt F)),
    StableHlo.reshape main_v12 main_v13 (rfl : (.f32 : EltTy) = .f32) shapeCasts_S4096x1_S4096,
    StableHlo.unary main_v9 main_v14 ((extractStridedSlice S4096x1 ![0, 2] · slices_S4096x3_S4096x1_0_2) : (⟨S4096x3, .f32⟩ : BufTy).Contents (Elt F) → (⟨S4096x1, .f32⟩ : BufTy).Contents (Elt F)),
    StableHlo.reshape main_v14 main_v15 (rfl : (.f32 : EltTy) = .f32) shapeCasts_S4096x1_S4096,
    StableHlo.unary main_arg0 main_v16 ((extractStridedSlice S10000x1 ![0, 0] · slices_S10000x3_S10000x1_0_0) : (⟨S10000x3, .f32⟩ : BufTy).Contents (Elt F) → (⟨S10000x1, .f32⟩ : BufTy).Contents (Elt F)),
    StableHlo.reshape main_v16 main_v17 (rfl : (.f32 : EltTy) = .f32) shapeCasts_S10000x1_S10000,
    StableHlo.unary main_arg0 main_v18 ((extractStridedSlice S10000x1 ![0, 1] · slices_S10000x3_S10000x1_0_1) : (⟨S10000x3, .f32⟩ : BufTy).Contents (Elt F) → (⟨S10000x1, .f32⟩ : BufTy).Contents (Elt F)),
    StableHlo.reshape main_v18 main_v19 (rfl : (.f32 : EltTy) = .f32) shapeCasts_S10000x1_S10000,
    StableHlo.unary main_arg0 main_v20 ((extractStridedSlice S10000x1 ![0, 2] · slices_S10000x3_S10000x1_0_2) : (⟨S10000x3, .f32⟩ : BufTy).Contents (Elt F) → (⟨S10000x1, .f32⟩ : BufTy).Contents (Elt F)),
    StableHlo.reshape main_v20 main_v21 (rfl : (.f32 : EltTy) = .f32) shapeCasts_S10000x1_S10000,
    StableHlo.unary main_arg1 main_v22 ((extractStridedSlice S4096x1 ![0, 0] · slices_S4096x3_S4096x1_0_0) : (⟨S4096x3, .i32⟩ : BufTy).Contents (Elt F) → (⟨S4096x1, .i32⟩ : BufTy).Contents (Elt F)),
    StableHlo.reshape main_v22 main_v23 (rfl : (.i32 : EltTy) = .i32) shapeCasts_S4096x1_S4096,
    StableHlo.unary main_arg1 main_v24 ((extractStridedSlice S4096x1 ![0, 1] · slices_S4096x3_S4096x1_0_1) : (⟨S4096x3, .i32⟩ : BufTy).Contents (Elt F) → (⟨S4096x1, .i32⟩ : BufTy).Contents (Elt F)),
    StableHlo.reshape main_v24 main_v25 (rfl : (.i32 : EltTy) = .i32) shapeCasts_S4096x1_S4096,
    StableHlo.unary main_arg1 main_v26 ((extractStridedSlice S4096x1 ![0, 2] · slices_S4096x3_S4096x1_0_2) : (⟨S4096x3, .i32⟩ : BufTy).Contents (Elt F) → (⟨S4096x1, .i32⟩ : BufTy).Contents (Elt F)),
    StableHlo.reshape main_v26 main_v27 (rfl : (.i32 : EltTy) = .i32) shapeCasts_S4096x1_S4096 ]

/-- The operations after it, up to the edges' second index table. -/
def opsB1 : List (HloOp τ sig (Elt F)) :=
  [ StableHlo.nullary main_c_3 (constantI S_ 32 0#32),
    StableHlo.unary main_c_3 main_v29 (broadcastInDim S3 ![] bcast_S_S3 : (⟨S_, .i32⟩ : BufTy).Contents (Elt F) → (⟨S3, .i32⟩ : BufTy).Contents (Elt F)),
    StableHlo.binary main_c main_v29 main_v30 (cmpi .slt : (⟨S3, .i32⟩ : BufTy).Contents (Elt F) → (⟨S3, .i32⟩ : BufTy).Contents (Elt F) → (⟨S3, .i1⟩ : BufTy).Contents (Elt F)),
    StableHlo.nullary main_c_4 (constantI S_ 32 3#32),
    StableHlo.unary main_c_4 main_v31 (broadcastInDim S3 ![] bcast_S_S3 : (⟨S_, .i32⟩ : BufTy).Contents (Elt F) → (⟨S3, .i32⟩ : BufTy).Contents (Elt F)),
    StableHlo.binary main_c main_v31 main_v32 (addi : (⟨S3, .i32⟩ : BufTy).Contents (Elt F) → (⟨S3, .i32⟩ : BufTy).Contents (Elt F) → (⟨S3, .i32⟩ : BufTy).Contents (Elt F)),
    StableHlo.ternary main_v30 main_v32 main_c main_v33 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v33 main_v34 (broadcastInDim S3x1 ![0] bcast_S3_S3x1_0 : (⟨S3, .i32⟩ : BufTy).Contents (Elt F) → (⟨S3x1, .i32⟩ : BufTy).Contents (Elt F)),
    StableHlo.binary main_arg1 main_v34 main_v35 ((fun x i => Host.gather gather_S4096x3_S3x1_S4096x3_0_1_n_n_1_1_40961 x i) : (⟨S4096x3, .i32⟩ : BufTy).Contents (Elt F) → (⟨S3x1, .i32⟩ : BufTy).Contents (Elt F) → (⟨S4096x3, .i32⟩ : BufTy).Contents (Elt F)),
    StableHlo.nullary main_c_5 (constantI S_ 32 0#32),
    StableHlo.unary main_c_5 main_v36 (broadcastInDim S4096x3 ![] bcast_S_S4096x3 : (⟨S_, .i32⟩ : BufTy).Contents (Elt F) → (⟨S4096x3, .i32⟩ : BufTy).Contents (Elt F)),
    StableHlo.binary main_v35 main_v36 main_v37 (cmpi .slt : (⟨S4096x3, .i32⟩ : BufTy).Contents (Elt F) → (⟨S4096x3, .i32⟩ : BufTy).Contents (Elt F) → (⟨S4096x3, .i1⟩ : BufTy).Contents (Elt F)),
    StableHlo.nullary main_c_6 (constantI S_ 32 10000#32),
    StableHlo.unary main_c_6 main_v38 (broadcastInDim S4096x3 ![] bcast_S_S4096x3 : (⟨S_, .i32⟩ : BufTy).Contents (Elt F) → (⟨S4096x3, .i32⟩ : BufTy).Contents (Elt F)),
    StableHlo.binary main_v35 main_v38 main_v39 (addi : (⟨S4096x3, .i32⟩ : BufTy).Contents (Elt F) → (⟨S4096x3, .i32⟩ : BufTy).Contents (Elt F) → (⟨S4096x3, .i32⟩ : BufTy).Contents (Elt F)),
    StableHlo.ternary main_v37 main_v39 main_v35 main_v40 (select : (⟨S4096x3, .i1⟩ : BufTy).Contents (Elt F) → (⟨S4096x3, .i32⟩ : BufTy).Contents (Elt F) → (⟨S4096x3, .i32⟩ : BufTy).Contents (Elt F) → (⟨S4096x3, .i32⟩ : BufTy).Contents (Elt F)),
    StableHlo.unary main_v40 main_v41 (broadcastInDim S4096x3x1 ![0, 1] bcast_S4096x3_S4096x3x1_0_1 : (⟨S4096x3, .i32⟩ : BufTy).Contents (Elt F) → (⟨S4096x3x1, .i32⟩ : BufTy).Contents (Elt F)),
    StableHlo.binary main_arg0 main_v41 main_v42 ((fun x i => Host.gather gather_S10000x3_S4096x3x1_S4096x3x3_2_0_n_n_0_2_13 x i) : (⟨S10000x3, .f32⟩ : BufTy).Contents (Elt F) → (⟨S4096x3x1, .i32⟩ : BufTy).Contents (Elt F) → (⟨S4096x3x3, .f32⟩ : BufTy).Contents (Elt F)),
    StableHlo.nullary main_c_7 (constantI S_ 32 0#32),
    StableHlo.unary main_c_7 main_v43 (broadcastInDim S4096x3 ![] bcast_S_S4096x3 : (⟨S_, .i32⟩ : BufTy).Contents (Elt F) → (⟨S4096x3, .i32⟩ : BufTy).Contents (Elt F)),
    StableHlo.binary main_arg1 main_v43 main_v44 (cmpi .slt : (⟨S4096x3, .i32⟩ : BufTy).Contents (Elt F) → (⟨S4096x3, .i32⟩ : BufTy).Contents (Elt F) → (⟨S4096x3, .i1⟩ : BufTy).Contents (Elt F)),
    StableHlo.nullary main_c_8 (constantI S_ 32 10000#32),
    StableHlo.unary main_c_8 main_v45 (broadcastInDim S4096x3 ![] bcast_S_S4096x3 : (⟨S_, .i32⟩ : BufTy).Contents (Elt F) → (⟨S4096x3, .i32⟩ : BufTy).Contents (Elt F)),
    StableHlo.binary main_arg1 main_v45 main_v46 (addi : (⟨S4096x3, .i32⟩ : BufTy).Contents (Elt F) → (⟨S4096x3, .i32⟩ : BufTy).Contents (Elt F) → (⟨S4096x3, .i32⟩ : BufTy).Contents (Elt F)),
    StableHlo.ternary main_v44 main_v46 main_arg1 main_v47 (select : (⟨S4096x3, .i1⟩ : BufTy).Contents (Elt F) → (⟨S4096x3, .i32⟩ : BufTy).Contents (Elt F) → (⟨S4096x3, .i32⟩ : BufTy).Contents (Elt F) → (⟨S4096x3, .i32⟩ : BufTy).Contents (Elt F)),
    StableHlo.unary main_v47 main_v48 (broadcastInDim S4096x3x1 ![0, 1] bcast_S4096x3_S4096x3x1_0_1 : (⟨S4096x3, .i32⟩ : BufTy).Contents (Elt F) → (⟨S4096x3x1, .i32⟩ : BufTy).Contents (Elt F)) ]

/-- The operations from there to the TensorCore call. -/
def opsB2 : List (HloOp τ sig (Elt F)) :=
  [ StableHlo.binary main_arg0 main_v48 main_v49 ((fun x i => Host.gather gather_S10000x3_S4096x3x1_S4096x3x3_2_0_n_n_0_2_13 x i) : (⟨S10000x3, .f32⟩ : BufTy).Contents (Elt F) → (⟨S4096x3x1, .i32⟩ : BufTy).Contents (Elt F) → (⟨S4096x3x3, .f32⟩ : BufTy).Contents (Elt F)),
    StableHlo.binary main_v42 main_v49 main_v50 (subf : (⟨S4096x3x3, .f32⟩ : BufTy).Contents (Elt F) → (⟨S4096x3x3, .f32⟩ : BufTy).Contents (Elt F) → (⟨S4096x3x3, .f32⟩ : BufTy).Contents (Elt F)),
    StableHlo.unary main_v50 main_v51 ((extractStridedSlice S4096x3x1 ![0, 0, 0] · slices_S4096x3x3_S4096x3x1_0_0_0) : (⟨S4096x3x3, .f32⟩ : BufTy).Contents (Elt F) → (⟨S4096x3x1, .f32⟩ : BufTy).Contents (Elt F)),
    StableHlo.reshape main_v51 main_v52 (rfl : (.f32 : EltTy) = .f32) shapeCasts_S4096x3x1_S4096x3,
    StableHlo.unary main_v50 main_v53 ((extractStridedSlice S4096x3x1 ![0, 0, 1] · slices_S4096x3x3_S4096x3x1_0_0_1) : (⟨S4096x3x3, .f32⟩ : BufTy).Contents (Elt F) → (⟨S4096x3x1, .f32⟩ : BufTy).Contents (Elt F)),
    StableHlo.reshape main_v53 main_v54 (rfl : (.f32 : EltTy) = .f32) shapeCasts_S4096x3x1_S4096x3,
    StableHlo.unary main_v50 main_v55 ((extractStridedSlice S4096x3x1 ![0, 0, 2] · slices_S4096x3x3_S4096x3x1_0_0_2) : (⟨S4096x3x3, .f32⟩ : BufTy).Contents (Elt F) → (⟨S4096x3x1, .f32⟩ : BufTy).Contents (Elt F)),
    StableHlo.reshape main_v55 main_v56 (rfl : (.f32 : EltTy) = .f32) shapeCasts_S4096x3x1_S4096x3,
    StableHlo.reshape main_v52 main_v57 (rfl : (.f32 : EltTy) = .f32) shapeCasts_S4096x3_S1x4096x1x3,
    StableHlo.unary main_v57 main_v58 (broadcastInDim S1x4096x20x3 ![0, 1, 2, 3] bcast_S1x4096x1x3_S1x4096x20x3_0_1_2_3 : (⟨S1x4096x1x3, .f32⟩ : BufTy).Contents (Elt F) → (⟨S1x4096x20x3, .f32⟩ : BufTy).Contents (Elt F)),
    StableHlo.reshape main_v58 main_v59 (rfl : (.f32 : EltTy) = .f32) shapeCasts_S1x4096x20x3_S4096x60,
    StableHlo.reshape main_v54 main_v60 (rfl : (.f32 : EltTy) = .f32) shapeCasts_S4096x3_S1x4096x1x3,
    StableHlo.unary main_v60 main_v61 (broadcastInDim S1x4096x20x3 ![0, 1, 2, 3] bcast_S1x4096x1x3_S1x4096x20x3_0_1_2_3 : (⟨S1x4096x1x3, .f32⟩ : BufTy).Contents (Elt F) → (⟨S1x4096x20x3, .f32⟩ : BufTy).Contents (Elt F)),
    StableHlo.reshape main_v61 main_v62 (rfl : (.f32 : EltTy) = .f32) shapeCasts_S1x4096x20x3_S4096x60,
    StableHlo.reshape main_v56 main_v63 (rfl : (.f32 : EltTy) = .f32) shapeCasts_S4096x3_S1x4096x1x3,
    StableHlo.unary main_v63 main_v64 (broadcastInDim S1x4096x20x3 ![0, 1, 2, 3] bcast_S1x4096x1x3_S1x4096x20x3_0_1_2_3 : (⟨S1x4096x1x3, .f32⟩ : BufTy).Contents (Elt F) → (⟨S1x4096x20x3, .f32⟩ : BufTy).Contents (Elt F)),
    StableHlo.reshape main_v64 main_v65 (rfl : (.f32 : EltTy) = .f32) shapeCasts_S1x4096x20x3_S4096x60,
    StableHlo.unary main_arg2 main_v66 (broadcastInDim S4096x1 ![0] bcast_S4096_S4096x1_0 : (⟨S4096, .f32⟩ : BufTy).Contents (Elt F) → (⟨S4096x1, .f32⟩ : BufTy).Contents (Elt F)) ]

/-- The operation after the TensorCore call. -/
def opsC : List (HloOp τ sig (Elt F)) :=
  [ StableHlo.reshape main_v67 main_v68 (rfl : (.f32 : EltTy) = .f32) shapeCasts_S1x1_S_ ]

/-- A step of the program: a host operation, or one of the two calls. -/
abbrev Step : Type 1 := Prog (TpuEff nD τ sig (Elt F) (SparseCore.Sig (Pipeline.Sig Λ₀ (Fin 1) fun p => (pcfgs (F := F) p).Adm) 1) .tc) PUnit

theorem main_part0_eq (d : Dev nD) : (main_part0 d : Step (F := F)) = Pipeline.chainK [StableHlo.seq opsA, sc.run d 0] (StableHlo.seq opsB1) := by
  rewrite [StableHlo.chainK_seq_cons, Pipeline.chainK_cons]
  chain_rfl

theorem main_part1_eq (d : Dev nD) : (main_part1 d : Step (F := F))
    = Pipeline.chain [StableHlo.seq opsB2, Prog.lift (.customCall (SparseCore.inner (Pipeline.entry 0)) ()), StableHlo.seq opsC] := by
  rewrite [StableHlo.chain_seq_cons, Pipeline.chain_cons, StableHlo.chain_seq_cons]
  chain_rfl

end Cert.Proof.Knn

end
-- ==== Proof.Copy.lean ====
/-
  A local transfer and the wait for it, as one step: from the source held at some share and the destination held
  outright, the destination ends at what the source reads.
-/
module

public import proofs.«01_k».proof.Proof.Base

@[expose] public section

noncomputable section

namespace Cert.Proof.Knn

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The transfers' counters in the launch's algebra. -/
abbrev EC : UEmb Counters (MT nD τ sig (HIx 1) (Elt F) ℕ UU ℕ) := countersEmb

section Copy
variable (d : Dev nD) (i : grid0.Coords) {α : Type}

/-- What the thread owes, whatever it has waited for. -/
def Owing (O : CellTallies nD τ sig (HIx 1)) : sProp 𝕄 := iprop(∃ W, owes (th d i) O W)

theorem copy {sp sp' : Space} {s : Shape} {e : EltTy} {src : Memref sig .scVector sp s e} {dst : Memref sig .scVector sp' s e}
    {sem : DmaSem sig} {hsrc : src.view.WordExact} {hdst : dst.view.WordExact} {hsem} {hsrc' : src.view.WordExact} {hdst' : dst.view.WordExact}
    {k : PUnit → Prog (TpuEff nD τ sig (Elt F) Λ₀ (.scVector ((i 0).castLE hcore0) ((i 1).castLE hsub0))) α} {Q : α → sProp 𝕄} {q : PosShare TreeShare}
    {fs : Buf (Elt F) (src.view.loc (th d i))} {Sd : Finset (Idx (dst.view.loc (th d i)))} {fd : Buf (Elt F) (dst.view.loc (th d i))}
    {O : CellTallies nD τ sig (HIx 1)} (hs : 0 < s.numel) (hSd : dst.view.set ⊆ Sd) :
    iprop(Transfers.MayWaits (th d i) (none : HIx 1) O ∗ (src.view.loc (th d i) ↦[src.view.set]{q} fs)
        ∗ (dst.view.loc (th d i) ↦[Sd]{fullShare} fd) ∗ semVal (th d i, SemLoc.dma sem) 0 ∗ Owing d i O)
      ⊢ iprop((iprop((src.view.loc (th d i) ↦[src.view.set]{q} fs)
            ∗ (dst.view.loc (th d i) ↦[Sd]{fullShare} (dst.view.write (Elt F) fd (src.view.read (Elt F) fs) Finset.univ))
            ∗ semVal (th d i, SemLoc.dma sem) 0 ∗ Owing d i O)
          -∗ wp frame (wpE (defs₀ (F := F)) 𝒱₀ (th d i) none) Set.univ (k ⟨⟩) Q)
        -∗ wp frame (wpE (defs₀ (F := F)) 𝒱₀ (th d i) none) Set.univ
            (Prog.lift (.enqueueDma src (.here dst) (.dma sem) hsrc hdst hsem) >>= fun _ => Prog.lift (.waitDma2 sem src dst hsrc' hdst') >>= k) Q) := by
  unfold Owing
  iintro ⟨Hmw, Hs, Hd, Hv, %W, HO⟩ Hk
  iapply (Transfers.wp_dmaLocal EC 𝒱₀ (th d i) none (src := src) (dst := dst) (via := .same) (none : HIx 1) (dst.view.amount (.dma sem)) rfl
    (View.amount_pos _ _ hs) hSd) $$ [Hs Hd Hv]
  · isplitl [Hs]; · iexact Hs
    isplitl [Hd]; · iexact Hd
    iexact Hv
  iintro HF
  ihave Hm := (Transfers.MayWaits.elim (SemLoc.dma sem)) $$ Hmw
  iapply (Transfers.wp_waitLocalO EC 𝒱₀ (th d i) none (none : HIx 1) rfl) $$ [HF HO Hm]
  · isplitl [HF]; · iexact HF
    isplitl [HO]; · iexact HO
    iexact Hm
  iintro ⟨⟨Hd, Hs⟩, Hv, HO⟩
  iapply Hk
  isplitl [Hs]; · iexact Hs
  isplitl [Hd]; · iexact Hd
  isplitl [Hv]; · iexact Hv
  iexists _; iexact HO

/-- A copy that fills a scratch buffer. -/
theorem copyIn {sp : Space} {s : Shape} {e : EltTy} {src : Memref sig .scVector sp s e} {dst : Memref sig .scVector .vmem s e}
    {sem : DmaSem sig} {hsrc : src.view.WordExact} {hdst : dst.view.WordExact} {hsem} {hsrc' : src.view.WordExact} {hdst' : dst.view.WordExact}
    {k : PUnit → Prog (TpuEff nD τ sig (Elt F) Λ₀ (.scVector ((i 0).castLE hcore0) ((i 1).castLE hsub0))) α} {Q : α → sProp 𝕄} {q : PosShare TreeShare}
    {fs : Buf (Elt F) (src.view.loc (th d i))} {g : s.Idx → Elt F e}
    {O : CellTallies nD τ sig (HIx 1)} (hs : 0 < s.numel) :
    iprop(Transfers.MayWaits (th d i) (none : HIx 1) O ∗ (src.view.loc (th d i) ↦[src.view.set]{q} fs)
        ∗ Own (th d i) dst g ∗ semVal (th d i, SemLoc.dma sem) 0 ∗ Owing d i O)
      ⊢ iprop((iprop((src.view.loc (th d i) ↦[src.view.set]{q} fs)
            ∗ Own (th d i) dst (src.view.read (Elt F) fs)
            ∗ semVal (th d i, SemLoc.dma sem) 0 ∗ Owing d i O)
          -∗ wp frame (wpE (defs₀ (F := F)) 𝒱₀ (th d i) none) Set.univ (k ⟨⟩) Q)
        -∗ wp frame (wpE (defs₀ (F := F)) 𝒱₀ (th d i) none) Set.univ
            (Prog.lift (.enqueueDma src (.here dst) (.dma sem) hsrc hdst hsem) >>= fun _ => Prog.lift (.waitDma2 sem src dst hsrc' hdst') >>= k) Q) := by
  unfold Own
  iintro ⟨Hmw, Hs, ⟨%f, -, Hd⟩, Hv, HO⟩ Hk
  iapply (copy d i hs (Finset.Subset.refl _)) $$ [Hmw Hs Hd Hv HO]
  · isplitl [Hmw]; · iexact Hmw
    isplitl [Hs]; · iexact Hs
    isplitl [Hd]; · iexact Hd
    isplitl [Hv]; · iexact Hv
    iexact HO
  iintro ⟨Hs, Hd, Hv, HO⟩
  iapply Hk
  isplitl [Hs]; · iexact Hs
  isplitl [Hd]
  · iexists (dst.view.write (Elt F) f (src.view.read (Elt F) fs) Finset.univ)
    isplitr [Hd]
    · ipureintro; exact View.read_write_univ _ _
    · iexact Hd
  isplitl [Hv]; · iexact Hv
  iexact HO

/-- A copy that fills a rectangle of a scratch buffer. -/
theorem copyPart {sp : Space} {s : Shape} {r : Rect s} {hr : ∀ a, r.stride a = 1} {e : EltTy} {src : Memref sig .scVector sp r.shape e} {dst : Memref sig .scVector .vmem s e}
    {sem : DmaSem sig} {hsrc : src.view.WordExact} {hdst : (dst.slice r hr).view.WordExact} {hsem} {hsrc' : src.view.WordExact} {hdst' : (dst.slice r hr).view.WordExact}
    {k : PUnit → Prog (TpuEff nD τ sig (Elt F) Λ₀ (.scVector ((i 0).castLE hcore0) ((i 1).castLE hsub0))) α} {Q : α → sProp 𝕄} {q : PosShare TreeShare}
    {fs : Buf (Elt F) (src.view.loc (th d i))} {g : s.Idx → Elt F e}
    {O : CellTallies nD τ sig (HIx 1)} (hs : 0 < r.shape.numel) :
    iprop(Transfers.MayWaits (th d i) (none : HIx 1) O ∗ (src.view.loc (th d i) ↦[src.view.set]{q} fs)
        ∗ Own (th d i) dst g ∗ semVal (th d i, SemLoc.dma sem) 0 ∗ Owing d i O)
      ⊢ iprop((iprop((src.view.loc (th d i) ↦[src.view.set]{q} fs)
            ∗ (∃ g', ⌜∀ x, g' (r.emb x) = src.view.read (Elt F) fs x⌝ ∗ Own (th d i) dst g')
            ∗ semVal (th d i, SemLoc.dma sem) 0 ∗ Owing d i O)
          -∗ wp frame (wpE (defs₀ (F := F)) 𝒱₀ (th d i) none) Set.univ (k ⟨⟩) Q)
        -∗ wp frame (wpE (defs₀ (F := F)) 𝒱₀ (th d i) none) Set.univ
            (Prog.lift (.enqueueDma src (.here (dst.slice r hr)) (.dma sem) hsrc hdst hsem) >>= fun _ => Prog.lift (.waitDma2 sem src (dst.slice r hr) hsrc' hdst') >>= k) Q) := by
  unfold Own
  iintro ⟨Hmw, Hs, ⟨%f, -, Hd⟩, Hv, HO⟩ Hk
  iapply (copy d i (dst := dst.slice r hr) (Sd := dst.view.set) (fd := f) hs (View.set_slice_subset _ _)) $$ [Hmw Hs Hd Hv HO]
  · isplitl [Hmw]; · iexact Hmw
    isplitl [Hs]; · iexact Hs
    isplitl [Hd]; · iexact Hd
    isplitl [Hv]; · iexact Hv
    iexact HO
  iintro ⟨Hs, Hd, Hv, HO⟩
  iapply Hk
  isplitl [Hs]; · iexact Hs
  isplitl [Hd]
  · iexists (dst.view.read (Elt F) ((dst.slice r hr).view.write (Elt F) f (src.view.read (Elt F) fs) Finset.univ))
    isplitr [Hd]
    · ipureintro; intro x
      exact View.read_slice_write_emb r f _ (Finset.mem_univ x)
    · iexists _
      isplitr [Hd]
      · ipureintro; rfl
      · iexact Hd
  isplitl [Hv]; · iexact Hv
  iexact HO

/-- A copy of a scratch buffer out to an array's rectangle. -/
theorem copyOut {sp : Space} {s : Shape} {e : EltTy} {src : Memref sig .scVector .vmem s e} {dst : Memref sig .scVector sp s e}
    {sem : DmaSem sig} {hsrc : src.view.WordExact} {hdst : dst.view.WordExact} {hsem} {hsrc' : src.view.WordExact} {hdst' : dst.view.WordExact}
    {k : PUnit → Prog (TpuEff nD τ sig (Elt F) Λ₀ (.scVector ((i 0).castLE hcore0) ((i 1).castLE hsub0))) α} {Q : α → sProp 𝕄}
    {g : s.Idx → Elt F e} {fd : Buf (Elt F) (dst.view.loc (th d i))}
    {O : CellTallies nD τ sig (HIx 1)} (hs : 0 < s.numel) :
    iprop(Transfers.MayWaits (th d i) (none : HIx 1) O ∗ Own (th d i) src g
        ∗ (dst.view.loc (th d i) ↦[dst.view.set]{fullShare} fd) ∗ semVal (th d i, SemLoc.dma sem) 0 ∗ Owing d i O)
      ⊢ iprop((iprop(Own (th d i) src g
            ∗ (∃ f, ⌜dst.view.read (Elt F) f = g⌝ ∗ (dst.view.loc (th d i) ↦[dst.view.set]{fullShare} f))
            ∗ semVal (th d i, SemLoc.dma sem) 0 ∗ Owing d i O)
          -∗ wp frame (wpE (defs₀ (F := F)) 𝒱₀ (th d i) none) Set.univ (k ⟨⟩) Q)
        -∗ wp frame (wpE (defs₀ (F := F)) 𝒱₀ (th d i) none) Set.univ
            (Prog.lift (.enqueueDma src (.here dst) (.dma sem) hsrc hdst hsem) >>= fun _ => Prog.lift (.waitDma2 sem src dst hsrc' hdst') >>= k) Q) := by
  unfold Own
  iintro ⟨Hmw, ⟨%f, %hf, Hs⟩, Hd, Hv, HO⟩ Hk
  iapply (copy d i hs (Finset.Subset.refl _)) $$ [Hmw Hs Hd Hv HO]
  · isplitl [Hmw]; · iexact Hmw
    isplitl [Hs]; · iexact Hs
    isplitl [Hd]; · iexact Hd
    isplitl [Hv]; · iexact Hv
    iexact HO
  iintro ⟨Hs, Hd, Hv, HO⟩
  iapply Hk
  isplitl [Hs]
  · iexists f
    isplitr [Hs]
    · ipureintro; exact hf
    · iexact Hs
  isplitl [Hd]
  · iexists (dst.view.write (Elt F) fd (src.view.read (Elt F) f) Finset.univ)
    isplitr [Hd]
    · ipureintro; exact (View.read_write_univ _ _).trans hf
    · iexact Hd
  isplitl [Hv]; · iexact Hv
  iexact HO

end Copy

end Cert.Proof.Knn

end
-- ==== Proof.Logic.lean ====
/-
  A small program logic for one vector subcore working in its own scratch buffers: `Tri d i st p post` says that from
  the contents `st` the program `p` runs to a result and contents that `post` relates. One rule per operation.
-/
module

public import proofs.«01_k».proof.Proof.Base

@[expose] public section

noncomputable section

namespace Cert.Proof.Knn

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- A vector subcore's programs. -/
abbrev VP (F : FTy → Type) (i : grid0.Coords) (α : Type) : Type 1 :=
  Prog (TpuEff nD τ sig (Elt F) Λ₀ (.scVector ((i 0).castLE hcore0) ((i 1).castLE hsub0))) α

/-- From the contents `st` the program runs, and ends with a result and contents `post` relates. -/
def Tri (d : Dev nD) (i : grid0.Coords) (st : St F) {α : Type} (p : VP F i α) (post : α → St F → Prop) : Prop :=
  Hold d i st ⊢ wp (M := 𝕄) frame (wpE (defs₀ (F := F)) 𝒱₀ (th d i) none) Set.univ p
    (fun a => iprop(∃ st', ⌜post a st'⌝ ∗ Hold d i st'))

section Rules
variable {d : Dev nD} {i : grid0.Coords} {st : St F} {α β : Type}

theorem Tri.ret {a : α} {post : α → St F → Prop} (h : post a st) : Tri d i st (.ret a) post := by
  unfold Tri
  refine BIBase.Entails.trans ?_ (le_wp_ret _ _ _ a _)
  iintro H
  iexists st
  isplitr [H]
  · ipureintro; exact h
  · iexact H

theorem Tri.pure {a : α} {post : α → St F → Prop} (h : post a st) : Tri d i st (Pure.pure a : VP F i α) post := Tri.ret h

theorem Tri.bind {p : VP F i α} {k : α → VP F i β} {mid : α → St F → Prop} {post : β → St F → Prop}
    (hp : Tri d i st p mid) (hk : ∀ a st', mid a st' → Tri d i st' (k a) post) : Tri d i st (p >>= k) post := by
  unfold Tri at *
  rw [wp_bind]
  refine hp.trans (wp_mono _ _ _ fun a => ?_)
  iintro ⟨%st', %hm, H⟩
  iapply (hk a st' hm) $$ H

theorem Tri.mono {p : VP F i α} {post post' : α → St F → Prop} (hp : Tri d i st p post)
    (h : ∀ a st', post a st' → post' a st') : Tri d i st p post' := by
  unfold Tri at *
  refine hp.trans (wp_mono _ _ _ fun a => ?_)
  iintro ⟨%st', %hm, H⟩
  iexists st'
  isplitr [H]
  · ipureintro; exact h a st' hm
  · iexact H

theorem Tri.assume {P : Prop} {dc : Decidable P} {k : PLift P → VP F i β} {post : β → St F → Prop} (h : P)
    (hk : Tri d i st (k ⟨h⟩) post) : Tri d i st (Prog.lift (TpuEff.assume P dc) >>= k) post := by
  unfold Tri at *
  exact hk.trans (wp_assume 𝒱₀ (th d i) none Set.univ h)

section Slot
variable {s : Shape} {e : EltTy} {M : Memref sig .scVector .vmem s e} {get : St F → s.Idx → Elt F e}
  {put : St F → (s.Idx → Elt F e) → St F}

/-- A load reads the buffer's contents under the rectangle. -/
theorem Tri.load (hM : Slot d i M get put) {r : LoadRect s} {hl : M.view.LoadsAt r} {k : (r.shape.Idx → Elt F e) → VP F i β} {post : β → St F → Prop}
    (hk : Tri d i st (k fun x => get st (r.idx x)) post) :
    Tri d i st (Prog.lift (.load M r hl) >>= k) post := by
  unfold Tri at *
  refine (hM.1 st).trans ?_
  iintro ⟨HM, Hb⟩
  unfold Own
  icases HM with ⟨%g, %hg, HM⟩
  iapply (wp_load (defs := defs₀ (F := F)) 𝒱₀ (th d i) none Set.univ (m := M) (r := r) (hl := hl) (k := k) (View.setOn_subset_set _ _)) $$ HM
  iintro HM
  ispecialize Hb $$ %(get st) [HM]
  · iexists g
    isplitr [HM]
    · ipureintro; exact hg
    · iexact HM
  rw [hM.2]
  have e : M.view.readAt (Elt F) r g = fun x => get st (r.idx x) := by
    funext x; rw [View.readAt_apply, hg]
  rw [e]
  iapply hk $$ Hb

/-- An indexed load gathers from the buffer's contents. -/
theorem Tri.gather (hM : Slot d i M get put) {t : Shape} {idxs : Fin s.rank → IVec t 32} {h : ∀ a x, (idxs a x).toNat < s.size a}
    {hl : M.view.Loads} {k : Vec F t e → VP F i β} {post : β → St F → Prop}
    (hk : Tri d i st (k (loadIdx (get st) idxs h)) post) :
    Tri d i st (SparseCore.vectorLoadIdx M idxs h hl >>= k) post := by
  unfold Tri at *
  refine (hM.1 st).trans ?_
  iintro ⟨HM, Hb⟩
  unfold Own
  icases HM with ⟨%g, %hg, HM⟩
  iapply (SparseCore.wp_vectorLoadIdx (defs := defs₀ (F := F)) 𝒱₀ (th d i) none Set.univ (base := M) (idxs := idxs) (h := h) (hl := hl) (k := k)
    (View.set_slice_subset _ _)) $$ HM
  iintro HM
  ispecialize Hb $$ %(get st) [HM]
  · iexists g
    isplitr [HM]
    · ipureintro; exact hg
    · iexact HM
  rw [hM.2]
  have e : (M.access (.whole s)).read (Elt F) g = get st := by
    rw [← hg]; funext x
    show M.view.read (Elt F) g ((Rect.whole s).emb x) = _
    rw [Rect.emb_whole_apply]
  rw [e]
  iapply hk $$ Hb

/-- An indexed store scatters into the buffer's contents. -/
theorem Tri.scatter (hM : Slot d i M get put) {dd : Fin 1 → Nat} {idxs : Fin s.rank → IVec ⟨1, dd⟩ 32} {v : Vec F ⟨1, dd⟩ e}
    {mask : IVec ⟨1, dd⟩ 1} {add : Bool} {h : ∀ a x, (idxs a x).toNat < s.size a} {hs : (M.access (.whole s)).Stores Finset.univ}
    {k : PUnit → VP F i β} {post : β → St F → Prop}
    (hk : Tri d i (put st (storeIdx (get st) idxs v mask add h)) (k ⟨⟩) post) :
    Tri d i st (SparseCore.vectorStoreIdx M idxs v mask add h hs >>= k) post := by
  unfold Tri at *
  refine (hM.1 st).trans ?_
  iintro ⟨HM, Hb⟩
  unfold Own
  icases HM with ⟨%g, %hg, HM⟩
  have hset : (M.access (.whole s)).set = M.view.set := by rw [View.set_slice, Rect.set_whole]; rfl
  have e : (M.access (.whole s)).read (Elt F) g = get st := by
    rw [← hg]; funext x
    show M.view.read (Elt F) g ((Rect.whole s).emb x) = _
    rw [Rect.emb_whole_apply]
  iapply (SparseCore.wp_vectorStoreIdx (defs := defs₀ (F := F)) 𝒱₀ (th d i) none Set.univ (base := M) (idxs := idxs) (h := h) (hs := hs) (v := v)
    (mask := mask) (add := add) (k := k) (f := g)) $$ [HM]
  · rw [hset]; iexact HM
  rw [hset, e]
  iintro HM
  ispecialize Hb $$ %(storeIdx (get st) idxs v mask add h) [HM]
  · iexists (M.access (.whole s)).write (Elt F) g (storeIdx (get st) idxs v mask add h) Finset.univ
    isplitr [HM]
    · ipureintro
      funext x
      have := View.read_slice_write_emb (v := M.view) (Val := Elt F) (Rect.whole s) g (storeIdx (get st) idxs v mask add h) (M := Finset.univ) (x := x) (Finset.mem_univ _)
      rw [Rect.emb_whole_apply] at this
      exact this
    · iexact HM
  iapply hk $$ Hb

/-- A store through a rectangle: the contents become any function that is the stored values under the rectangle and
    the old contents elsewhere. -/
theorem Tri.store (hM : Slot d i M get put) (f' : s.Idx → Elt F e) {r : Rect s} {w : r.shape.Idx → Elt F e} {hx : (M.access r).Stores Finset.univ}
    {hm : Finset.univ = Finset.univ ∨ ∀ a, r.stride a = 1} {k : PUnit → VP F i β} {post : β → St F → Prop}
    (h1 : ∀ x, f' (r.emb x) = w x) (h2 : ∀ y, (∀ x, r.emb x ≠ y) → f' y = get st y)
    (hk : Tri d i (put st f') (k ⟨⟩) post) :
    Tri d i st (Prog.lift (.store M r w Finset.univ hx hm) >>= k) post := by
  unfold Tri at *
  refine (hM.1 st).trans ?_
  iintro ⟨HM, Hb⟩
  unfold Own
  icases HM with ⟨%g, %hg, HM⟩
  iapply (wp_store (defs := defs₀ (F := F)) 𝒱₀ (th d i) none Set.univ (m := M) (r := r) (w := w) (Mk := Finset.univ) (hx := hx) (hm := hm) (k := k) (f := g)
    (S := M.view.set) (View.set_slice_subset _ _)) $$ HM
  iintro HM
  ispecialize Hb $$ %f' [HM]
  · iexists (M.access r).write (Elt F) g w Finset.univ
    isplitr [HM]
    · ipureintro
      funext y
      by_cases hy : ∃ x, r.emb x = y
      · obtain ⟨x, rfl⟩ := hy
        rw [h1]
        exact View.read_slice_write_emb r g w (Finset.mem_univ _)
      · rw [h2 y (fun x hx => hy ⟨x, hx⟩), ← hg]
        exact View.read_slice_write_of_not_mem r g w _ (by simpa using fun x => fun hx => hy ⟨x, hx⟩)
    · iexact HM
  iapply hk $$ Hb

end Slot

/-- A counted loop, by an invariant over the trips done, the carried values and the contents. -/
theorem Tri.loop {σ : Type} {w : ℕ} (L : Scf.Loop w) (hok) {init : σ} {body : Fin L.trips → σ → VP F i σ} {k : σ → VP F i β} {post : β → St F → Prop}
    (I : ℕ → σ → St F → Prop) (h0 : I 0 init st)
    (hb : ∀ (t : Fin L.trips) a st', I t a st' → Tri d i st' (body t a) (I (t + 1)))
    (hk : ∀ a st', I L.trips a st' → Tri d i st' (k a) post) :
    Tri d i st (Scf.Loop.for L hok init body >>= k) post := by
  refine Tri.bind (mid := I L.trips) ?_ hk
  unfold Tri at *
  refine BIBase.Entails.trans ?_ (Scf.wp_for _ _ _ L.lb L.ub L.st hok init body
    (fun n a => iprop(∃ st', ⌜I n a st'⌝ ∗ Hold d i st')) ?_)
  · iintro H
    isplitl [H]
    · iexists st
      isplitr [H]
      · ipureintro; exact h0
      · iexact H
    · iintro %a H
      iexact H
  · intro t a
    iintro ⟨%st', %hI, H⟩
    iapply (hb t a st' hI) $$ H

end Rules

end Cert.Proof.Knn

end
-- ==== Proof.Sort.lean ====
/-
  Sorting sixteen lanes by ranks and reversing them, through the two small scratch buffers: what the sorted vectors
  are (`place (rank key)`), and the steps of the logic for the program text that does it.
-/
module

public import proofs.«01_k».proof.Proof.Logic

@[expose] public section

noncomputable section

namespace Cert.Proof.Knn

open Cert.KernelIdeal Cert.KernelIdeal.Gen

open Idealize.ShloMosaic
open Idealize.ShloMosaic.SparseCore (S V T)
open Idealize.SL Idealize.SL.Sem

variable {F : FTy → Type} [FloatOps F]

/-! ## Indices -/

/-- The index of a one-axis shape of `n` elements that the number `j` names (reduced below `n`). -/
def ix (n : ℕ) [NeZero n] (j : ℕ) : (⟨1, ![n]⟩ : Shape).Idx :=
  fun | ⟨0, _⟩ => ⟨j % n, Nat.mod_lt _ (NeZero.pos n)⟩

theorem ix_val (n : ℕ) [NeZero n] (j : ℕ) (a : Fin 1) : (ix n j a).val = j % n := by
  match a with
  | ⟨0, _⟩ => rfl

theorem eq_ix (n : ℕ) [NeZero n] (x : (⟨1, ![n]⟩ : Shape).Idx) : x = ix n (x 0).val := by
  funext a
  match a with
  | ⟨0, _⟩ => exact Fin.ext (Nat.mod_eq_of_lt (x 0).isLt).symm

theorem eq_ix_of (n : ℕ) [NeZero n] (x : (⟨1, ![n]⟩ : Shape).Idx) {j : ℕ} (h : (x 0).val = j) : x = ix n j := by
  subst h; exact eq_ix n x

/-- Where a unit-stride window of a one-axis shape reads. -/
theorem window_idx (n m : ℕ) [NeZero n] (off : Fin 1 → ℕ) (inb : ∀ a, off a + (![m] : Fin 1 → ℕ) a ≤ (![n] : Fin 1 → ℕ) a)
    (x : (⟨1, ![m]⟩ : Shape).Idx) :
    (Rect.unit (s := ⟨1, ![n]⟩) off ![m] inb).toLoadRect.idx x = ix n (off 0 + (x 0).val) := by
  apply eq_ix_of
  show off 0 + 1 * (x 0).val = _
  rw [Nat.one_mul]

theorem window_emb (n m : ℕ) [NeZero n] (off : Fin 1 → ℕ) (inb : ∀ a, off a + (![m] : Fin 1 → ℕ) a ≤ (![n] : Fin 1 → ℕ) a)
    (x : (⟨1, ![m]⟩ : Shape).Idx) :
    (Rect.unit (s := ⟨1, ![n]⟩) off ![m] inb).emb x = ix n (off 0 + (x 0).val) := window_idx n m off inb x

/-- The contents after storing the sixteen lanes `w` at `o`. -/
def put16 {α : Type} (n : ℕ) (o : ℕ) (w : S16.Idx → α) (f : (⟨1, ![n]⟩ : Shape).Idx → α) : (⟨1, ![n]⟩ : Shape).Idx → α :=
  fun y => if o ≤ (y 0).val ∧ (y 0).val < o + 16 then w (ix 16 ((y 0).val - o)) else f y

theorem put16_in {α : Type} (n o : ℕ) [NeZero n] (w : S16.Idx → α) (f : (⟨1, ![n]⟩ : Shape).Idx → α) (x : S16.Idx) (h : o + (x 0).val < n) :
    put16 n o w f (ix n (o + (x 0).val)) = w x := by
  have hx : (x 0).val < 16 := (x 0).isLt
  unfold put16
  rw [ix_val, Nat.mod_eq_of_lt h, if_pos (by omega), Nat.add_sub_cancel_left, ← eq_ix]

theorem put16_off {α : Type} (n o : ℕ) [NeZero n] (w : S16.Idx → α) (f : (⟨1, ![n]⟩ : Shape).Idx → α) (y : (⟨1, ![n]⟩ : Shape).Idx)
    (h : ¬ (o ≤ (y 0).val ∧ (y 0).val < o + 16)) : put16 n o w f y = f y := if_neg h

/-! ## Ranks -/

abbrev lanes : IVec S16 32 := iota .scVector S16 32 [0] iota_S16_d0_w32_scVector

/-- One step of the rank count: each lane counts the lane whose key is `v` when it sorts before it. -/
def rankStep (key : FVec F S16 .f32) (t : ℕ) (acc : IVec S16 32) (v : FVec F S16 .f32) : IVec S16 32 :=
  addi acc (select (ori (cmpf .olt v key) (andi (cmpf .oeq v key) (cmpi .sgt lanes (broadcast S16 (Scf.iv 0#32 1#32 t)))))
    (broadcast S16 1#32) (broadcast S16 0#32))

/-- The ranks counted over the first `n` lanes. -/
def rank (key : FVec F S16 .f32) : ℕ → IVec S16 32
  | 0 => broadcast S16 0#32
  | n + 1 => rankStep key n (rank key n) fun _ => key (ix 16 n)

theorem rank_le (key : FVec F S16 .f32) (n : ℕ) (hn : n ≤ 16) (x : S16.Idx) : (rank key n x).toNat ≤ n := by
  induction n with
  | zero => exact le_of_eq rfl
  | succ n ih =>
    have h := ih (by omega)
    show (rank key n x + (if _ = 1#1 then 1#32 else 0#32)).toNat ≤ n + 1
    rw [BitVec.toNat_add]
    split
    · show ((rank key n x).toNat + 1) % 2 ^ 32 ≤ _
      omega
    · show ((rank key n x).toNat + 0) % 2 ^ 32 ≤ _
      omega

/-- An unmasked-or-masked scatter of sixteen lanes at one element: the lanes in order, the last that names the element
    staying. -/
theorem storeIdx_at {s : Shape} {e : EltTy} (f : Vec F s e) (idxs : Fin s.rank → IVec S16 32) (v : Vec F S16 e) (mask : IVec S16 1)
    (h : ∀ a x, (idxs a x).toNat < s.size a) (y : s.Idx) :
    storeIdx f idxs v mask false h y
      = (List.range 16).foldl (fun a k => if mask (ix 16 k) = 1#1 ∧ ∀ b, (y b).val = (idxs b (ix 16 k)).toNat then v (ix 16 k) else a) (f y) := by
  have hr : List.range 16 = (List.finRange 16).map Fin.val := by decide
  rw [hr, List.foldl_map]
  unfold storeIdx
  have key : ∀ (l : List (Fin 16)) (f : Vec F s e),
      (List.foldl (fun (g : Vec F s e) (k : Fin 16) =>
        if mask (ix 16 k.val) = 1 then fun j => if (∀ a, (j a).val = (idxAt idxs h (ix 16 k.val) a).val) then v (ix 16 k.val) else g j else g) f l) y
      = l.foldl (fun a k => if mask (ix 16 k.val) = 1#1 ∧ ∀ b, (y b).val = (idxs b (ix 16 k.val)).toNat then v (ix 16 k.val) else a) (f y) := by
    intro l
    induction l with
    | nil => exact fun f => rfl
    | cons k l ih =>
      intro f
      rw [List.foldl_cons, List.foldl_cons, ih]
      congr 1
      by_cases hm : mask (ix 16 k.val) = 1
      · rw [if_pos hm]
        exact if_congr ⟨fun h => ⟨hm, h⟩, fun h => h.2⟩ rfl rfl
      · rw [if_neg hm, if_neg fun h => hm h.1]
  have hlane : ∀ k : Fin 16, Shape.ofLane (d := ![16]) k = ix 16 k.val := fun k => eq_ix_of 16 _ rfl
  refine Eq.trans ?_ (key (List.finRange 16) f)
  refine congrArg (fun st : Vec F s e → Fin 16 → Vec F s e => List.foldl st f (List.finRange 16) y) (funext fun g => funext fun k => ?_)
  rw [← hlane k]
  by_cases hm : mask (Shape.ofLane (d := ![16]) k) = 1
  · refine Eq.trans (if_pos hm) (Eq.trans ?_ (if_pos hm).symm)
    funext j
    by_cases hj : ∀ a, (j a).val = (idxAt idxs h (Shape.ofLane (d := ![16]) k) a).val
    · exact (if_pos hj).trans (if_pos hj).symm
    · exact (if_neg hj).trans (if_neg hj).symm
  · exact (if_neg hm).trans (if_neg hm).symm

/-- The values `v` moved to their ranks: slot `w` holds the value of the highest lane of rank `w`, or what it held. -/
def place {α : Type} (rk : IVec S16 32) (v : S16.Idx → α) : S16.Idx → α :=
  fun w => (List.range 16).foldl (fun a k => if (rk (ix 16 k)).toNat = (w 0).val then v (ix 16 k) else a) (v w)

theorem place_mem {α : Type} (rk : IVec S16 32) (v : S16.Idx → α) (w : S16.Idx) : ∃ x, place rk v w = v x := by
  unfold place
  have h : ∀ (l : List ℕ) (a : α), (∃ x, a = v x) → ∃ x, l.foldl (fun a k => if (rk (ix 16 k)).toNat = (w 0).val then v (ix 16 k) else a) a = v x := by
    intro l
    induction l with
    | nil => exact fun a h => h
    | cons k l ih =>
      intro a ha
      rw [List.foldl_cons]
      apply ih
      split
      · exact ⟨_, rfl⟩
      · exact ha
  exact h _ _ ⟨w, rfl⟩

/-- The sorted keys. -/
def sortK (key : FVec F S16 .f32) : FVec F S16 .f32 := place (rank key 16) key
/-- The values carried along with the sorted keys. -/
def sortV {α : Type} (key : FVec F S16 .f32) (v : S16.Idx → α) : S16.Idx → α := place (rank key 16) v
/-- The lanes in reverse. -/
def rev {α : Type} (v : S16.Idx → α) : S16.Idx → α := fun x => v (ix 16 (15 - (x 0).val))

/-- Scattering sixteen lanes at their ranks into a buffer whose first sixteen elements are the same lanes. -/
theorem storeIdx_place {e : EltTy} (rk : IVec S16 32) (v : Vec F S16 e) (f : Vec F S32 e)
    (h : ∀ a x, ((![rk] : Fin 1 → IVec S16 32) a x).toNat < S32.size a) (hf : ∀ x : S16.Idx, f (ix 32 (x 0).val) = v x) (w : S16.Idx) :
    storeIdx (s := S32) f ![rk] v (fun _ => 1#1) false h (ix 32 (w 0).val) = place rk v w := by
  have hw : (w 0).val < 16 := (w 0).isLt
  rw [storeIdx_at, hf w]
  unfold place
  congr 1
  funext a k
  refine if_congr ?_ rfl rfl
  constructor
  · rintro ⟨-, h0⟩
    have := h0 0
    rw [ix_val, Nat.mod_eq_of_lt (by omega)] at this
    exact this.symm
  · intro h0
    refine ⟨rfl, fun a => ?_⟩
    match a with
    | ⟨0, _⟩ =>
      rw [ix_val, Nat.mod_eq_of_lt (by omega)]
      exact h0.symm

theorem lt32_of {v : IVec S16 32} (h : ∀ x, (v x).toNat < 32) : ∀ a x, ((![v] : Fin 1 → IVec S16 32) a x).toNat < S32.size a
  | ⟨0, _⟩, x => h x

/-! ## The steps -/

section Steps
variable {d : Dev nD} {i : grid0.Coords} {st : St F} {β : Type}

abbrev win16 : Rect S32 := Rect.unit (s := S32) ![0] S16.size inb_S32_S16_0

/-- A key vector put into the first half of the key buffer. -/
theorem Tri.stageK (w : FVec F S16 .f32) {hl : mKeys.view.LoadsAt win16.toLoadRect} {hx hm} {k : PUnit → VP F i β} {post : β → St F → Prop}
    (hk : Tri d i { st with keys := put16 32 0 w st.keys } (k ⟨⟩) post) :
    Tri d i st (Prog.lift (.load mKeys win16.toLoadRect hl) >>= fun _ => Prog.lift (.store mKeys win16 w Finset.univ hx hm) >>= k) post := by
  refine Tri.load (slotKeys d i) (Tri.store (slotKeys d i) (put16 32 0 w st.keys) ?_ ?_ hk)
  · intro x
    have hx : (x 0).val < 16 := (x 0).isLt
    rw [window_emb]
    exact put16_in 32 0 w st.keys x (by omega)
  · intro y hy
    refine put16_off 32 0 w st.keys y fun hh => ?_
    refine hy (ix 16 (y 0).val) ?_
    rw [window_emb]
    refine (eq_ix_of 32 y ?_).symm
    rw [ix_val, Nat.mod_eq_of_lt (by omega)]
    exact (Nat.zero_add _).symm

/-- A value vector put into the first half of the value buffer. -/
theorem Tri.stageV (w : IVec S16 32) {hl : mVals.view.LoadsAt win16.toLoadRect} {hx hm} {k : PUnit → VP F i β} {post : β → St F → Prop}
    (hk : Tri d i { st with vals := put16 32 0 w st.vals } (k ⟨⟩) post) :
    Tri d i st (Prog.lift (.load mVals win16.toLoadRect hl) >>= fun _ => Prog.lift (.store mVals win16 w Finset.univ hx hm) >>= k) post := by
  refine Tri.load (slotVals d i) (Tri.store (slotVals d i) (put16 32 0 w st.vals) ?_ ?_ hk)
  · intro x
    have hx : (x 0).val < 16 := (x 0).isLt
    rw [window_emb]
    exact put16_in 32 0 w st.vals x (by omega)
  · intro y hy
    refine put16_off 32 0 w st.vals y fun hh => ?_
    refine hy (ix 16 (y 0).val) ?_
    rw [window_emb]
    refine (eq_ix_of 32 y ?_).symm
    rw [ix_val, Nat.mod_eq_of_lt (by omega)]
    exact (Nat.zero_add _).symm

/-- What a load of the first half reads. -/
theorem win16_idx (f : S32.Idx → β) : (fun x => f (win16.toLoadRect.idx x)) = fun x : S16.Idx => f (ix 32 (x 0).val) := by
  funext x
  rw [window_idx]
  exact congrArg (fun n => f (ix 32 n)) (Nat.zero_add _)

/-- Sorting: from keys and values in the first halves of the two buffers, the rank loop, the two scatters and the two
    loads read the sorted keys and the values carried along. -/
theorem Tri.sort {key : FVec F S16 .f32} {v : IVec S16 32} {L : Scf.Loop 32} {hok : L.OK} {init : IVec S16 32}
    {body : Fin L.trips → IVec S16 32 → VP F i (IVec S16 32)}
    {P : IVec S16 32 → Prop} {dc : ∀ r, Decidable (P r)} {h2 h3 : ∀ r, PLift (P r) → ∀ a x, ((![r] : Fin 1 → IVec S16 32) a x).toNat < S32.size a} {hs hs' hl hl'}
    {k : FVec F S16 .f32 → IVec S16 32 → VP F i β} {post : β → St F → Prop}
    (hL : L.trips = 16) (hinit : init = broadcast S16 0#32) (hP : ∀ r : IVec S16 32, (∀ x, (r x).toNat < 32) → P r)
    (hbody : ∀ (t : Fin L.trips) acc, ∃ (Q : Prop) (dq : Decidable Q) (hq : PLift Q → ∀ a x, ((![broadcast S16 (Scf.iv 0#32 1#32 t.val)] : Fin 1 → IVec S16 32) a x).toNat < S32.size a) (hl : mKeys.view.Loads),
      Q ∧ body t acc = (Prog.lift (TpuEff.assume Q dq) >>= fun hw =>
        SparseCore.vectorLoadIdx mKeys ![broadcast S16 (Scf.iv 0#32 1#32 t.val)] (hq hw) hl >>= fun x => Pure.pure (rankStep key t.val acc x)))
    (hkey : ∀ x : S16.Idx, st.keys (ix 32 (x 0).val) = key x) (hval : ∀ x : S16.Idx, st.vals (ix 32 (x 0).val) = v x)
    (hk : ∀ ks vs, (∀ x : S16.Idx, ks (ix 32 (x 0).val) = sortK key x) → (∀ x : S16.Idx, vs (ix 32 (x 0).val) = sortV key v x) →
      Tri d i { st with keys := ks, vals := vs } (k (sortK key) (sortV key v)) post) :
    Tri d i st (Scf.Loop.for L hok init body >>= fun r => Prog.lift (TpuEff.assume (P r) (dc r)) >>= fun hw =>
      SparseCore.vectorStoreIdx mKeys ![r] key (fun _ => 1#1) false (h2 r hw) hs >>= fun _ =>
      SparseCore.vectorStoreIdx mVals ![r] v (fun _ => 1#1) false (h3 r hw) hs' >>= fun _ =>
      (Prog.lift (.load mKeys win16.toLoadRect hl) : VP F i (Vec F S16 .f32)) >>= fun a => (Prog.lift (.load mVals win16.toLoadRect hl') : VP F i (Vec F S16 .i32)) >>= fun b => k a b) post := by
  refine Tri.loop L hok (fun n acc st' => st' = st ∧ acc = rank key n) ⟨rfl, hinit⟩ ?_ ?_
  · rintro t acc st' ⟨rfl, rfl⟩
    obtain ⟨Q, dq, hq, hl, hQ, e⟩ := hbody t (rank key t.val)
    rw [e]
    have ht : t.val < 16 := hL ▸ t.isLt
    refine Tri.assume hQ (Tri.gather (slotKeys d i) (Tri.pure ⟨rfl, ?_⟩))
    show rankStep key t.val (rank key t.val) _ = rankStep key t.val (rank key t.val) _
    congr 1
    funext x
    show st'.keys _ = _
    rw [← hkey]
    congr 1
    refine (eq_ix_of 32 _ ?_)
    show (Scf.iv 0#32 1#32 t.val).toNat = _
    rw [ix_val, Nat.mod_eq_of_lt ht]
    simp only [Scf.iv, BitVec.toNat_add, BitVec.toNat_mul, BitVec.toNat_ofNat]
    omega
  · rintro acc st' ⟨rfl, rfl⟩
    rw [hL]
    have hr : ∀ x, (rank key 16 x).toNat < 32 := fun x => lt_of_le_of_lt (rank_le key 16 le_rfl x) (by omega)
    refine Tri.assume (hP _ hr) (Tri.scatter (slotKeys d i) (Tri.scatter (slotVals d i) (Tri.load (slotKeys d i) (Tri.load (slotVals d i) ?_))))
    have e1 : ∀ x : S16.Idx, storeIdx (s := S32) (e := .f32) st'.keys ![rank key 16] key (fun _ => 1#1) false (h2 _ ⟨hP _ hr⟩) (ix 32 (x 0).val) = sortK key x :=
      fun x => storeIdx_place (F := F) (e := .f32) (rank key 16) key st'.keys (h2 _ ⟨hP _ hr⟩) hkey x
    have e2 : ∀ x : S16.Idx, storeIdx (F := F) (s := S32) (e := .i32) st'.vals ![rank key 16] v (fun _ => 1#1) false (h3 _ ⟨hP _ hr⟩) (ix 32 (x 0).val) = sortV key v x :=
      fun x => storeIdx_place (F := F) (e := .i32) (rank key 16) v st'.vals (h3 _ ⟨hP _ hr⟩) hval x
    have := hk _ _ e1 e2
    rw [win16_idx, win16_idx]
    refine Eq.mp ?_ this
    congr 1
    congr 1
    · funext x; exact (e1 x).symm
    · funext x; exact (e2 x).symm

/-- Reversing keys: from keys in the first half of the key buffer, the gather at the mirrored lanes reads them
    reversed. -/
theorem Tri.revK {w : FVec F S16 .f32} {r : IVec S16 32} {P : Prop} {dc : Decidable P} {h2 : PLift P → ∀ a x, ((![r] : Fin 1 → IVec S16 32) a x).toNat < S32.size a} {hl hx hm hl'}
    {k : FVec F S16 .f32 → VP F i β} {post : β → St F → Prop}
    (hP : (∀ a x, ((![subi (broadcast S16 15#32) lanes] : Fin 1 → IVec S16 32) a x).toNat < S32.size a) → P)
    (hr : r = subi (broadcast S16 15#32) lanes)
    (hk : Tri d i { st with keys := put16 32 0 w st.keys } (k (rev w)) post) :
    Tri d i st (Prog.lift (.load mKeys win16.toLoadRect hl) >>= fun _ => Prog.lift (.store mKeys win16 w Finset.univ hx hm) >>= fun _ =>
      Prog.lift (TpuEff.assume P dc) >>= fun hw => SparseCore.vectorLoadIdx mKeys ![r] (h2 hw) hl' >>= k) post := by
  subst hr
  have hv : ∀ x : S16.Idx, (subi (broadcast S16 15#32) lanes x).toNat = 15 - (x 0).val := by
    intro x
    have hx : (x 0).val < 16 := (x 0).isLt
    show (15#32 - BitVec.ofNat 32 (0 * 16 + (x 0).val)).toNat = _
    rw [BitVec.toNat_sub, BitVec.toNat_ofNat, BitVec.toNat_ofNat]
    omega
  refine Tri.stageK w (Tri.assume (hP (lt32_of fun x => by rw [hv]; omega)) (Tri.gather (slotKeys d i) ?_))
  refine Eq.mp ?_ hk
  congr 2
  funext x
  have hx : (x 0).val < 16 := (x 0).isLt
  have e := put16_in 32 0 w st.keys (ix 16 (15 - (x 0).val)) (by rw [ix_val]; omega)
  show w (ix 16 (15 - (x 0).val)) = put16 32 0 w st.keys _
  rw [← e]
  congr 1
  refine (eq_ix_of 32 _ ?_).symm
  show (subi (broadcast S16 15#32) lanes x).toNat = _
  rw [hv, ix_val]
  omega

/-- Reversing values, likewise. -/
theorem Tri.revV {w : IVec S16 32} {r : IVec S16 32} {P : Prop} {dc : Decidable P} {h2 : PLift P → ∀ a x, ((![r] : Fin 1 → IVec S16 32) a x).toNat < S32.size a} {hl hx hm hl'}
    {k : IVec S16 32 → VP F i β} {post : β → St F → Prop}
    (hP : (∀ a x, ((![subi (broadcast S16 15#32) lanes] : Fin 1 → IVec S16 32) a x).toNat < S32.size a) → P)
    (hr : r = subi (broadcast S16 15#32) lanes)
    (hk : Tri d i { st with vals := put16 32 0 w st.vals } (k (rev w)) post) :
    Tri d i st (Prog.lift (.load mVals win16.toLoadRect hl) >>= fun _ => Prog.lift (.store mVals win16 w Finset.univ hx hm) >>= fun _ =>
      Prog.lift (TpuEff.assume P dc) >>= fun hw => SparseCore.vectorLoadIdx mVals ![r] (h2 hw) hl' >>= k) post := by
  subst hr
  have hv : ∀ x : S16.Idx, (subi (broadcast S16 15#32) lanes x).toNat = 15 - (x 0).val := by
    intro x
    have hx : (x 0).val < 16 := (x 0).isLt
    show (15#32 - BitVec.ofNat 32 (0 * 16 + (x 0).val)).toNat = _
    rw [BitVec.toNat_sub, BitVec.toNat_ofNat, BitVec.toNat_ofNat]
    omega
  refine Tri.stageV w (Tri.assume (hP (lt32_of fun x => by rw [hv]; omega)) (Tri.gather (slotVals d i) ?_))
  refine Eq.mp ?_ hk
  congr 2
  funext x
  have hx : (x 0).val < 16 := (x 0).isLt
  have e := put16_in 32 0 w st.vals (ix 16 (15 - (x 0).val)) (by rw [ix_val]; omega)
  show w (ix 16 (15 - (x 0).val)) = put16 32 0 w st.vals _
  rw [← e]
  congr 1
  refine (eq_ix_of 32 _ ?_).symm
  show (subi (broadcast S16 15#32) lanes x).toNat = _
  rw [hv, ix_val]
  omega

theorem put16_zero {α : Type} (w : S16.Idx → α) (f : S32.Idx → α) (x : S16.Idx) : put16 32 0 w f (ix 32 (x 0).val) = w x := by
  have hx : (x 0).val < 16 := (x 0).isLt
  have := put16_in 32 0 w f x (by omega)
  rwa [Nat.zero_add] at this

end Steps

end Cert.Proof.Knn

end
-- ==== Proof.Scan.lean ====
/-
  Counting the lanes of a mask by the prefix sum, and the compressed store made of that count and an indexed store: a
  buffer that starts with a list of numbers then starts with the longer list that has the marked lanes appended.
-/
module

public import proofs.«01_k».proof.Proof.Sort

@[expose] public section

noncomputable section

namespace Cert.Proof.Knn

open Cert.KernelIdeal Cert.KernelIdeal.Gen

open Idealize.ShloMosaic

variable {F : FTy → Type} [FloatOps F]

/-- The marked lanes below `n`. -/
def marked (m : IVec S16 1) (n : ℕ) : List ℕ := (List.range n).filter fun k => m (ix 16 k) == 1#1

theorem marked_succ (m : IVec S16 1) (n : ℕ) : marked m (n + 1) = marked m n ++ if m (ix 16 n) = 1#1 then [n] else [] := by
  unfold marked
  rw [List.range_succ, List.filter_append]
  congr 1
  by_cases h : m (ix 16 n) = 1#1
  · rw [if_pos h]; simp [h]
  · rw [if_neg h]; simp [h]

theorem marked_length_le (m : IVec S16 1) (n : ℕ) : (marked m n).length ≤ n :=
  (List.length_filter_le _ _).trans (le_of_eq List.length_range)

theorem marked_length_succ (m : IVec S16 1) (n : ℕ) :
    (marked m (n + 1)).length = (marked m n).length + if m (ix 16 n) = 1#1 then 1 else 0 := by
  rw [marked_succ, List.length_append]
  split <;> rfl

theorem marked_length_mono (m : IVec S16 1) {a b : ℕ} (h : a ≤ b) : (marked m a).length ≤ (marked m b).length := by
  induction b, h using Nat.le_induction with
  | base => exact le_rfl
  | succ b _ ih => rw [marked_length_succ]; omega

/-- One where the mask is set, zero elsewhere. -/
def ones (m : IVec S16 1) : IVec S16 32 := select m (broadcast S16 1#32) (broadcast S16 0#32)

theorem ones_apply (m : IVec S16 1) (n : ℕ) : ones m (ix 16 n) = BitVec.ofNat 32 (if m (ix 16 n) = 1#1 then 1 else 0) := by
  show (if m (ix 16 n) = 1#1 then 1#32 else 0#32) = _
  split <;> rfl

theorem scan_ones (m : IVec S16 1) (x : S16.Idx) :
    scan .sum (ones m) x = BitVec.ofNat 32 (marked m ((x 0).val + 1)).length := by
  have hx : (x 0).val < 16 := (x 0).isLt
  have hl : ∀ j : Fin 16, ((List.finRange 16).filter fun k => decide (0 < k.val ∧ k.val ≤ j.val)).map Fin.val = List.range' 1 j.val := by
    decide
  have lane : ∀ k : Fin 16, Shape.ofLane (d := ![16]) k = ix 16 k.val := fun k => by
    refine eq_ix_of 16 _ rfl
  have key : ∀ n, (List.range' 1 n).foldl (fun r k => IntOp.addi r (ones m (ix 16 k))) (ones m (ix 16 0)) = BitVec.ofNat 32 (marked m (n + 1)).length := by
    intro n
    induction n with
    | zero =>
      rw [marked_length_succ, ones_apply]
      show _ = BitVec.ofNat 32 (0 + _)
      rw [Nat.zero_add]
      rfl
    | succ n ih =>
      rw [List.range'_concat, List.foldl_append, ih, marked_length_succ m (n + 1), BitVec.ofNat_add, Nat.one_mul, Nat.add_comm 1 n]
      show _ + ones m (ix 16 (n + 1)) = _
      rw [ones_apply]
  rw [← key, ← hl ⟨(x 0).val, hx⟩, List.foldl_map]
  refine (congrArg (fun z => List.foldl _ (ones m z) _) (lane ⟨0, by omega⟩)).trans ?_
  refine congrArg (fun st : BitVec 32 → Fin 16 → BitVec 32 => List.foldl st (ones m (ix 16 0)) _) ?_
  funext r k
  exact congrArg (fun z => IntOp.addi r (ones m z)) (lane k)

/-- The buffer starts with the numbers of the list. -/
def Lists (f : IVec S4112 32) (L : List ℕ) : Prop := ∀ n v, L[n]? = some v → f (ix 4112 n) = BitVec.ofNat 32 v

theorem Lists.nil (f : IVec S4112 32) : Lists f [] := fun n v h => by simp at h

/-- The compressed store. -/
theorem Lists.append {f : IVec S4112 32} {L : List ℕ} (hf : Lists f L) (hL : L.length + 16 ≤ 4112) {m : IVec S16 1} {idx val : IVec S16 32}
    {h : ∀ a x, ((![idx] : Fin 1 → IVec S16 32) a x).toNat < S4112.size a} (o : ℕ)
    (hidx : ∀ k < 16, m (ix 16 k) = 1#1 → (idx (ix 16 k)).toNat = L.length + (marked m k).length)
    (hval : ∀ k < 16, val (ix 16 k) = BitVec.ofNat 32 (o + k)) :
    Lists (storeIdx (F := F) (s := S4112) (e := .i32) f ![idx] val m false h) (L ++ (marked m 16).map (o + ·)) := by
  have key : ∀ n ≤ 16, ∀ p v, (L ++ (marked m n).map (o + ·))[p]? = some v →
      (List.range n).foldl (fun a k => if m (ix 16 k) = 1#1 ∧ ∀ a, ((ix 4112 p) a).val = ((![idx] : Fin 1 → IVec S16 32) a (ix 16 k)).toNat then val (ix 16 k) else a)
        (f (ix 4112 p)) = BitVec.ofNat 32 v := by
    intro n
    induction n with
    | zero =>
      intro _ p v hp
      rw [show marked m 0 = [] from rfl, List.map_nil, List.append_nil] at hp
      exact hf p v hp
    | succ n ih =>
      intro hn p v hp
      rw [List.range_succ, List.foldl_append]
      have hp' : p < (L ++ (marked m (n + 1)).map (o + ·)).length := (List.getElem?_eq_some_iff.1 hp).1
      have hlen := marked_length_le m (n + 1)
      rw [List.length_append, List.length_map] at hp'
      have hpm : p % 4112 = p := Nat.mod_eq_of_lt (by omega)
      by_cases hm : m (ix 16 n) = 1#1
      · have hi := hidx n (by omega) hm
        by_cases he : p = L.length + (marked m n).length
        · have hc : m (ix 16 n) = 1#1 ∧ ∀ a, ((ix 4112 p) a).val = ((![idx] : Fin 1 → IVec S16 32) a (ix 16 n)).toNat := by
            refine ⟨hm, fun a => ?_⟩
            match a with
            | ⟨0, _⟩ => exact (ix_val 4112 p _).trans (hpm.trans (he.trans hi.symm))
          refine (if_pos hc).trans ?_
          rw [hval n (by omega)]
          rw [marked_succ, if_pos hm, List.map_append, ← List.append_assoc, List.getElem?_append_right (by rw [List.length_append, List.length_map]; omega),
            List.length_append, List.length_map, he, Nat.sub_self] at hp
          simp only [List.map_cons, List.map_nil, List.getElem?_cons_zero, Option.some.injEq] at hp
          rw [hp]
        · have hc : ¬ (m (ix 16 n) = 1#1 ∧ ∀ a, ((ix 4112 p) a).val = ((![idx] : Fin 1 → IVec S16 32) a (ix 16 n)).toNat) := by
            rintro ⟨-, h0⟩
            exact he (hpm.symm.trans ((ix_val 4112 p 0).symm.trans ((h0 0).trans hi)))
          refine (if_neg hc).trans (ih (by omega) p v ?_)
          rw [marked_succ, if_pos hm, List.map_append, ← List.append_assoc] at hp
          rw [marked_length_succ, if_pos hm] at hp'
          rwa [List.getElem?_append_left (by rw [List.length_append, List.length_map]; omega)] at hp
      · have hc : ¬ (m (ix 16 n) = 1#1 ∧ ∀ a, ((ix 4112 p) a).val = ((![idx] : Fin 1 → IVec S16 32) a (ix 16 n)).toNat) := fun h0 => hm h0.1
        refine (if_neg hc).trans (ih (by omega) p v ?_)
        rw [marked_succ, if_neg hm, List.append_nil] at hp
        exact hp
  intro p v hp
  refine Eq.trans (storeIdx_at (F := F) (e := .i32) f ![idx] val m h (ix 4112 p)) (key 16 le_rfl p v hp)

end Cert.Proof.Knn

end
-- ==== Proof.Model.lean ====
/-
  What one query of the kernel computes, as functions of the arrays: squared distances, the threshold from two running
  minima, the candidates under it, the running best thirty-two of them, and the edges of the twenty chosen faces.
-/
module

public import proofs.«01_k».proof.Proof.Scan

@[expose] public section

noncomputable section

namespace Cert.Proof.Knn

open Cert.KernelIdeal Cert.KernelIdeal.Gen

open Idealize.ShloMosaic

variable {F : FTy → Type} [FloatOps F]

/-- The arrays the kernel on the vector subcores reads: centroid coordinates, vertex coordinates, face corners. -/
structure In (F : FTy → Type) where
  cx : FVec F S4096 .f32
  cy : FVec F S4096 .f32
  cz : FVec F S4096 .f32
  vx : FVec F S10000 .f32
  vy : FVec F S10000 .f32
  vz : FVec F S10000 .f32
  fa : IVec S4096 32
  fb : IVec S4096 32
  fc : IVec S4096 32

/-- Every corner index names a vertex. -/
structure In.InRange (I : In F) : Prop where
  fa : ∀ x, (I.fa x).toNat < 10000
  fb : ∀ x, (I.fb x).toNat < 10000
  fc : ∀ x, (I.fc x).toNat < 10000

/-- The squared distances of all centroids from the point with coordinates `qx`, `qy`, `qz`. -/
def away {s : Shape} (cx cy cz : FVec F s .f32) (qx qy qz : F .f32) : FVec F s .f32 :=
  addf (addf (mulf (subf cx (broadcast s qx)) (subf cx (broadcast s qx))) (mulf (subf cy (broadcast s qy)) (subf cy (broadcast s qy))))
    (mulf (subf cz (broadcast s qz)) (subf cz (broadcast s qz)))

/-- The squared distances of all centroids from centroid `q`. -/
def In.D (I : In F) (q : ℕ) : FVec F S4096 .f32 := away I.cx I.cy I.cz (I.cx (ix 4096 q)) (I.cy (ix 4096 q)) (I.cz (ix 4096 q))

/-- Sixteen elements of an array from `o`. -/
def win {α : Type} (f : S4096.Idx → α) (o : ℕ) : S16.Idx → α := fun x => f (ix 4096 (o + (x 0).val))

def inf16 : FVec F S16 .f32 := broadcast S16 (Scalar.ofBits .f32 0x7F800000#32)

section Query
variable (D : FVec F S4096 .f32)

/-- The running minimum of the first and the second sixteen of every sixty-four distances. -/
def accA : ℕ → FVec F S16 .f32
  | 0 => inf16
  | n + 1 => minimumf (minimumf (accA n) (win D (64 * n))) (win D (64 * n + 16))

/-- The running minimum of the third and the fourth sixteen of every sixty-four distances. -/
def accB : ℕ → FVec F S16 .f32
  | 0 => inf16
  | n + 1 => minimumf (minimumf (accB n) (win D (64 * n + 32))) (win D (64 * n + 48))

/-- The sixteen larger of the thirty-two minima, sorted. -/
def tops : FVec F S16 .f32 := sortK (maximumf (sortK (accA D 64)) (rev (sortK (accB D 64))))

theorem tops_eq : sortK (maximumf (sortK (accA D 64)) (rev (sortK (accB D 64)))) = tops D := rfl

/-- The threshold: the twentieth smallest of the thirty-two minima. -/
def thr : F .f32 := tops D (ix 16 3)

theorem thr_eq : tops D (ix 16 3) = thr D := rfl

/-- Whether a distance is under the threshold. -/
def hit (n : ℕ) : Bool := FloatOps.cmpf .ole (D (ix 4096 n)) (thr D) == 1#1

/-- The candidates among the first `n` centroids, in order. -/
def hits (n : ℕ) : List ℕ := (List.range n).filter (hit D)

/-- The indices of the `j`th sixteen candidates, padded by zero. -/
def chunkI (j : ℕ) : IVec S16 32 := fun x => match (hits D 4096)[16 * j + (x 0).val]? with
  | some n => BitVec.ofNat 32 n
  | none => 0#32

/-- Their distances, padded by infinity. -/
def chunkK (j : ℕ) : FVec F S16 .f32 := fun x => match (hits D 4096)[16 * j + (x 0).val]? with
  | some n => D (ix 4096 n)
  | none => Scalar.ofBits .f32 0x7F800000#32

/-- Two sorted vectors of sixteen keys with their indices. -/
abbrev Best (F : FTy → Type) : Type := FVec F S16 .f32 × IVec S16 32 × FVec F S16 .f32 × IVec S16 32

/-- The element-wise smaller of two key vectors, or the larger, with the indices. -/
def lowK (a b : FVec F S16 .f32) : FVec F S16 .f32 := select (cmpf .ole a b) a b
def lowI (a b : FVec F S16 .f32) (u v : IVec S16 32) : IVec S16 32 := select (cmpf .ole a b) u v
def highK (a b : FVec F S16 .f32) : FVec F S16 .f32 := select (cmpf .ole a b) b a
def highI (a b : FVec F S16 .f32) (u v : IVec S16 32) : IVec S16 32 := select (cmpf .ole a b) v u

/-- Sixteen new keys merged into the best thirty-two. -/
def mergeStep (s : Best F) (ck : FVec F S16 .f32) (ci : IVec S16 32) : Best F :=
  let hk := lowK s.2.2.1 (rev (sortK ck))
  let hi := lowI s.2.2.1 (rev (sortK ck)) s.2.2.2 (rev (sortV ck ci))
  let rk := rev (sortK hk)
  let ri := rev (sortV hk hi)
  (sortK (lowK s.1 rk), sortV (lowK s.1 rk) (lowI s.1 rk s.2.1 ri), sortK (highK s.1 rk), sortV (highK s.1 rk) (highI s.1 rk s.2.1 ri))

/-- The best thirty-two after `n` chunks of candidates. -/
def best : ℕ → Best F
  | 0 => (inf16, broadcast S16 0#32, inf16, broadcast S16 0#32)
  | n + 1 => mergeStep (best n) (chunkK D n) (chunkI D n)

/-- The number of chunks. -/
def chunks : ℕ := ((hits D 4096).length + 15) / 16

def loI : IVec S16 32 := (best D (chunks D)).2.1
def hiI : IVec S16 32 := (best D (chunks D)).2.2.2

/-- The `n`th chosen face. -/
def pick (n : ℕ) : BitVec 32 := if n < 16 then loI D (ix 16 n) else hiI D (ix 16 (n - 16))

end Query

/-- The coordinate `v` of the corner `f` of face `w`. -/
def corner (f : IVec S4096 32) (v : FVec F S10000 .f32) (w : BitVec 32) : F .f32 := v (ix 10000 (f (ix 4096 w.toNat)).toNat)

/-- The coordinate of edge `a` of face `w`. -/
def In.edge (I : In F) (v : FVec F S10000 .f32) (w : BitVec 32) (a : ℕ) : F .f32 :=
  if a = 0 then FloatOps.subf (corner I.fb v w) (corner I.fa v w)
  else if a = 1 then FloatOps.subf (corner I.fc v w) (corner I.fb v w)
  else FloatOps.subf (corner I.fa v w) (corner I.fc v w)

/-- The coordinate of the neighbour edges of query `q`, column `m`. -/
def In.nbr (I : In F) (v : FVec F S10000 .f32) (q m : ℕ) : F .f32 := I.edge v (pick (I.D q) (m / 3)) (m % 3)

/-- What the kernel on the vector subcores leaves. -/
def In.out (I : In F) (v : FVec F S10000 .f32) : FVec F S4096x60 .f32 := fun y => I.nbr v (y 0).val (y 1).val

/-- The tile's buffers hold the arrays. -/
structure Fed (I : In F) (st : St F) : Prop where
  kx : ∀ j < 4096, st.kx (ix 4112 j) = I.cx (ix 4096 j)
  ky : ∀ j < 4096, st.ky (ix 4112 j) = I.cy (ix 4096 j)
  kz : ∀ j < 4096, st.kz (ix 4112 j) = I.cz (ix 4096 j)
  vx : st.vx = I.vx
  vy : st.vy = I.vy
  vz : st.vz = I.vz
  fa : st.fa = I.fa
  fb : st.fb = I.fb
  fc : st.fc = I.fc

theorem hits_add (D : FVec F S4096 .f32) (o n : ℕ) : hits D (o + n) = hits D o ++ ((List.range n).filter fun k => hit D (o + k)).map (o + ·) := by
  unfold hits
  rw [List.range_add, List.filter_append, List.filter_map]
  rfl

theorem hits_length_le (D : FVec F S4096 .f32) (n : ℕ) : (hits D n).length ≤ n :=
  (List.length_filter_le _ _).trans (le_of_eq List.length_range)

theorem hits_lt (D : FVec F S4096 .f32) {n v : ℕ} (h : v ∈ hits D n) : v < n := List.mem_range.1 (List.mem_filter.1 h).1

end Cert.Proof.Knn

end
-- ==== Proof.Args.lean ====
/-
  The scratch buffers and host arrays the launch hands to every vector subcore, applied once to the long argument list
  that every piece of the kernel's body takes.
-/
module

public import proofs.«01_k».proof.Proof.Base

@[expose] public section

noncomputable section

namespace Cert.Proof.Knn

open Cert.KernelIdeal Cert.KernelIdeal.Gen

open Idealize.ShloMosaic

/-- A piece of the body at the launch's own memrefs and semaphores. -/
abbrev atTile.{u} {γ : Sort u} (f : (arg2 : Memref sig .scVector .hbm S4096 .f32) → (harg2 : arg2.IsWhole) → (arg3 : Memref sig .scVector .hbm S4096 .f32) → (harg3 : arg3.IsWhole) → (arg4 : Memref sig .scVector .hbm S4096 .f32) → (harg4 : arg4.IsWhole) → (arg5 : Memref sig .scVector .hbm S10000 .f32) → (harg5 : arg5.IsWhole) → (arg6 : Memref sig .scVector .hbm S10000 .f32) → (harg6 : arg6.IsWhole) → (arg7 : Memref sig .scVector .hbm S10000 .f32) → (harg7 : arg7.IsWhole) → (arg8 : Memref sig .scVector .hbm S4096 .i32) → (harg8 : arg8.IsWhole) → (arg9 : Memref sig .scVector .hbm S4096 .i32) → (harg9 : arg9.IsWhole) → (arg10 : Memref sig .scVector .hbm S4096 .i32) → (harg10 : arg10.IsWhole) → (arg11 : Memref sig .scVector .hbm S4096x60 .f32) → (harg11 : arg11.IsWhole) → (arg12 : Memref sig .scVector .hbm S4096x60 .f32) → (harg12 : arg12.IsWhole) → (arg13 : Memref sig .scVector .hbm S4096x60 .f32) → (harg13 : arg13.IsWhole) → (arg14 : Memref sig .scVector .vmem S4112 .f32) → (harg14 : arg14.IsWhole) → (arg15 : Memref sig .scVector .vmem S4112 .f32) → (harg15 : arg15.IsWhole) → (arg16 : Memref sig .scVector .vmem S4112 .f32) → (harg16 : arg16.IsWhole) → (arg17 : Memref sig .scVector .vmem S4096 .f32) → (harg17 : arg17.IsWhole) → (arg18 : Memref sig .scVector .vmem S4112 .i32) → (harg18 : arg18.IsWhole) → (arg19 : Memref sig .scVector .vmem S10000 .f32) → (harg19 : arg19.IsWhole) → (arg20 : Memref sig .scVector .vmem S10000 .f32) → (harg20 : arg20.IsWhole) → (arg21 : Memref sig .scVector .vmem S10000 .f32) → (harg21 : arg21.IsWhole) → (arg22 : Memref sig .scVector .vmem S4096 .i32) → (harg22 : arg22.IsWhole) → (arg23 : Memref sig .scVector .vmem S4096 .i32) → (harg23 : arg23.IsWhole) → (arg24 : Memref sig .scVector .vmem S4096 .i32) → (harg24 : arg24.IsWhole) → (arg25 : Memref sig .scVector .vmem S128x60 .f32) → (harg25 : arg25.IsWhole) → (arg26 : Memref sig .scVector .vmem S128x60 .f32) → (harg26 : arg26.IsWhole) → (arg27 : Memref sig .scVector .vmem S128x60 .f32) → (harg27 : arg27.IsWhole) → (arg28 : Memref sig .scVector .vmem S32 .f32) → (harg28 : arg28.IsWhole) → (arg29 : Memref sig .scVector .vmem S32 .i32) → (harg29 : arg29.IsWhole) → (arg30 : DmaSems sig S_) → (v5_r0 : DmaSems sig S_) → (v5_r1 : DmaSems sig S_) → (v5_r2 : DmaSems sig S_) → (v5_r3 : DmaSems sig S_) → (v5_r4 : DmaSems sig S_) → (v5_r5 : DmaSems sig S_) → (v5_r6 : DmaSems sig S_) → (v5_r7 : DmaSems sig S_) → (v5_r8 : DmaSems sig S_) → (v5_r9 : DmaSems sig S_) → (v5_r10 : DmaSems sig S_) → (v5_r11 : DmaSems sig S_) → γ) : γ :=
  f (Memref.whole main_v11_scv) (Memref.isWhole_whole _) (Memref.whole main_v13_scv) (Memref.isWhole_whole _) (Memref.whole main_v15_scv) (Memref.isWhole_whole _) (Memref.whole main_v17_scv) (Memref.isWhole_whole _) (Memref.whole main_v19_scv) (Memref.isWhole_whole _) (Memref.whole main_v21_scv) (Memref.isWhole_whole _) (Memref.whole main_v23_scv) (Memref.isWhole_whole _) (Memref.whole main_v25_scv) (Memref.isWhole_whole _) (Memref.whole main_v27_scv) (Memref.isWhole_whole _) (Memref.whole main_v28_0_scv) (Memref.isWhole_whole _) (Memref.whole main_v28_1_scv) (Memref.isWhole_whole _) (Memref.whole main_v28_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scoped0 cc0_scoped1 cc0_scoped2 cc0_scoped3 cc0_scoped4 cc0_scoped5 cc0_scoped6 cc0_scoped7 cc0_scoped8 cc0_scoped9 cc0_scoped10 cc0_scoped11

variable {F : FTy → Type} [FloatOps F] (i : grid0.Coords)

abbrev kp1 := atTile (k0_part1 (F := F) i)
abbrev kp2 := atTile (k0_part2 (F := F) i)
abbrev kp3 := atTile (k0_part3 (F := F) i)
abbrev kp6 := atTile (k0_part6 (F := F) i)
abbrev kp7 := atTile (k0_part7 (F := F) i)
abbrev kp8 := atTile (k0_part8 (F := F) i)
abbrev kp9 := atTile (k0_part9 (F := F) i)
abbrev kp10 := atTile (k0_part10 (F := F) i)
abbrev kt1 := atTile (k0_t1_body (F := F) i)
abbrev kt2 := atTile (k0_t2_body (F := F) i)
abbrev kt3 := atTile (k0_t3_body (F := F) i)
abbrev kt4 := atTile (k0_t4_body (F := F) i)
abbrev kt5 := atTile (k0_t5_body (F := F) i)
abbrev kt6 := atTile (k0_t6_body (F := F) i)
abbrev kt7 := atTile (k0_t7_body (F := F) i)
abbrev kt8 := atTile (k0_t8_body (F := F) i)
abbrev kt9 := atTile (k0_t9_body (F := F) i)
abbrev kt10 := atTile (k0_t10_body (F := F) i)
abbrev kt11 := atTile (k0_t11_body (F := F) i)
abbrev kt12 := atTile (k0_t12_body (F := F) i)

end Cert.Proof.Knn

end
-- ==== Proof.Near.lean ====
/-
  The first pass of a query: the distances stored, and the two running minima.
-/
module

public import proofs.«01_k».proof.Proof.Model
public import proofs.«01_k».proof.Proof.Args

@[expose] public section

noncomputable section

namespace Cert.Proof.Knn

open Cert.KernelIdeal Cert.KernelIdeal.Gen

open Idealize.ShloMosaic
open Idealize.ShloMosaic.SparseCore (S V T)
open Idealize.SL Idealize.SL.Sem

variable {F : FTy → Type} [FloatOps F]

section Steps
variable {d : Dev nD} {i : grid0.Coords} {st : St F} {β : Type}

/-- A load whose value is known by another name. -/
theorem Tri.loadAs {s : Shape} {e : EltTy} {M : Memref sig .scVector .vmem s e} {get : St F → s.Idx → Elt F e}
    {put : St F → (s.Idx → Elt F e) → St F} (hM : Slot d i M get put) {r : LoadRect s} {hl : M.view.LoadsAt r}
    {k : (r.shape.Idx → Elt F e) → VP F i β} {post : β → St F → Prop} (w : r.shape.Idx → Elt F e) (hw : ∀ x, get st (r.idx x) = w x)
    (hk : Tri d i st (k w) post) : Tri d i st (Prog.lift (.load M r hl) >>= k) post := by
  refine Tri.load hM ?_
  rwa [show (fun x => get st (r.idx x)) = w from funext hw]

/-- A store of sixteen lanes into a one-axis buffer. -/
theorem Tri.store16 {n : ℕ} [NeZero n] {e : EltTy} {M : Memref sig .scVector .vmem ⟨1, ![n]⟩ e} {get : St F → (⟨1, ![n]⟩ : Shape).Idx → Elt F e}
    {put : St F → ((⟨1, ![n]⟩ : Shape).Idx → Elt F e) → St F} (hM : Slot d i M get put) {off : Fin 1 → ℕ} {inb : ∀ a, off a + S16.size a ≤ (![n] : Fin 1 → ℕ) a}
    {w : S16.Idx → Elt F e} {hx hm} {k : PUnit → VP F i β} {post : β → St F → Prop} (o : ℕ) (ho : off 0 = o)
    (hk : Tri d i (put st (put16 n o w (get st))) (k ⟨⟩) post) :
    Tri d i st (Prog.lift (.store M (Rect.unit (s := ⟨1, ![n]⟩) off S16.size inb) w Finset.univ hx hm) >>= k) post := by
  subst ho
  have hin : off 0 + 16 ≤ n := inb 0
  refine Tri.store hM (put16 n (off 0) w (get st)) ?_ ?_ hk
  · intro x
    have hx : (x 0).val < 16 := (x 0).isLt
    rw [window_emb n 16 off inb x]
    exact put16_in n (off 0) w (get st) x (by omega)
  · intro y hy
    refine put16_off n (off 0) w (get st) y fun hh => ?_
    refine hy (ix 16 ((y 0).val - off 0)) ?_
    rw [window_emb n 16 off inb]
    refine (eq_ix_of n y ?_).symm
    rw [ix_val, Nat.mod_eq_of_lt (by omega)]
    omega

end Steps

theorem iv_toNat (n : ℕ) (h : n < 2 ^ 32) : (Scf.iv 0#32 1#32 n).toNat = n := by
  show (0#32 + BitVec.ofNat 32 n * 1#32).toNat = n
  simp only [BitVec.zero_add, BitVec.mul_one, BitVec.toNat_ofNat]
  exact Nat.mod_eq_of_lt h

theorem off2_eq (t : Fin k0_t2_loop.trips) (c : ℕ) (hc : c < 64) : k0_off2 t (BitVec.ofNat 32 c) 0 = 64 * t.val + c := by
  have ht : t.val < 64 := t.isLt
  show (Scf.iv 0#32 1#32 t.val * 64#32 + BitVec.ofNat 32 c).toNat = _
  rw [BitVec.toNat_add, BitVec.toNat_mul, iv_toNat _ (by omega), BitVec.toNat_ofNat, BitVec.toNat_ofNat]
  omega

theorem off3_eq (t : Fin k0_t2_loop.trips) (c : ℕ) (hc : c < 64) : k0_off3 t (BitVec.ofNat 32 c) 0 = 64 * t.val + c := off2_eq t c hc

/-- The row of the output that a trip of a tile's outer loop computes. -/
def row (i : grid0.Coords) (t : ℕ) : ℕ := ((i 1).val * 2 + (i 0).val) * 128 + t

theorem row_lt (i : grid0.Coords) {t : ℕ} (ht : t < 128) : row i t < 4096 := by
  have h0 : (i 0).val < 2 := (i 0).isLt
  have h1 : (i 1).val < 16 := (i 1).isLt
  unfold row
  omega

theorem off1_eq (i : grid0.Coords) (t : Fin k0_t1_loop.trips) : k0_off1 i t 0 = row i t.val := by
  have ht : t.val < 128 := t.isLt
  have h0 : (i 0).val < 2 := (i 0).isLt
  have h1 : (i 1).val < 16 := (i 1).isLt
  show ((BitVec.ofNat 32 (i 1).val * 2#32 + BitVec.ofNat 32 (i 0).val) * 128#32 + Scf.iv 0#32 1#32 t.val).toNat = _
  rw [BitVec.toNat_add, BitVec.toNat_mul, BitVec.toNat_add, BitVec.toNat_mul, iv_toNat _ (by omega)]
  simp only [BitVec.toNat_ofNat]
  unfold row
  omega

theorem pay45_eq (v : Vec F S16 .f32) : k0_pay45 v = broadcast S16 (v (ix 16 0)) := by
  funext x
  show v _ = v _
  congr 1
  funext a
  match a with
  | ⟨0, _⟩ => rfl
theorem pay46_eq (v : Vec F S16 .f32) : k0_pay46 v = broadcast S16 (v (ix 16 0)) := pay45_eq v
theorem pay47_eq (v : Vec F S16 .f32) : k0_pay47 v = broadcast S16 (v (ix 16 0)) := pay45_eq v

section Near
variable {d : Dev nD} {i : grid0.Coords} {I : In F}

theorem Fed.withDist {st : St F} (h : Fed I st) (f : FVec F S4096 .f32) : Fed I { st with dist := f } :=
  ⟨h.kx, h.ky, h.kz, h.vx, h.vy, h.vz, h.fa, h.fb, h.fc⟩

theorem readKx {st : St F} (h : Fed I st) (n : ℕ) (off : Fin 1 → ℕ) (inb : ∀ a, off a + S16.size a ≤ S4112.size a) (hn : off 0 = n) (hb : n + 16 ≤ 4096) (x : S16.Idx) :
    st.kx ((Rect.unit (s := S4112) off S16.size inb).toLoadRect.idx x) = win I.cx n x := by
  have hx : (x 0).val < 16 := (x 0).isLt
  rw [window_idx 4112 16 off inb x, hn]
  exact h.kx _ (by omega)

theorem readKy {st : St F} (h : Fed I st) (n : ℕ) (off : Fin 1 → ℕ) (inb : ∀ a, off a + S16.size a ≤ S4112.size a) (hn : off 0 = n) (hb : n + 16 ≤ 4096) (x : S16.Idx) :
    st.ky ((Rect.unit (s := S4112) off S16.size inb).toLoadRect.idx x) = win I.cy n x := by
  have hx : (x 0).val < 16 := (x 0).isLt
  rw [window_idx 4112 16 off inb x, hn]
  exact h.ky _ (by omega)

theorem readKz {st : St F} (h : Fed I st) (n : ℕ) (off : Fin 1 → ℕ) (inb : ∀ a, off a + S16.size a ≤ S4112.size a) (hn : off 0 = n) (hb : n + 16 ≤ 4096) (x : S16.Idx) :
    st.kz ((Rect.unit (s := S4112) off S16.size inb).toLoadRect.idx x) = win I.cz n x := by
  have hx : (x 0).val < 16 := (x 0).isLt
  rw [window_idx 4112 16 off inb x, hn]
  exact h.kz _ (by omega)

theorem part1 {st : St F} (h : Fed I st) (q : ℕ) (t : Fin k0_t2_loop.trips) (a : FVec F S16 .f32) :
    Tri d i st (kp1 i (broadcast S16 (I.cx (ix 4096 q))) (broadcast S16 (I.cy (ix 4096 q))) (broadcast S16 (I.cz (ix 4096 q))) 0#32 1#32 t a)
      fun r st' => r.2.1 = minimumf (minimumf a (win (I.D q) (64 * t.val))) (win (I.D q) (64 * t.val + 16)) ∧ r.2.2 = win (I.D q) (64 * t.val + 32) ∧
        st' = { st with dist := put16 4096 (64 * t.val + 16) (win (I.D q) (64 * t.val + 16)) (put16 4096 (64 * t.val) (win (I.D q) (64 * t.val)) st.dist) } := by
  have ht : t.val < 64 := t.isLt
  unfold kp1 atTile
  rw [k0_part1_eq_skeleton]
  unfold k0_part1_skel
  refine Tri.loadAs (slotKx d i) _ (readKx h (64 * t.val) _ _ (off2_eq t 0 (by omega)) (by omega)) ?_
  refine Tri.loadAs (slotKy d i) _ (readKy h (64 * t.val) _ _ (off2_eq t 0 (by omega)) (by omega)) ?_
  refine Tri.loadAs (slotKz d i) _ (readKz h (64 * t.val) _ _ (off2_eq t 0 (by omega)) (by omega)) ?_
  refine Tri.load (slotDist d i) (Tri.store16 (slotDist d i) (64 * t.val) (off3_eq t 0 (by omega)) ?_)
  have h1 := h.withDist (put16 4096 (64 * t.val) (win (I.D q) (64 * t.val)) st.dist)
  refine Tri.loadAs (slotKx d i) _ (readKx h1 (64 * t.val + 16) _ _ (off2_eq t 16 (by omega)) (by omega)) ?_
  refine Tri.loadAs (slotKy d i) _ (readKy h1 (64 * t.val + 16) _ _ (off2_eq t 16 (by omega)) (by omega)) ?_
  refine Tri.loadAs (slotKz d i) _ (readKz h1 (64 * t.val + 16) _ _ (off2_eq t 16 (by omega)) (by omega)) ?_
  refine Tri.load (slotDist d i) (Tri.store16 (slotDist d i) (64 * t.val + 16) (off3_eq t 16 (by omega)) ?_)
  have h2 := h.withDist (put16 4096 (64 * t.val + 16) (win (I.D q) (64 * t.val + 16)) (put16 4096 (64 * t.val) (win (I.D q) (64 * t.val)) st.dist))
  refine Tri.loadAs (slotKx d i) _ (readKx h2 (64 * t.val + 32) _ _ (off2_eq t 32 (by omega)) (by omega)) ?_
  refine Tri.loadAs (slotKy d i) _ (readKy h2 (64 * t.val + 32) _ _ (off2_eq t 32 (by omega)) (by omega)) ?_
  refine Tri.loadAs (slotKz d i) _ (readKz h2 (64 * t.val + 32) _ _ (off2_eq t 32 (by omega)) (by omega)) ?_
  exact Tri.pure ⟨rfl, rfl, rfl⟩

/-- What one trip of the distance loop keeps. -/
def NearInv (I : In F) (q : ℕ) (st : St F) (n : ℕ) (a : FVec F S16 .f32 × FVec F S16 .f32) (st' : St F) : Prop :=
  a = (accA (I.D q) n, accB (I.D q) n) ∧ ∃ f, st' = { st with dist := f } ∧ ∀ j < 64 * n, f (ix 4096 j) = I.D q (ix 4096 j)

theorem put_extends {D f : FVec F S4096 .f32} {o : ℕ} (h : ∀ j < o, f (ix 4096 j) = D (ix 4096 j)) (j : ℕ) (hj : j < o + 16) (ho : o + 16 ≤ 4096) :
    put16 4096 o (win D o) f (ix 4096 j) = D (ix 4096 j) := by
  by_cases hjo : o ≤ j
  · have := put16_in 4096 o (win D o) f (ix 16 (j - o)) (by rw [ix_val]; omega)
    rw [ix_val, show o + (j - o) % 16 = j from by omega] at this
    rw [this]
    show D (ix 4096 (o + (ix 16 (j - o) 0).val)) = _
    rw [ix_val, show o + (j - o) % 16 = j from by omega]
  · rw [put16_off 4096 o _ f _ (by rw [ix_val]; omega)]
    exact h j (by omega)

theorem t2_body {st st' : St F} (h : Fed I st) (q : ℕ) {x y z : Vec F S16 .f32} (hx : x (ix 16 0) = I.cx (ix 4096 q)) (hy : y (ix 16 0) = I.cy (ix 4096 q))
    (hz : z (ix 16 0) = I.cz (ix 4096 q)) {v2 : BitVec 32} {v3 : IVec S16 32} {c0 c1 : BitVec 32} {t1 : Fin k0_t1_loop.trips} (t : Fin k0_t2_loop.trips)
    (a : FVec F S16 .f32 × FVec F S16 .f32) (hI : NearInv I q st t.val a st') :
    Tri d i st' (kt2 i v2 v3 c0 c1 t1 x y z t a) (NearInv I q st (t.val + 1)) := by
  obtain ⟨rfl, f, rfl, hf⟩ := hI
  have ht : t.val < 64 := t.isLt
  unfold kt2 atTile k0_t2_body
  rw [pay45_eq, pay46_eq, pay47_eq, hx, hy, hz]
  refine Tri.bind (part1 (h.withDist f) q t _) ?_
  rintro ⟨v164, v200, v215⟩ st' ⟨rfl, rfl, rfl⟩
  refine Tri.load (slotDist d i) (Tri.store16 (slotDist d i) (64 * t.val + 32) (off3_eq t 32 (by omega)) ?_)
  have h2 := h.withDist (put16 4096 (64 * t.val + 32) (win (I.D q) (64 * t.val + 32)) (put16 4096 (64 * t.val + 16) (win (I.D q) (64 * t.val + 16)) (put16 4096 (64 * t.val) (win (I.D q) (64 * t.val)) f)))
  refine Tri.loadAs (slotKx d i) _ (readKx h2 (64 * t.val + 48) _ _ (off2_eq t 48 (by omega)) (by omega)) ?_
  refine Tri.loadAs (slotKy d i) _ (readKy h2 (64 * t.val + 48) _ _ (off2_eq t 48 (by omega)) (by omega)) ?_
  refine Tri.loadAs (slotKz d i) _ (readKz h2 (64 * t.val + 48) _ _ (off2_eq t 48 (by omega)) (by omega)) ?_
  refine Tri.load (slotDist d i) (Tri.store16 (slotDist d i) (64 * t.val + 48) (off3_eq t 48 (by omega)) ?_)
  have e : k0_pay50 x y z (win I.cx (64 * t.val + 48)) (win I.cy (64 * t.val + 48)) (win I.cz (64 * t.val + 48)) = win (I.D q) (64 * t.val + 48) := by
    unfold k0_pay50
    rw [pay45_eq, pay46_eq, pay47_eq, hx, hy, hz]
    rfl
  refine Tri.pure ⟨?_, _, rfl, ?_⟩
  · unfold k0_pay51
    rw [e]
    rfl
  · rw [e]
    intro j hj
    refine put_extends (o := 64 * t.val + 48) (fun j hj => ?_) j (by omega) (by omega)
    refine put_extends (o := 64 * t.val + 32) (fun j hj => ?_) j (by omega) (by omega)
    refine put_extends (o := 64 * t.val + 16) (fun j hj => ?_) j (by omega) (by omega)
    refine put_extends (o := 64 * t.val) (fun j hj => hf j hj) j (by omega) (by omega)

theorem D_ext {f D : FVec F S4096 .f32} (h : ∀ j < 64 * 64, f (ix 4096 j) = D (ix 4096 j)) : f = D := by
  funext y
  rw [eq_ix 4096 y]
  exact h _ (y 0).isLt

theorem part6 {st : St F} (h : Fed I st) (v2 : BitVec 32) (t : Fin k0_t1_loop.trips) :
    Tri d i st (kp6 i v2 lanes 0#32 1#32 t)
      fun r st' => r = ⟨Scf.iv 0#32 1#32 t.val, accB (I.D (row i t.val)) 64, sortK (accA (I.D (row i t.val)) 64), lanes, broadcast S16 0#32⟩ ∧
        ∃ ks vs, st' = { st with dist := I.D (row i t.val), keys := ks, vals := vs } ∧
          (∀ x : S16.Idx, ks (ix 32 (x 0).val) = accB (I.D (row i t.val)) 64 x) ∧ ∀ x : S16.Idx, vs (ix 32 (x 0).val) = lanes x := by
  have ht : t.val < 128 := t.isLt
  have hr := row_lt i ht
  unfold kp6 atTile
  rw [k0_part6_eq_skeleton]
  unfold k0_part6_skel
  refine Tri.load (slotKx d i) (Tri.load (slotKy d i) (Tri.load (slotKz d i) ?_))
  have e0 : ∀ (inb : ∀ a, k0_off1 i t a + S16.size a ≤ S4112.size a), (Rect.unit (s := S4112) (k0_off1 i t) S16.size inb).toLoadRect.idx (ix 16 0) = ix 4112 (row i t.val) := fun inb => by
    rw [window_idx 4112 16 _ inb (ix 16 0), off1_eq, ix_val]
    rfl
  refine Tri.loop k0_t2_loop k0_t2_ok (NearInv I (row i t.val) st) ⟨rfl, st.dist, rfl, fun j hj => absurd hj (by omega)⟩ ?_ ?_
  · intro t2 a st' hI
    refine t2_body h (row i t.val) ?_ ?_ ?_ t2 a hI
    · rw [e0]; exact h.kx _ hr
    · rw [e0]; exact h.ky _ hr
    · rw [e0]; exact h.kz _ hr
  rintro _ st' ⟨rfl, f, rfl, hf⟩
  have hf : f = I.D (row i t.val) := D_ext hf
  subst hf
  refine Tri.stageK _ (Tri.stageV _ ?_)
  refine Tri.sort (key := accA (I.D (row i t.val)) 64) (v := lanes) rfl rfl (fun r hr => ⟨lt32_of hr, lt32_of hr⟩) ?_ (put16_zero _ _) (put16_zero _ _) ?_
  · exact fun t acc => ⟨k0_chk1 _, k0_chk1.dec _, fun hw => k0_idx1_inb _ hw.down, View.loads_vmem h_S32, lt32_of fun x => by
      have := t.isLt
      exact lt_of_eq_of_lt (iv_toNat t.val (by have : t.val < 16 := t.isLt; omega)) (by have : t.val < 16 := t.isLt; omega), rfl⟩
  intro ks vs hks hvs
  refine Tri.stageK _ (Tri.stageV _ ?_)
  exact Tri.pure ⟨rfl, _, _, rfl, put16_zero _ _, put16_zero _ _⟩

end Near

end Cert.Proof.Knn

end
-- ==== Proof.Pick.lean ====
/-
  The second pass of a query: the threshold, and the candidates under it put one after another.
-/
module

public import proofs.«01_k».proof.Proof.Near
public import Idealize.ShloMosaic.Lib.WordArith
public import Idealize.ShloMosaic.Lib.Routing.Words

@[expose] public section

noncomputable section

namespace Cert.Proof.Knn

open Cert.KernelIdeal Cert.KernelIdeal.Gen

open Idealize.ShloMosaic
open Idealize.ShloMosaic.SparseCore (S V T)
open Idealize.SL Idealize.SL.Sem

variable {F : FTy → Type} [FloatOps F]

attribute [local irreducible] thr tops accA accB sortK sortV rev

/-- Where the compressed store puts the lanes when `c` numbers are there already. -/
def slot (c : BitVec 32) (m : IVec S16 1) : IVec S16 32 :=
  select m (subi (addi (broadcast S16 c) (scan .sum (ones m))) (broadcast S16 1#32)) (broadcast S16 0#32)

theorem slot_at (n : ℕ) (hn : n ≤ 4096) (m : IVec S16 1) (k : ℕ) (hk : k < 16) (hm : m (ix 16 k) = 1#1) :
    (slot (BitVec.ofNat 32 n) m (ix 16 k)).toNat = n + (marked m k).length := by
  have hl := marked_length_le m k
  refine (congrArg BitVec.toNat (if_pos hm)).trans ?_
  show (BitVec.ofNat 32 n + scan .sum (ones m) (ix 16 k) - 1#32).toNat = _
  rw [scan_ones, ix_val, Nat.mod_eq_of_lt hk, marked_length_succ, if_pos hm, BitVec.toNat_sub, BitVec.toNat_add]
  simp only [BitVec.toNat_ofNat]
  omega

theorem slot_lt (n : ℕ) (hn : n ≤ 4096) (m : IVec S16 1) : ∀ a x, ((![slot (BitVec.ofNat 32 n) m] : Fin 1 → IVec S16 32) a x).toNat < S4112.size a
  | ⟨0, _⟩, x => by
    show (slot (BitVec.ofNat 32 n) m x).toNat < 4112
    have hx : (x 0).val < 16 := (x 0).isLt
    have hl := marked_length_le m (x 0).val
    by_cases hm : m x = 1#1
    · rw [eq_ix 16 x] at hm ⊢
      rw [slot_at n hn m _ hx hm]
      omega
    · rw [show slot (BitVec.ofNat 32 n) m x = 0#32 from if_neg hm]
      decide

theorem pay60_eq (v : Vec F S16 .f32) : k0_pay60 v = broadcast S16 (v (ix 16 3)) := by
  funext x
  show v _ = v _
  congr 1
  funext a
  match a with
  | ⟨0, _⟩ => rfl

/-- The mask of the lanes under the threshold. -/
def under (D : FVec F S4096 .f32) (o : ℕ) : IVec S16 1 := cmpf .ole (win D o) (broadcast S16 (thr D))

theorem under_iff (D : FVec F S4096 .f32) (o k : ℕ) (hk : k < 16) : under D o (ix 16 k) = 1#1 ↔ hit D (o + k) = true := by
  have e : under D o (ix 16 k) = FloatOps.cmpf .ole (D (ix 4096 (o + k))) (thr D) := by
    show FloatOps.cmpf .ole (D (ix 4096 (o + (ix 16 k 0).val))) (thr D) = _
    rw [ix_val, Nat.mod_eq_of_lt hk]
  rw [e]
  unfold hit
  exact beq_iff_eq.symm

theorem hits_step (D : FVec F S4096 .f32) (o : ℕ) : hits D (o + 16) = hits D o ++ (marked (under D o) 16).map (o + ·) := by
  rw [hits_add]
  congr 2

theorem hits_step_length (D : FVec F S4096 .f32) (o : ℕ) : (hits D (o + 16)).length = (hits D o).length + (marked (under D o) 16).length := by
  rw [hits_step, List.length_append, List.length_map]

/-- The compressed store of the lanes under the threshold. -/
theorem Lists.step {f : IVec S4112 32} {D : FVec F S4096 .f32} {o : ℕ} (ho : o + 16 ≤ 4096) (hf : Lists f (hits D o)) {val : IVec S16 32}
    (hval : ∀ k < 16, val (ix 16 k) = BitVec.ofNat 32 (o + k))
    {h : ∀ a x, ((![slot (BitVec.ofNat 32 (hits D o).length) (under D o)] : Fin 1 → IVec S16 32) a x).toNat < S4112.size a} :
    Lists (storeIdx (F := F) (s := S4112) (e := .i32) f ![slot (BitVec.ofNat 32 (hits D o).length) (under D o)] val (under D o) false h) (hits D (o + 16)) := by
  have hl := hits_length_le D o
  rw [hits_step]
  exact hf.append (by omega) o (fun k hk hm => slot_at _ (by omega) _ k hk hm) hval

theorem lane15 (m : IVec S16 1) (h) (p) : extractAt ![0] (extractStridedSlice S1 ![15] (scan .sum (ones m)) h) p = BitVec.ofNat 32 (marked m 16).length := by
  refine Eq.trans ?_ (scan_ones m (ix 16 15))
  generalize scan .sum (ones m) = v
  show v _ = v _
  congr 1
  funext a
  match a with
  | ⟨0, _⟩ => rfl

theorem cond1_iff : ∀ n ≤ 16, k0_cond1 (BitVec.ofNat 32 n) = 1#1 ↔ 0 < n := by decide

theorem off4_eq (t : Fin k0_t6_loop.trips) : k0_off4 t 0 = 32 * t.val := by
  have ht : t.val < 128 := t.isLt
  show (Scf.iv 0#32 1#32 t.val * 32#32).toNat = _
  rw [BitVec.toNat_mul, iv_toNat _ (by omega), BitVec.toNat_ofNat]
  omega

theorem off5_eq (t : Fin k0_t6_loop.trips) : k0_off5 t 0 = 32 * t.val + 16 := by
  have ht : t.val < 128 := t.isLt
  show (Scf.iv 0#32 1#32 t.val * 32#32 + 16#32).toNat = _
  rw [BitVec.toNat_add, BitVec.toNat_mul, iv_toNat _ (by omega), BitVec.toNat_ofNat, BitVec.toNat_ofNat]
  omega

theorem iv_eq (n : ℕ) : Scf.iv 0#32 1#32 n = BitVec.ofNat 32 n := by
  show 0#32 + BitVec.ofNat 32 n * 1#32 = _
  rw [BitVec.zero_add, BitVec.mul_one]

theorem pay66_at (t : Fin k0_t6_loop.trips) (k : ℕ) (hk : k < 16) : k0_pay66 lanes t (ix 16 k) = BitVec.ofNat 32 (32 * t.val + k) := by
  show BitVec.ofNat 32 (0 * 16 + (ix 16 k 0).val) + Scf.iv 0#32 1#32 t.val * 32#32 = _
  rw [iv_eq, ix_val, Nat.mod_eq_of_lt hk, ← BitVec.ofNat_mul, ← BitVec.ofNat_add]
  congr 1
  omega

theorem pay70_at (t : Fin k0_t6_loop.trips) (k : ℕ) (hk : k < 16) : k0_pay70 lanes t (ix 16 k) = BitVec.ofNat 32 (32 * t.val + 16 + k) := by
  show BitVec.ofNat 32 (0 * 16 + (ix 16 k 0).val) + (Scf.iv 0#32 1#32 t.val * 32#32 + 16#32) = _
  rw [iv_eq, ix_val, Nat.mod_eq_of_lt hk, ← BitVec.ofNat_mul, ← BitVec.ofNat_add, ← BitVec.ofNat_add]
  congr 1
  omega

theorem marked_nil_of_or {m1 m2 : IVec S16 1} (h : (marked (ori m1 m2) 16).length = 0) : (marked m1 16).length = 0 ∧ (marked m2 16).length = 0 := by
  have h0 := List.length_eq_zero_iff.1 h
  have key : ∀ k < 16, ¬ (m1 (ix 16 k) ||| m2 (ix 16 k)) = 1#1 := by
    intro k hk hm
    have : k ∈ marked (ori m1 m2) 16 := List.mem_filter.2 ⟨List.mem_range.2 hk, beq_iff_eq.2 hm⟩
    rw [h0] at this
    exact absurd this (by simp)
  have b : ∀ a b : BitVec 1, ¬ (a ||| b) = 1#1 → ¬ a = 1#1 ∧ ¬ b = 1#1 := by decide
  constructor <;> refine List.length_eq_zero_iff.2 (List.filter_eq_nil_iff.2 fun k hk hm => ?_)
  · exact (b _ _ (key k (List.mem_range.1 hk))).1 (beq_iff_eq.1 hm)
  · exact (b _ _ (key k (List.mem_range.1 hk))).2 (beq_iff_eq.1 hm)

section Pick
variable {d : Dev nD} {i : grid0.Coords} {I : In F}

/-- What one trip of the candidate loop keeps. -/
def PickInv (D : FVec F S4096 .f32) (st : St F) (n : ℕ) (c : BitVec 32) (st' : St F) : Prop :=
  c = BitVec.ofNat 32 (hits D (32 * n)).length ∧ ∃ f, st' = { st with cand := f } ∧ Lists f (hits D (32 * n))

theorem Tri.dite {st : St F} {α : Type} {c : Prop} [Decidable c] {p : c → VP F i α} {q : ¬ c → VP F i α} {post : α → St F → Prop}
    (hp : ∀ h, Tri d i st (p h) post) (hq : ∀ h, Tri d i st (q h) post) : Tri d i st (if h : c then p h else q h) post := by
  by_cases h : c
  · rw [dif_pos h]; exact hp h
  · rw [dif_neg h]; exact hq h

theorem readDist {st : St F} (n : ℕ) (off : Fin 1 → ℕ) (inb : ∀ a, off a + S16.size a ≤ S4096.size a) (hn : off 0 = n) (x : S16.Idx) :
    st.dist ((Rect.unit (s := S4096) off S16.size inb).toLoadRect.idx x) = win st.dist n x := by
  rw [window_idx 4096 16 off inb x, hn]
  rfl

set_option maxHeartbeats 400000 in
theorem t6_body {st st' : St F} {a b : FVec F S16 .f32} {c e : IVec S16 32} (t : Fin k0_t6_loop.trips) (w : BitVec 32)
    (hI : PickInv st.dist st t.val w st') :
    Tri d i st' (kt6 i lanes a b c e (tops st.dist) t w) (PickInv st.dist st (t.val + 1)) := by
  obtain ⟨rfl, f, rfl, hf⟩ := hI
  have ht : t.val < 128 := t.isLt
  have hl := hits_length_le st.dist (32 * t.val)
  have hl2 := hits_length_le st.dist (32 * t.val + 16)
  have hs1 := hits_step_length st.dist (32 * t.val)
  have hs2 := hits_step_length st.dist (32 * t.val + 16)
  rw [show 32 * t.val + 16 + 16 = 32 * (t.val + 1) from by omega] at hs2
  unfold kt6 atTile k0_t6_body
  refine Tri.loadAs (slotDist d i) _ (readDist (32 * t.val) _ _ (off4_eq t)) ?_
  refine Tri.loadAs (slotDist d i) _ (readDist (32 * t.val + 16) _ _ (off5_eq t)) ?_
  have e1 : k0_pay61 (tops st.dist) (win st.dist (32 * t.val)) = under st.dist (32 * t.val) := by
    unfold k0_pay61; rw [pay60_eq, thr_eq]; rfl
  have e2 : k0_pay62 (tops st.dist) (win st.dist (32 * t.val + 16)) = under st.dist (32 * t.val + 16) := by
    unfold k0_pay62; rw [pay60_eq, thr_eq]; rfl
  have e63 : ∀ p, extractAt ![0] (k0_pay63 (tops st.dist) (win st.dist (32 * t.val)) (win st.dist (32 * t.val + 16))) p
      = BitVec.ofNat 32 (marked (ori (under st.dist (32 * t.val)) (under st.dist (32 * t.val + 16))) 16).length := fun p => by
    unfold k0_pay63; rw [e1, e2]; exact lane15 _ _ _
  have e65 : k0_pay65 (tops st.dist) (BitVec.ofNat 32 (hits st.dist (32 * t.val)).length) (win st.dist (32 * t.val))
      = slot (BitVec.ofNat 32 (hits st.dist (32 * t.val)).length) (under st.dist (32 * t.val)) := by
    unfold k0_pay65 k0_pay64; rw [e1]; rfl
  have e67 : ∀ p, extractAt ![0] (k0_pay67 (tops st.dist) (win st.dist (32 * t.val))) p = BitVec.ofNat 32 (marked (under st.dist (32 * t.val)) 16).length := fun p => by
    unfold k0_pay67 k0_pay64; rw [e1]; exact lane15 _ _ _
  have e199 : ∀ p, Scalar.addi (BitVec.ofNat 32 (hits st.dist (32 * t.val)).length) (extractAt ![0] (k0_pay67 (tops st.dist) (win st.dist (32 * t.val))) p)
      = BitVec.ofNat 32 (hits st.dist (32 * t.val + 16)).length := fun p => by
    rw [e67, hs1, BitVec.ofNat_add]; rfl
  have e69 : k0_pay69 (tops st.dist) (BitVec.ofNat 32 (hits st.dist (32 * t.val)).length) (win st.dist (32 * t.val)) (win st.dist (32 * t.val + 16))
      = slot (BitVec.ofNat 32 (hits st.dist (32 * t.val + 16)).length) (under st.dist (32 * t.val + 16)) := by
    have e : k0_pay69 (tops st.dist) (BitVec.ofNat 32 (hits st.dist (32 * t.val)).length) (win st.dist (32 * t.val)) (win st.dist (32 * t.val + 16))
        = slot (Scalar.addi (BitVec.ofNat 32 (hits st.dist (32 * t.val)).length) (extractAt ![0] (k0_pay67 (tops st.dist) (win st.dist (32 * t.val))) inpos_S1_p0))
          (k0_pay62 (tops st.dist) (win st.dist (32 * t.val + 16))) := rfl
    rw [e, e199, e2]
  have e71 : ∀ p, extractAt ![0] (k0_pay71 (tops st.dist) (win st.dist (32 * t.val + 16))) p = BitVec.ofNat 32 (marked (under st.dist (32 * t.val + 16)) 16).length := fun p => by
    unfold k0_pay71 k0_pay68; rw [e2]; exact lane15 _ _ _
  have hml := marked_length_le (ori (under st.dist (32 * t.val)) (under st.dist (32 * t.val + 16))) 16
  dsimp only
  refine Tri.dite (fun hc => ?_) (fun hc => ?_)
  · rw [e65, e69, e1, e2]
    refine Tri.assume (fun _ => slot_lt _ (by omega) _) (Tri.scatter (slotCand d i) ?_)
    have hA := Lists.step (by omega) hf (pay66_at t) (h := slot_lt _ (by omega) _)
    refine Tri.assume (fun _ => slot_lt _ (by omega) _) (Tri.scatter (slotCand d i) ?_)
    have hB := Lists.step (by omega) hA (pay70_at t) (h := slot_lt _ (by omega) _)
    rw [show 32 * t.val + 16 + 16 = 32 * (t.val + 1) from by omega] at hB
    refine Tri.pure ⟨?_, _, rfl, hB⟩
    rw [e199, e71, hs2, BitVec.ofNat_add]
    rfl
  · rw [e63, cond1_iff _ hml] at hc
    have h0 := marked_nil_of_or (m1 := under st.dist (32 * t.val)) (m2 := under st.dist (32 * t.val + 16)) (by omega)
    have eh : hits st.dist (32 * (t.val + 1)) = hits st.dist (32 * t.val) := by
      rw [show 32 * (t.val + 1) = 32 * t.val + 16 + 16 from by omega, hits_step, hits_step, List.length_eq_zero_iff.1 h0.1, List.length_eq_zero_iff.1 h0.2]
      simp
    refine Tri.pure ⟨?_, f, rfl, ?_⟩
    · rw [eh]
    · rw [eh]; exact hf

theorem PickInv.zero (D : FVec F S4096 .f32) (st : St F) : PickInv D st 0 0#32 st := by
  have e : hits D (32 * 0) = [] := rfl
  unfold PickInv
  rw [e]
  exact ⟨rfl, st.cand, rfl, Lists.nil _⟩

theorem PickInv.last {D : FVec F S4096 .f32} {st st' : St F} {c : BitVec 32} (h : PickInv D st k0_t6_loop.trips c st') :
    c = BitVec.ofNat 32 (hits D 4096).length ∧ ∃ f, st' = { st with cand := f } ∧ Lists f (hits D 4096) := by
  have e : 32 * k0_t6_loop.trips = 4096 := rfl
  unfold PickInv at h
  rw [e] at h
  exact h

set_option maxHeartbeats 400000 in
/-- The threshold, then the list of the candidates under it. -/
theorem part7 {st : St F} {D : FVec F S4096 .f32} (hD : st.dist = D) (hk : ∀ x : S16.Idx, st.keys (ix 32 (x 0).val) = accB D 64 x)
    (hv : ∀ x : S16.Idx, st.vals (ix 32 (x 0).val) = lanes x) (hc : ∀ n ≤ 4096, k0_chk10 (BitVec.ofNat 32 n)) :
    Tri d i st (kp7 i lanes (accB D 64) (sortK (accA D 64)) lanes (broadcast S16 0#32))
      fun r st' => (∃ hw, r = ⟨BitVec.ofNat 32 (hits D 4096).length, hw, Scalar.addi (BitVec.ofNat 32 (hits D 4096).length) 15#32, 16#32,
          Scalar.divsi (Scalar.addi (BitVec.ofNat 32 (hits D 4096).length) 15#32) 16#32⟩) ∧
        ∃ f ks vs, st' = { st with cand := f, keys := ks, vals := vs } ∧ Lists f (hits D 4096) := by
  subst hD
  unfold kp7 atTile
  rw [k0_part7_eq_skeleton]
  unfold k0_part7_skel
  refine Tri.sort (key := accB st.dist 64) (v := lanes) rfl rfl (fun r hr => ⟨lt32_of hr, lt32_of hr⟩) ?_ hk hv ?_
  · exact fun t acc => ⟨k0_chk3 _, k0_chk3.dec _, fun hw => k0_idx4_inb _ hw.down, View.loads_vmem h_S32, lt32_of fun x => by
      have ht : t.val < 16 := t.isLt
      exact lt_of_eq_of_lt (iv_toNat t.val (by omega)) (by omega), rfl⟩
  intro ks vs _ _
  refine Tri.revK (fun h => h) rfl ?_
  refine Tri.stageK _ (Tri.stageV _ ?_)
  refine Tri.sort (key := maximumf (sortK (accA st.dist 64)) (rev (sortK (accB st.dist 64)))) (v := lanes) rfl rfl (fun r hr => ⟨lt32_of hr, lt32_of hr⟩) ?_
    (put16_zero _ _) (put16_zero _ _) ?_
  · exact fun t acc => ⟨k0_chk6 _, k0_chk6.dec _, fun hw => k0_idx8_inb _ hw.down, View.loads_vmem h_S32, lt32_of fun x => by
      have ht : t.val < 16 := t.isLt
      exact lt_of_eq_of_lt (iv_toNat t.val (by omega)) (by omega), rfl⟩
  intro ks vs _ _
  rw [tops_eq]
  refine Tri.loop k0_t6_loop k0_t6_ok (PickInv st.dist { st with keys := ks, vals := vs }) (PickInv.zero _ _) ?_ ?_
  · exact fun t a st' hI => t6_body (st := { st with keys := ks, vals := vs }) t a hI
  intro _ st' hI
  obtain ⟨rfl, f, rfl, hf⟩ := hI.last
  have hn := hits_length_le st.dist 4096
  refine Tri.assume (hc _ hn) (Tri.pure ⟨⟨hc _ hn, rfl⟩, f, ks, vs, rfl, hf⟩)

end Pick

end Cert.Proof.Knn

end
-- ==== Proof.Trip.lean ====
/-
  How often the merging loop of one query runs: the number of candidates divided by sixteen, rounded up.
-/
module

public import proofs.«01_k».proof.Proof.Pick
public import Idealize.ShloMosaic.Lib.Routing.Words
public import Idealize.ShloMosaic.Lib.LoopRemainder

@[expose] public section

noncomputable section

namespace Cert.Proof.Knn

open Cert.KernelIdeal Cert.KernelIdeal.Gen

open Idealize.ShloMosaic

theorem small_int {n : ℕ} (h : n < 2 ^ 31) : (BitVec.ofNat 32 n).toInt = (n : ℤ) := WordArith.toInt_ofNat_small n h

theorem sign_bits : Scalar.cmpi .ne (Scalar.subi (Scalar.extui 1#1) (Scalar.extui 0#1) : BitVec 32)
    (Scalar.subi (Scalar.extui (Scalar.cmpi .sgt 16#32 0#32)) (Scalar.extui (Scalar.cmpi .slt 16#32 0#32))) = 0#1 := by decide

theorem andi_zero : ∀ b : BitVec 1, Scalar.andi 0#1 b = 0#1 := by decide

theorem up_word (n : ℕ) : Scalar.addi (BitVec.ofNat 32 n) 15#32 = BitVec.ofNat 32 (n + 15) := (BitVec.ofNat_add ..).symm

theorem up_pos {n : ℕ} (hn : n ≤ 4096) : Scalar.cmpi .sgt (BitVec.ofNat 32 (n + 15)) 0#32 = 1#1 ∧ Scalar.cmpi .slt (BitVec.ofNat 32 (n + 15)) 0#32 = 0#1 := by
  have h : (BitVec.ofNat 32 (n + 15)).toInt = (n + 15 : ℕ) := small_int (by omega)
  have h0 : (0#32 : BitVec 32).toInt = 0 := by decide
  constructor
  · show BitVec.ofBool (BitVec.slt 0#32 (BitVec.ofNat 32 (n + 15))) = 1#1
    rw [BitVec.slt_eq_decide, h, h0, decide_eq_true (by omega)]
    rfl
  · show BitVec.ofBool (BitVec.slt (BitVec.ofNat 32 (n + 15)) 0#32) = 0#1
    rw [BitVec.slt_eq_decide, h, h0, decide_eq_false (by omega)]
    rfl

theorem up_div {n : ℕ} (hn : n ≤ 4096) : Scalar.divsi (BitVec.ofNat 32 (n + 15)) 16#32 = BitVec.ofNat 32 ((n + 15) / 16) :=
  Routing.divsi_word .scalar (by omega) (by omega) (by omega)

theorem t7_loop_eq {n : ℕ} (hn : n ≤ 4096) : k0_t7_loop (BitVec.ofNat 32 n) = ⟨0#32, BitVec.ofNat 32 ((n + 15) / 16), 1#32⟩ := by
  unfold k0_t7_loop
  dsimp only
  rw [up_word, (up_pos hn).1, (up_pos hn).2, sign_bits, andi_zero, up_div hn, Scalar.muli_divsi_one]
  congr 1
  show 0#32 + (BitVec.ofNat 32 ((n + 15) / 16) - 0#32) = _
  rw [BitVec.sub_zero, BitVec.zero_add]

theorem t12_loop_eq {n : ℕ} (hn : n ≤ 4096) : k0_t12_loop (BitVec.ofNat 32 n) = ⟨BitVec.ofNat 32 ((n + 15) / 16), BitVec.ofNat 32 ((n + 15) / 16), 1#32⟩ := by
  unfold k0_t12_loop
  dsimp only
  rw [up_word, (up_pos hn).1, (up_pos hn).2, sign_bits, andi_zero, up_div hn, Scalar.muli_divsi_one]
  have e : Scalar.addi 0#32 (Scalar.subi (Scalar.select 0#1 (Scalar.subi (BitVec.ofNat 32 ((n + 15) / 16)) 1#32) (BitVec.ofNat 32 ((n + 15) / 16))) 0#32) = BitVec.ofNat 32 ((n + 15) / 16) := by
    show 0#32 + (BitVec.ofNat 32 ((n + 15) / 16) - 0#32) = _
    rw [BitVec.sub_zero, BitVec.zero_add]
  rw [e]

theorem t7_trips {n : ℕ} (hn : n ≤ 4096) : (k0_t7_loop (BitVec.ofNat 32 n)).trips = (n + 15) / 16 := by
  rw [t7_loop_eq hn]
  show (((BitVec.ofNat 32 ((n + 15) / 16)).toInt - (0#32 : BitVec 32).toInt + (1#32 : BitVec 32).toInt - 1) / (1#32 : BitVec 32).toInt).toNat = _
  rw [small_int (by omega), show (0#32 : BitVec 32).toInt = 0 from by decide, show (1#32 : BitVec 32).toInt = 1 from by decide]
  omega

theorem t12_trips {n : ℕ} (hn : n ≤ 4096) : (k0_t12_loop (BitVec.ofNat 32 n)).trips = 0 := by
  rw [t12_loop_eq hn]
  show (((BitVec.ofNat 32 ((n + 15) / 16)).toInt - (BitVec.ofNat 32 ((n + 15) / 16)).toInt + (1#32 : BitVec 32).toInt - 1) / (1#32 : BitVec 32).toInt).toNat = _
  rw [show (1#32 : BitVec 32).toInt = 1 from by decide]
  omega

theorem off6_eq {n : ℕ} (hn : n ≤ 4096) (t : Fin (k0_t7_loop (BitVec.ofNat 32 n)).trips) : k0_off6 (BitVec.ofNat 32 n) t 0 = 16 * t.val := by
  have ht : t.val < (n + 15) / 16 := t7_trips hn ▸ t.isLt
  show (Scf.iv 0#32 1#32 t.val * 16#32).toNat = _
  rw [BitVec.toNat_mul, iv_toNat _ (by omega), BitVec.toNat_ofNat]
  omega

/-- The checks the loops over the candidates need. -/
theorem chk10 (n : ℕ) (hn : n ≤ 4096) : k0_chk10 (BitVec.ofNat 32 n) := by
  refine ⟨?_, ?_, ?_, ?_⟩
  · refine ⟨?_, ?_⟩
    · rw [t7_loop_eq hn]
      show 0 < (1#32 : BitVec 32).toInt
      decide
    · have e := t7_trips hn
      unfold Scf.Loop.trips at e
      rw [e, t7_loop_eq hn]
      show (0#32 : BitVec 32).toInt + ((n + 15) / 16 : ℕ) * (1#32 : BitVec 32).toInt < 2 ^ (32 - 1)
      rw [show (0#32 : BitVec 32).toInt = 0 from by decide, show (1#32 : BitVec 32).toInt = 1 from by decide]
      omega
  · intro t a
    have ht : t.val < (n + 15) / 16 := t7_trips hn ▸ t.isLt
    match a with
    | ⟨0, _⟩ =>
      show k0_off6 (BitVec.ofNat 32 n) t 0 + 16 ≤ 4112
      rw [off6_eq hn]
      omega
  · refine ⟨?_, ?_⟩
    · rw [t12_loop_eq hn]
      show 0 < (1#32 : BitVec 32).toInt
      decide
    · have e := t12_trips hn
      unfold Scf.Loop.trips at e
      rw [e, t12_loop_eq hn]
      show (BitVec.ofNat 32 ((n + 15) / 16)).toInt + ((0 : ℕ) : Int) * (1#32 : BitVec 32).toInt < 2 ^ (32 - 1)
      rw [small_int (by omega), show (1#32 : BitVec 32).toInt = 1 from by decide]
      omega
  · intro t
    exact absurd (lt_of_lt_of_eq t.isLt (t12_trips hn)) (Nat.not_lt_zero _)

end Cert.Proof.Knn

end
-- ==== Proof.Merge.lean ====
/-
  The merging loop of one query: each trip sorts sixteen more candidates by distance and merges them into the best
  thirty-two.
-/
module

public import proofs.«01_k».proof.Proof.Trip

@[expose] public section

noncomputable section

namespace Cert.Proof.Knn

open Cert.KernelIdeal Cert.KernelIdeal.Gen

open Idealize.ShloMosaic

variable {F : FTy → Type} [FloatOps F]

section Chunk
variable (D : FVec F S4096 .f32)

theorem chunkI_lt (j : ℕ) (x : S16.Idx) : (chunkI D j x).toNat < 4096 := by
  unfold chunkI
  cases h : (hits D 4096)[16 * j + (x 0).val]? with
  | none => show (0#32 : BitVec 32).toNat < 4096; decide
  | some n =>
    have hn := hits_lt D (List.mem_of_getElem? h)
    show (BitVec.ofNat 32 n).toNat < 4096
    rw [BitVec.toNat_ofNat]
    omega

theorem sortV_lt (key : FVec F S16 .f32) (v : IVec S16 32) (b : ℕ) (h : ∀ x, (v x).toNat < b) (x : S16.Idx) : (sortV key v x).toNat < b := by
  obtain ⟨y, hy⟩ := place_mem (rank key 16) v x
  show (place (rank key 16) v x).toNat < b
  rw [hy]
  exact h y

theorem select_lt (m : IVec S16 1) (u v : IVec S16 32) (b : ℕ) (hu : ∀ x, (u x).toNat < b) (hv : ∀ x, (v x).toNat < b) (x : S16.Idx) :
    (select m u v x).toNat < b := by
  show (if m x = 1#1 then u x else v x).toNat < b
  by_cases h : m x = 1#1
  · rw [if_pos h]; exact hu x
  · rw [if_neg h]; exact hv x

theorem mergeStep_lt (s : Best F) (ck : FVec F S16 .f32) (ci : IVec S16 32) (b : ℕ) (h1 : ∀ x, (s.2.1 x).toNat < b) (h2 : ∀ x, (s.2.2.2 x).toNat < b)
    (hc : ∀ x, (ci x).toNat < b) : (∀ x, ((mergeStep s ck ci).2.1 x).toNat < b) ∧ ∀ x, ((mergeStep s ck ci).2.2.2 x).toNat < b := by
  have ha : ∀ x, (lowI s.2.2.1 (rev (sortK ck)) s.2.2.2 (rev (sortV ck ci)) x).toNat < b :=
    fun x => select_lt _ _ _ b h2 (fun y => sortV_lt ck ci b hc _) x
  have hr : ∀ x, (rev (sortV (lowK s.2.2.1 (rev (sortK ck))) (lowI s.2.2.1 (rev (sortK ck)) s.2.2.2 (rev (sortV ck ci)))) x).toNat < b :=
    fun x => sortV_lt _ _ b ha _
  exact ⟨fun x => sortV_lt _ _ b (select_lt _ _ _ b h1 hr) x, fun x => sortV_lt _ _ b (select_lt _ _ _ b hr h1) x⟩

theorem best_lt (n : ℕ) : (∀ x, ((best D n).2.1 x).toNat < 4096) ∧ ∀ x, ((best D n).2.2.2 x).toNat < 4096 := by
  induction n with
  | zero => exact ⟨fun x => by show (0#32 : BitVec 32).toNat < 4096; decide, fun x => by show (0#32 : BitVec 32).toNat < 4096; decide⟩
  | succ n ih => exact mergeStep_lt _ _ _ 4096 ih.1 ih.2 (chunkI_lt D n)

end Chunk

attribute [local irreducible] thr tops accA accB sortK sortV rev

section Valid
variable {D : FVec F S4096 .f32} {n : ℕ}

theorem valid_at (hn : n ≤ 4096) (t : Fin (k0_t7_loop (BitVec.ofNat 32 n)).trips) (k : ℕ) (hk : k < 16) :
    k0_pay5 lanes (BitVec.ofNat 32 n) 0#32 1#32 t (ix 16 k) = 1#1 ↔ 16 * t.val + k < n := by
  have ht : t.val < (n + 15) / 16 := lt_of_lt_of_eq t.isLt (t7_trips hn)
  have e : k0_pay5 lanes (BitVec.ofNat 32 n) 0#32 1#32 t (ix 16 k)
      = BitVec.ofBool (BitVec.slt (BitVec.ofNat 32 (0 * 16 + (ix 16 k 0).val) + Scf.iv 0#32 1#32 t.val * 16#32) (BitVec.ofNat 32 n)) := rfl
  have e2 : BitVec.ofNat 32 (0 * 16 + k) + BitVec.ofNat 32 t.val * 16#32 = BitVec.ofNat 32 (16 * t.val + k) := by
    rw [← BitVec.ofNat_mul, ← BitVec.ofNat_add]
    congr 1
    omega
  rw [e, iv_eq, ix_val, Nat.mod_eq_of_lt hk, e2, BitVec.slt_eq_decide, small_int (by omega), small_int (by omega)]
  by_cases h : 16 * t.val + k < n
  · rw [decide_eq_true (by omega)]
    exact ⟨fun _ => h, fun _ => rfl⟩
  · rw [decide_eq_false (by omega)]
    exact ⟨fun h' => absurd h' (by decide), fun h' => absurd h' h⟩

theorem pay6_eq {f : IVec S4112 32} (hf : Lists f (hits D 4096)) (t : Fin (k0_t7_loop (BitVec.ofNat 32 (hits D 4096).length)).trips) :
    k0_pay6 (F := F) lanes (BitVec.ofNat 32 (hits D 4096).length) 0#32 1#32 t (fun x => f (ix 4112 (16 * t.val + (x 0).val))) = chunkI D t.val := by
  funext x
  have hx : (x 0).val < 16 := (x 0).isLt
  have hv := valid_at (hits_length_le D 4096) t (x 0).val hx
  show (if k0_pay5 lanes _ 0#32 1#32 t x = 1#1 then f (ix 4112 (16 * t.val + (x 0).val)) else 0#32) = chunkI D t.val x
  rw [← eq_ix 16 x] at hv
  unfold chunkI
  by_cases h : 16 * t.val + (x 0).val < (hits D 4096).length
  · rw [if_pos (hv.2 h), List.getElem?_eq_getElem h]
    exact hf _ _ (List.getElem?_eq_getElem h)
  · rw [if_neg (fun e => h (hv.1 e)), List.getElem?_eq_none (by omega)]

theorem pay7_eq (t : Fin (k0_t7_loop (BitVec.ofNat 32 (hits D 4096).length)).trips) (h : ∀ a x, ((![chunkI D t.val] : Fin 1 → IVec S16 32) a x).toNat < S4096.size a) :
    k0_pay7 lanes (BitVec.ofNat 32 (hits D 4096).length) 0#32 1#32 t (loadIdx (s := S4096) (e := .f32) D ![chunkI D t.val] h) = chunkK D t.val := by
  funext x
  have hx : (x 0).val < 16 := (x 0).isLt
  have hv := valid_at (hits_length_le D 4096) t (x 0).val hx
  rw [← eq_ix 16 x] at hv
  have e : loadIdx (s := S4096) (e := .f32) D ![chunkI D t.val] h x = D (ix 4096 (chunkI D t.val x).toNat) := by
    show D _ = D _
    congr 1
    exact eq_ix_of 4096 _ rfl
  show (if k0_pay5 lanes _ 0#32 1#32 t x = 1#1 then loadIdx (s := S4096) (e := .f32) D ![chunkI D t.val] h x else _) = chunkK D t.val x
  rw [e]
  unfold chunkK
  by_cases hlt : 16 * t.val + (x 0).val < (hits D 4096).length
  · rw [if_pos (hv.2 hlt)]
    have hm : (hits D 4096)[16 * t.val + (x 0).val]? = some (hits D 4096)[16 * t.val + (x 0).val] := List.getElem?_eq_getElem hlt
    have hl := hits_lt D (List.mem_of_getElem? hm)
    have ei : chunkI D t.val x = BitVec.ofNat 32 (hits D 4096)[16 * t.val + (x 0).val] := by
      unfold chunkI; rw [hm]
    rw [ei, hm, BitVec.toNat_ofNat, Nat.mod_eq_of_lt (by omega)]
  · rw [if_neg (fun e => hlt (hv.1 e)), List.getElem?_eq_none (by omega)]
    rfl

end Valid

section Merge
variable {d : Dev nD} {i : grid0.Coords}

theorem t_lt32 {L : Scf.Loop 32} (hL : L.trips = 16) (t : Fin L.trips) : ∀ a x, ((![broadcast S16 (Scf.iv 0#32 1#32 t.val)] : Fin 1 → IVec S16 32) a x).toNat < S32.size a :=
  lt32_of fun x => by
    have ht : t.val < 16 := hL ▸ t.isLt
    exact lt_of_eq_of_lt (iv_toNat t.val (by omega)) (by omega)

set_option maxHeartbeats 400000 in
/-- The next sixteen candidates, sorted and reversed. -/
theorem part2 {st : St F} {D : FVec F S4096 .f32} (hD : st.dist = D) (hf : Lists st.cand (hits D 4096)) (hw)
    (t : Fin (k0_t7_loop (BitVec.ofNat 32 (hits D 4096).length)).trips) (c : FVec F S16 .f32) :
    Tri d i st (kp2 i lanes (BitVec.ofNat 32 (hits D 4096).length) hw 0#32 1#32 t c)
      fun r st' => r = ⟨rev (sortK (chunkK D t.val)), rev (sortV (chunkK D t.val) (chunkI D t.val)), cmpf .ole c (rev (sortK (chunkK D t.val)))⟩ ∧
        ∃ ks vs, st' = { st with keys := ks, vals := vs } := by
  subst hD
  unfold kp2 atTile
  rw [k0_part2_eq_skeleton]
  unfold k0_part2_skel
  refine Tri.loadAs (slotCand d i) (fun x : S16.Idx => st.cand (ix 4112 (16 * t.val + (x 0).val))) (fun x => by
    rw [window_idx 4112 16 _ _ x, off6_eq (hits_length_le _ _)]) ?_
  have e6 := pay6_eq hf t
  dsimp only
  generalize k0_pay6 (F := F) lanes (BitVec.ofNat 32 (hits st.dist 4096).length) 0#32 1#32 t (fun x => st.cand (ix 4112 (16 * t.val + (x 0).val))) = X at *
  subst e6
  have hlt : ∀ a x, ((![chunkI st.dist t.val] : Fin 1 → IVec S16 32) a x).toNat < S4096.size a := fun
    | ⟨0, _⟩, x => chunkI_lt _ _ x
  have hlt' : k0_chk11 (chunkI st.dist t.val) := hlt
  refine Tri.assume hlt' (Tri.gather (slotDist d i) ?_)
  have e7 := pay7_eq t hlt
  rw [e7]
  refine Tri.stageK _ (Tri.stageV _ ?_)
  refine Tri.sort (key := chunkK st.dist t.val) (v := chunkI st.dist t.val) rfl rfl (fun r hr => ⟨lt32_of hr, lt32_of hr⟩) ?_ (put16_zero _ _) (put16_zero _ _) ?_
  · intro t8 acc
    refine ⟨k0_chk12 _, k0_chk12.dec _, fun hw => k0_idx14_inb _ hw.down, View.loads_vmem h_S32, t_lt32 rfl t8, ?_⟩
    unfold k0_t8_body k0_pay9
    dsimp only
    rw [e7]
    rfl
  intro ks vs _ _
  refine Tri.revK (fun h => h) rfl ?_
  refine Tri.revV (fun h => h) rfl ?_
  exact Tri.pure ⟨rfl, _, _, rfl⟩

set_option maxHeartbeats 400000 in
/-- The larger half of the best merged with the new candidates, then staged against the smaller half. -/
theorem part3 {st : St F} (a c : FVec F S16 .f32) (b e : IVec S16 32) (nk : FVec F S16 .f32) (ni : IVec S16 32) :
    Tri d i st (kp3 i a b c e nk ni (cmpf .ole c nk))
      fun r st' => r = ⟨lowK a (rev (sortK (lowK c nk))), lowI a (rev (sortK (lowK c nk))) b (rev (sortV (lowK c nk) (lowI c nk e ni))),
          highK a (rev (sortK (lowK c nk))), highI a (rev (sortK (lowK c nk))) b (rev (sortV (lowK c nk) (lowI c nk e ni))), lanes, broadcast S16 0#32, 0#32, 1#32⟩ ∧
        ∃ ks vs, st' = { st with keys := ks, vals := vs } ∧ (∀ x : S16.Idx, ks (ix 32 (x 0).val) = lowK a (rev (sortK (lowK c nk))) x) ∧
          ∀ x : S16.Idx, vs (ix 32 (x 0).val) = lowI a (rev (sortK (lowK c nk))) b (rev (sortV (lowK c nk) (lowI c nk e ni))) x := by
  unfold kp3 atTile
  rw [k0_part3_eq_skeleton]
  unfold k0_part3_skel
  refine Tri.stageK _ (Tri.stageV _ ?_)
  refine Tri.sort (key := lowK c nk) (v := lowI c nk e ni) rfl rfl (fun r hr => ⟨lt32_of hr, lt32_of hr⟩) ?_ (put16_zero _ _) (put16_zero _ _) ?_
  · exact fun t9 acc => ⟨k0_chk16 _, k0_chk16.dec _, fun hw => k0_idx19_inb _ hw.down, View.loads_vmem h_S32, t_lt32 rfl t9, rfl⟩
  intro ks vs _ _
  refine Tri.revK (fun h => h) rfl ?_
  refine Tri.revV (fun h => h) rfl ?_
  refine Tri.stageK _ (Tri.stageV _ ?_)
  exact Tri.pure ⟨rfl, _, _, rfl, put16_zero _ _, put16_zero _ _⟩

set_option maxHeartbeats 400000 in
theorem t7_body {st : St F} {D : FVec F S4096 .f32} (hD : st.dist = D) (hf : Lists st.cand (hits D 4096)) (hw) (w v z : BitVec 32) (q : BitVec 32)
    (t : Fin (k0_t7_loop (BitVec.ofNat 32 (hits D 4096).length)).trips) (s : Best F) :
    Tri d i st (kt7 i lanes w (BitVec.ofNat 32 (hits D 4096).length) hw v z q t s)
      fun r st' => r = mergeStep s (chunkK D t.val) (chunkI D t.val) ∧ ∃ ks vs, st' = { st with keys := ks, vals := vs } := by
  obtain ⟨a, b, c, e⟩ := s
  unfold kt7 atTile k0_t7_body
  refine Tri.bind (part2 hD hf hw t c) ?_
  rintro _ _ ⟨rfl, ks, vs, rfl⟩
  refine Tri.bind (part3 a c b e _ _) ?_
  rintro _ _ ⟨rfl, ks, vs, rfl, hk, hv⟩
  refine Tri.sort (key := lowK a (rev (sortK (lowK c (rev (sortK (chunkK D t.val)))))))
    (v := lowI a (rev (sortK (lowK c (rev (sortK (chunkK D t.val)))))) b (rev (sortV (lowK c (rev (sortK (chunkK D t.val)))) (lowI c (rev (sortK (chunkK D t.val))) e (rev (sortV (chunkK D t.val) (chunkI D t.val)))))))
    rfl rfl (fun r hr => ⟨lt32_of hr, lt32_of hr⟩) ?_ hk hv ?_
  · exact fun t10 acc => ⟨k0_chk20 _, k0_chk20.dec _, fun hw => k0_idx24_inb _ hw.down, View.loads_vmem h_S32, t_lt32 rfl t10, rfl⟩
  intro ks vs _ _
  refine Tri.stageK _ (Tri.stageV _ ?_)
  refine Tri.sort (key := highK a (rev (sortK (lowK c (rev (sortK (chunkK D t.val)))))))
    (v := highI a (rev (sortK (lowK c (rev (sortK (chunkK D t.val)))))) b (rev (sortV (lowK c (rev (sortK (chunkK D t.val)))) (lowI c (rev (sortK (chunkK D t.val))) e (rev (sortV (chunkK D t.val) (chunkI D t.val)))))))
    rfl rfl (fun r hr => ⟨lt32_of hr, lt32_of hr⟩) ?_ (put16_zero _ _) (put16_zero _ _) ?_
  · exact fun t11 acc => ⟨k0_chk22 _, k0_chk22.dec _, fun hw => k0_idx27_inb _ hw.down, View.loads_vmem h_S32, t_lt32 rfl t11, rfl⟩
  intro ks vs _ _
  exact Tri.pure ⟨rfl, _, _, rfl⟩

end Merge

end Cert.Proof.Knn

end
-- ==== Proof.Rows.lean ====
/-
  The edges of the twenty chosen faces of one query, gathered and scattered into one row of the three output buffers.
-/
module

public import proofs.«01_k».proof.Proof.Merge

@[expose] public section

noncomputable section

namespace Cert.Proof.Knn

open Cert.KernelIdeal Cert.KernelIdeal.Gen

open Idealize.ShloMosaic

variable {F : FTy → Type} [FloatOps F]

/-- Corners of the faces `W`. -/
def face (f : IVec S4096 32) (W : IVec S16 32) : IVec S16 32 := fun x => f (ix 4096 (W x).toNat)
/-- Coordinates of the corners of the faces `W`. -/
def cor (f : IVec S4096 32) (v : FVec F S10000 .f32) (W : IVec S16 32) : FVec F S16 .f32 := fun x => corner f v (W x)

/-- An element of the output buffer. -/
def cell (r m : ℕ) (hr : r < 128) (hm : m < 60) : S128x60.Idx := fun
  | ⟨0, _⟩ => ⟨r, hr⟩
  | ⟨1, _⟩ => ⟨m, hm⟩

/-- The columns `3 (b + k) + a` with `k < n` of row `t`, overwritten. -/
def putCols {α : Type} (t a b n : ℕ) (w : ℕ → α) (f : S128x60.Idx → α) : S128x60.Idx → α :=
  fun y => if (y 0).val = t ∧ (y 1).val % 3 = a ∧ b ≤ (y 1).val / 3 ∧ (y 1).val / 3 < b + n then w (y 1).val else f y

/-- Row `t`, overwritten. -/
def putRow {α : Type} (t : ℕ) (w : ℕ → α) (f : S128x60.Idx → α) : S128x60.Idx → α :=
  fun y => if (y 0).val = t then w (y 1).val else f y

theorem putCols_all {α : Type} (t : ℕ) (w : ℕ → α) (f : S128x60.Idx → α) :
    putCols t 2 16 4 w (putCols t 1 16 4 w (putCols t 0 16 4 w (putCols t 2 0 16 w (putCols t 1 0 16 w (putCols t 0 0 16 w f))))) = putRow t w f := by
  funext y
  have hy : (y 1).val < 60 := (y 1).isLt
  unfold putCols putRow
  by_cases h : (y 0).val = t
  · rw [if_pos h]
    by_cases h1 : (y 1).val % 3 = 2 ∧ 16 ≤ (y 1).val / 3 ∧ (y 1).val / 3 < 16 + 4
    · exact if_pos ⟨h, h1⟩
    refine (if_neg fun e => h1 e.2).trans ?_
    by_cases h2 : (y 1).val % 3 = 1 ∧ 16 ≤ (y 1).val / 3 ∧ (y 1).val / 3 < 16 + 4
    · exact if_pos ⟨h, h2⟩
    refine (if_neg fun e => h2 e.2).trans ?_
    by_cases h3 : (y 1).val % 3 = 0 ∧ 16 ≤ (y 1).val / 3 ∧ (y 1).val / 3 < 16 + 4
    · exact if_pos ⟨h, h3⟩
    refine (if_neg fun e => h3 e.2).trans ?_
    by_cases h4 : (y 1).val % 3 = 2 ∧ 0 ≤ (y 1).val / 3 ∧ (y 1).val / 3 < 0 + 16
    · exact if_pos ⟨h, h4⟩
    refine (if_neg fun e => h4 e.2).trans ?_
    by_cases h5 : (y 1).val % 3 = 1 ∧ 0 ≤ (y 1).val / 3 ∧ (y 1).val / 3 < 0 + 16
    · exact if_pos ⟨h, h5⟩
    refine (if_neg fun e => h5 e.2).trans ?_
    exact if_pos ⟨h, by omega⟩
  · rw [if_neg h]
    iterate 6 refine (if_neg fun e => h e.1).trans ?_
    rfl

theorem foldl_if_none {α : Type} (p : ℕ → Prop) [DecidablePred p] (v : ℕ → α) (l : List ℕ) (a : α) (h : ∀ k ∈ l, ¬ p k) :
    l.foldl (fun a k => if p k then v k else a) a = a := by
  induction l generalizing a with
  | nil => rfl
  | cons k l ih =>
    rw [List.foldl_cons, if_neg (h k (List.mem_cons_self ..))]
    exact ih a fun k hk => h k (List.mem_cons_of_mem _ hk)

theorem foldl_if_some {α : Type} (p : ℕ → Prop) [DecidablePred p] (v : ℕ → α) (b : α) (l : List ℕ) (a : α) (h : ∀ k ∈ l, p k → v k = b)
    (he : a = b ∨ ∃ k ∈ l, p k) : l.foldl (fun a k => if p k then v k else a) a = b := by
  induction l generalizing a with
  | nil =>
    rcases he with he | ⟨k, hk, -⟩
    · exact he
    · exact absurd hk (by simp)
  | cons k l ih =>
    rw [List.foldl_cons]
    refine ih _ (fun k hk => h k (List.mem_cons_of_mem _ hk)) ?_
    by_cases hp : p k
    · rw [if_pos hp]; exact .inl (h k (List.mem_cons_self ..) hp)
    · rw [if_neg hp]
      rcases he with he | ⟨j, hj, hpj⟩
      · exact .inl he
      · rcases List.mem_cons.1 hj with rfl | hj
        · exact absurd hpj hp
        · exact .inr ⟨j, hj, hpj⟩

/-- Scattering lanes into every third column of one row. -/
theorem scat_eq (f : FVec F S128x60 .f32) (t a b n : ℕ) (ht : t < 128) (ha : a < 3) (hn : n ≤ 16) (w : ℕ → F .f32) {rw_ col : IVec S16 32} {v : FVec F S16 .f32}
    {mask : IVec S16 1} (hm : ∀ k < 16, mask (ix 16 k) = 1#1 ↔ k < n) (hrow : ∀ x, (rw_ x).toNat = t)
    (hc : ∀ k < n, (col (ix 16 k)).toNat = 3 * (b + k) + a) (hv : ∀ k < n, v (ix 16 k) = w (3 * (b + k) + a))
    (h : ∀ a x, ((![rw_, col] : Fin 2 → IVec S16 32) a x).toNat < S128x60.size a) :
    storeIdx (s := S128x60) (e := .f32) f ![rw_, col] v mask false h = putCols t a b n w f := by
  funext y
  rw [storeIdx_at]
  unfold putCols
  have hiff : ∀ k < 16, (mask (ix 16 k) = 1#1 ∧ ∀ a, (y a).val = ((![rw_, col] : Fin 2 → IVec S16 32) a (ix 16 k)).toNat)
      ↔ k < n ∧ (y 0).val = t ∧ (y 1).val = 3 * (b + k) + a := by
    intro k hk
    rw [hm k hk]
    constructor
    · rintro ⟨h1, h2⟩
      have e0 : (y 0).val = (rw_ (ix 16 k)).toNat := h2 0
      have e1 : (y 1).val = (col (ix 16 k)).toNat := h2 1
      rw [hrow] at e0
      rw [hc k h1] at e1
      exact ⟨h1, e0, e1⟩
    · rintro ⟨h1, h2, h3⟩
      refine ⟨h1, fun a => ?_⟩
      match a with
      | ⟨0, _⟩ => exact h2.trans (hrow _).symm
      | ⟨1, _⟩ => exact h3.trans (hc k h1).symm
  by_cases hy : (y 0).val = t ∧ (y 1).val % 3 = a ∧ b ≤ (y 1).val / 3 ∧ (y 1).val / 3 < b + n
  · rw [if_pos hy]
    obtain ⟨h0, h1, h2, h3⟩ := hy
    refine foldl_if_some _ _ _ _ _ (fun k hk hp => ?_) (.inr ⟨(y 1).val / 3 - b, List.mem_range.2 (by omega), ?_⟩)
    · obtain ⟨h4, -, h5⟩ := (hiff k (List.mem_range.1 hk)).1 hp
      rw [hv k h4, h5]
    · exact (hiff _ (by omega)).2 ⟨by omega, h0, by omega⟩
  · rw [if_neg hy]
    refine foldl_if_none _ _ _ _ fun k hk hp => hy ?_
    obtain ⟨h4, h5, h6⟩ := (hiff k (List.mem_range.1 hk)).1 hp
    exact ⟨h5, by omega, by omega, by omega⟩

theorem col_low0 : ∀ k < 16, (k0_pay85 lanes (ix 16 k)).toNat = 3 * (0 + k) + 0 := by decide
theorem col_low1 : ∀ k < 16, (k0_pay89 lanes (ix 16 k)).toNat = 3 * (0 + k) + 1 := by decide
theorem col_low2 : ∀ k < 16, (k0_pay93 lanes (ix 16 k)).toNat = 3 * (0 + k) + 2 := by decide
theorem first4 : ∀ k < 16, k0_pay83 lanes (ix 16 k) = 1#1 ↔ k < 4 := by decide
theorem col_high0 : ∀ k < 4, (k0_pay100 (k0_pay83 lanes) (k0_pay98 lanes) 3#32 (ix 16 k)).toNat = 3 * (16 + k) + 0 := by decide
theorem col_high1 : ∀ k < 4, (k0_pay104 (k0_pay83 lanes) (k0_pay98 lanes) 3#32 (ix 16 k)).toNat = 3 * (16 + k) + 1 := by decide
theorem col_high2 : ∀ k < 4, (k0_pay108 (k0_pay83 lanes) (k0_pay98 lanes) 3#32 (ix 16 k)).toNat = 3 * (16 + k) + 2 := by decide

/-- A vector of columns stays inside a row. -/
def Inside (col : IVec S16 32) : Prop := ∀ k < 16, (col (ix 16 k)).toNat < 60

instance (col : IVec S16 32) : Decidable (Inside col) := Nat.decidableBallLT _ _

theorem in_low0 : Inside (k0_pay85 lanes) := by decide
theorem in_low1 : Inside (k0_pay89 lanes) := by decide
theorem in_low2 : Inside (k0_pay93 lanes) := by decide
theorem in_high0 : Inside (k0_pay100 (k0_pay83 lanes) (k0_pay98 lanes) 3#32) := by decide
theorem in_high1 : Inside (k0_pay104 (k0_pay83 lanes) (k0_pay98 lanes) 3#32) := by decide
theorem in_high2 : Inside (k0_pay108 (k0_pay83 lanes) (k0_pay98 lanes) 3#32) := by decide

theorem inside {t : ℕ} (ht : t < 128) {col : IVec S16 32} (hc : Inside col) :
    ∀ a x, ((![broadcast S16 (Scf.iv 0#32 1#32 t), col] : Fin 2 → IVec S16 32) a x).toNat < S128x60.size a
  | ⟨0, _⟩, x => lt_of_eq_of_lt (iv_toNat t (by omega)) ht
  | ⟨1, _⟩, x => by
    have hx : (x 0).val < 16 := (x 0).isLt
    have := hc _ hx
    rw [← eq_ix 16 x] at this
    exact this

theorem ones_iff : ∀ k < 16, (fun _ => 1#1 : IVec S16 1) (ix 16 k) = 1#1 ↔ k < 16 := fun k hk => ⟨fun _ => hk, fun _ => rfl⟩

end Cert.Proof.Knn

end
-- ==== Proof.Query.lean ====
/-
  One query of the kernel on a vector subcore, from the distances to one row of the three output buffers.
-/
module

public import proofs.«01_k».proof.Proof.Rows

@[expose] public section

noncomputable section

namespace Cert.Proof.Knn

open Cert.KernelIdeal Cert.KernelIdeal.Gen

open Idealize.ShloMosaic Idealize.SL.Sem

variable {F : FTy → Type} [FloatOps F]

attribute [local irreducible] thr tops accA accB sortK sortV rev best hits

section Query
variable {d : Dev nD} {i : grid0.Coords} {I : In F} {β : Type}

theorem Tri.faces {st : St F} {M : Memref sig .scVector .vmem S4096 .i32} {get : St F → S4096.Idx → Elt F .i32} {put} (hM : Slot d i M get put) {W : IVec S16 32}
    {f : IVec S4096 32} (hg : get st = f) {h : ∀ a x, ((![W] : Fin 1 → IVec S16 32) a x).toNat < S4096.size a} {hl : M.view.Loads}
    {k : IVec S16 32 → VP F i β} {post : β → St F → Prop} (hk : Tri d i st (k (face f W)) post) :
    Tri d i st (SparseCore.vectorLoadIdx (t := S16) M ![W] h hl >>= k) post := by
  refine Tri.gather hM ?_
  rw [hg]
  have e : loadIdx (F := F) (s := S4096) (e := .i32) f ![W] h = face f W := by
    funext x
    show f _ = f _
    congr 1
    exact eq_ix_of 4096 _ rfl
  rw [e]
  exact hk

theorem Tri.verts {st : St F} {M : Memref sig .scVector .vmem S10000 .f32} {get : St F → S10000.Idx → Elt F .f32} {put} (hM : Slot d i M get put) {W : IVec S16 32}
    {f : IVec S4096 32} {v : FVec F S10000 .f32} (hg : get st = v) {h : ∀ a x, ((![face f W] : Fin 1 → IVec S16 32) a x).toNat < S10000.size a} {hl : M.view.Loads}
    {k : FVec F S16 .f32 → VP F i β} {post : β → St F → Prop} (hk : Tri d i st (k (cor f v W)) post) :
    Tri d i st (SparseCore.vectorLoadIdx (t := S16) M ![face f W] h hl >>= k) post := by
  refine Tri.gather hM ?_
  rw [hg]
  have e : loadIdx (s := S10000) (e := .f32) v ![face f W] h = cor f v W := by
    funext x
    show v _ = v _
    congr 1
    exact eq_ix_of 10000 _ rfl
  rw [e]
  exact hk

theorem face_lt {f : IVec S4096 32} (hf : ∀ x, (f x).toNat < 10000) (W : IVec S16 32) : ∀ a x, ((![face f W] : Fin 1 → IVec S16 32) a x).toNat < S10000.size a
  | ⟨0, _⟩, x => hf _

theorem lt4096_of {W : IVec S16 32} (h : ∀ x, (W x).toNat < 4096) : ∀ a x, ((![W] : Fin 1 → IVec S16 32) a x).toNat < S4096.size a
  | ⟨0, _⟩, x => h x

theorem tuple4 {α β γ δ : Type} {a : α} {b : β} {c : γ} {e : δ} {s : α × β × γ × δ} (h : (a, b, c, e) = s) : b = s.2.1 ∧ e = s.2.2.2 := by
  subst h; exact ⟨rfl, rfl⟩

/-- The best thirty-two, then the corners of the first sixteen chosen faces. -/
theorem part8 {st : St F} (h : Fed I st) (hI : I.InRange) {D : FVec F S4096 .f32} (hD : st.dist = D) (hf : Lists st.cand (hits D 4096)) (hw) (w v z q : BitVec 32) :
    Tri d i st (kp8 i lanes w (BitVec.ofNat 32 (hits D 4096).length) hw v z q)
      fun r st' => (∃ hw', r = ⟨hiI D, broadcast S16 w, k0_pay83 lanes, face I.fc (loI D), hw', cor I.fa I.vx (loI D), cor I.fa I.vy (loI D), cor I.fa I.vz (loI D),
          cor I.fb I.vx (loI D), cor I.fb I.vy (loI D), cor I.fb I.vz (loI D), cor I.fc I.vx (loI D), cor I.fc I.vy (loI D)⟩) ∧
        ∃ ks vs, st' = { st with keys := ks, vals := vs } := by
  have hn := hits_length_le D 4096
  unfold kp8 atTile
  rw [k0_part8_eq_skeleton]
  unfold k0_part8_skel
  dsimp (failIfUnchanged := false) only
  refine Tri.loop (k0_t7_loop (BitVec.ofNat 32 (hits D 4096).length)) _ (fun n (acc : Best F) st' => acc = best D n ∧ ∃ ks vs, st' = { st with keys := ks, vals := vs })
    ⟨by rw [best.eq_1]; rfl, st.keys, st.vals, rfl⟩ ?_ ?_
  · rintro t _ _ ⟨rfl, ks, vs, rfl⟩
    refine (t7_body (st := { st with keys := ks, vals := vs }) hD hf hw w v z q t (best D t.val)).mono ?_
    rintro _ _ ⟨rfl, ks', vs', rfl⟩
    exact ⟨by rw [best.eq_2], ks', vs', rfl⟩
  rintro ⟨a, b, c, e⟩ _ ⟨hb, ks, vs, rfl⟩
  rw [t7_trips hn] at hb
  refine Tri.loop (k0_t12_loop (BitVec.ofNat 32 (hits D 4096).length)) _ (fun n (acc : Best F) st' => acc = (a, b, c, e) ∧ st' = { st with keys := ks, vals := vs })
    ⟨rfl, rfl⟩ ?_ ?_
  · intro t
    exact absurd (lt_of_lt_of_eq t.isLt (t12_trips hn)) (Nat.not_lt_zero _)
  rintro _ _ ⟨rfl, rfl⟩
  have h1 : b = loI D := (tuple4 hb).1
  have h2 : e = hiI D := (tuple4 hb).2
  subst h1 h2
  have hl := lt4096_of (best_lt D (((hits D 4096).length + 15) / 16)).1
  replace h : Fed I { st with keys := ks, vals := vs } := ⟨h.kx, h.ky, h.kz, h.vx, h.vy, h.vz, h.fa, h.fb, h.fc⟩
  dsimp (failIfUnchanged := false) only
  have hc : k0_chk37 (loI D) := ⟨hl, hl, hl⟩
  have ha : k0_chk38 (face I.fa (loI D)) := ⟨face_lt hI.fa _, face_lt hI.fa _, face_lt hI.fa _⟩
  have hb' : k0_chk39 (face I.fb (loI D)) := ⟨face_lt hI.fb _, face_lt hI.fb _, face_lt hI.fb _⟩
  have hc' : k0_chk40 (face I.fc (loI D)) := ⟨face_lt hI.fc _, face_lt hI.fc _, face_lt hI.fc _⟩
  refine Tri.assume hc (Tri.faces (slotFa d i) (f := I.fa) h.fa ?_)
  refine Tri.assume ha ?_
  refine Tri.faces (slotFb d i) (f := I.fb) h.fb ?_
  refine Tri.assume hb' ?_
  refine Tri.faces (slotFc d i) (f := I.fc) h.fc ?_
  refine Tri.assume hc' ?_
  refine Tri.verts (slotVx d i) (v := I.vx) h.vx ?_
  refine Tri.verts (slotVy d i) (v := I.vy) h.vy ?_
  refine Tri.verts (slotVz d i) (v := I.vz) h.vz ?_
  refine Tri.verts (slotVx d i) (v := I.vx) h.vx ?_
  refine Tri.verts (slotVy d i) (v := I.vy) h.vy ?_
  refine Tri.verts (slotVz d i) (v := I.vz) h.vz ?_
  refine Tri.verts (slotVx d i) (v := I.vx) h.vx ?_
  refine Tri.verts (slotVy d i) (v := I.vy) h.vy ?_
  exact Tri.pure ⟨⟨hc', rfl⟩, ks, vs, rfl⟩

theorem nbr_low (v : FVec F S10000 .f32) (q a k : ℕ) (ha : a < 3) (hk : k < 16) : I.nbr v q (3 * (0 + k) + a) = I.edge v (loI (I.D q) (ix 16 k)) a := by
  unfold In.nbr pick
  rw [show (3 * (0 + k) + a) / 3 = k by omega, show (3 * (0 + k) + a) % 3 = a by omega, if_pos hk]

theorem nbr_high (v : FVec F S10000 .f32) (q a k : ℕ) (ha : a < 3) : I.nbr v q (3 * (16 + k) + a) = I.edge v (hiI (I.D q) (ix 16 k)) a := by
  unfold In.nbr pick
  rw [show (3 * (16 + k) + a) / 3 = 16 + k by omega, show (3 * (16 + k) + a) % 3 = a by omega, if_neg (by omega), Nat.add_sub_cancel_left]

theorem edge0 (v : FVec F S10000 .f32) (w : BitVec 32) : I.edge v w 0 = FloatOps.subf (corner I.fb v w) (corner I.fa v w) := rfl
theorem edge1 (v : FVec F S10000 .f32) (w : BitVec 32) : I.edge v w 1 = FloatOps.subf (corner I.fc v w) (corner I.fb v w) := rfl
theorem edge2 (v : FVec F S10000 .f32) (w : BitVec 32) : I.edge v w 2 = FloatOps.subf (corner I.fa v w) (corner I.fc v w) := rfl

section Low
variable (v : FVec F S10000 .f32) (q : ℕ)

theorem low0 : ∀ k < 16, subf (cor I.fb v (loI (I.D q))) (cor I.fa v (loI (I.D q))) (ix 16 k) = I.nbr v q (3 * (0 + k) + 0) :=
  fun k hk => by rw [nbr_low v q 0 k (by omega) hk, edge0]; rfl
theorem low1 : ∀ k < 16, subf (cor I.fc v (loI (I.D q))) (cor I.fb v (loI (I.D q))) (ix 16 k) = I.nbr v q (3 * (0 + k) + 1) :=
  fun k hk => by rw [nbr_low v q 1 k (by omega) hk, edge1]; rfl
theorem low2 : ∀ k < 16, subf (cor I.fa v (loI (I.D q))) (cor I.fc v (loI (I.D q))) (ix 16 k) = I.nbr v q (3 * (0 + k) + 2) :=
  fun k hk => by rw [nbr_low v q 2 k (by omega) hk, edge2]; rfl

/-- The last four chosen faces. -/
def last4 (D : FVec F S4096 .f32) : IVec S16 32 := k0_pay97 (hiI D) (k0_pay83 lanes)

theorem last4_at (D : FVec F S4096 .f32) (k : ℕ) (hk : k < 4) : last4 D (ix 16 k) = hiI D (ix 16 k) := if_pos ((first4 k (by omega)).2 hk)

theorem last4_lt (D : FVec F S4096 .f32) (x : S16.Idx) : (last4 D x).toNat < 4096 :=
  select_lt _ _ _ 4096 (best_lt D (((hits D 4096).length + 15) / 16)).2 (fun _ => by show (0#32 : BitVec 32).toNat < 4096; decide) x

theorem high_at {f g : IVec S4096 32} (a k : ℕ) (ha : a < 3) (hk : k < 4)
    (he : ∀ w, I.edge v w a = FloatOps.subf (corner f v w) (corner g v w)) :
    subf (cor f v (last4 (I.D q))) (cor g v (last4 (I.D q))) (ix 16 k) = I.nbr v q (3 * (16 + k) + a) := by
  rw [nbr_high v q a k ha, he]
  show FloatOps.subf (corner f v (last4 (I.D q) (ix 16 k))) (corner g v (last4 (I.D q) (ix 16 k))) = _
  rw [last4_at _ k hk]

end Low

theorem Tri.cols {st : St F} {M : Memref sig .scVector .vmem S128x60 .f32} {get : St F → S128x60.Idx → Elt F .f32} {put} (hM : Slot d i M get put) {t : ℕ} (a b n : ℕ) (w : ℕ → F .f32)
    (ht : t < 128) (ha : a < 3) (hn : n ≤ 16) {col : IVec S16 32} {v : FVec F S16 .f32} {mask : IVec S16 1}
    (hm : ∀ k < 16, mask (ix 16 k) = 1#1 ↔ k < n) (hc : ∀ k < n, (col (ix 16 k)).toNat = 3 * (b + k) + a) (hv : ∀ k < n, v (ix 16 k) = w (3 * (b + k) + a))
    {h : ∀ a x, ((![broadcast S16 (Scf.iv 0#32 1#32 t), col] : Fin 2 → IVec S16 32) a x).toNat < S128x60.size a} {hs : (M.access (.whole S128x60)).Stores Finset.univ}
    {k : PUnit → VP F i β} {post : β → St F → Prop} (hk : Tri d i (put st (putCols t a b n w (get st))) (k ⟨⟩) post) :
    Tri d i st (SparseCore.vectorStoreIdx M ![broadcast S16 (Scf.iv 0#32 1#32 t), col] v mask false h hs >>= k) post := by
  refine Tri.scatter hM ?_
  rw [scat_eq (get st) t a b n ht ha hn w (rw_ := broadcast S16 (Scf.iv 0#32 1#32 t)) hm (fun _ => iv_toNat t (by omega)) hc hv h]
  exact hk

/-- The columns of the first sixteen chosen faces, and of the last four. -/
def lowCols {α : Type} (t : ℕ) (w : ℕ → α) (f : S128x60.Idx → α) : S128x60.Idx → α := putCols t 2 0 16 w (putCols t 1 0 16 w (putCols t 0 0 16 w f))

theorem Fed.withOut {st : St F} (h : Fed I st) (x y z : FVec F S128x60 .f32) : Fed I { st with ox := x, oy := y, oz := z } :=
  ⟨h.kx, h.ky, h.kz, h.vx, h.vy, h.vz, h.fa, h.fb, h.fc⟩

/-- The edges of the first sixteen chosen faces into their columns, then the corners of the last four. -/
theorem part9 {st : St F} (h : Fed I st) (hI : I.InRange) (q t : ℕ) (ht : t < 128) (hw) :
    Tri d i st (kp9 i lanes (hiI (I.D q)) (broadcast S16 (Scf.iv 0#32 1#32 t)) (k0_pay83 lanes) (face I.fc (loI (I.D q))) hw
        (cor I.fa I.vx (loI (I.D q))) (cor I.fa I.vy (loI (I.D q))) (cor I.fa I.vz (loI (I.D q)))
        (cor I.fb I.vx (loI (I.D q))) (cor I.fb I.vy (loI (I.D q))) (cor I.fb I.vz (loI (I.D q))) (cor I.fc I.vx (loI (I.D q))) (cor I.fc I.vy (loI (I.D q))))
      fun r st' => r = ⟨cor I.fa I.vx (last4 (I.D q)), cor I.fa I.vy (last4 (I.D q)), cor I.fa I.vz (last4 (I.D q)),
          cor I.fb I.vx (last4 (I.D q)), cor I.fb I.vy (last4 (I.D q)), cor I.fb I.vz (last4 (I.D q)),
          cor I.fc I.vx (last4 (I.D q)), cor I.fc I.vy (last4 (I.D q)), cor I.fc I.vz (last4 (I.D q)), k0_pay98 lanes, 3#32⟩ ∧
        st' = { st with ox := lowCols t (I.nbr I.vx q) st.ox, oy := lowCols t (I.nbr I.vy q) st.oy, oz := lowCols t (I.nbr I.vz q) st.oz } := by
  unfold kp9 atTile
  rw [k0_part9_eq_skeleton]
  unfold k0_part9_skel
  dsimp (failIfUnchanged := false) only
  have i0 : k0_chk41 (broadcast S16 (Scf.iv 0#32 1#32 t)) (k0_pay85 lanes) := ⟨inside ht in_low0, inside ht in_low0, inside ht in_low0⟩
  have i1 : k0_chk42 (broadcast S16 (Scf.iv 0#32 1#32 t)) (k0_pay89 lanes) := ⟨inside ht in_low1, inside ht in_low1, inside ht in_low1⟩
  have i2 : k0_chk43 (broadcast S16 (Scf.iv 0#32 1#32 t)) (k0_pay93 lanes) := ⟨inside ht in_low2, inside ht in_low2, inside ht in_low2⟩
  have hl := lt4096_of (last4_lt (I.D q))
  have i3 : k0_chk44 (k0_pay97 (hiI (I.D q)) (k0_pay83 lanes)) := ⟨hl, hl, hl⟩
  have ia : k0_chk45 (face I.fa (last4 (I.D q))) := ⟨face_lt hI.fa _, face_lt hI.fa _, face_lt hI.fa _⟩
  have ib : k0_chk46 (face I.fb (last4 (I.D q))) := ⟨face_lt hI.fb _, face_lt hI.fb _, face_lt hI.fb _⟩
  have ic : k0_chk47 (face I.fc (last4 (I.D q))) := ⟨face_lt hI.fc _, face_lt hI.fc _, face_lt hI.fc _⟩
  refine Tri.verts (slotVz d i) (v := I.vz) h.vz ?_
  refine Tri.assume i0 ?_
  refine Tri.cols (slotOx d i) 0 0 16 (I.nbr I.vx q) ht (by omega) (by omega) ones_iff col_low0 (low0 _ _) ?_
  dsimp (failIfUnchanged := false) only
  refine Tri.cols (slotOy d i) 0 0 16 (I.nbr I.vy q) ht (by omega) (by omega) ones_iff col_low0 (low0 _ _) ?_
  dsimp (failIfUnchanged := false) only
  refine Tri.cols (slotOz d i) 0 0 16 (I.nbr I.vz q) ht (by omega) (by omega) ones_iff col_low0 (low0 _ _) ?_
  dsimp (failIfUnchanged := false) only
  refine Tri.assume i1 ?_
  refine Tri.cols (slotOx d i) 1 0 16 (I.nbr I.vx q) ht (by omega) (by omega) ones_iff col_low1 (low1 _ _) ?_
  dsimp (failIfUnchanged := false) only
  refine Tri.cols (slotOy d i) 1 0 16 (I.nbr I.vy q) ht (by omega) (by omega) ones_iff col_low1 (low1 _ _) ?_
  dsimp (failIfUnchanged := false) only
  refine Tri.cols (slotOz d i) 1 0 16 (I.nbr I.vz q) ht (by omega) (by omega) ones_iff col_low1 (low1 _ _) ?_
  dsimp (failIfUnchanged := false) only
  refine Tri.assume i2 ?_
  refine Tri.cols (slotOx d i) 2 0 16 (I.nbr I.vx q) ht (by omega) (by omega) ones_iff col_low2 (low2 _ _) ?_
  dsimp (failIfUnchanged := false) only
  refine Tri.cols (slotOy d i) 2 0 16 (I.nbr I.vy q) ht (by omega) (by omega) ones_iff col_low2 (low2 _ _) ?_
  dsimp (failIfUnchanged := false) only
  refine Tri.cols (slotOz d i) 2 0 16 (I.nbr I.vz q) ht (by omega) (by omega) ones_iff col_low2 (low2 _ _) ?_
  dsimp (failIfUnchanged := false) only
  refine Tri.assume i3 ?_
  replace h := h.withOut (lowCols t (I.nbr I.vx q) st.ox) (lowCols t (I.nbr I.vy q) st.oy) (lowCols t (I.nbr I.vz q) st.oz)
  refine Tri.faces (slotFa d i) (f := I.fa) h.fa ?_
  refine Tri.assume ia ?_
  refine Tri.faces (slotFb d i) (f := I.fb) h.fb ?_
  refine Tri.assume ib ?_
  refine Tri.faces (slotFc d i) (f := I.fc) h.fc ?_
  refine Tri.assume ic ?_
  refine Tri.verts (slotVx d i) (v := I.vx) h.vx ?_
  refine Tri.verts (slotVy d i) (v := I.vy) h.vy ?_
  refine Tri.verts (slotVz d i) (v := I.vz) h.vz ?_
  refine Tri.verts (slotVx d i) (v := I.vx) h.vx ?_
  refine Tri.verts (slotVy d i) (v := I.vy) h.vy ?_
  refine Tri.verts (slotVz d i) (v := I.vz) h.vz ?_
  refine Tri.verts (slotVx d i) (v := I.vx) h.vx ?_
  refine Tri.verts (slotVy d i) (v := I.vy) h.vy ?_
  refine Tri.verts (slotVz d i) (v := I.vz) h.vz ?_
  exact Tri.pure ⟨rfl, rfl⟩

/-- What the query loop keeps: the arrays, and the rows done so far. -/
structure Done (I : In F) (i : grid0.Coords) (n : ℕ) (st : St F) : Prop where
  fed : Fed I st
  ox : ∀ y : S128x60.Idx, (y 0).val < n → st.ox y = I.nbr I.vx (row i (y 0).val) (y 1).val
  oy : ∀ y : S128x60.Idx, (y 0).val < n → st.oy y = I.nbr I.vy (row i (y 0).val) (y 1).val
  oz : ∀ y : S128x60.Idx, (y 0).val < n → st.oz y = I.nbr I.vz (row i (y 0).val) (y 1).val

theorem putRow_done {α : Type} {f : S128x60.Idx → α} {g : ℕ → ℕ → α} {n : ℕ} (hf : ∀ y : S128x60.Idx, (y 0).val < n → f y = g (y 0).val (y 1).val) (y : S128x60.Idx)
    (hy : (y 0).val < n + 1) : putRow n (g n) f y = g (y 0).val (y 1).val := by
  unfold putRow
  by_cases h : (y 0).val = n
  · rw [if_pos h, h]
  · rw [if_neg h]
    exact hf y (by omega)

/-- One query. -/
theorem t1_body {st : St F} (hI : I.InRange) (v2 : BitVec 32) (t : Fin k0_t1_loop.trips) (a : Unit) (h : Done I i t.val st) :
    Tri d i st (kt1 i v2 lanes t a) fun _ st' => Done I i (t.val + 1) st' := by
  have ht : t.val < 128 := t.isLt
  unfold kt1 atTile k0_t1_body
  refine Tri.bind (part6 h.fed v2 t) ?_
  rintro _ _ ⟨rfl, ks, vs, rfl, hk, hv⟩
  refine Tri.bind (part7 (st := { st with dist := I.D (row i t.val), keys := ks, vals := vs }) rfl hk hv chk10) ?_
  rintro _ _ ⟨⟨hw, rfl⟩, f, ks, vs, rfl, hf⟩
  have h' := h.fed
  have hfed : Fed I { st with dist := I.D (row i t.val), cand := f, keys := ks, vals := vs } := ⟨h'.kx, h'.ky, h'.kz, h'.vx, h'.vy, h'.vz, h'.fa, h'.fb, h'.fc⟩
  refine Tri.bind (part8 hfed hI rfl hf hw _ _ _ _) ?_
  rintro _ _ ⟨⟨hw', rfl⟩, ks, vs, rfl⟩
  have hfed : Fed I { st with dist := I.D (row i t.val), cand := f, keys := ks, vals := vs } := ⟨h'.kx, h'.ky, h'.kz, h'.vx, h'.vy, h'.vz, h'.fa, h'.fb, h'.fc⟩
  refine Tri.bind (part9 hfed hI (row i t.val) t.val ht hw') ?_
  rintro _ _ ⟨rfl, rfl⟩
  dsimp (failIfUnchanged := false) only
  have i0 : k0_chk48 (broadcast S16 (Scf.iv 0#32 1#32 t.val)) (k0_pay100 (k0_pay83 lanes) (k0_pay98 lanes) 3#32) := ⟨inside ht in_high0, inside ht in_high0, inside ht in_high0⟩
  have i1 : k0_chk49 (broadcast S16 (Scf.iv 0#32 1#32 t.val)) (k0_pay104 (k0_pay83 lanes) (k0_pay98 lanes) 3#32) := ⟨inside ht in_high1, inside ht in_high1, inside ht in_high1⟩
  have i2 : k0_chk50 (broadcast S16 (Scf.iv 0#32 1#32 t.val)) (k0_pay108 (k0_pay83 lanes) (k0_pay98 lanes) 3#32) := ⟨inside ht in_high2, inside ht in_high2, inside ht in_high2⟩
  have g0 := fun v k hk => high_at (I := I) v (row i t.val) 0 k (by omega) hk (edge0 v)
  have g1 := fun v k hk => high_at (I := I) v (row i t.val) 1 k (by omega) hk (edge1 v)
  have g2 := fun v k hk => high_at (I := I) v (row i t.val) 2 k (by omega) hk (edge2 v)
  refine Tri.assume i0 ?_
  refine Tri.cols (slotOx d i) 0 16 4 (I.nbr I.vx (row i t.val)) ht (by omega) (by omega) first4 col_high0 (g0 _) ?_
  dsimp (failIfUnchanged := false) only
  refine Tri.cols (slotOy d i) 0 16 4 (I.nbr I.vy (row i t.val)) ht (by omega) (by omega) first4 col_high0 (g0 _) ?_
  dsimp (failIfUnchanged := false) only
  refine Tri.cols (slotOz d i) 0 16 4 (I.nbr I.vz (row i t.val)) ht (by omega) (by omega) first4 col_high0 (g0 _) ?_
  dsimp (failIfUnchanged := false) only
  refine Tri.assume i1 ?_
  refine Tri.cols (slotOx d i) 1 16 4 (I.nbr I.vx (row i t.val)) ht (by omega) (by omega) first4 col_high1 (g1 _) ?_
  dsimp (failIfUnchanged := false) only
  refine Tri.cols (slotOy d i) 1 16 4 (I.nbr I.vy (row i t.val)) ht (by omega) (by omega) first4 col_high1 (g1 _) ?_
  dsimp (failIfUnchanged := false) only
  refine Tri.cols (slotOz d i) 1 16 4 (I.nbr I.vz (row i t.val)) ht (by omega) (by omega) first4 col_high1 (g1 _) ?_
  dsimp (failIfUnchanged := false) only
  refine Tri.assume i2 ?_
  refine Tri.cols (slotOx d i) 2 16 4 (I.nbr I.vx (row i t.val)) ht (by omega) (by omega) first4 col_high2 (g2 _) ?_
  dsimp (failIfUnchanged := false) only
  refine Tri.cols (slotOy d i) 2 16 4 (I.nbr I.vy (row i t.val)) ht (by omega) (by omega) first4 col_high2 (g2 _) ?_
  dsimp (failIfUnchanged := false) only
  refine Tri.cols (slotOz d i) 2 16 4 (I.nbr I.vz (row i t.val)) ht (by omega) (by omega) first4 col_high2 (g2 _) ?_
  dsimp (failIfUnchanged := false) only
  refine Tri.pure ⟨⟨h'.kx, h'.ky, h'.kz, h'.vx, h'.vy, h'.vz, h'.fa, h'.fb, h'.fc⟩, ?_, ?_, ?_⟩
  · intro y hy
    exact (congrFun (putCols_all t.val (I.nbr I.vx (row i t.val)) st.ox) y).trans (putRow_done (g := fun r m => I.nbr I.vx (row i r) m) h.ox y hy)
  · intro y hy
    exact (congrFun (putCols_all t.val (I.nbr I.vy (row i t.val)) st.oy) y).trans (putRow_done (g := fun r m => I.nbr I.vy (row i r) m) h.oy y hy)
  · intro y hy
    exact (congrFun (putCols_all t.val (I.nbr I.vz (row i t.val)) st.oz) y).trans (putRow_done (g := fun r m => I.nbr I.vz (row i r) m) h.oz y hy)

end Query

end Cert.Proof.Knn

end
-- ==== Proof.Tile.lean ====
/-
  One vector subcore's task: fill its scratch buffers from the nine arrays it reads, answer its hundred and
  twenty-eight queries, and write its rows of the three results.
-/
module

public import proofs.«01_k».proof.Proof.Copy
public import proofs.«01_k».proof.Proof.Query

@[expose] public section

noncomputable section

namespace Cert.Proof.Knn

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Tile

/-! ## The arrays as the vector subcores name them -/

abbrev aCx : Memref sig .scVector .hbm S4096 .f32 := Memref.whole main_v11_scv
abbrev aCy : Memref sig .scVector .hbm S4096 .f32 := Memref.whole main_v13_scv
abbrev aCz : Memref sig .scVector .hbm S4096 .f32 := Memref.whole main_v15_scv
abbrev aVx : Memref sig .scVector .hbm S10000 .f32 := Memref.whole main_v17_scv
abbrev aVy : Memref sig .scVector .hbm S10000 .f32 := Memref.whole main_v19_scv
abbrev aVz : Memref sig .scVector .hbm S10000 .f32 := Memref.whole main_v21_scv
abbrev aFa : Memref sig .scVector .hbm S4096 .i32 := Memref.whole main_v23_scv
abbrev aFb : Memref sig .scVector .hbm S4096 .i32 := Memref.whole main_v25_scv
abbrev aFc : Memref sig .scVector .hbm S4096 .i32 := Memref.whole main_v27_scv
abbrev aX : Memref sig .scVector .hbm S4096x60 .f32 := Memref.whole main_v28_0_scv
abbrev aY : Memref sig .scVector .hbm S4096x60 .f32 := Memref.whole main_v28_1_scv
abbrev aZ : Memref sig .scVector .hbm S4096x60 .f32 := Memref.whole main_v28_2_scv

variable (d : Dev nD) (i : grid0.Coords)

/-- Where the subcore's rows of the results are. -/
abbrev rBlk : Rect S4096x60 := Rect.unit (s := S4096x60) (k0_off8 i) S128x60.size (k0_off8_inb i)
abbrev oX : Memref sig .scVector .hbm S128x60 .f32 := aX.slice (rBlk i) (fun _ => rfl)
abbrev oY : Memref sig .scVector .hbm S128x60 .f32 := aY.slice (rBlk i) (fun _ => rfl)
abbrev oZ : Memref sig .scVector .hbm S128x60 .f32 := aZ.slice (rBlk i) (fun _ => rfl)

/-- The nine arrays a subcore reads, at share `q`. -/
def Reads (q : PosShare TreeShare) (I : In F) : sProp 𝕄 :=
  iprop((aCx.view.loc (th d i) ↦[aCx.view.set]{q} I.cx)
    ∗ (aCy.view.loc (th d i) ↦[aCy.view.set]{q} I.cy)
    ∗ (aCz.view.loc (th d i) ↦[aCz.view.set]{q} I.cz)
    ∗ (aVx.view.loc (th d i) ↦[aVx.view.set]{q} I.vx)
    ∗ (aVy.view.loc (th d i) ↦[aVy.view.set]{q} I.vy)
    ∗ (aVz.view.loc (th d i) ↦[aVz.view.set]{q} I.vz)
    ∗ (aFa.view.loc (th d i) ↦[aFa.view.set]{q} I.fa)
    ∗ (aFb.view.loc (th d i) ↦[aFb.view.set]{q} I.fb)
    ∗ (aFc.view.loc (th d i) ↦[aFc.view.set]{q} I.fc))

/-- The subcore's rows of the three results, at some contents. -/
def Blank : sProp 𝕄 :=
  iprop((∃ f, (oX i).view.loc (th d i) ↦[(oX i).view.set]{fullShare} f)
    ∗ (∃ f, (oY i).view.loc (th d i) ↦[(oY i).view.set]{fullShare} f)
    ∗ (∃ f, (oZ i).view.loc (th d i) ↦[(oZ i).view.set]{fullShare} f))

/-- The subcore's rows of the three results, at the corners of the neighbours' edges. -/
def Filled (I : In F) : sProp 𝕄 :=
  iprop((∃ f, ⌜(oX i).view.read (Elt F) f = fun y => I.nbr I.vx (row i (y 0).val) (y 1).val⌝ ∗ ((oX i).view.loc (th d i) ↦[(oX i).view.set]{fullShare} f))
    ∗ (∃ f, ⌜(oY i).view.read (Elt F) f = fun y => I.nbr I.vy (row i (y 0).val) (y 1).val⌝ ∗ ((oY i).view.loc (th d i) ↦[(oY i).view.set]{fullShare} f))
    ∗ (∃ f, ⌜(oZ i).view.read (Elt F) f = fun y => I.nbr I.vz (row i (y 0).val) (y 1).val⌝ ∗ ((oZ i).view.loc (th d i) ↦[(oZ i).view.set]{fullShare} f)))

abbrev sem0 (s : DmaSems sig S_) : sProp 𝕄 := semVal (th d i, SemLoc.dma s.sem) 0

/-- The semaphores of the twelve copies, at rest. -/
def Cells : sProp 𝕄 :=
  iprop(sem0 (F := F) d i cc0_scoped0 ∗ sem0 (F := F) d i cc0_scoped1 ∗ sem0 (F := F) d i cc0_scoped2 ∗ sem0 (F := F) d i cc0_scoped3 ∗ sem0 (F := F) d i cc0_scoped4 ∗ sem0 (F := F) d i cc0_scoped5 ∗ sem0 (F := F) d i cc0_scoped6 ∗ sem0 (F := F) d i cc0_scoped7 ∗ sem0 (F := F) d i cc0_scoped8 ∗ sem0 (F := F) d i cc0_scoped9 ∗ sem0 (F := F) d i cc0_scoped10 ∗ sem0 (F := F) d i cc0_scoped11)

/-- What a copy into the first 4096 of 4112 elements leaves there. -/
theorem part_at {g : S4112.Idx → F .f32} {f : S4096.Idx → F .f32}
    (h : ∀ x, g ((Rect.unit (s := S4112) ![0] S4096.size inb_S4112_S4096_0).emb x) = f x) {j : ℕ} (hj : j < 4096) :
    g (ix 4112 j) = f (ix 4096 j) := by
  rw [← h (ix 4096 j)]
  congr 1
  funext a
  have ha : a = 0 := Subsingleton.elim _ _
  subst ha
  apply Fin.ext
  rw [ix_val, Rect.emb_apply]
  show j % 4112 = 0 + 1 * (ix 4096 j (0 : Fin 1)).val
  rw [ix_val, Nat.mod_eq_of_lt hj, Nat.mod_eq_of_lt (by omega)]
  omega

/-- The hundred and twenty-eight queries. -/
theorem queries {d : Dev nD} {i : grid0.Coords} {I : In F} {st : St F} (hI : I.InRange) (h : Done I i 0 st) {v2 : BitVec 32} :
    Tri d i st (Scf.Loop.for k0_t1_loop k0_t1_ok ⟨⟩ (kt1 i v2 lanes) >>= fun _ => (Pure.pure ⟨⟩ : VP F i PUnit)) fun _ st' => Done I i 128 st' :=
  Tri.loop k0_t1_loop k0_t1_ok (fun n _ st' => Done I i n st') h (fun t a st' h => t1_body hI v2 t a h) fun _ st' h => Tri.pure (show Done I i 128 st' from h)

/-- The queries, from buffers just filled. -/
theorem answer {d : Dev nD} {i : grid0.Coords} {I : In F} (hI : I.InRange) (st : St F) {g0 g1 g2 : S4112.Idx → F .f32}
    (hg0 : ∀ x, g0 ((Rect.unit (s := S4112) ![0] S4096.size inb_S4112_S4096_0).emb x) = I.cx x)
    (hg1 : ∀ x, g1 ((Rect.unit (s := S4112) ![0] S4096.size inb_S4112_S4096_0).emb x) = I.cy x)
    (hg2 : ∀ x, g2 ((Rect.unit (s := S4112) ![0] S4096.size inb_S4112_S4096_0).emb x) = I.cz x) :
    Tri d i (⟨g0, g1, g2, st.dist, st.cand, I.vx, I.vy, I.vz, I.fa, I.fb, I.fc, st.ox, st.oy, st.oz, st.keys, st.vals⟩ : St F)
      (Scf.Loop.for k0_t1_loop k0_t1_ok ⟨⟩ (kt1 i (Scalar.muli (Scalar.addi (Scalar.muli (BitVec.ofNat 32 (i 1).val) 2#32) (BitVec.ofNat 32 (i 0).val)) 128#32) lanes) >>= fun _ => (Pure.pure ⟨⟩ : VP F i PUnit))
      fun _ st' => Done I i 128 st' := by
  refine queries hI ⟨⟨?_, ?_, ?_, rfl, rfl, rfl, rfl, rfl, rfl⟩, ?_, ?_, ?_⟩
  · exact fun j hj => part_at hg0 hj
  · exact fun j hj => part_at hg1 hj
  · exact fun j hj => part_at hg2 hj
  · exact fun y hy => absurd hy (Nat.not_lt_zero _)
  · exact fun y hy => absurd hy (Nat.not_lt_zero _)
  · exact fun y hy => absurd hy (Nat.not_lt_zero _)

/-- Filling the scratch buffers, then the queries. -/
theorem run_fill (I : In F) (hI : I.InRange) (q : PosShare TreeShare) (O : CellTallies nD τ sig (HIx 1)) (st : St F) :
    iprop(Transfers.MayWaits (th d i) (none : HIx 1) O ∗ Reads d i q I ∗ Hold d i st ∗ Cells (F := F) d i ∗ Owing (F := F) d i O)
      ⊢ wp frame (wpE (defs₀ (F := F)) 𝒱₀ (th d i) none) Set.univ (kp10 (F := F) i)
          fun _ => iprop(Reads d i q I ∗ (∃ st, ⌜Done I i 128 st⌝ ∗ Hold d i st) ∗ Cells (F := F) d i ∗ Owing (F := F) d i O) := by
  unfold kp10 atTile
  rw [k0_part10_eq_skeleton]
  unfold k0_part10_skel
  dsimp only
  unfold Reads Hold Cells sem0
  iintro ⟨#Hmw, ⟨RCx, RCy, RCz, RVx, RVy, RVz, RFa, RFb, RFc⟩, ⟨Hkx, Hky, Hkz, Hd, Hc, Hvx, Hvy, Hvz, Hfa, Hfb, Hfc, Hox, Hoy, Hoz, Hk, Hv⟩, ⟨S0, S1, S2, S3, S4, S5, S6, S7, S8, S9, S10, S11⟩, HO⟩
  have hn : 0 < S4096.numel := by decide
  have hn' : 0 < S10000.numel := by decide
  iapply (copyPart d i (src := aCx) (dst := mKx) (r := Rect.unit (s := S4112) ![0] S4096.size inb_S4112_S4096_0) (sem := cc0_scoped0.sem) hn) $$ [RCx Hkx S0 HO]
  · isplitr
    · iexact Hmw
    isplitl [RCx]; · iexact RCx
    isplitl [Hkx]; · iexact Hkx
    isplitl [S0]; · iexact S0
    iexact HO
  iintro ⟨RCx, ⟨%g0, %hg0, Hkx⟩, S0, HO⟩
  iapply (copyPart d i (src := aCy) (dst := mKy) (r := Rect.unit (s := S4112) ![0] S4096.size inb_S4112_S4096_0) (sem := cc0_scoped1.sem) hn) $$ [RCy Hky S1 HO]
  · isplitr
    · iexact Hmw
    isplitl [RCy]; · iexact RCy
    isplitl [Hky]; · iexact Hky
    isplitl [S1]; · iexact S1
    iexact HO
  iintro ⟨RCy, ⟨%g1, %hg1, Hky⟩, S1, HO⟩
  iapply (copyPart d i (src := aCz) (dst := mKz) (r := Rect.unit (s := S4112) ![0] S4096.size inb_S4112_S4096_0) (sem := cc0_scoped2.sem) hn) $$ [RCz Hkz S2 HO]
  · isplitr
    · iexact Hmw
    isplitl [RCz]; · iexact RCz
    isplitl [Hkz]; · iexact Hkz
    isplitl [S2]; · iexact S2
    iexact HO
  iintro ⟨RCz, ⟨%g2, %hg2, Hkz⟩, S2, HO⟩
  iapply (copyIn d i (src := aVx) (dst := mVx) (sem := cc0_scoped3.sem) hn') $$ [RVx Hvx S3 HO]
  · isplitr
    · iexact Hmw
    isplitl [RVx]; · iexact RVx
    isplitl [Hvx]; · iexact Hvx
    isplitl [S3]; · iexact S3
    iexact HO
  iintro ⟨RVx, Hvx, S3, HO⟩
  iapply (copyIn d i (src := aVy) (dst := mVy) (sem := cc0_scoped4.sem) hn') $$ [RVy Hvy S4 HO]
  · isplitr
    · iexact Hmw
    isplitl [RVy]; · iexact RVy
    isplitl [Hvy]; · iexact Hvy
    isplitl [S4]; · iexact S4
    iexact HO
  iintro ⟨RVy, Hvy, S4, HO⟩
  iapply (copyIn d i (src := aVz) (dst := mVz) (sem := cc0_scoped5.sem) hn') $$ [RVz Hvz S5 HO]
  · isplitr
    · iexact Hmw
    isplitl [RVz]; · iexact RVz
    isplitl [Hvz]; · iexact Hvz
    isplitl [S5]; · iexact S5
    iexact HO
  iintro ⟨RVz, Hvz, S5, HO⟩
  iapply (copyIn d i (src := aFa) (dst := mFa) (sem := cc0_scoped6.sem) hn) $$ [RFa Hfa S6 HO]
  · isplitr
    · iexact Hmw
    isplitl [RFa]; · iexact RFa
    isplitl [Hfa]; · iexact Hfa
    isplitl [S6]; · iexact S6
    iexact HO
  iintro ⟨RFa, Hfa, S6, HO⟩
  iapply (copyIn d i (src := aFb) (dst := mFb) (sem := cc0_scoped7.sem) hn) $$ [RFb Hfb S7 HO]
  · isplitr
    · iexact Hmw
    isplitl [RFb]; · iexact RFb
    isplitl [Hfb]; · iexact Hfb
    isplitl [S7]; · iexact S7
    iexact HO
  iintro ⟨RFb, Hfb, S7, HO⟩
  iapply (copyIn d i (src := aFc) (dst := mFc) (sem := cc0_scoped8.sem) hn) $$ [RFc Hfc S8 HO]
  · isplitr
    · iexact Hmw
    isplitl [RFc]; · iexact RFc
    isplitl [Hfc]; · iexact Hfc
    isplitl [S8]; · iexact S8
    iexact HO
  iintro ⟨RFc, Hfc, S8, HO⟩
  have hl := answer (d := d) (i := i) hI st hg0 hg1 hg2
  unfold Tri Hold at hl
  iapply (wp_wand_r Idealize.ShloMosaic.frame (wpE (defs₀ (F := F)) 𝒱₀ (th d i) none) Set.univ)
  isplitl [Hkx Hky Hkz Hd Hc Hvx Hvy Hvz Hfa Hfb Hfc Hox Hoy Hoz Hk Hv]
  · iapply hl
    isplitl [Hkx]; · iexact Hkx
    isplitl [Hky]; · iexact Hky
    isplitl [Hkz]; · iexact Hkz
    isplitl [Hd]; · iexact Hd
    isplitl [Hc]; · iexact Hc
    isplitl [Hvx]; · iexact Hvx
    isplitl [Hvy]; · iexact Hvy
    isplitl [Hvz]; · iexact Hvz
    isplitl [Hfa]; · iexact Hfa
    isplitl [Hfb]; · iexact Hfb
    isplitl [Hfc]; · iexact Hfc
    isplitl [Hox]; · iexact Hox
    isplitl [Hoy]; · iexact Hoy
    isplitl [Hoz]; · iexact Hoz
    isplitl [Hk]; · iexact Hk
    iexact Hv
  iintro %_ ⟨%st', %hd, H⟩
  isplitl [RCx RCy RCz RVx RVy RVz RFa RFb RFc]
  · isplitl [RCx]; · iexact RCx
    isplitl [RCy]; · iexact RCy
    isplitl [RCz]; · iexact RCz
    isplitl [RVx]; · iexact RVx
    isplitl [RVy]; · iexact RVy
    isplitl [RVz]; · iexact RVz
    isplitl [RFa]; · iexact RFa
    isplitl [RFb]; · iexact RFb
    iexact RFc
  isplitl [H]
  · iexists st'
    isplitr [H]
    · ipureintro; exact hd
    · iexact H
  isplitr [HO]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact S11
  iexact HO

end Tile

end Cert.Proof.Knn

end
-- ==== Proof.Put.lean ====
/-
  The whole task of one vector subcore, the copies of its rows back to the three results included.
-/
module

public import proofs.«01_k».proof.Proof.Tile

@[expose] public section

noncomputable section

namespace Cert.Proof.Knn

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Put

variable (d : Dev nD) (i : grid0.Coords)

/-- The whole task of one vector subcore. -/
theorem run_tile (I : In F) (hI : I.InRange) (q : PosShare TreeShare) (O : CellTallies nD τ sig (HIx 1)) (st : St F) :
    iprop(Transfers.MayWaits (th d i) (none : HIx 1) O ∗ Reads d i q I ∗ Blank (F := F) d i ∗ Hold d i st ∗ Cells (F := F) d i ∗ Owing (F := F) d i O)
      ⊢ wp frame (wpE (defs₀ (F := F)) 𝒱₀ (th d i) none) Set.univ (atTile (cc0_knn (F := F) i))
          fun _ => iprop(Reads d i q I ∗ Filled d i I ∗ (∃ st, Hold d i st) ∗ Cells (F := F) d i ∗ Owing (F := F) d i O) := by
  have hn : 0 < S128x60.numel := by decide
  unfold atTile
  rw [cc0_knn_eq_skeleton]
  unfold cc0_knn_skel
  dsimp only
  rw [wp_bind]
  unfold Blank
  iintro ⟨#Hmw, HR, ⟨⟨%f0, OX⟩, ⟨%f1, OY⟩, ⟨%f2, OZ⟩⟩, HH, HC, HO⟩
  iapply (wp_wand_r Idealize.ShloMosaic.frame (wpE (defs₀ (F := F)) 𝒱₀ (th d i) none) Set.univ)
  isplitl [HR HH HC HO]
  · have hr := run_fill d i I hI q O st
    unfold kp10 atTile at hr
    iapply hr
    isplitr
    · iexact Hmw
    isplitl [HR]; · iexact HR
    isplitl [HH]; · iexact HH
    isplitl [HC]; · iexact HC
    iexact HO
  iintro %_ ⟨HR, ⟨%st', %hd, HH⟩, HC, HO⟩
  unfold Hold Cells sem0
  icases HH with ⟨Hkx, Hky, Hkz, Hd, Hc, Hvx, Hvy, Hvz, Hfa, Hfb, Hfc, Hox, Hoy, Hoz, Hk, Hv⟩
  icases HC with ⟨S0, S1, S2, S3, S4, S5, S6, S7, S8, S9, S10, S11⟩
  iapply (copyOut d i (src := mOx) (dst := oX i) (sem := cc0_scoped9.sem) hn) $$ [Hox OX S9 HO]
  · isplitr
    · iexact Hmw
    isplitl [Hox]; · iexact Hox
    isplitl [OX]; · iexact OX
    isplitl [S9]; · iexact S9
    iexact HO
  iintro ⟨Hox, ⟨%fOX, %hOX, OX⟩, S9, HO⟩
  iapply (copyOut d i (src := mOy) (dst := oY i) (sem := cc0_scoped10.sem) hn) $$ [Hoy OY S10 HO]
  · isplitr
    · iexact Hmw
    isplitl [Hoy]; · iexact Hoy
    isplitl [OY]; · iexact OY
    isplitl [S10]; · iexact S10
    iexact HO
  iintro ⟨Hoy, ⟨%fOY, %hOY, OY⟩, S10, HO⟩
  iapply (copyOut d i (src := mOz) (dst := oZ i) (sem := cc0_scoped11.sem) hn) $$ [Hoz OZ S11 HO]
  · isplitr
    · iexact Hmw
    isplitl [Hoz]; · iexact Hoz
    isplitl [OZ]; · iexact OZ
    isplitl [S11]; · iexact S11
    iexact HO
  iintro ⟨Hoz, ⟨%fOZ, %hOZ, OZ⟩, S11, HO⟩
  rw [wp_pure]
  imodintro
  isplitl [HR]; · iexact HR
  isplitl [OX OY OZ]
  · unfold Filled
    isplitl [OX]
    · iexists fOX
      isplitr [OX]
      · ipureintro; rw [hOX]; funext y; exact hd.ox y (y 0).isLt
      · iexact OX
    isplitl [OY]
    · iexists fOY
      isplitr [OY]
      · ipureintro; rw [hOY]; funext y; exact hd.oy y (y 0).isLt
      · iexact OY
    · iexists fOZ
      isplitr [OZ]
      · ipureintro; rw [hOZ]; funext y; exact hd.oz y (y 0).isLt
      · iexact OZ
  isplitl [Hkx Hky Hkz Hd Hc Hvx Hvy Hvz Hfa Hfb Hfc Hox Hoy Hoz Hk Hv]
  · iexists st'
    isplitl [Hkx]; · iexact Hkx
    isplitl [Hky]; · iexact Hky
    isplitl [Hkz]; · iexact Hkz
    isplitl [Hd]; · iexact Hd
    isplitl [Hc]; · iexact Hc
    isplitl [Hvx]; · iexact Hvx
    isplitl [Hvy]; · iexact Hvy
    isplitl [Hvz]; · iexact Hvz
    isplitl [Hfa]; · iexact Hfa
    isplitl [Hfb]; · iexact Hfb
    isplitl [Hfc]; · iexact Hfc
    isplitl [Hox]; · iexact Hox
    isplitl [Hoy]; · iexact Hoy
    isplitl [Hoz]; · iexact Hoz
    isplitl [Hk]; · iexact Hk
    iexact Hv
  isplitr [HO]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact S11
  iexact HO

end Put

end Cert.Proof.Knn

end
-- ==== Proof.Scratch.lean ====
/-
  A vector subcore's own buffers and semaphores: the sixteen scratch buffers and the twelve semaphores the task uses, and the rest.
-/
module

public import proofs.«01_k».proof.Proof.Put
public import Idealize.ShloMosaic.Lib.SparseCore.Quiescent

@[expose] public section

noncomputable section

namespace Cert.Proof.Knn

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Bufs

variable (d : Dev nD) (i : grid0.Coords)

/-- The scratch buffers and the copies' semaphores in the order of their use. -/
def scr : Fin 16 → Ref sig .scVector := ![cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15]
def cel : Fin 12 → SemLoc sig := ![.dma cc0_scoped0.sem, .dma cc0_scoped1.sem, .dma cc0_scoped2.sem, .dma cc0_scoped3.sem, .dma cc0_scoped4.sem, .dma cc0_scoped5.sem, .dma cc0_scoped6.sem, .dma cc0_scoped7.sem, .dma cc0_scoped8.sem, .dma cc0_scoped9.sem, .dma cc0_scoped10.sem, .dma cc0_scoped11.sem]

theorem scr_inj : Function.Injective scr := by decide +kernel
theorem cel_inj : Function.Injective cel := by decide +kernel
theorem cel_scoped : ∀ k, (cel k).isScoped .scVector = true := by decide +kernel

abbrev pr : Proc τ := .scVector ((i 0).castLE hcore0) ((i 1).castLE hsub0)
abbrev scrSet : Finset (DevRef τ sig) := Finset.univ.image fun k => (pr i).devRef (scr k)
abbrev celSet : Finset (GSem nD τ sig) := Finset.univ.image fun k => (th d i, cel k)

theorem scr_owner (k : Fin 16) : ((pr i).devRef (scr k)).owner = .proc (pr i) := by
  revert k
  simp only [Fin.forall_fin_succ]
  exact ⟨rfl, rfl, rfl, rfl, rfl, rfl, rfl, rfl, rfl, rfl, rfl, rfl, rfl, rfl, rfl, rfl, fun k => k.elim0⟩

theorem scr_own : scrSet i ⊆ ownRefs (τ := τ) (pr i) := by
  intro b hb
  obtain ⟨k, -, rfl⟩ := Finset.mem_image.mp hb
  exact SparseCore.Cfg.mem_ownRefs_of_owner (scr_owner i k)

theorem cel_own : celSet d i ⊆ ownCells (th d i) := by
  intro g hg
  obtain ⟨k, -, rfl⟩ := Finset.mem_image.mp hg
  exact mem_ownCells.mpr ⟨rfl, cel_scoped k⟩

/-- The subcore's own buffers, the sixteen scratch buffers apart. -/
theorem ownBufs_apart :
    (ownBufs (th d i) : sProp 𝕄) = iprop((bigSep Finset.univ fun k : Fin 16 => iprop(∃ f, (th d i).loc (scr k) ↦{fullShare} f))
      ∗ bigSep (ownRefs (τ := τ) (pr i) \ scrSet i) fun b => iprop(∃ f, ((d, b) : Loc nD τ sig) ↦{fullShare} f)) := by
  unfold SparseCore.Cfg.ownBufs
  rw [bigSep_sdiff_split (scr_own i), SparseCore.bigSep_image_of_injOn (f := fun k => (pr i).devRef (scr k)) (s := Finset.univ)
    (fun a _ b _ e => scr_inj (Proc.devRef_injective _ e)) (fun b => iprop(∃ f, ((d, b) : Loc nD τ sig) ↦{fullShare} f))]
  rfl

/-- The subcore's own semaphores, the twelve of the copies apart. -/
theorem ownSems_apart :
    (ownSems0 (th d i) : sProp 𝕄) = iprop((bigSep Finset.univ fun k : Fin 12 => semVal (th d i, cel k) 0)
      ∗ bigSep (ownCells (th d i) \ celSet d i) fun g => semVal g 0) := by
  unfold SparseCore.Cfg.ownSems0
  rw [bigSep_sdiff_split (cel_own d i), SparseCore.bigSep_image_of_injOn (f := fun k => (th d i, cel k)) (s := Finset.univ)
    (fun a _ b _ e => cel_inj (Prod.mk.inj e).2) (fun g => semVal g 0)]
  rfl

theorem bigSep_first {n : ℕ} (Φ : Fin (n + 1) → sProp 𝕄) :
    bigSep Finset.univ Φ = iprop(Φ 0 ∗ bigSep Finset.univ fun k : Fin n => Φ k.succ) := by
  rw [Fin.univ_succ, Finset.cons_eq_insert, BI.bigSep_insert (by simp), BI.bigSep_map]
  rfl

theorem cells_eq : (bigSep Finset.univ fun k : Fin 12 => (semVal (th d i, cel k) 0 : sProp 𝕄)) = Cells (F := F) d i := by
  unfold Cells
  simp only [bigSep_first, bigSep_univ_of_subsingleton (0 : Fin 1)]
  rfl

/-- The scratch buffers at some contents, as the task holds them. -/
theorem bufs_hold : (bigSep Finset.univ fun k : Fin 16 => (iprop(∃ f, (th d i).loc (scr k) ↦{fullShare} f) : sProp 𝕄)) ⊢ iprop(∃ st, Hold (F := F) d i st) := by
  simp only [bigSep_first, bigSep_univ_of_subsingleton (0 : Fin 1)]
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩⟩
  iexists (⟨((mKx : Memref sig .scVector .vmem _ _).view.read (Elt F) f0), ((mKy : Memref sig .scVector .vmem _ _).view.read (Elt F) f1), ((mKz : Memref sig .scVector .vmem _ _).view.read (Elt F) f2), ((mDist : Memref sig .scVector .vmem _ _).view.read (Elt F) f3), ((mCand : Memref sig .scVector .vmem _ _).view.read (Elt F) f4), ((mVx : Memref sig .scVector .vmem _ _).view.read (Elt F) f5), ((mVy : Memref sig .scVector .vmem _ _).view.read (Elt F) f6), ((mVz : Memref sig .scVector .vmem _ _).view.read (Elt F) f7), ((mFa : Memref sig .scVector .vmem _ _).view.read (Elt F) f8), ((mFb : Memref sig .scVector .vmem _ _).view.read (Elt F) f9), ((mFc : Memref sig .scVector .vmem _ _).view.read (Elt F) f10), ((mOx : Memref sig .scVector .vmem _ _).view.read (Elt F) f11), ((mOy : Memref sig .scVector .vmem _ _).view.read (Elt F) f12), ((mOz : Memref sig .scVector .vmem _ _).view.read (Elt F) f13), ((mKeys : Memref sig .scVector .vmem _ _).view.read (Elt F) f14), ((mVals : Memref sig .scVector .vmem _ _).view.read (Elt F) f15)⟩ : St F)
  unfold Hold Own
  isplitl [H0]
  · iexists f0
    isplitr [H0]
    · ipureintro; rfl
    · simp only [Memref.view_whole, View.set_whole]; iexact H0
  isplitl [H1]
  · iexists f1
    isplitr [H1]
    · ipureintro; rfl
    · simp only [Memref.view_whole, View.set_whole]; iexact H1
  isplitl [H2]
  · iexists f2
    isplitr [H2]
    · ipureintro; rfl
    · simp only [Memref.view_whole, View.set_whole]; iexact H2
  isplitl [H3]
  · iexists f3
    isplitr [H3]
    · ipureintro; rfl
    · simp only [Memref.view_whole, View.set_whole]; iexact H3
  isplitl [H4]
  · iexists f4
    isplitr [H4]
    · ipureintro; rfl
    · simp only [Memref.view_whole, View.set_whole]; iexact H4
  isplitl [H5]
  · iexists f5
    isplitr [H5]
    · ipureintro; rfl
    · simp only [Memref.view_whole, View.set_whole]; iexact H5
  isplitl [H6]
  · iexists f6
    isplitr [H6]
    · ipureintro; rfl
    · simp only [Memref.view_whole, View.set_whole]; iexact H6
  isplitl [H7]
  · iexists f7
    isplitr [H7]
    · ipureintro; rfl
    · simp only [Memref.view_whole, View.set_whole]; iexact H7
  isplitl [H8]
  · iexists f8
    isplitr [H8]
    · ipureintro; rfl
    · simp only [Memref.view_whole, View.set_whole]; iexact H8
  isplitl [H9]
  · iexists f9
    isplitr [H9]
    · ipureintro; rfl
    · simp only [Memref.view_whole, View.set_whole]; iexact H9
  isplitl [H10]
  · iexists f10
    isplitr [H10]
    · ipureintro; rfl
    · simp only [Memref.view_whole, View.set_whole]; iexact H10
  isplitl [H11]
  · iexists f11
    isplitr [H11]
    · ipureintro; rfl
    · simp only [Memref.view_whole, View.set_whole]; iexact H11
  isplitl [H12]
  · iexists f12
    isplitr [H12]
    · ipureintro; rfl
    · simp only [Memref.view_whole, View.set_whole]; iexact H12
  isplitl [H13]
  · iexists f13
    isplitr [H13]
    · ipureintro; rfl
    · simp only [Memref.view_whole, View.set_whole]; iexact H13
  isplitl [H14]
  · iexists f14
    isplitr [H14]
    · ipureintro; rfl
    · simp only [Memref.view_whole, View.set_whole]; iexact H14
  skip
  · iexists f15
    isplitr [H15]
    · ipureintro; rfl
    · simp only [Memref.view_whole, View.set_whole]; iexact H15

theorem own_back {s : Shape} {e : EltTy} (M : Memref sig .scVector .vmem s e) (hM : M.view.set = Finset.univ) (f : s.Idx → Elt F e) :
    Own (th d i) M f ⊢ (iprop(∃ g, (M.view.loc (th d i)) ↦{fullShare} g) : sProp 𝕄) := by
  unfold Own
  rw [hM]
  iintro ⟨%g, -, H⟩
  iexists g
  iexact H

theorem hold_bufs (st : St F) : Hold (F := F) d i st ⊢ (bigSep Finset.univ fun k : Fin 16 => (iprop(∃ f, (th d i).loc (scr k) ↦{fullShare} f) : sProp 𝕄)) := by
  simp only [bigSep_first, bigSep_univ_of_subsingleton (0 : Fin 1)]
  unfold Hold
  iintro ⟨H0, H1, H2, H3, H4, H5, H6, H7, H8, H9, H10, H11, H12, H13, H14, H15⟩
  isplitl [H0]
  · iapply (own_back d i mKx (View.set_whole _) _); iexact H0
  isplitl [H1]
  · iapply (own_back d i mKy (View.set_whole _) _); iexact H1
  isplitl [H2]
  · iapply (own_back d i mKz (View.set_whole _) _); iexact H2
  isplitl [H3]
  · iapply (own_back d i mDist (View.set_whole _) _); iexact H3
  isplitl [H4]
  · iapply (own_back d i mCand (View.set_whole _) _); iexact H4
  isplitl [H5]
  · iapply (own_back d i mVx (View.set_whole _) _); iexact H5
  isplitl [H6]
  · iapply (own_back d i mVy (View.set_whole _) _); iexact H6
  isplitl [H7]
  · iapply (own_back d i mVz (View.set_whole _) _); iexact H7
  isplitl [H8]
  · iapply (own_back d i mFa (View.set_whole _) _); iexact H8
  isplitl [H9]
  · iapply (own_back d i mFb (View.set_whole _) _); iexact H9
  isplitl [H10]
  · iapply (own_back d i mFc (View.set_whole _) _); iexact H10
  isplitl [H11]
  · iapply (own_back d i mOx (View.set_whole _) _); iexact H11
  isplitl [H12]
  · iapply (own_back d i mOy (View.set_whole _) _); iexact H12
  isplitl [H13]
  · iapply (own_back d i mOz (View.set_whole _) _); iexact H13
  isplitl [H14]
  · iapply (own_back d i mKeys (View.set_whole _) _); iexact H14
  skip
  · iapply (own_back d i mVals (View.set_whole _) _); iexact H15

end Bufs

end Cert.Proof.Knn

end
-- ==== Proof.Launch.lean ====
/-
  The SparseCore call as the launch sees it: what each vector subcore is handed and hands back, its task's proof, and the launch's set-up.
-/
module

public import proofs.«01_k».proof.Proof.Scratch
public import Idealize.ShloMosaic.Lib.SparseCore.Quiescent
public import proofs.«01_k».proof.Proof.Gen.KernelIdeal.Launch

@[expose] public section

noncomputable section

namespace Cert.Proof.Knn

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Launch

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev D : Defs nD τ sig (Elt F) (ΛP (F := F)) := Pipeline.defs pcfgs defs₀

/-- The handshakes' ghost state, the first factor. -/
def EH : Emb UH (MT nD τ sig (HIx 1) (Elt F) ℕ UU ℕ) := ((UEmb.inl.trans UEmb.inl).trans uEmb).toEmb
/-- The staging cells' ghost state, the second factor. -/
def EP : Emb UP (MT nD τ sig (HIx 1) (Elt F) ℕ UU ℕ) := ((UEmb.inr.trans UEmb.inl).trans uEmb).toEmb

/-! ## What the call hands each vector subcore -/

/-- The mesh coordinates of subcore `s` of SparseCore `c`. -/
def crd (c : Fin (grid0.bound 0)) (s : Fin (grid0.bound 1)) : grid0.Coords :=
  fun | 0 => c | 1 => s | ⟨_ + 2, h⟩ => absurd h (Nat.not_lt.2 (Nat.le_add_left _ _))

/-- The share of the nine arrays that goes to a subcore: an even part of an even part. -/
def shr (c : Fin 2) (s : Fin 16) : PosShare TreeShare :=
  Transfers.dealOf (Transfers.dealOf fullShare Finset.univ c) Finset.univ s

variable (I : Dev nD → In F)

def tin (d : Dev nD) (c : Fin 2) (s : Fin 16) : sProp 𝕄 :=
  iprop(Reads d (crd c s) (shr c s) (I d) ∗ Blank (F := F) d (crd c s))
def tout (d : Dev nD) (c : Fin 2) (s : Fin 16) : sProp 𝕄 :=
  iprop(Reads d (crd c s) (shr c s) (I d) ∗ Filled d (crd c s) (I d))

instance reads_storable (d : Dev nD) (i : grid0.Coords) (q : PosShare TreeShare) (J : In F) : BI.Storable (upEmb : UEmb _ 𝕄) (Reads d i q J) := by
  unfold Reads; infer_instance
theorem some_storable (ℓ : Loc nD τ sig) (S : Finset ℓ.2.ty.shape.Idx) (φ : Buf (Elt F) ℓ → Prop) :
    BI.Storable (upEmb : UEmb _ 𝕄) iprop(∃ f, ⌜φ f⌝ ∗ (ℓ ↦[S]{fullShare} f)) := inferInstance
theorem any_storable (ℓ : Loc nD τ sig) (S : Finset ℓ.2.ty.shape.Idx) :
    BI.Storable (upEmb : UEmb _ 𝕄) (iprop(∃ f, ℓ ↦[S]{fullShare} f) : sProp 𝕄) := inferInstance
theorem three_storable {A B C : sProp 𝕄} (hA : BI.Storable (upEmb : UEmb _ 𝕄) A) (hB : BI.Storable (upEmb : UEmb _ 𝕄) B) (hC : BI.Storable (upEmb : UEmb _ 𝕄) C) :
    BI.Storable (upEmb : UEmb _ 𝕄) iprop(A ∗ B ∗ C) := inferInstance
instance blank_storable (d : Dev nD) (i : grid0.Coords) : BI.Storable (upEmb : UEmb _ 𝕄) (Blank (F := F) d i) :=
  three_storable (any_storable _ _) (any_storable _ _) (any_storable _ _)
instance filled_storable (d : Dev nD) (i : grid0.Coords) (J : In F) : BI.Storable (upEmb : UEmb _ 𝕄) (Filled d i J) :=
  three_storable
    (some_storable ((oX i).view.loc (th d i)) (oX i).view.set fun f => (oX i).view.read (Elt F) f = fun y => J.nbr J.vx (row i (y 0).val) (y 1).val)
    (some_storable ((oY i).view.loc (th d i)) (oY i).view.set fun f => (oY i).view.read (Elt F) f = fun y => J.nbr J.vy (row i (y 0).val) (y 1).val)
    (some_storable ((oZ i).view.loc (th d i)) (oZ i).view.set fun f => (oZ i).view.read (Elt F) f = fun y => J.nbr J.vz (row i (y 0).val) (y 1).val)
instance tin_storable (d : Dev nD) (c : Fin 2) (s : Fin 16) : BI.Storable (upEmb : UEmb _ 𝕄) (tin I d c s) := by
  unfold tin; infer_instance
instance tout_storable (d : Dev nD) (c : Fin 2) (s : Fin 16) : BI.Storable (upEmb : UEmb _ 𝕄) (tout I d c s) := by
  unfold tout; infer_instance

/-- The call takes every subcore's part and brings it back with the subcore's rows filled. -/
def P : (K (F := F)).Pay (nD := nD) (Val := Elt F) (Name := ℕ) (U := UU) where
  st := fun q d c => match q with | 0 => bigSep Finset.univ fun s : Fin 16 => tin I d c s
  dn := fun q d c => match q with | 0 => bigSep Finset.univ fun s : Fin 16 => tout I d c s
  go := fun q d c s => match q with | 0 => tin I d c s
  td := fun q d c s => match q with | 0 => tout I d c s
  x := fun _ _ => iprop(emp)

instance P_storable : (P (F := F) I).IsStorable where
  st q d c := match q with
    | 0 => (inferInstance : BI.Storable (upEmb : UEmb _ 𝕄) (bigSep Finset.univ fun s : Fin 16 => tin I d c s))
  dn q d c := match q with
    | 0 => (inferInstance : BI.Storable (upEmb : UEmb _ 𝕄) (bigSep Finset.univ fun s : Fin 16 => tout I d c s))
  go q d c s := match q with
    | 0 => (inferInstance : BI.Storable (upEmb : UEmb _ 𝕄) (tin I d c s))
  td q d c s := match q with
    | 0 => (inferInstance : BI.Storable (upEmb : UEmb _ 𝕄) (tout I d c s))

/-! ## The obligations of the launch -/

/-- A vector subcore's task, from what the launch deals its thread. -/
theorem tile_body (hI : ∀ d, (I d).InRange) (d : Dev nD) (c : Fin (grid0.bound 0)) (s : Fin (grid0.bound 1)) (O : CellTallies nD τ sig (HIx 1)) (W : Waits sig (HIx 1))
    (hO : ∀ g, O g none = 0) :
    iprop(levAts (K (F := F)).L (K (F := F)).lev ∗ emp ∗ tin I d c s
        ∗ scopedBufs (th d (crd c s)) ∗ scopedSems0 (th d (crd c s)) ∗ owes (th d (crd c s)) O W)
      ⊢ wp frame (wpE (defs₀ (F := F)) 𝒱₀ (th d (crd c s)) none) Set.univ (atTile (cc0_knn (F := F) (crd c s)))
          fun _ => iprop(tout I d c s ∗ scopedBufs (th d (crd c s)) ∗ scopedSems0 (th d (crd c s))
            ∗ ∃ W', ⌜∀ p ∈ W', p ∈ W ∨ p.2 = none ∨ p.2 = some 0⌝ ∗ owes (th d (crd c s)) O W') := by
  rw [(K (F := F)).scopedBufs_V facts d _ _, SparseCore.Cfg.scopedSems0_V (Val := Elt F) d _ _]
  rw [ownSems_apart d (crd c s), ownBufs_apart d (crd c s), cells_eq d (crd c s)]
  unfold tin tout
  iintro ⟨#Hlv, -, ⟨HR, HB⟩, ⟨Hb, Hbr⟩, ⟨Hs, Hsr⟩, HO⟩
  ihave Hst := (bufs_hold d (crd c s)) $$ Hb
  icases Hst with ⟨%st, Hh⟩
  ihave #Hmw := ((K (F := F)).mayWaits_none (thr := th d (crd c s)) hO) $$ Hlv
  iapply (wp_wand_r Idealize.ShloMosaic.frame (wpE (defs₀ (F := F)) 𝒱₀ (th d (crd c s)) none) Set.univ)
  isplitl [HR HB Hh Hs HO]
  · iapply (run_tile d (crd c s) (I d) (hI d) (shr c s) O st)
    isplitr
    · iexact Hmw
    isplitl [HR]; · iexact HR
    isplitl [HB]; · iexact HB
    isplitl [Hh]; · iexact Hh
    isplitl [Hs]; · iexact Hs
    unfold Owing
    iexists W
    iexact HO
  iintro %_ ⟨HR, HF, ⟨%st', Hh⟩, Hs, HO⟩
  isplitl [HR HF]
  · isplitl [HR]; · iexact HR
    iexact HF
  isplitl [Hh Hbr]
  · isplitl [Hh]
    · iapply (hold_bufs d (crd c s) st'); iexact Hh
    · iexact Hbr
  isplitl [Hs Hsr]
  · isplitl [Hs]; · iexact Hs
    iexact Hsr
  unfold Owing
  icases HO with ⟨%W', HO⟩
  iexists W'
  isplitr
  · ipureintro
    intro p _
    rcases p.2 with _ | q
    · exact .inr (.inl rfl)
    · exact .inr (.inr (congrArg some (Subsingleton.elim q 0)))
  · iexact HO

theorem defs₀_vector (c : Fin τ.nSC) (s : Fin τ.nSub) :
    defs₀ (F := F) (.scVector c s) 0 () = SparseCore.onTile hcore0 hsub0 (fun c s => atTile (cc0_knn (F := F) (crd c s))) ⟨⟩ c s := rfl

theorem tileObl (hI : ∀ d, (I d).InRange) : (K (F := F)).TileObl (D (F := F)) 𝒱 (P I) v₀ 0 := by
  intro d c s O W hO _ _
  simp only [show (P I).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs₀_vector]
  simp only [SparseCore.onTile, hc, and_self, ↓reduceDIte]
  exact tile_body I hI d ⟨_, hc.1⟩ ⟨_, hc.2⟩ O W hO

theorem vecSplit : (K (F := F)).VecSplit' (P I) 0 := by
  intro d c
  show (bigSep Finset.univ fun s : Fin 16 => tin I d c s) ⊢ |={Set.univ}=> iprop((bigSep Finset.univ fun s : Fin 16 => tin I d c s)
      ∗ ((bigSep Finset.univ fun s : Fin 16 => tout I d c s) -∗ bigSep Finset.univ fun s : Fin 16 => tout I d c s))
  iintro H
  imodintro
  isplitl [H]; · iexact H
  iintro H
  iexact H

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-- The launch element: the handshakes' rounds, the staging cells' rounds, and no copy yet counted. -/
def u₀ : UU := ((initOf (K (F := F)).hsCells (K (F := F)).hsToks,
  initOf (Pipeline.cells (nD := nD) cfgs cellOf_inj) (Pipeline.launchToks (nD := nD) cfgs cellOf_inj)), 1)

/-- The launch element is the handshakes' and the staging cells' shares. -/
theorem shares (a : UH) (b : UP) : (ownU (((a, b), 1) : UU) : sProp 𝕄) ⊢ iprop(BI.own (EH a) ∗ BI.own (EP b)) := by
  refine (ownU_pair _ _).trans (sep_elim_left.trans ?_)
  exact BI.own_op_elim (((UEmb.inl.trans (uEmb (nD := nD) (sig := sig) (Ix := HIx 1) (Val := Elt F) (Name := ℕ) (U := UU) (Lvl := ℕ))).toEmb).op_of_mem
    (Prod.mk_mem_op (URA.mem_op_one a) (URA.mem_one_op b)))

theorem nothing {ι : Type} (s : Finset ι) : (bigSep s fun _ => iprop(emp)) = (iprop(emp) : sProp 𝕄) := bigSep_emp_const s

/-- What the staging cells of a device are given at the start. -/
def Stage (d : Dev nD) : sProp 𝕄 := iprop(Pipeline.cellsGhost cfgs EP 0 d ∗ Pipeline.toksInit cfgs EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => Stage (F := F) d)
        ∗ bigSep Finset.univ fun thr : Thread nD τ => bigSep Finset.univ fun q : Fin 1 => (P I).x q thr) := by
  unfold u₀
  iintro Hu
  ihave H := (shares _ _) $$ Hu
  icases H with ⟨HH, HP⟩
  imod (Pipeline.fund_ghost cfgs EP cellOf_inj) $$ HP with ⟨Hc, Ht⟩
  imodintro
  isplitl [HH]; · iexact HH
  isplitl [Hc Ht]
  · unfold Stage; rw [bigSep_sep']
    simp only [bigSep_univ_of_subsingleton (0 : Fin 1)]
    isplitl [Hc]; · iexact Hc
    iexact Ht
  unfold P; dsimp only
  rw [show (bigSep Finset.univ fun _ : Thread nD τ => bigSep Finset.univ fun _ : Fin 1 => (iprop(emp) : sProp 𝕄)) = iprop(emp) from by
    rw [bigSep_congr fun _ _ => nothing _, nothing]]
  iempintro

end Launch

end Cert.Proof.Knn

end
-- ==== Proof.Region.lean ====
/-
  The TensorCore call: what its body leaves in the result's buffer as a function of the ten arrays it reads, the body's run, and the
  call's proof data and obligation at whatever the arrays hold when the call begins.
-/
module

public import proofs.«01_k».proof.Proof.Base
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Pipeline.RegionArraysS
public import Idealize.ShloMosaic.Lib.Tactic

@[expose] public section

set_option maxRecDepth 16384

noncomputable section

namespace Cert.Proof.Knn

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose BodyObligation)

variable {F : FTy → Type} [FloatOps F]

local notation "𝕄" => MT nD τ sig (HIx 1) (Elt F) ℕ UU ℕ

/-! ## What the body computes -/

abbrev rAll : Rect S4096x60 := Rect.unit (s := S4096x60) ![0, 0] S4096x60.size inb_S4096x60_S4096x60_0_0
abbrev rEdge0 : Rect S4096x3 := Rect.unit (s := S4096x3) ![0, 0] S4096x1.size inb_S4096x3_S4096x1_0_0
abbrev rEdge1 : Rect S4096x3 := Rect.unit (s := S4096x3) ![0, 1] S4096x1.size inb_S4096x3_S4096x1_0_1
abbrev rEdge2 : Rect S4096x3 := Rect.unit (s := S4096x3) ![0, 2] S4096x1.size inb_S4096x3_S4096x1_0_2
abbrev rProb : Rect S4096x1 := Rect.unit (s := S4096x1) ![0, 0] S4096x1.size inb_S4096x1_S4096x1_0_0
abbrev rLoss : Rect S1x1 := Rect.unit (s := S1x1) ![0, 0] S1x1.size inb_S1x1_S1x1_0_0

/-- The count after the first edge: the crossings of edge 0 with every neighbour edge. -/
def count1 (x0 : Vec F S4096x60 .f32) (x1 : Vec F S4096x60 .f32) (x2 : Vec F S4096x60 .f32) (x3 : Vec F S4096x3 .f32) (x4 : Vec F S4096x3 .f32) (x5 : Vec F S4096x3 .f32) (x6 : Vec F S4096x60 .f32) (x7 : Vec F S4096x60 .f32) (x8 : Vec F S4096x60 .f32) (x9 : Vec F S4096x1 .f32) : FVec F S4096x60 .f32 :=
  let v0 := View.ld x0 rAll; let v2 := View.ld x1 rAll; let v4 := View.ld x2 rAll
  let v6 := View.ld x6 rAll; let v8 := View.ld x7 rAll; let v10 := View.ld x8 rAll
  let v13 := View.ld x3 rEdge0; let v15 := View.ld x4 rEdge0; let v17 := View.ld x5 rEdge0
  k1_pay17 (k1_pay2 v0) (k1_pay3 v2) (k1_pay4 v4) (k1_pay5 v6) (k1_pay6 v8) (k1_pay7 v10) k1_pay8
    (k1_pay12 v2 v4 v15 v17) (k1_pay13 v0 v4 v13 v17) (k1_pay14 v0 v2 v13 v15) (k1_pay15 v0 v2 v4 v13 v15 v17) (k1_pay16 v0 v2 v13 v15 v17)

/-- The count after the second edge. -/
def count2 (x0 : Vec F S4096x60 .f32) (x1 : Vec F S4096x60 .f32) (x2 : Vec F S4096x60 .f32) (x3 : Vec F S4096x3 .f32) (x4 : Vec F S4096x3 .f32) (x5 : Vec F S4096x3 .f32) (x6 : Vec F S4096x60 .f32) (x7 : Vec F S4096x60 .f32) (x8 : Vec F S4096x60 .f32) (x9 : Vec F S4096x1 .f32) : FVec F S4096x60 .f32 :=
  let v0 := View.ld x0 rAll; let v2 := View.ld x1 rAll; let v4 := View.ld x2 rAll
  let v6 := View.ld x6 rAll; let v8 := View.ld x7 rAll; let v10 := View.ld x8 rAll
  let v69 := View.ld x3 rEdge1; let v71 := View.ld x4 rEdge1; let v73 := View.ld x5 rEdge1
  k1_pay25 (k1_pay2 v0) (k1_pay3 v2) (k1_pay4 v4) (k1_pay5 v6) (k1_pay6 v8) (k1_pay7 v10) (count1 x0 x1 x2 x3 x4 x5 x6 x7 x8 x9)
    (k1_pay18 v69) (k1_pay19 v71) (k1_pay20 v73) (k1_pay21 (k1_pay3 v2) (k1_pay4 v4) v71 v73) (k1_pay22 (k1_pay2 v0) (k1_pay4 v4) v69 v73)
    (k1_pay23 (k1_pay3 v2) v69) (k1_pay24 (k1_pay2 v0) v71)

/-- The loss, as the one element of the result's buffer. -/
def loss (x0 : Vec F S4096x60 .f32) (x1 : Vec F S4096x60 .f32) (x2 : Vec F S4096x60 .f32) (x3 : Vec F S4096x3 .f32) (x4 : Vec F S4096x3 .f32) (x5 : Vec F S4096x3 .f32) (x6 : Vec F S4096x60 .f32) (x7 : Vec F S4096x60 .f32) (x8 : Vec F S4096x60 .f32) (x9 : Vec F S4096x1 .f32) : Vec F S1x1 .f32 :=
  let v0 := View.ld x0 rAll; let v2 := View.ld x1 rAll; let v4 := View.ld x2 rAll
  let v6 := View.ld x6 rAll; let v8 := View.ld x7 rAll; let v10 := View.ld x8 rAll
  let v125 := View.ld x3 rEdge2; let v127 := View.ld x4 rEdge2; let v129 := View.ld x5 rEdge2
  let v181 := View.ld x9 rProb
  k1_pay1 (k1_pay31 (k1_pay2 v0) (k1_pay3 v2) (k1_pay4 v4) (k1_pay5 v6) (k1_pay6 v8) (k1_pay7 v10) (count2 x0 x1 x2 x3 x4 x5 x6 x7 x8 x9)
    (k1_pay26 v125) (k1_pay27 v127) (k1_pay28 v129) (k1_pay29 (k1_pay3 v2) (k1_pay4 v4) v127 v129) (k1_pay30 v129) v181)

theorem lossCovers (p : Vec F S1x1 .f32) (y : S1x1.Idx) :
    ∃ pc ∈ ([⟨rLoss, p⟩] : List (View.Piece (Elt F) S1x1 .f32)), y ∈ pc.1.set :=
  View.cover_of_tiled [⟨rLoss, p⟩] S1x1.size (by rfl) y

set_option maxHeartbeats 4000000 in
/-- The body on whole buffers: the ten inputs stay, and the result's buffer holds the loss. -/
theorem run_cross (c : Dev nD) (E : Set ℕ) (arg0 : Memref sig .tc .vmem S4096x60 .f32) (harg0 : arg0.IsWhole) (arg1 : Memref sig .tc .vmem S4096x60 .f32) (harg1 : arg1.IsWhole) (arg2 : Memref sig .tc .vmem S4096x60 .f32) (harg2 : arg2.IsWhole) (arg3 : Memref sig .tc .vmem S4096x3 .f32) (harg3 : arg3.IsWhole) (arg4 : Memref sig .tc .vmem S4096x3 .f32) (harg4 : arg4.IsWhole) (arg5 : Memref sig .tc .vmem S4096x3 .f32) (harg5 : arg5.IsWhole) (arg6 : Memref sig .tc .vmem S4096x60 .f32) (harg6 : arg6.IsWhole) (arg7 : Memref sig .tc .vmem S4096x60 .f32) (harg7 : arg7.IsWhole) (arg8 : Memref sig .tc .vmem S4096x60 .f32) (harg8 : arg8.IsWhole) (arg9 : Memref sig .tc .vmem S4096x1 .f32) (harg9 : arg9.IsWhole) (arg10 : Memref sig .tc .vmem S1x1 .f32) (harg10 : arg10.IsWhole) (x0 : Vec F S4096x60 .f32) (x1 : Vec F S4096x60 .f32) (x2 : Vec F S4096x60 .f32) (x3 : Vec F S4096x3 .f32) (x4 : Vec F S4096x3 .f32) (x5 : Vec F S4096x3 .f32) (x6 : Vec F S4096x60 .f32) (x7 : Vec F S4096x60 .f32) (x8 : Vec F S4096x60 .f32) (x9 : Vec F S4096x1 .f32) (Q : PUnit → sProp 𝕄) :
    iprop((owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ ∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (View.canon [⟨rLoss, loss x0 x1 x2 x3 x4 x5 x6 x7 x8 x9⟩])) -∗ Q ⟨⟩))
      ⊢ wp frame (wpE (defs₀ (F := F)) Variants.none c none) E (cc1__crossing_body arg0 harg0 arg1 harg1 arg2 harg2 arg3 harg3 arg4 harg4 arg5 harg5 arg6 harg6 arg7 harg7 arg8 harg8 arg9 harg9 arg10 harg10) Q := by
  simp only [cc1__crossing_body_eq_skeleton, k1_part1_eq_skeleton, k1_part2_eq_skeleton, k1_part3_eq_skeleton, k1_part4_eq_skeleton]
  unfold cc1__crossing_body_skel
  simp only [k1_part1_eq_skeleton, k1_part2_eq_skeleton, k1_part3_eq_skeleton, k1_part4_eq_skeleton]
  unfold k1_part1_skel k1_part2_skel k1_part3_skel k1_part4_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, %d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (lossCovers _)

/-! ## The proof data -/

variable (V : Valuation τ sig (Elt F))

/-- Window `w`'s block of its array. -/
def blk (c : Dev nD) (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))

/-- The call's proof data over the arrays' contents `V`: the inputs are left as read, the result's buffer holds the loss. -/
def dat (c : Dev nD) : Dat τ (Elt F) (HIx 1) ℕ UU ℕ cfg1 c where
  A w := V (Proc.devRef .tc (Pipeline.arrRef spec1 w))
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => View.canon [⟨rLoss, loss (blk V c 0 t) (blk V c 1 t) (blk V c 2 t) (blk V c 3 t) (blk V c 4 t) (blk V c 5 t) (blk V c 6 t) (blk V c 7 t) (blk V c 8 t) (blk V c 9 t)⟩]
  Φ _ := Pipeline.scopedRest spec1 c
  q _ := fullShare
  owed _ := 0

theorem dat_A (c : Dev nD) (w : Fin cfg1.W) : (dat V c).A w = V (Proc.devRef .tc (Pipeline.arrRef spec1 w)) := by dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_6 (c : Dev nD) (t : Fin cfg1.N) : (dat V c).after 6 t = blk V c 6 t := by dsimp only [dat]
theorem after_7 (c : Dev nD) (t : Fin cfg1.N) : (dat V c).after 7 t = blk V c 7 t := by dsimp only [dat]
theorem after_8 (c : Dev nD) (t : Fin cfg1.N) : (dat V c).after 8 t = blk V c 8 t := by dsimp only [dat]
theorem after_9 (c : Dev nD) (t : Fin cfg1.N) : (dat V c).after 9 t = blk V c 9 t := by dsimp only [dat]
theorem after_10 (c : Dev nD) (t : Fin cfg1.N) : (dat V c).after 10 t = View.canon [⟨rLoss, loss (blk V c 0 t) (blk V c 1 t) (blk V c 2 t) (blk V c 3 t) (blk V c 4 t) (blk V c 5 t) (blk V c 6 t) (blk V c 7 t) (blk V c 8 t) (blk V c 9 t)⟩] := by dsimp only [dat]

theorem before_0 (c : Dev nD) (t : Fin cfg1.N) (d) : (dat V c).before 0 t d = blk V c 0 t :=
  ((dat V c).before_in_eq_fetched 0 rfl (fun _ => rfl) (fun _ _ _ => rfl) (fun t => by rw [after_0]; unfold Dat.blockOf blk; rw [dat_A]; try rfl) t d).trans
    (by unfold Dat.fetched Dat.blockOf blk; rw [dat_A]; try rfl)
theorem before_1 (c : Dev nD) (t : Fin cfg1.N) (d) : (dat V c).before 1 t d = blk V c 1 t :=
  ((dat V c).before_in_eq_fetched 1 rfl (fun _ => rfl) (fun _ _ _ => rfl) (fun t => by rw [after_1]; unfold Dat.blockOf blk; rw [dat_A]; try rfl) t d).trans
    (by unfold Dat.fetched Dat.blockOf blk; rw [dat_A]; try rfl)
theorem before_2 (c : Dev nD) (t : Fin cfg1.N) (d) : (dat V c).before 2 t d = blk V c 2 t :=
  ((dat V c).before_in_eq_fetched 2 rfl (fun _ => rfl) (fun _ _ _ => rfl) (fun t => by rw [after_2]; unfold Dat.blockOf blk; rw [dat_A]; try rfl) t d).trans
    (by unfold Dat.fetched Dat.blockOf blk; rw [dat_A]; try rfl)
theorem before_3 (c : Dev nD) (t : Fin cfg1.N) (d) : (dat V c).before 3 t d = blk V c 3 t :=
  ((dat V c).before_in_eq_fetched 3 rfl (fun _ => rfl) (fun _ _ _ => rfl) (fun t => by rw [after_3]; unfold Dat.blockOf blk; rw [dat_A]; try rfl) t d).trans
    (by unfold Dat.fetched Dat.blockOf blk; rw [dat_A]; try rfl)
theorem before_4 (c : Dev nD) (t : Fin cfg1.N) (d) : (dat V c).before 4 t d = blk V c 4 t :=
  ((dat V c).before_in_eq_fetched 4 rfl (fun _ => rfl) (fun _ _ _ => rfl) (fun t => by rw [after_4]; unfold Dat.blockOf blk; rw [dat_A]; try rfl) t d).trans
    (by unfold Dat.fetched Dat.blockOf blk; rw [dat_A]; try rfl)
theorem before_5 (c : Dev nD) (t : Fin cfg1.N) (d) : (dat V c).before 5 t d = blk V c 5 t :=
  ((dat V c).before_in_eq_fetched 5 rfl (fun _ => rfl) (fun _ _ _ => rfl) (fun t => by rw [after_5]; unfold Dat.blockOf blk; rw [dat_A]; try rfl) t d).trans
    (by unfold Dat.fetched Dat.blockOf blk; rw [dat_A]; try rfl)
theorem before_6 (c : Dev nD) (t : Fin cfg1.N) (d) : (dat V c).before 6 t d = blk V c 6 t :=
  ((dat V c).before_in_eq_fetched 6 rfl (fun _ => rfl) (fun _ _ _ => rfl) (fun t => by rw [after_6]; unfold Dat.blockOf blk; rw [dat_A]; try rfl) t d).trans
    (by unfold Dat.fetched Dat.blockOf blk; rw [dat_A]; try rfl)
theorem before_7 (c : Dev nD) (t : Fin cfg1.N) (d) : (dat V c).before 7 t d = blk V c 7 t :=
  ((dat V c).before_in_eq_fetched 7 rfl (fun _ => rfl) (fun _ _ _ => rfl) (fun t => by rw [after_7]; unfold Dat.blockOf blk; rw [dat_A]; try rfl) t d).trans
    (by unfold Dat.fetched Dat.blockOf blk; rw [dat_A]; try rfl)
theorem before_8 (c : Dev nD) (t : Fin cfg1.N) (d) : (dat V c).before 8 t d = blk V c 8 t :=
  ((dat V c).before_in_eq_fetched 8 rfl (fun _ => rfl) (fun _ _ _ => rfl) (fun t => by rw [after_8]; unfold Dat.blockOf blk; rw [dat_A]; try rfl) t d).trans
    (by unfold Dat.fetched Dat.blockOf blk; rw [dat_A]; try rfl)
theorem before_9 (c : Dev nD) (t : Fin cfg1.N) (d) : (dat V c).before 9 t d = blk V c 9 t :=
  ((dat V c).before_in_eq_fetched 9 rfl (fun _ => rfl) (fun _ _ _ => rfl) (fun t => by rw [after_9]; unfold Dat.blockOf blk; rw [dat_A]; try rfl) t d).trans
    (by unfold Dat.fetched Dat.blockOf blk; rw [dat_A]; try rfl)

/-! ## The body's obligation -/

def crossPre (c : Dev nD) (t : Fin cfg1.N) : sProp 𝕄 :=
  iprop((dat V c).Φ t.castSucc ∗ (dat V c).owesAt none t.castSucc ∗ (∃ d, owns (c : Thread nD τ) (st1_0 t) fullShare ((dat V c).before 0 t d)) ∗ (∃ d, owns (c : Thread nD τ) (st1_1 t) fullShare ((dat V c).before 1 t d)) ∗ (∃ d, owns (c : Thread nD τ) (st1_2 t) fullShare ((dat V c).before 2 t d)) ∗ (∃ d, owns (c : Thread nD τ) (st1_3 t) fullShare ((dat V c).before 3 t d)) ∗ (∃ d, owns (c : Thread nD τ) (st1_4 t) fullShare ((dat V c).before 4 t d)) ∗ (∃ d, owns (c : Thread nD τ) (st1_5 t) fullShare ((dat V c).before 5 t d)) ∗ (∃ d, owns (c : Thread nD τ) (st1_6 t) fullShare ((dat V c).before 6 t d)) ∗ (∃ d, owns (c : Thread nD τ) (st1_7 t) fullShare ((dat V c).before 7 t d)) ∗ (∃ d, owns (c : Thread nD τ) (st1_8 t) fullShare ((dat V c).before 8 t d)) ∗ (∃ d, owns (c : Thread nD τ) (st1_9 t) fullShare ((dat V c).before 9 t d)) ∗ (∃ d, owns (c : Thread nD τ) (st1_10 t) fullShare ((dat V c).before 10 t d)))
def crossPost (c : Dev nD) (t : Fin cfg1.N) : sProp 𝕄 :=
  iprop((dat V c).Φ t.succ ∗ (dat V c).owesAt none t.succ ∗ owns (c : Thread nD τ) (st1_0 t) fullShare ((dat V c).after 0 t) ∗ owns (c : Thread nD τ) (st1_1 t) fullShare ((dat V c).after 1 t) ∗ owns (c : Thread nD τ) (st1_2 t) fullShare ((dat V c).after 2 t) ∗ owns (c : Thread nD τ) (st1_3 t) fullShare ((dat V c).after 3 t) ∗ owns (c : Thread nD τ) (st1_4 t) fullShare ((dat V c).after 4 t) ∗ owns (c : Thread nD τ) (st1_5 t) fullShare ((dat V c).after 5 t) ∗ owns (c : Thread nD τ) (st1_6 t) fullShare ((dat V c).after 6 t) ∗ owns (c : Thread nD τ) (st1_7 t) fullShare ((dat V c).after 7 t) ∗ owns (c : Thread nD τ) (st1_8 t) fullShare ((dat V c).after 8 t) ∗ owns (c : Thread nD τ) (st1_9 t) fullShare ((dat V c).after 9 t) ∗ owns (c : Thread nD τ) (st1_10 t) fullShare ((dat V c).after 10 t))

theorem cross_point (c : Dev nD) (t : Fin cfg1.N) :
    crossPre V c t ⊢ wp frame (wpE (defs₀ (F := F)) Variants.none c none) Set.univ (bodyAt1 t) (fun _ => crossPost V c t) := by
  unfold crossPre crossPost bodyAt1
  simp only [before_0, before_1, before_2, before_3, before_4, before_5, before_6, before_7, before_8, before_9]
  rw [show (dat V c).Φ t.succ = (dat V c).Φ t.castSucc from rfl,
    show (dat V c).owesAt none t.succ = (dat V c).owesAt none t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_cross c Set.univ _ _ _ _ _ _ _ _ _ _ _ _ _ _ _ _ _ _ _ _ _ _ (blk V c 0 t) (blk V c 1 t) (blk V c 2 t) (blk V c 3 t) (blk V c 4 t) (blk V c 5 t) (blk V c 6 t) (blk V c 7 t) (blk V c 8 t) (blk V c 9 t) _)
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem cross_row (t : Fin cfg1.N) : defs₀ (F := F) .tc cfg1.body (cfg1.bodyArgs t (cfg1.slots t)) = bodyAt1 t := by
  unfold defs₀; rfl

theorem cross_obligation (c : Dev nD) : BodyObligation (dat V c) (defs₀ (F := F)) Variants.none none Set.univ := fun t => by
  rw [bigSep_W1, bigSep_W1, cross_row]
  exact triple_restated (cross_point V c t) rfl .rfl fun _ => .rfl

end Cert.Proof.Knn

end
-- ==== Proof.Call.lean ====
/-
  The TensorCore call as a step of the program: from every unscoped buffer at some contents to the same with the result's array rewritten.
-/
module

public import proofs.«01_k».proof.Proof.Launch
public import proofs.«01_k».proof.Proof.Region

@[expose] public section

noncomputable section

namespace Cert.Proof.Knn

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Every unscoped buffer of the TensorCore, at contents `V`. -/
abbrev Heap (d : Dev nD) (V : Valuation τ sig (Elt F)) : sProp 𝕄 := StableHlo.held (T d) (Pipeline.ucRefs τ sig) V

variable (V : Dev nD → Valuation τ sig (Elt F))

/-- The call's proof data on every device, at the contents it is entered with. -/
def dats (p : Fin 1) (d : Dev nD) : Pipeline.Dat τ (Elt F) (HIx 1) ℕ UU ℕ (cfgs p) d := match p with | 0 => dat (V d) d

abbrev adm (p : Fin 1) : (pcfgs (F := F) p).Adm := (cfgs p).toPCfg_adm

theorem cut : Pipeline.LevelCut (pcfgs (F := F)) adm none (K (F := F)).L (K (F := F)).lev 0 (fun _ : Dev nD => (0 : CellTallies nD τ sig (HIx 1))) (fun _ => 0) where
  hι := fun _ _ _ => by simp [SparseCore.Cfg.L]
  hιb := fun _ _ _ => le_of_eq rfl
  hD := fun _ _ _ h => absurd h (lt_irrefl _)

theorem body_all (d : Dev nD) : Pipeline.BodyObligationLoose (dats V 0 d) (defs₀ (F := F)) 𝒱₀ none Set.univ := (cross_obligation (V d) d).loose

theorem shares_all (d : Dev nD) : ∀ w, (dats V 0 d).share w = fullShare := (dat (V d) d).share_full fun _ => rfl

theorem rest_in (d : Dev nD) : iprop(Pipeline.scopedRest spec1 d ∗ emp) ⊢ (dat (V d) d).Φ 0 := sep_elim_left
theorem rest_out (d : Dev nD) : (dat (V d) d).Φ (Fin.last cfg1.N) ⊢ iprop(Pipeline.scopedRest spec1 d ∗ emp) := by
  show Pipeline.scopedRest spec1 d ⊢ _
  iintro H; isplitl [H]; · iexact H
  iempintro

/-- The TensorCore call as a segment of the program: every unscoped buffer in, the same out with the result's array rewritten. -/
def callSeg : Pipeline.RegionSeg (pcfgs (F := F)) adm (dats V) none defs₀ 𝒱₀ (K (F := F)).L (K (F := F)).lev 0 :=
  Pipeline.RegionSeg.ofHeldIn (pcfgs (F := F)) adm (dats V) none defs₀ 𝒱₀ (K (F := F)).L (K (F := F)).lev 0 (fun _ => 0) (Pipeline.ucRefs τ sig)
    (fun _ => iprop(emp)) (fun _ => iprop(emp)) launch1.toP rfl (body_all V) (fun _ _ => rfl) (fun _ => rfl)
    (shares_all V) (rest_in V) (rest_out V) (fun _ => 0) cut (fun _ => iprop(emp)) V (fun _ _ => rfl)

theorem arrs_unscoped : ∀ w : Fin 11, (Pipeline.arrRef spec1 w).isScoped = false := by decide +kernel
theorem arrs_sub : Pipeline.arrRefs (τ := τ) (pcfgs (F := F) 0).spec ⊆ Pipeline.ucRefs τ sig :=
  Pipeline.arrRefs_sub_ucRefs (pcfgs (F := F) 0).spec arrs_unscoped

theorem call_pre (d : Dev nD) : iprop(Heap d (V d) ∗ ((∃ Wd, owes (T d) 0 Wd) ∗ emp ∗ emp)) ⊢ (callSeg V).pre d := by
  unfold callSeg
  exact Pipeline.RegionSeg.ofHeldIn_pre (pcs := pcfgs (F := F)) (a := adm) (pdats := dats V) (ι := none) (defs₀ := defs₀) (𝒱₀ := 𝒱₀) (L := (K (F := F)).L) (lv := (K (F := F)).lev) (p := (0 : Fin 1)) (D := fun _ => 0)
    (S := Pipeline.ucRefs τ sig) (X := fun _ => iprop(emp)) (Y := fun _ => iprop(emp)) (R := fun _ => iprop(emp)) (W := V) arrs_sub d
theorem call_post (d : Dev nD) :
    (callSeg V).post d ⊢ iprop(Heap d (Pipeline.afterRegion (dats V 0 d) (V d)) ∗ ((∃ Wd, owes (T d) 0 Wd) ∗ emp ∗ emp)) := by
  unfold callSeg
  exact Pipeline.RegionSeg.ofHeldIn_post (pcs := pcfgs (F := F)) (a := adm) (pdats := dats V) (ι := none) (defs₀ := defs₀) (𝒱₀ := 𝒱₀) (L := (K (F := F)).L) (lv := (K (F := F)).lev) (p := (0 : Fin 1)) (D := fun _ => 0)
    (S := Pipeline.ucRefs τ sig) (X := fun _ => iprop(emp)) (Y := fun _ => iprop(emp)) (R := fun _ => iprop(emp)) (W := V) arrs_sub d
theorem call_wp [∀ e, Nonempty (Elt F e)] (d : Dev nD) (Q : PUnit → sProp 𝕄) :
    iprop((iprop(boundary (T d) ∗ (callSeg V).post d) -∗ wp frame (wpE (D (F := F)) 𝒱 (T d) none) Set.univ (Prog.ret ⟨⟩) Q)
      ∗ boundary (T d) ∗ (callSeg V).pre d ∗ levAts (K (F := F)).L (K (F := F)).lev ∗ Pipeline.cellsGhost cfgs EP 0 d ∗ Pipeline.toksInit cfgs EP 0 d)
        ⊢ wp frame (wpE (D (F := F)) 𝒱 (T d) none) Set.univ (Prog.op (.customCall (Pipeline.entry 0) ()) fun u => Prog.ret u) Q :=
  Pipeline.RegionSeg.wp (pcfgs (F := F)) adm (dats V) none cellOf_inj EP defs₀ 𝒱₀ (K (F := F)).L (K (F := F)).lev (callSeg V) d none
      (fun u hu => nomatch hu) (fun u => Prog.ret u) Q

/-- The TensorCore call alone, under the TensorCore's own table. -/
theorem wp_region [∀ e, Nonempty (Elt F e)] (d : Dev nD) (W : Waits sig (HIx 1)) (Q : PUnit → sProp 𝕄) :
    iprop((iprop(boundary (T d) ∗ Heap d (Pipeline.afterRegion (dats V 0 d) (V d)) ∗ ∃ W', owes (T d) 0 W') -∗ Q ⟨⟩)
        ∗ boundary (T d) ∗ Heap d (V d) ∗ owes (T d) 0 W ∗ levAts (K (F := F)).L (K (F := F)).lev ∗ Stage (F := F) d)
      ⊢ wp frame (wpE (D (F := F)) 𝒱 (T d) none) Set.univ (Prog.op (.customCall (Pipeline.entry 0) ()) fun u => Prog.ret u) Q := by
  unfold Stage
  iintro ⟨Hk, Hb, Hh, HO, #Hlv, Hc, Ht⟩
  iapply (call_wp V d Q)
  isplitl [Hk]
  · iintro ⟨Hb, Hp⟩
    ihave Hp := (call_post V d) $$ Hp
    icases Hp with ⟨Hh, HO, -, -⟩
    rw [wp_ret]; imodintro
    iapply Hk
    isplitl [Hb]; · iexact Hb
    isplitl [Hh]; · iexact Hh
    iexact HO
  isplitl [Hb]; · iexact Hb
  isplitl [Hh HO]
  · iapply (call_pre V d)
    isplitl [Hh]; · iexact Hh
    isplitl [HO]; · iexists W; iexact HO
    isplitr <;> iempintro
  isplitr; · iexact Hlv
  isplitl [Hc]; · iexact Hc
  iexact Ht

/-- The TensorCore call at the head of the program. -/
theorem wp_cross [∀ e, Nonempty (Elt F e)] (d : Dev nD) (W : Waits sig (HIx 1)) {α : Type}
    (k : PUnit → Prog (TpuEff nD τ sig (Elt F) (SparseCore.Sig (Pipeline.Sig Λ₀ (Fin 1) fun p => (pcfgs (F := F) p).Adm) 1) .tc) α) (Q : α → sProp 𝕄) :
    iprop((iprop(boundary (T d) ∗ Heap d (Pipeline.afterRegion (dats V 0 d) (V d)) ∗ ∃ W', owes (T d) 0 W')
          -∗ wp frame (wpE ((K (F := F)).defs D) 𝒱 (T d) none) Set.univ (k ⟨⟩) Q)
        ∗ boundary (T d) ∗ Heap d (V d) ∗ owes (T d) 0 W ∗ levAts (K (F := F)).L (K (F := F)).lev ∗ Stage (F := F) d)
      ⊢ wp frame (wpE ((K (F := F)).defs D) 𝒱 (T d) none) Set.univ (Prog.lift (.customCall (SparseCore.inner (Pipeline.entry 0)) ()) >>= k) Q := by
  rw [wp_bind]
  exact (wp_region V d W fun u => wp frame (wpE ((K (F := F)).defs D) 𝒱 (T d) none) Set.univ (k u) Q).trans
    ((K (F := F)).wp_liftProg D 𝒱 (T d) Set.univ none (Prog.op (.customCall (Pipeline.entry 0) ()) fun u => Prog.ret u)
      (fun u => wp frame (wpE ((K (F := F)).defs D) 𝒱 (T d) none) Set.univ (k u) Q))

end Cert.Proof.Knn

end
-- ==== Proof.Deal.lean ====
/-
  What the SparseCore call takes from the TensorCore, dealt to the subcores, and what comes back, gathered into whole arrays.
-/
module

public import proofs.«01_k».proof.Proof.Launch

@[expose] public section

noncomputable section

namespace Cert.Proof.Knn

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Deal

theorem deal_one (ℓ : Loc nD τ sig) (f : Buf (Elt F) ℓ) :
    (ℓ ↦{fullShare} f : sProp 𝕄) = bigSep Finset.univ fun c : Fin 2 => bigSep Finset.univ fun s : Fin 16 => (ℓ ↦{shr c s} f : sProp 𝕄) := by
  rw [Transfers.pointsTo_deal (Finset.univ : Finset (Fin 2)) Finset.univ_nonempty fullShare]
  exact bigSep_congr fun c _ => Transfers.pointsTo_deal (Finset.univ : Finset (Fin 16)) Finset.univ_nonempty _

variable (d : Dev nD) (J : In F)

/-- The nine arrays the call reads, at share `q`. -/
def Nine (q : PosShare TreeShare) : sProp 𝕄 :=
  iprop(((SparseCore.T d : Thread nD τ).loc main_v11 ↦{q} J.cx) ∗ ((SparseCore.T d : Thread nD τ).loc main_v13 ↦{q} J.cy) ∗ ((SparseCore.T d : Thread nD τ).loc main_v15 ↦{q} J.cz)
    ∗ ((SparseCore.T d : Thread nD τ).loc main_v17 ↦{q} J.vx) ∗ ((SparseCore.T d : Thread nD τ).loc main_v19 ↦{q} J.vy) ∗ ((SparseCore.T d : Thread nD τ).loc main_v21 ↦{q} J.vz)
    ∗ ((SparseCore.T d : Thread nD τ).loc main_v23 ↦{q} J.fa) ∗ ((SparseCore.T d : Thread nD τ).loc main_v25 ↦{q} J.fb) ∗ ((SparseCore.T d : Thread nD τ).loc main_v27 ↦{q} J.fc))

theorem aCx_eq (i : grid0.Coords) (q : PosShare TreeShare) :
    (aCx.view.loc (th d i) ↦[aCx.view.set]{q} J.cx : sProp 𝕄) = ((SparseCore.T d : Thread nD τ).loc main_v11 ↦{q} J.cx) := by
  rw [View.set_whole]
theorem aCy_eq (i : grid0.Coords) (q : PosShare TreeShare) :
    (aCy.view.loc (th d i) ↦[aCy.view.set]{q} J.cy : sProp 𝕄) = ((SparseCore.T d : Thread nD τ).loc main_v13 ↦{q} J.cy) := by
  rw [View.set_whole]
theorem aCz_eq (i : grid0.Coords) (q : PosShare TreeShare) :
    (aCz.view.loc (th d i) ↦[aCz.view.set]{q} J.cz : sProp 𝕄) = ((SparseCore.T d : Thread nD τ).loc main_v15 ↦{q} J.cz) := by
  rw [View.set_whole]
theorem aVx_eq (i : grid0.Coords) (q : PosShare TreeShare) :
    (aVx.view.loc (th d i) ↦[aVx.view.set]{q} J.vx : sProp 𝕄) = ((SparseCore.T d : Thread nD τ).loc main_v17 ↦{q} J.vx) := by
  rw [View.set_whole]
theorem aVy_eq (i : grid0.Coords) (q : PosShare TreeShare) :
    (aVy.view.loc (th d i) ↦[aVy.view.set]{q} J.vy : sProp 𝕄) = ((SparseCore.T d : Thread nD τ).loc main_v19 ↦{q} J.vy) := by
  rw [View.set_whole]
theorem aVz_eq (i : grid0.Coords) (q : PosShare TreeShare) :
    (aVz.view.loc (th d i) ↦[aVz.view.set]{q} J.vz : sProp 𝕄) = ((SparseCore.T d : Thread nD τ).loc main_v21 ↦{q} J.vz) := by
  rw [View.set_whole]
theorem aFa_eq (i : grid0.Coords) (q : PosShare TreeShare) :
    (aFa.view.loc (th d i) ↦[aFa.view.set]{q} J.fa : sProp 𝕄) = ((SparseCore.T d : Thread nD τ).loc main_v23 ↦{q} J.fa) := by
  rw [View.set_whole]
theorem aFb_eq (i : grid0.Coords) (q : PosShare TreeShare) :
    (aFb.view.loc (th d i) ↦[aFb.view.set]{q} J.fb : sProp 𝕄) = ((SparseCore.T d : Thread nD τ).loc main_v25 ↦{q} J.fb) := by
  rw [View.set_whole]
theorem aFc_eq (i : grid0.Coords) (q : PosShare TreeShare) :
    (aFc.view.loc (th d i) ↦[aFc.view.set]{q} J.fc : sProp 𝕄) = ((SparseCore.T d : Thread nD τ).loc main_v27 ↦{q} J.fc) := by
  rw [View.set_whole]
theorem reads_nine (i : grid0.Coords) (q : PosShare TreeShare) : Reads d i q J = Nine d J q := by
  unfold Reads Nine
  rw [aCx_eq, aCy_eq, aCz_eq, aVx_eq, aVy_eq, aVz_eq, aFa_eq, aFb_eq, aFc_eq]

theorem nine_deal : Nine d J fullShare = bigSep Finset.univ fun c : Fin 2 => bigSep Finset.univ fun s : Fin 16 => Reads d (crd c s) (shr c s) J := by
  simp only [reads_nine]
  unfold Nine
  simp only [bigSep_sep', ← deal_one]

/-! ## The rows of the results -/

theorem off8_eq : ∀ (c : Fin 2) (s : Fin 16), k0_off8 (crd c s) = ![(s.val * 2 + c.val) * 128, 0] := by decide +kernel

/-- The rows of the subcore at `p`. -/
def rowsOf (p : Fin 2 × Fin 16) : Finset S4096x60.Idx := (rBlk (crd p.1 p.2)).set

theorem mem_rowsOf (p : Fin 2 × Fin 16) (y : S4096x60.Idx) : y ∈ rowsOf p ↔ (y 0).val / 128 = p.2.val * 2 + p.1.val := by
  unfold rowsOf
  rw [Rect.mem_set_unit]
  simp only [off8_eq]
  have h1 : (y 1).val < 60 := (y 1).isLt
  constructor
  · intro h
    have h0 := h 0
    simp only [Matrix.cons_val_zero] at h0
    have : S128x60.size 0 = 128 := rfl
    omega
  · intro h a
    match a with
    | 0 => show (p.2.val * 2 + p.1.val) * 128 ≤ (y 0).val ∧ (y 0).val < (p.2.val * 2 + p.1.val) * 128 + 128; omega
    | 1 => show 0 ≤ (y 1).val ∧ (y 1).val < 0 + 60; omega

theorem rBlk_emb (c : Fin 2) (s : Fin 16) (j : S128x60.Idx) :
    ((rBlk (crd c s)).emb j 0).val = row (crd c s) (j 0).val ∧ ((rBlk (crd c s)).emb j 1).val = (j 1).val := by
  have h := off8_eq c s
  constructor
  · show k0_off8 (crd c s) 0 + 1 * (j 0).val = (s.val * 2 + c.val) * 128 + (j 0).val
    rw [h]; simp
  · show k0_off8 (crd c s) 1 + 1 * (j 1).val = _
    rw [h]; simp

theorem rowsOf_disjoint (p : Fin 2 × Fin 16) (_ : p ∈ Finset.univ) (p' : Fin 2 × Fin 16) (_ : p' ∈ Finset.univ) (h : p ≠ p') :
    Disjoint (rowsOf p) (rowsOf p') := by
  refine Finset.disjoint_left.mpr fun y hy hy' => h ?_
  rw [mem_rowsOf] at hy hy'
  have h1 := p.1.isLt; have h2 := p'.1.isLt
  ext <;> omega

theorem rowsOf_cover : Finset.univ.biUnion rowsOf = Finset.univ := by
  refine Finset.eq_univ_iff_forall.mpr fun y => Finset.mem_biUnion.mpr ?_
  have h : (y 0).val < 4096 := (y 0).isLt
  refine ⟨(⟨(y 0).val / 128 % 2, by omega⟩, ⟨(y 0).val / 256, by omega⟩), Finset.mem_univ _, ?_⟩
  rw [mem_rowsOf]; show _ = (y 0).val / 256 * 2 + (y 0).val / 128 % 2
  omega

/-- An array's rows, dealt to the subcores. -/
theorem rows_deal (ℓ : Loc nD τ sig) (Kk : Fin 2 × Fin 16 → Finset ℓ.2.ty.shape.Idx) (f : Buf (Elt F) ℓ)
    (hd : ∀ p ∈ Finset.univ, ∀ p' ∈ Finset.univ, p ≠ p' → Disjoint (Kk p) (Kk p')) (hc : Finset.univ.biUnion Kk = Finset.univ) :
    (ℓ ↦{fullShare} f : sProp 𝕄) = bigSep Finset.univ fun c : Fin 2 => bigSep Finset.univ fun s : Fin 16 => (ℓ ↦[Kk (c, s)]{fullShare} f : sProp 𝕄) := by
  rw [← hc, pointsTo_biUnion Finset.univ Kk hd, BI.bigSep_univ_prod]

theorem oX_deal (f : Buf (Elt F) ((SparseCore.T d : Thread nD τ).loc main_v28_0)) : ((SparseCore.T d : Thread nD τ).loc main_v28_0 ↦{fullShare} f : sProp 𝕄)
    = bigSep Finset.univ fun c : Fin 2 => bigSep Finset.univ fun s : Fin 16 =>
        ((oX (crd c s)).view.loc (th d (crd c s)) ↦[(oX (crd c s)).view.set]{fullShare} f : sProp 𝕄) := by
  have hs : ∀ i, (oX i).view.set = (rBlk i).set := fun i => View.set_slice_whole _ _
  rw [rows_deal ((SparseCore.T d : Thread nD τ).loc main_v28_0) rowsOf f rowsOf_disjoint rowsOf_cover]
  refine bigSep_congr fun c _ => bigSep_congr fun s _ => ?_
  rw [hs]
  rfl

theorem oX_filled (c : Fin 2) (s : Fin 16) (f : S4096x60.Idx → F .f32) (h : (oX (crd c s)).view.read (Elt F) f = fun y => J.nbr J.vx (row (crd c s) (y 0).val) (y 1).val) :
    ((oX (crd c s)).view.loc (th d (crd c s)) ↦[(oX (crd c s)).view.set]{fullShare} f : sProp 𝕄) = ((oX (crd c s)).view.loc (th d (crd c s)) ↦[(oX (crd c s)).view.set]{fullShare} J.out J.vx) := by
  refine pointsTo_congr fun y hy => ?_
  rw [show (oX (crd c s)).view.set = (rBlk (crd c s)).set from View.set_slice_whole _ _, ← Rect.map_emb_univ] at hy
  obtain ⟨j, -, rfl⟩ := Finset.mem_map.mp hy
  refine (congrFun h j).trans ?_
  show _ = J.nbr J.vx ((rBlk (crd c s)).emb j 0).val ((rBlk (crd c s)).emb j 1).val
  rw [(rBlk_emb c s j).1, (rBlk_emb c s j).2]

theorem oY_deal (f : Buf (Elt F) ((SparseCore.T d : Thread nD τ).loc main_v28_1)) : ((SparseCore.T d : Thread nD τ).loc main_v28_1 ↦{fullShare} f : sProp 𝕄)
    = bigSep Finset.univ fun c : Fin 2 => bigSep Finset.univ fun s : Fin 16 =>
        ((oY (crd c s)).view.loc (th d (crd c s)) ↦[(oY (crd c s)).view.set]{fullShare} f : sProp 𝕄) := by
  have hs : ∀ i, (oY i).view.set = (rBlk i).set := fun i => View.set_slice_whole _ _
  rw [rows_deal ((SparseCore.T d : Thread nD τ).loc main_v28_1) rowsOf f rowsOf_disjoint rowsOf_cover]
  refine bigSep_congr fun c _ => bigSep_congr fun s _ => ?_
  rw [hs]
  rfl

theorem oY_filled (c : Fin 2) (s : Fin 16) (f : S4096x60.Idx → F .f32) (h : (oY (crd c s)).view.read (Elt F) f = fun y => J.nbr J.vy (row (crd c s) (y 0).val) (y 1).val) :
    ((oY (crd c s)).view.loc (th d (crd c s)) ↦[(oY (crd c s)).view.set]{fullShare} f : sProp 𝕄) = ((oY (crd c s)).view.loc (th d (crd c s)) ↦[(oY (crd c s)).view.set]{fullShare} J.out J.vy) := by
  refine pointsTo_congr fun y hy => ?_
  rw [show (oY (crd c s)).view.set = (rBlk (crd c s)).set from View.set_slice_whole _ _, ← Rect.map_emb_univ] at hy
  obtain ⟨j, -, rfl⟩ := Finset.mem_map.mp hy
  refine (congrFun h j).trans ?_
  show _ = J.nbr J.vy ((rBlk (crd c s)).emb j 0).val ((rBlk (crd c s)).emb j 1).val
  rw [(rBlk_emb c s j).1, (rBlk_emb c s j).2]

theorem oZ_deal (f : Buf (Elt F) ((SparseCore.T d : Thread nD τ).loc main_v28_2)) : ((SparseCore.T d : Thread nD τ).loc main_v28_2 ↦{fullShare} f : sProp 𝕄)
    = bigSep Finset.univ fun c : Fin 2 => bigSep Finset.univ fun s : Fin 16 =>
        ((oZ (crd c s)).view.loc (th d (crd c s)) ↦[(oZ (crd c s)).view.set]{fullShare} f : sProp 𝕄) := by
  have hs : ∀ i, (oZ i).view.set = (rBlk i).set := fun i => View.set_slice_whole _ _
  rw [rows_deal ((SparseCore.T d : Thread nD τ).loc main_v28_2) rowsOf f rowsOf_disjoint rowsOf_cover]
  refine bigSep_congr fun c _ => bigSep_congr fun s _ => ?_
  rw [hs]
  rfl

theorem oZ_filled (c : Fin 2) (s : Fin 16) (f : S4096x60.Idx → F .f32) (h : (oZ (crd c s)).view.read (Elt F) f = fun y => J.nbr J.vz (row (crd c s) (y 0).val) (y 1).val) :
    ((oZ (crd c s)).view.loc (th d (crd c s)) ↦[(oZ (crd c s)).view.set]{fullShare} f : sProp 𝕄) = ((oZ (crd c s)).view.loc (th d (crd c s)) ↦[(oZ (crd c s)).view.set]{fullShare} J.out J.vz) := by
  refine pointsTo_congr fun y hy => ?_
  rw [show (oZ (crd c s)).view.set = (rBlk (crd c s)).set from View.set_slice_whole _ _, ← Rect.map_emb_univ] at hy
  obtain ⟨j, -, rfl⟩ := Finset.mem_map.mp hy
  refine (congrFun h j).trans ?_
  show _ = J.nbr J.vz ((rBlk (crd c s)).emb j 0).val ((rBlk (crd c s)).emb j 1).val
  rw [(rBlk_emb c s j).1, (rBlk_emb c s j).2]

/-- The three results, at any contents. -/
def Three (f0 f1 f2 : S4096x60.Idx → F .f32) : sProp 𝕄 :=
  iprop(((SparseCore.T d : Thread nD τ).loc main_v28_0 ↦{fullShare} f0) ∗ ((SparseCore.T d : Thread nD τ).loc main_v28_1 ↦{fullShare} f1) ∗ ((SparseCore.T d : Thread nD τ).loc main_v28_2 ↦{fullShare} f2))

/-- One subcore's rows of the three results, at the contents `f0`, `f1`, `f2` of the whole arrays. -/
def Part (i : grid0.Coords) (f0 f1 f2 : S4096x60.Idx → F .f32) : sProp 𝕄 :=
  iprop(((oX i).view.loc (th d i) ↦[(oX i).view.set]{fullShare} f0) ∗ ((oY i).view.loc (th d i) ↦[(oY i).view.set]{fullShare} f1)
    ∗ ((oZ i).view.loc (th d i) ↦[(oZ i).view.set]{fullShare} f2))

theorem three_parts (f0 f1 f2 : S4096x60.Idx → F .f32) :
    Three (F := F) d f0 f1 f2 = bigSep Finset.univ fun c : Fin 2 => bigSep Finset.univ fun s : Fin 16 => Part d (crd c s) f0 f1 f2 := by
  unfold Three Part
  rw [oX_deal, oY_deal, oZ_deal]
  simp only [bigSep_sep']

theorem part_blank (i : grid0.Coords) (f0 f1 f2 : S4096x60.Idx → F .f32) : Part d i f0 f1 f2 ⊢ Blank (F := F) d i := by
  unfold Part Blank
  iintro ⟨H0, H1, H2⟩
  isplitl [H0]; · iexists f0; iexact H0
  isplitl [H1]; · iexists f1; iexact H1
  iexists f2; iexact H2

theorem filled_part (c : Fin 2) (s : Fin 16) : Filled d (crd c s) J ⊢ Part d (crd c s) (J.out J.vx) (J.out J.vy) (J.out J.vz) := by
  unfold Part Filled
  iintro ⟨⟨%f0, %h0, H0⟩, ⟨%f1, %h1, H1⟩, ⟨%f2, %h2, H2⟩⟩
  isplitl [H0]; · iapply (Entails.of_eq (oX_filled d J c s f0 h0)); iexact H0
  isplitl [H1]; · iapply (Entails.of_eq (oY_filled d J c s f1 h1)); iexact H1
  iapply (Entails.of_eq (oZ_filled d J c s f2 h2)); iexact H2

theorem three_blank (f0 f1 f2 : S4096x60.Idx → F .f32) :
    Three (F := F) d f0 f1 f2 ⊢ bigSep Finset.univ fun c : Fin 2 => bigSep Finset.univ fun s : Fin 16 => Blank (F := F) d (crd c s) := by
  rw [three_parts]
  exact bigSep_mono fun c _ => bigSep_mono fun s _ => part_blank d (crd c s) f0 f1 f2

theorem filled_three : (bigSep Finset.univ fun c : Fin 2 => bigSep Finset.univ fun s : Fin 16 => Filled d (crd c s) J)
    ⊢ Three (F := F) d (J.out J.vx) (J.out J.vy) (J.out J.vz) := by
  rw [three_parts]
  exact bigSep_mono fun c _ => bigSep_mono fun s _ => filled_part d J c s

variable (I : Dev nD → In F)

/-- What the call takes from the TensorCore: the arrays it reads and the three results. -/
theorem call_in (f0 f1 f2 : S4096x60.Idx → F .f32) : iprop(Nine d (I d) fullShare ∗ Three (F := F) d f0 f1 f2) ⊢ bigSep Finset.univ fun c : Fin 2 => bigSep Finset.univ fun s : Fin 16 => tin I d c s := by
  unfold tin
  simp only [bigSep_sep']
  rw [← nine_deal]
  iintro ⟨HN, HT⟩
  isplitl [HN]; · iexact HN
  iapply (three_blank d f0 f1 f2); iexact HT

/-- What it hands back: the arrays as read, and the results filled. -/
theorem call_out : (bigSep Finset.univ fun c : Fin 2 => bigSep Finset.univ fun s : Fin 16 => tout I d c s)
    ⊢ iprop(Nine d (I d) fullShare ∗ Three (F := F) d ((I d).out (I d).vx) ((I d).out (I d).vy) ((I d).out (I d).vz)) := by
  unfold tout
  simp only [bigSep_sep']
  rw [← nine_deal]
  iintro ⟨HN, HT⟩
  isplitl [HN]; · iexact HN
  iapply (filled_three d (I d)); iexact HT

end Deal

end Cert.Proof.Knn

end
-- ==== Proof.Vals.lean ====
/-
  The contents of the TensorCore's arrays along the kernel's program, and the arrays the SparseCore call takes apart from the rest.
-/
module

public import proofs.«01_k».proof.Proof.Host
public import proofs.«01_k».proof.Proof.Call
public import proofs.«01_k».proof.Proof.Deal

@[expose] public section

set_option maxRecDepth 16384

noncomputable section

namespace Cert.Proof.Knn

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- A TensorCore array as the device's. -/
abbrev dr (b : Ref sig .tc) : DevRef τ sig := Proc.devRef .tc b

/-- What the SparseCore call reads, at contents `W`. -/
def inOf (W : Valuation τ sig (Elt F)) : In F where
  cx := W (dr main_v11)
  cy := W (dr main_v13)
  cz := W (dr main_v15)
  vx := W (dr main_v17)
  vy := W (dr main_v19)
  vz := W (dr main_v21)
  fa := W (dr main_v23)
  fb := W (dr main_v25)
  fc := W (dr main_v27)

abbrev nine : Finset (DevRef τ sig) :=
  {dr main_v11, dr main_v13, dr main_v15, dr main_v17, dr main_v19, dr main_v21, dr main_v23, dr main_v25, dr main_v27}
abbrev three : Finset (DevRef τ sig) := {dr main_v28_0, dr main_v28_1, dr main_v28_2}

theorem nine_sub : nine ⊆ Pipeline.ucRefs τ sig := by decide +kernel
theorem three_sub : three ⊆ Pipeline.ucRefs τ sig \ nine := by decide +kernel

theorem held_nine (d : Dev nD) (W : Valuation τ sig (Elt F)) : (StableHlo.held (T d) nine W : sProp 𝕄) = Nine d (inOf W) fullShare := by
  unfold StableHlo.held nine Nine
  rw [SparseCore.bigSep_insert' (by decide +kernel), SparseCore.bigSep_insert' (by decide +kernel), SparseCore.bigSep_insert' (by decide +kernel),
    SparseCore.bigSep_insert' (by decide +kernel), SparseCore.bigSep_insert' (by decide +kernel), SparseCore.bigSep_insert' (by decide +kernel),
    SparseCore.bigSep_insert' (by decide +kernel), SparseCore.bigSep_insert' (by decide +kernel), bigSep_singleton]
  rfl

theorem held_three (d : Dev nD) (W : Valuation τ sig (Elt F)) :
    (StableHlo.held (T d) three W : sProp 𝕄) = Three d (W (dr main_v28_0)) (W (dr main_v28_1)) (W (dr main_v28_2)) := by
  unfold StableHlo.held three Three
  rw [SparseCore.bigSep_insert' (by decide +kernel), SparseCore.bigSep_insert' (by decide +kernel), bigSep_singleton]

/-- The call's arrays and the rest. -/
theorem heap_split (d : Dev nD) (W : Valuation τ sig (Elt F)) :
    (Heap d W : sProp 𝕄) = iprop(Nine d (inOf W) fullShare ∗ Three d (W (dr main_v28_0)) (W (dr main_v28_1)) (W (dr main_v28_2))
      ∗ StableHlo.held (T d) ((Pipeline.ucRefs τ sig \ nine) \ three) W) := by
  unfold Heap
  rw [StableHlo.held_sub_split (T d) nine_sub, StableHlo.held_sub_split (T d) three_sub, held_nine, held_three]

/-- `W` with the call's results set. -/
def called (W : Valuation τ sig (Elt F)) (f0 f1 f2 : S4096x60.Idx → F .f32) : Valuation τ sig (Elt F) :=
  Function.update (Function.update (Function.update W (dr main_v28_0) f0) (dr main_v28_1) f1) (dr main_v28_2) f2

theorem called_of_not_mem (W : Valuation τ sig (Elt F)) (f0 f1 f2 : S4096x60.Idx → F .f32) {b : DevRef τ sig} (h : b ∉ three) : called W f0 f1 f2 b = W b := by
  simp only [three, Finset.mem_insert, Finset.mem_singleton, not_or] at h
  unfold called
  rw [Function.update_of_ne h.2.2, Function.update_of_ne h.2.1, Function.update_of_ne h.1]

theorem called_0 (W : Valuation τ sig (Elt F)) (f0 f1 f2 : S4096x60.Idx → F .f32) : called W f0 f1 f2 (dr main_v28_0) = f0 := by
  unfold called
  rw [Function.update_of_ne (by decide), Function.update_of_ne (by decide), Function.update_self]
theorem called_1 (W : Valuation τ sig (Elt F)) (f0 f1 f2 : S4096x60.Idx → F .f32) : called W f0 f1 f2 (dr main_v28_1) = f1 := by
  unfold called
  rw [Function.update_of_ne (by decide), Function.update_self]
theorem called_2 (W : Valuation τ sig (Elt F)) (f0 f1 f2 : S4096x60.Idx → F .f32) : called W f0 f1 f2 (dr main_v28_2) = f2 := by
  unfold called
  rw [Function.update_self]

theorem inOf_called (W : Valuation τ sig (Elt F)) (f0 f1 f2 : S4096x60.Idx → F .f32) : inOf (called W f0 f1 f2) = inOf W := by
  unfold inOf
  congr 1 <;> exact called_of_not_mem _ _ _ _ (by decide)

theorem heap_join (d : Dev nD) (W : Valuation τ sig (Elt F)) (f0 f1 f2 : S4096x60.Idx → F .f32) :
    iprop(Nine d (inOf W) fullShare ∗ Three d f0 f1 f2 ∗ StableHlo.held (T d) ((Pipeline.ucRefs τ sig \ nine) \ three) W) = (Heap d (called W f0 f1 f2) : sProp 𝕄) := by
  rw [heap_split, inOf_called, called_0, called_1, called_2,
    StableHlo.held_congr (T d) fun b hb => (called_of_not_mem W f0 f1 f2 (Finset.mem_sdiff.mp hb).2).symm]

variable (m : (ℓ : Loc nD τ sig) → Buf (Elt F) ℓ) (d : Dev nD)

/-- The contents at the launch, -/
def V0 : Valuation τ sig (Elt F) := fun b => m (d, b)
/-- after the operations before the SparseCore call, -/
def VA : Valuation τ sig (Elt F) := StableHlo.after opsA (V0 m d)
/-- (what the SparseCore call reads) -/
def J : In F := inOf (VA m d)
/-- after the SparseCore call, -/
def VK : Valuation τ sig (Elt F) := called (VA m d) ((J m d).out (J m d).vx) ((J m d).out (J m d).vy) ((J m d).out (J m d).vz)
/-- after the operations between the two calls, -/
def VB : Valuation τ sig (Elt F) := StableHlo.after opsB2 (StableHlo.after opsB1 (VK m d))
/-- after the TensorCore call, -/
def VC : Valuation τ sig (Elt F) := Pipeline.afterRegion (dats (VB m) 0 d) (VB m d)
/-- and at the end. -/
def VD : Valuation τ sig (Elt F) := StableHlo.after opsC (VC m d)

end Cert.Proof.Knn

end
-- ==== Proof.Main.lean ====
/-
  The kernel's program on a device's TensorCore, from its arrays at the launch to its arrays at the end.
-/
module

public import proofs.«01_k».proof.Proof.Vals

@[expose] public section

set_option maxRecDepth 16384

noncomputable section

namespace Cert.Proof.Knn

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

theorem main_eq (d : Dev nD) : (main d : Step (F := F)) = Pipeline.chain
    [StableHlo.seq opsA, sc.run d 0, StableHlo.seq opsB1, StableHlo.seq opsB2, Prog.lift (.customCall (SparseCore.inner (Pipeline.entry 0)) ()), StableHlo.seq opsC] :=
  (show (main d : Step (F := F)) = (main_part0 d >>= fun _ => main_part1 d) from rfl).trans
    (Pipeline.chain_of_window (main_part0_eq d) (main_part1_eq d))

/-- Every operation's arrays are unscoped ones of the TensorCore, and none draws a fresh number. -/
theorem opsA_sub : ∀ op ∈ (opsA : List (HloOp τ sig (Elt F))), op.bufs ⊆ Pipeline.ucRefs τ sig :=
  List.forall_mem_cons.2 ⟨Pipeline.sub_ucRefs _ (StableHlo.nullary_bufs_sub ..),
  List.forall_mem_cons.2 ⟨Pipeline.sub_ucRefs _ (StableHlo.nullary_bufs_sub ..),
  List.forall_mem_cons.2 ⟨Pipeline.sub_ucRefs _ (StableHlo.unary_bufs_sub ..),
  List.forall_mem_cons.2 ⟨Pipeline.sub_ucRefs _ (StableHlo.binary_bufs_sub ..),
  List.forall_mem_cons.2 ⟨Pipeline.sub_ucRefs _ (StableHlo.nullary_bufs_sub ..),
  List.forall_mem_cons.2 ⟨Pipeline.sub_ucRefs _ (StableHlo.unary_bufs_sub ..),
  List.forall_mem_cons.2 ⟨Pipeline.sub_ucRefs _ (StableHlo.binary_bufs_sub ..),
  List.forall_mem_cons.2 ⟨Pipeline.sub_ucRefs _ (StableHlo.ternary_bufs_sub ..),
  List.forall_mem_cons.2 ⟨Pipeline.sub_ucRefs _ (StableHlo.unary_bufs_sub ..),
  List.forall_mem_cons.2 ⟨Pipeline.sub_ucRefs _ (StableHlo.binary_bufs_sub ..),
  List.forall_mem_cons.2 ⟨Pipeline.sub_ucRefs _ (StableHlo.nullary_bufs_sub ..),
  List.forall_mem_cons.2 ⟨Pipeline.sub_ucRefs _ (StableHlo.binary_bufs_sub ..),
  List.forall_mem_cons.2 ⟨Pipeline.sub_ucRefs _ (StableHlo.nullary_bufs_sub ..),
  List.forall_mem_cons.2 ⟨Pipeline.sub_ucRefs _ (StableHlo.unary_bufs_sub ..),
  List.forall_mem_cons.2 ⟨Pipeline.sub_ucRefs _ (StableHlo.binary_bufs_sub ..),
  List.forall_mem_cons.2 ⟨Pipeline.sub_ucRefs _ (StableHlo.unary_bufs_sub ..),
  List.forall_mem_cons.2 ⟨Pipeline.sub_ucRefs _ (StableHlo.reshape_bufs_sub ..),
  List.forall_mem_cons.2 ⟨Pipeline.sub_ucRefs _ (StableHlo.unary_bufs_sub ..),
  List.forall_mem_cons.2 ⟨Pipeline.sub_ucRefs _ (StableHlo.reshape_bufs_sub ..),
  List.forall_mem_cons.2 ⟨Pipeline.sub_ucRefs _ (StableHlo.unary_bufs_sub ..),
  List.forall_mem_cons.2 ⟨Pipeline.sub_ucRefs _ (StableHlo.reshape_bufs_sub ..),
  List.forall_mem_cons.2 ⟨Pipeline.sub_ucRefs _ (StableHlo.unary_bufs_sub ..),
  List.forall_mem_cons.2 ⟨Pipeline.sub_ucRefs _ (StableHlo.reshape_bufs_sub ..),
  List.forall_mem_cons.2 ⟨Pipeline.sub_ucRefs _ (StableHlo.unary_bufs_sub ..),
  List.forall_mem_cons.2 ⟨Pipeline.sub_ucRefs _ (StableHlo.reshape_bufs_sub ..),
  List.forall_mem_cons.2 ⟨Pipeline.sub_ucRefs _ (StableHlo.unary_bufs_sub ..),
  List.forall_mem_cons.2 ⟨Pipeline.sub_ucRefs _ (StableHlo.reshape_bufs_sub ..),
  List.forall_mem_cons.2 ⟨Pipeline.sub_ucRefs _ (StableHlo.unary_bufs_sub ..),
  List.forall_mem_cons.2 ⟨Pipeline.sub_ucRefs _ (StableHlo.reshape_bufs_sub ..),
  List.forall_mem_cons.2 ⟨Pipeline.sub_ucRefs _ (StableHlo.unary_bufs_sub ..),
  List.forall_mem_cons.2 ⟨Pipeline.sub_ucRefs _ (StableHlo.reshape_bufs_sub ..),
  List.forall_mem_cons.2 ⟨Pipeline.sub_ucRefs _ (StableHlo.unary_bufs_sub ..),
  List.forall_mem_cons.2 ⟨Pipeline.sub_ucRefs _ (StableHlo.reshape_bufs_sub ..),
  fun _ h => nomatch h⟩⟩⟩⟩⟩⟩⟩⟩⟩⟩⟩⟩⟩⟩⟩⟩⟩⟩⟩⟩⟩⟩⟩⟩⟩⟩⟩⟩⟩⟩⟩⟩⟩
theorem opsB1_sub : ∀ op ∈ (opsB1 : List (HloOp τ sig (Elt F))), op.bufs ⊆ Pipeline.ucRefs τ sig :=
  List.forall_mem_cons.2 ⟨Pipeline.sub_ucRefs _ (StableHlo.nullary_bufs_sub ..),
  List.forall_mem_cons.2 ⟨Pipeline.sub_ucRefs _ (StableHlo.unary_bufs_sub ..),
  List.forall_mem_cons.2 ⟨Pipeline.sub_ucRefs _ (StableHlo.binary_bufs_sub ..),
  List.forall_mem_cons.2 ⟨Pipeline.sub_ucRefs _ (StableHlo.nullary_bufs_sub ..),
  List.forall_mem_cons.2 ⟨Pipeline.sub_ucRefs _ (StableHlo.unary_bufs_sub ..),
  List.forall_mem_cons.2 ⟨Pipeline.sub_ucRefs _ (StableHlo.binary_bufs_sub ..),
  List.forall_mem_cons.2 ⟨Pipeline.sub_ucRefs _ (StableHlo.ternary_bufs_sub ..),
  List.forall_mem_cons.2 ⟨Pipeline.sub_ucRefs _ (StableHlo.unary_bufs_sub ..),
  List.forall_mem_cons.2 ⟨Pipeline.sub_ucRefs _ (StableHlo.binary_bufs_sub ..),
  List.forall_mem_cons.2 ⟨Pipeline.sub_ucRefs _ (StableHlo.nullary_bufs_sub ..),
  List.forall_mem_cons.2 ⟨Pipeline.sub_ucRefs _ (StableHlo.unary_bufs_sub ..),
  List.forall_mem_cons.2 ⟨Pipeline.sub_ucRefs _ (StableHlo.binary_bufs_sub ..),
  List.forall_mem_cons.2 ⟨Pipeline.sub_ucRefs _ (StableHlo.nullary_bufs_sub ..),
  List.forall_mem_cons.2 ⟨Pipeline.sub_ucRefs _ (StableHlo.unary_bufs_sub ..),
  List.forall_mem_cons.2 ⟨Pipeline.sub_ucRefs _ (StableHlo.binary_bufs_sub ..),
  List.forall_mem_cons.2 ⟨Pipeline.sub_ucRefs _ (StableHlo.ternary_bufs_sub ..),
  List.forall_mem_cons.2 ⟨Pipeline.sub_ucRefs _ (StableHlo.unary_bufs_sub ..),
  List.forall_mem_cons.2 ⟨Pipeline.sub_ucRefs _ (StableHlo.binary_bufs_sub ..),
  List.forall_mem_cons.2 ⟨Pipeline.sub_ucRefs _ (StableHlo.nullary_bufs_sub ..),
  List.forall_mem_cons.2 ⟨Pipeline.sub_ucRefs _ (StableHlo.unary_bufs_sub ..),
  List.forall_mem_cons.2 ⟨Pipeline.sub_ucRefs _ (StableHlo.binary_bufs_sub ..),
  List.forall_mem_cons.2 ⟨Pipeline.sub_ucRefs _ (StableHlo.nullary_bufs_sub ..),
  List.forall_mem_cons.2 ⟨Pipeline.sub_ucRefs _ (StableHlo.unary_bufs_sub ..),
  List.forall_mem_cons.2 ⟨Pipeline.sub_ucRefs _ (StableHlo.binary_bufs_sub ..),
  List.forall_mem_cons.2 ⟨Pipeline.sub_ucRefs _ (StableHlo.ternary_bufs_sub ..),
  List.forall_mem_cons.2 ⟨Pipeline.sub_ucRefs _ (StableHlo.unary_bufs_sub ..),
  fun _ h => nomatch h⟩⟩⟩⟩⟩⟩⟩⟩⟩⟩⟩⟩⟩⟩⟩⟩⟩⟩⟩⟩⟩⟩⟩⟩⟩⟩
theorem opsB2_sub : ∀ op ∈ (opsB2 : List (HloOp τ sig (Elt F))), op.bufs ⊆ Pipeline.ucRefs τ sig :=
  List.forall_mem_cons.2 ⟨Pipeline.sub_ucRefs _ (StableHlo.binary_bufs_sub ..),
  List.forall_mem_cons.2 ⟨Pipeline.sub_ucRefs _ (StableHlo.binary_bufs_sub ..),
  List.forall_mem_cons.2 ⟨Pipeline.sub_ucRefs _ (StableHlo.unary_bufs_sub ..),
  List.forall_mem_cons.2 ⟨Pipeline.sub_ucRefs _ (StableHlo.reshape_bufs_sub ..),
  List.forall_mem_cons.2 ⟨Pipeline.sub_ucRefs _ (StableHlo.unary_bufs_sub ..),
  List.forall_mem_cons.2 ⟨Pipeline.sub_ucRefs _ (StableHlo.reshape_bufs_sub ..),
  List.forall_mem_cons.2 ⟨Pipeline.sub_ucRefs _ (StableHlo.unary_bufs_sub ..),
  List.forall_mem_cons.2 ⟨Pipeline.sub_ucRefs _ (StableHlo.reshape_bufs_sub ..),
  List.forall_mem_cons.2 ⟨Pipeline.sub_ucRefs _ (StableHlo.reshape_bufs_sub ..),
  List.forall_mem_cons.2 ⟨Pipeline.sub_ucRefs _ (StableHlo.unary_bufs_sub ..),
  List.forall_mem_cons.2 ⟨Pipeline.sub_ucRefs _ (StableHlo.reshape_bufs_sub ..),
  List.forall_mem_cons.2 ⟨Pipeline.sub_ucRefs _ (StableHlo.reshape_bufs_sub ..),
  List.forall_mem_cons.2 ⟨Pipeline.sub_ucRefs _ (StableHlo.unary_bufs_sub ..),
  List.forall_mem_cons.2 ⟨Pipeline.sub_ucRefs _ (StableHlo.reshape_bufs_sub ..),
  List.forall_mem_cons.2 ⟨Pipeline.sub_ucRefs _ (StableHlo.reshape_bufs_sub ..),
  List.forall_mem_cons.2 ⟨Pipeline.sub_ucRefs _ (StableHlo.unary_bufs_sub ..),
  List.forall_mem_cons.2 ⟨Pipeline.sub_ucRefs _ (StableHlo.reshape_bufs_sub ..),
  List.forall_mem_cons.2 ⟨Pipeline.sub_ucRefs _ (StableHlo.unary_bufs_sub ..),
  fun _ h => nomatch h⟩⟩⟩⟩⟩⟩⟩⟩⟩⟩⟩⟩⟩⟩⟩⟩⟩⟩
theorem opsC_sub : ∀ op ∈ (opsC : List (HloOp τ sig (Elt F))), op.bufs ⊆ Pipeline.ucRefs τ sig :=
  List.forall_mem_cons.2 ⟨Pipeline.sub_ucRefs _ (StableHlo.reshape_bufs_sub ..),
  fun _ h => nomatch h⟩
theorem opsA_fresh : ∀ op ∈ (opsA : List (HloOp τ sig (Elt F))), op.fresh = ∅ :=
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  fun _ h => nomatch h⟩⟩⟩⟩⟩⟩⟩⟩⟩⟩⟩⟩⟩⟩⟩⟩⟩⟩⟩⟩⟩⟩⟩⟩⟩⟩⟩⟩⟩⟩⟩⟩⟩
theorem opsB1_fresh : ∀ op ∈ (opsB1 : List (HloOp τ sig (Elt F))), op.fresh = ∅ :=
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  fun _ h => nomatch h⟩⟩⟩⟩⟩⟩⟩⟩⟩⟩⟩⟩⟩⟩⟩⟩⟩⟩⟩⟩⟩⟩⟩⟩⟩⟩
theorem opsB2_fresh : ∀ op ∈ (opsB2 : List (HloOp τ sig (Elt F))), op.fresh = ∅ :=
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  List.forall_mem_cons.2 ⟨rfl,
  fun _ h => nomatch h⟩⟩⟩⟩⟩⟩⟩⟩⟩⟩⟩⟩⟩⟩⟩⟩⟩⟩
theorem opsC_fresh : ∀ op ∈ (opsC : List (HloOp τ sig (Elt F))), op.fresh = ∅ :=
  List.forall_mem_cons.2 ⟨rfl,
  fun _ h => nomatch h⟩

variable (m : (ℓ : Loc nD τ sig) → Buf (Elt F) ℓ) (ρ : Dev nD → PrngReg)

/-- What the program's calls are proved at: the arrays the SparseCore call reads are those of `m`. -/
abbrev PJ := P (F := F) (J m)

/-- The wait record after the call: any will do. -/
theorem below (d : Dev nD) (W : Waits sig (HIx 1)) : (K (F := F)).WBelow (T d) W (8 * 1) := by
  intro p _
  rcases h : p.2 with _ | q
  · exact Nat.zero_le _
  · have := (K (F := F)).lev_some_le (T d, p.1) q
    have h0 : q.val = 0 := by omega
    rw [h0] at this
    omega

/-- The TensorCore's state after the SparseCore call, its wait record taken out. -/
theorem state_out (d : Dev nD) : ((K (F := F)).tcSt EH d 1 : sProp 𝕄)
    ⊢ iprop((∃ W, owes (T d) 0 W) ∗ ((∃ W, owes (T d) 0 W) -∗ (K (F := F)).tcSt EH d 1)) := by
  unfold SparseCore.Cfg.tcSt
  rw [(K (F := F)).Otc_end d (le_refl 1)]
  iintro ⟨⟨%W, -, HO⟩, Hr⟩
  isplitl [HO]
  · iexists W; iexact HO
  iintro ⟨%W', HO⟩
  isplitl [HO]
  · iexists W'
    isplitr
    · ipureintro; exact below d W'
    · iexact HO
  · iexact Hr

theorem state_out' (d : Dev nD) : ((K (F := F)).tcSt EH d (((0 : Fin 1) : ℕ) + 1) : sProp 𝕄)
    ⊢ iprop((∃ W, owes (T d) 0 W) ∗ ((∃ W, owes (T d) 0 W) -∗ (K (F := F)).tcSt EH d 1)) := state_out d

variable [∀ e, Nonempty (Elt F e)]

/-- From the TensorCore call on. -/
theorem wp_end (d : Dev nD) (Q : PUnit → sProp 𝕄) :
    iprop((iprop(boundary (T d) ∗ Heap d (VD m d) ∗ ∃ W', owes (T d) 0 W') -∗ Q ⟨⟩)
        ∗ boundary (T d) ∗ Heap d (VB m d) ∗ (∃ W, owes (T d) 0 W) ∗ levAts (K (F := F)).L (K (F := F)).lev ∗ Stage (F := F) d)
      ⊢ wp frame (wpE ((K (F := F)).defs D) 𝒱 (T d) none) Set.univ
          (Pipeline.chain [Prog.lift (.customCall (SparseCore.inner (Pipeline.entry 0)) ()), StableHlo.seq opsC]) Q := by
  iintro ⟨HQ, Hb, HH, ⟨%W, HO⟩, Hl, HS⟩
  rw [Pipeline.chain_cons]
  iapply (wp_cross (VB m) d W _ Q)
  isplitl [HQ]
  · iintro ⟨Hb, HH, HO⟩
    rw [Pipeline.chain_cons]
    iapply (StableHlo.wp_seq (𝒱 := 𝒱) (bd := none) (E := Set.univ) d (Pipeline.ucRefs τ sig) _ opsC opsC_sub opsC_fresh (VC m d)) $$ [Hb HH]
    · isplitl [Hb]; · iexact Hb
      iexact HH
    iintro ⟨Hb, HH⟩
    rw [Pipeline.chain_nil, wp_pure]
    imodintro
    iapply HQ
    isplitl [Hb]; · iexact Hb
    isplitl [HH]; · iexact HH
    iexact HO
  isplitl [Hb]; · iexact Hb
  isplitl [HH]; · iexact HH
  isplitl [HO]; · iexact HO
  isplitl [Hl]; · iexact Hl
  iexact HS

/-- From the operations after the SparseCore call on. -/
theorem wp_rest (d : Dev nD) (Q : PUnit → sProp 𝕄) :
    iprop((iprop(boundary (T d) ∗ Heap d (VD m d) ∗ ∃ W', owes (T d) 0 W') -∗ Q ⟨⟩)
        ∗ boundary (T d) ∗ Heap d (VK m d) ∗ (∃ W, owes (T d) 0 W) ∗ levAts (K (F := F)).L (K (F := F)).lev ∗ Stage (F := F) d)
      ⊢ wp frame (wpE ((K (F := F)).defs D) 𝒱 (T d) none) Set.univ
          (Pipeline.chain [StableHlo.seq opsB1, StableHlo.seq opsB2, Prog.lift (.customCall (SparseCore.inner (Pipeline.entry 0)) ()), StableHlo.seq opsC]) Q := by
  iintro ⟨HQ, Hb, HH, HO, Hl, HS⟩
  rw [Pipeline.chain_cons]
  iapply (StableHlo.wp_seq (𝒱 := 𝒱) (bd := none) (E := Set.univ) d (Pipeline.ucRefs τ sig) _ opsB1 opsB1_sub opsB1_fresh (VK m d)) $$ [Hb HH]
  · isplitl [Hb]; · iexact Hb
    iexact HH
  iintro ⟨Hb, HH⟩
  rw [Pipeline.chain_cons]
  iapply (StableHlo.wp_seq (𝒱 := 𝒱) (bd := none) (E := Set.univ) d (Pipeline.ucRefs τ sig) _ opsB2 opsB2_sub opsB2_fresh _) $$ [Hb HH]
  · isplitl [Hb]; · iexact Hb
    iexact HH
  iintro ⟨Hb, HH⟩
  iapply (wp_end m d Q)
  isplitl [HQ]; · iexact HQ
  isplitl [Hb]; · iexact Hb
  isplitl [HH]; · iexact HH
  isplitl [HO]; · iexact HO
  isplitl [Hl]; · iexact Hl
  iexact HS

theorem start_eq (d : Dev nD) : (unscopedBufs d (fun b => m ((SparseCore.T d : Thread nD τ).loc b)) : sProp 𝕄) = Heap d (V0 m d) :=
  Pipeline.unscopedBufs_held d (V0 m d)

theorem apart (d : Dev nD) : (StableHlo.held (d.tc : Thread nD τ) (Pipeline.ucRefs τ sig) (StableHlo.after opsA (V0 m d)) : sProp 𝕄)
    = iprop(Nine d (J m d) fullShare ∗ Three d (VA m d (dr main_v28_0)) (VA m d (dr main_v28_1)) (VA m d (dr main_v28_2))
      ∗ StableHlo.held (T d) ((Pipeline.ucRefs τ sig \ nine) \ three) (VA m d)) := heap_split d (VA m d)

theorem handed (d : Dev nD) : (bigSep Finset.univ fun c : Fin ((K (F := F)).nCore 0) => (PJ m).dn 0 d c : sProp 𝕄)
    ⊢ iprop(Nine d (J m d) fullShare ∗ Three (F := F) d ((J m d).out (J m d).vx) ((J m d).out (J m d).vy) ((J m d).out (J m d).vz)) := call_out d (J m)

theorem hmain (κ : GSem nD τ sig → ℕ) (d : Dev nD) :
    iprop((K (F := F)).ctx EH (PJ m) κ ∗ (K (F := F)).tcSt EH d 0 ∗ (K (F := F)).tcRes m ρ d ∗ Stage (F := F) d)
      ⊢ wp frame (wpE ((K (F := F)).defs (D (F := F))) 𝒱 (SparseCore.T d) none) Set.univ (main d)
          fun _ => iprop((K (F := F)).tcSt EH d 1 ∗ Heap d (VD m d) ∗ (K (F := F)).tcEnd d) := by
  unfold SparseCore.Cfg.tcRes SparseCore.Cfg.tcEnd
  rw [start_eq, main_eq, Pipeline.chain_cons]
  iintro ⟨#Hctx, Hst, ⟨Hb, HH, Hts, -⟩, HS⟩
  iapply (StableHlo.wp_seq (𝒱 := 𝒱) (bd := none) (E := Set.univ) d (Pipeline.ucRefs τ sig) _ opsA opsA_sub opsA_fresh (V0 m d)) $$ [Hb HH]
  · isplitl [Hb]; · iexact Hb
    iexact HH
  iintro ⟨Hb, HH⟩
  rw [Pipeline.chain_cons, wp_bind]
  ihave H := (Entails.of_eq (apart m d)) $$ HH
  icases H with ⟨HN, HT, HR⟩
  iapply ((K (F := F)).wp_run (D (F := F)) 𝒱 (EH := EH) (P := PJ m) κ d 0)
  isplitr; · iexact Hctx
  isplitl [Hst]; · iexact Hst
  isplitl [HN HT]
  · iapply (call_in d (J m) _ _ _)
    isplitl [HN]; · iexact HN
    iexact HT
  iintro ⟨Hst, Hdn⟩
  ihave H := (handed m d) $$ Hdn
  icases H with ⟨HN, HT⟩
  ihave H := (state_out' d) $$ Hst
  icases H with ⟨HO, Hback⟩
  iapply (wp_rest m d _)
  isplitl [Hts Hback]
  · iintro ⟨Hb, HH, HO⟩
    isplitl [Hback HO]
    · iapply Hback; iexact HO
    isplitl [HH]; · iexact HH
    isplitl [Hb]; · iexact Hb
    iexact Hts
  isplitl [Hb]; · iexact Hb
  isplitl [HN HT HR]
  · iapply (Entails.of_eq (heap_join d (VA m d) _ _ _))
    isplitl [HN]; · iexact HN
    isplitl [HT]; · iexact HT
    iexact HR
  isplitl [HO]; · iexact HO
  isplitr [HS]
  · iapply ((K (F := F)).ctx_levAts κ); iexact Hctx
  · iexact HS

/-- What the end says of the memory: every unscoped array of the TensorCore at its last contents. -/
def fq (d : Dev nD) (s' : Phys nD τ sig (Elt F)) : Prop := ∀ b ∈ Pipeline.ucRefs τ sig, s'.mem.mem (d, b) = VD m d b

theorem held_one (d : Dev nD) (b : DevRef τ sig) (hb : b ∈ Pipeline.ucRefs τ sig) :
    (bigSep (Pipeline.ucRefs τ sig) fun b => ((SparseCore.T d : Thread nD τ).1, b) ↦{fullShare} VD m d b : sProp 𝕄) ⊢ ((d, b) ↦{fullShare} VD m d b) :=
  BI.bigSep_elim (Φ := fun b => (((SparseCore.T d : Thread nD τ).1, b) ↦{fullShare} VD m d b : sProp 𝕄)) hb

theorem hfin_one (d : Dev nD) (s' : Phys nD τ sig (Elt F)) (b : DevRef τ sig) (hb : b ∈ Pipeline.ucRefs τ sig) :
    iprop(Heap d (VD m d) ∗ SI s') ⊢ (⌜s'.mem.mem (d, b) = VD m d b⌝ : sProp 𝕄) := by
  unfold Heap StableHlo.held
  iintro ⟨HH, HSI⟩
  ihave Hx := (held_one m d b hb) $$ HH
  ihave H := (SI_pointsTo_agree (st := s') (ℓ := (d, b)) (I := Finset.univ) (q := fullShare) (f := VD m d b)) $$ [HSI Hx]
  · isplitl [HSI] <;> iassumption
  icases H with %hx
  ipureintro; exact funext fun i => hx i (Finset.mem_univ i)

theorem hfin (d : Dev nD) (s' : Phys nD τ sig (Elt F)) : iprop(Heap d (VD m d) ∗ SI s') ⊢ (⌜fq m d s'⌝ : sProp 𝕄) := by
  have h1 : iprop(Heap d (VD m d) ∗ SI s') ⊢ (∀ b : {b // b ∈ Pipeline.ucRefs τ sig}, ⌜s'.mem.mem (d, b.1) = VD m d b.1⌝ : sProp 𝕄) :=
    Laws.forall_intro fun b => hfin_one m d s' b.1 b.2
  have h2 : (⌜∀ b : {b // b ∈ Pipeline.ucRefs τ sig}, s'.mem.mem (d, b.1) = VD m d b.1⌝ : sProp 𝕄) ⊢ ⌜fq m d s'⌝ :=
    Laws.pure_mono fun h b hb => h ⟨b, hb⟩
  exact h1.trans (BIBase.Entails.trans pure_forall.2 h2)

/-- What the program leaves: every array of every device at its last contents, every counter at zero. -/
def QC : PUnit × MemSt nD τ sig (Elt F) → Prop := fun r => (∀ d : Dev nD, ∀ b ∈ Pipeline.ucRefs τ sig, r.2.mem (d, b) = VD m d b) ∧ r.2.sem = fun _ => 0

theorem run_main (hI : ∀ d, (J m d).InRange) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PJ m) (A := ∅) facts v₀
    (fun q hq => match q with | 0 => nomatch hq)
    (fun q _ => match q with | 0 => tileObl (J m) hI)
    (fun q _ => match q with | 0 => SparseCore.Cfg.VecSplit.of_plain (vecSplit (J m)))
    m ρ main (fun d => Stage (F := F) d) (fun d => Heap d (VD m d)) (u₀ (F := F)) (sep_elim_left.trans (hu₀ (J m))) (hmain m ρ) (fq m) (hfin m) (QC m) (fun _ h hz => ⟨h, hz⟩)

end Cert.Proof.Knn

end
-- ==== Proof.Ends.lean ====
/-
  What the run says of the arguments, and the indices' range from the range of the faces.
-/
module

public import proofs.«01_k».proof.Proof.Main
public import Idealize.ShloMosaic.Lib.Pipeline.RegionArraysS

@[expose] public section

set_option maxRecDepth 16384

noncomputable section

namespace Cert.Proof.Knn

open Cert.KernelIdeal Cert.KernelIdeal.Gen

open Idealize.ShloMosaic Idealize.ShloMosaic.TcCoe
open Idealize.SL.Sem

variable {F : FTy → Type} [FloatOps F]
variable (m : (ℓ : Loc nD τ sig) → Buf (Elt F) ℓ) (ρ : Dev nD → PrngReg) (d : Dev nD)

/-- The arrays the operations before the SparseCore call write. -/
abbrev outsA : List (Ref sig .tc) := [main_c, main_c_0, main_v0, main_v1, main_c_1, main_v2, main_v3, main_v4, main_v5, main_v6, main_cst, main_v7, main_cst_2, main_v8, main_v9, main_v10, main_v11, main_v12, main_v13, main_v14, main_v15, main_v16, main_v17, main_v18, main_v19, main_v20, main_v21, main_v22, main_v23, main_v24, main_v25, main_v26, main_v27]
abbrev outsB1 : List (Ref sig .tc) := [main_c_3, main_v29, main_v30, main_c_4, main_v31, main_v32, main_v33, main_v34, main_v35, main_c_5, main_v36, main_v37, main_c_6, main_v38, main_v39, main_v40, main_v41, main_v42, main_c_7, main_v43, main_v44, main_c_8, main_v45, main_v46, main_v47, main_v48]
abbrev outsB2 : List (Ref sig .tc) := [main_v49, main_v50, main_v51, main_v52, main_v53, main_v54, main_v55, main_v56, main_v57, main_v58, main_v59, main_v60, main_v61, main_v62, main_v63, main_v64, main_v65, main_v66]

theorem one_sub {W : List (Ref sig .tc)} {r : Ref sig .tc} (h : r ∈ W) : ({dr r} : Finset (DevRef τ sig)) ⊆ (W.map (Proc.devRef (τ := τ) .tc)).toFinset :=
  Finset.singleton_subset_iff.2 (List.mem_toFinset.2 (List.mem_map.2 ⟨r, h, rfl⟩))

theorem opsA_writes : (opsA (F := F)).Forall fun op => op.writes ⊆ (outsA.map (Proc.devRef (τ := τ) .tc)).toFinset :=
  ⟨one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide)⟩
theorem opsB1_writes : (opsB1 (F := F)).Forall fun op => op.writes ⊆ (outsB1.map (Proc.devRef (τ := τ) .tc)).toFinset :=
  ⟨one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide)⟩
theorem opsB2_writes : (opsB2 (F := F)).Forall fun op => op.writes ⊆ (outsB2.map (Proc.devRef (τ := τ) .tc)).toFinset :=
  ⟨one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide)⟩
theorem opsC_writes : (opsC (F := F)).Forall fun op => op.writes ⊆ (([main_v68] : List (Ref sig .tc)).map (Proc.devRef (τ := τ) .tc)).toFinset :=
  one_sub (by decide)

theorem VA_off {r : Ref sig .tc} (h : r ∉ outsA) : VA m d (dr r) = m (d, dr r) := StableHlo.after_of_writes_sub opsA _ opsA_writes h
theorem VB_off {r : Ref sig .tc} (h1 : r ∉ outsB1) (h2 : r ∉ outsB2) : VB m d (dr r) = VK m d (dr r) :=
  (StableHlo.after_of_writes_sub opsB2 _ opsB2_writes h2).trans (StableHlo.after_of_writes_sub opsB1 _ opsB1_writes h1)
theorem VD_off {r : Ref sig .tc} (h : r ∉ [main_v68]) : VD m d (dr r) = VC m d (dr r) := StableHlo.after_of_writes_sub opsC _ opsC_writes h

theorem not_result (r : Ref sig .tc) (hr : r ≠ main_v67) : ∀ w, Pipeline.arrRef cfg1.spec w = r → (cfg1.win w).isOut = false := by
  intro w h
  have key : ∀ w : Fin 11, w ≠ 10 → (win1 w).isOut = false := by decide +kernel
  exact key w fun e => hr (by subst e; exact h.symm)

theorem VC_off {r : Ref sig .tc} (h : r ≠ main_v67) : VC m d (dr r) = VB m d (dr r) :=
  Pipeline.afterRegion_keeps (dats (VB m) 0 d) (VB m d) launch1.win.arr_inj (fun w => dat_A (VB m d) d w) r (not_result r h)

/-- The arguments end as they began. -/
theorem arg_kept {r : Ref sig .tc} (h : r ∈ [main_arg0, main_arg1, main_arg2]) : VD m d (dr r) = m (d, dr r) := by
  have h' : r ∉ [main_v68] ∧ r ≠ main_v67 ∧ r ∉ outsB1 ∧ r ∉ outsB2 ∧ dr r ∉ three ∧ r ∉ outsA := by
    revert h; revert r; decide +kernel
  rw [VD_off m d h'.1, VC_off m d h'.2.1, VB_off m d h'.2.2.1 h'.2.2.2.1]
  exact (called_of_not_mem _ _ _ _ h'.2.2.2.2.1).trans (VA_off m d h'.2.2.2.2.2)

/-- Every index of the faces names a vertex. -/
def Good : Prop := ∀ (d : Dev nD) (x : S4096x3.Idx), ((m (d, dr main_arg1) : IVec S4096x3 32) x).toNat < 10000

theorem fa_eq : (J m d).fa = shapeCast S4096 (extractStridedSlice S4096x1 ![0, 0] (m (d, dr main_arg1) : IVec S4096x3 32) slices_S4096x3_S4096x1_0_0) shapeCasts_S4096x1_S4096 := by
  show StableHlo.after opsA (V0 m d) (dr main_v23) = _
  unfold opsA
  after_results
  rfl
theorem fb_eq : (J m d).fb = shapeCast S4096 (extractStridedSlice S4096x1 ![0, 1] (m (d, dr main_arg1) : IVec S4096x3 32) slices_S4096x3_S4096x1_0_1) shapeCasts_S4096x1_S4096 := by
  show StableHlo.after opsA (V0 m d) (dr main_v25) = _
  unfold opsA
  after_results
  rfl
theorem fc_eq : (J m d).fc = shapeCast S4096 (extractStridedSlice S4096x1 ![0, 2] (m (d, dr main_arg1) : IVec S4096x3 32) slices_S4096x3_S4096x1_0_2) shapeCasts_S4096x1_S4096 := by
  show StableHlo.after opsA (V0 m d) (dr main_v27) = _
  unfold opsA
  after_results
  rfl

theorem in_range (h : Good m) : ∀ d, (J m d).InRange := fun d =>
  ⟨fun x => by rw [fa_eq]; exact h d _, fun x => by rw [fb_eq]; exact h d _, fun x => by rw [fc_eq]; exact h d _⟩

/-- The run of the kernel's program: it ends with the arguments unchanged, every counter at zero, and the result at the last contents of its array. -/
theorem run_ends [∀ e, Nonempty (Elt F e)] (h : Good m) :
    θ_run (Cert.KernelIdeal.defs (F := F)) (Cert.KernelIdeal.threads (F := F)) ⟨m, fun _ => 0, ρ⟩
      (fun r => (∀ c : Dev nD, r.2.mem (c, dr main_v68) = VD m c (dr main_v68)
        ∧ r.2.mem (c, dr main_arg0) = m (c, dr main_arg0) ∧ r.2.mem (c, dr main_arg1) = m (c, dr main_arg1) ∧ r.2.mem (c, dr main_arg2) = m (c, dr main_arg2))
        ∧ r.2.sem = fun _ => 0) :=
  (θ_run Cert.KernelIdeal.defs _ _).mono
    (fun _ hq => ⟨fun c => ⟨hq.1 c _ (by decide +kernel), (hq.1 c _ (by decide +kernel)).trans (arg_kept m c (by decide)),
      (hq.1 c _ (by decide +kernel)).trans (arg_kept m c (by decide)), (hq.1 c _ (by decide +kernel)).trans (arg_kept m c (by decide))⟩, hq.2⟩)
    (run_main m ρ (in_range m h))

end Cert.Proof.Knn

end
-- ==== Proof.Gathers.lean ====
/-
  The gathers of the two programs, read at an index.
-/
module

public import proofs.«01_k».proof.Proof.Base
public import proofs.«01_k».proof.Proof.Gen.ReferenceIdeal
public import Idealize.ShloMosaic.Lib.Pointwise.Tactic

@[expose] public section

noncomputable section

namespace Cert.Proof.Value

open Idealize.ShloMosaic

/-- A word read as a row number of an array of `n + 1` rows: signed, and clamped to the array. -/
def row (n : ℕ) (w : BitVec 32) : Fin (n + 1) := ⟨min w.toInt.toNat n, by omega⟩

variable {α : Type}

/-- Rows of a table of vertices, by face and corner. -/
abbrev byVertex : GatherDims ⟨2, ![10000, 3]⟩ ⟨3, ![4096, 3, 1]⟩ ⟨3, ![4096, 3, 3]⟩ := ⟨[2], [0], [], [], [0], 2, ![1, 3], by decide⟩
/-- Columns of a table of faces. -/
abbrev byTurn : GatherDims ⟨2, ![4096, 3]⟩ ⟨2, ![3, 1]⟩ ⟨2, ![4096, 3]⟩ := ⟨[0], [1], [], [], [1], 1, ![4096, 1], by decide⟩
/-- Rows of a table of faces, by face and neighbour. -/
abbrev byFace : GatherDims ⟨2, ![4096, 3]⟩ ⟨3, ![4096, 20, 1]⟩ ⟨3, ![4096, 20, 3]⟩ := ⟨[2], [0], [], [], [0], 2, ![1, 3], by decide⟩
/-- Columns of a table of neighbours. -/
abbrev byTurn3 : GatherDims ⟨3, ![4096, 20, 3]⟩ ⟨2, ![3, 1]⟩ ⟨3, ![4096, 20, 3]⟩ := ⟨[0, 1], [2], [], [], [2], 1, ![4096, 20, 1], by decide⟩
/-- Rows of a table of vertices, by face, neighbour and corner. -/
abbrev byVertex3 : GatherDims ⟨2, ![10000, 3]⟩ ⟨4, ![4096, 20, 3, 1]⟩ ⟨4, ![4096, 20, 3, 3]⟩ := ⟨[3], [0], [], [], [0], 3, ![1, 3], by decide⟩

/-- Rows of a table of vertices at the rows an index array names. -/
theorem gather_vertex (x : (⟨2, ![10000, 3]⟩ : Shape).Idx → α) (i : IVec ⟨3, ![4096, 3, 1]⟩ 32) (q : Fin 4096) (a b : Fin 3) :
    Host.gather byVertex x i (ix3 q a b) = x (ix2 (row 9999 (i (ix3 q a 0))) b) := by
  show x _ = x _
  congr 1
  have e : ∀ (h : 0 < 1), GatherDims.siIdx byVertex (ix3 q a b) ⟨0, h⟩ = (ix3 q a 0) := fun _ => by
    funext c
    refine Fin.ext ?_
    fin_cases c
    · exact congrArg (fun X : Fin 3 => ((ix3 q a b) X).val) (show _ = (0 : Fin 3) by decide)
    · exact congrArg (fun X : Fin 3 => ((ix3 q a b) X).val) (show _ = (1 : Fin 3) by decide)
    · rfl
  funext c
  refine Fin.ext ?_
  fin_cases c
  · simp [GatherDims.operandIdx, GatherDims.start, GatherDims.batchCoord, GatherDims.offCoord, Shape.kept, row, List.finRange_succ, List.filter_cons]
    rw [← e Nat.one_pos]
    rfl
  · refine (Nat.zero_add _).trans ?_
    exact congrArg (fun X : Fin 3 => ((ix3 q a b) X).val) (show _ = (2 : Fin 3) by decide)

/-- The columns of a table of faces that an index array names. -/
theorem gather_turn (x : (⟨2, ![4096, 3]⟩ : Shape).Idx → α) (i : IVec ⟨2, ![3, 1]⟩ 32) (q : Fin 4096) (a : Fin 3) :
    Host.gather byTurn x i (ix2 q a) = x (ix2 q (row 2 (i (ix2 a 0)))) := by
  show x _ = x _
  congr 1
  have e : ∀ (h : 0 < 1), GatherDims.siIdx byTurn (ix2 q a) ⟨0, h⟩ = (ix2 a 0) := fun _ => by
    funext c
    refine Fin.ext ?_
    fin_cases c
    · exact congrArg (fun X : Fin 2 => ((ix2 q a) X).val) (show _ = (1 : Fin 2) by decide)
    · rfl
  funext c
  refine Fin.ext ?_
  fin_cases c
  · refine (Nat.zero_add _).trans ?_
    exact congrArg (fun X : Fin 2 => ((ix2 q a) X).val) (show _ = (0 : Fin 2) by decide)
  · simp [GatherDims.operandIdx, GatherDims.start, GatherDims.batchCoord, GatherDims.offCoord, Shape.kept, row, List.finRange_succ, List.filter_cons]
    rw [← e Nat.one_pos]
    rfl

/-- Rows of a table of faces at the rows an index array names. -/
theorem gather_face (x : (⟨2, ![4096, 3]⟩ : Shape).Idx → α) (i : IVec ⟨3, ![4096, 20, 1]⟩ 32) (q : Fin 4096) (n : Fin 20) (b : Fin 3) :
    Host.gather byFace x i (ix3 q n b) = x (ix2 (row 4095 (i (ix3 q n 0))) b) := by
  show x _ = x _
  congr 1
  have e : ∀ (h : 0 < 1), GatherDims.siIdx byFace (ix3 q n b) ⟨0, h⟩ = (ix3 q n 0) := fun _ => by
    funext c
    refine Fin.ext ?_
    fin_cases c
    · exact congrArg (fun X : Fin 3 => ((ix3 q n b) X).val) (show _ = (0 : Fin 3) by decide)
    · exact congrArg (fun X : Fin 3 => ((ix3 q n b) X).val) (show _ = (1 : Fin 3) by decide)
    · rfl
  funext c
  refine Fin.ext ?_
  fin_cases c
  · simp [GatherDims.operandIdx, GatherDims.start, GatherDims.batchCoord, GatherDims.offCoord, Shape.kept, row, List.finRange_succ, List.filter_cons]
    rw [← e Nat.one_pos]
    rfl
  · refine (Nat.zero_add _).trans ?_
    exact congrArg (fun X : Fin 3 => ((ix3 q n b) X).val) (show _ = (2 : Fin 3) by decide)

/-- The last columns of a table of chosen faces that an index array names. -/
theorem gather_turn3 (x : (⟨3, ![4096, 20, 3]⟩ : Shape).Idx → α) (i : IVec ⟨2, ![3, 1]⟩ 32) (q : Fin 4096) (n : Fin 20) (a : Fin 3) :
    Host.gather byTurn3 x i (ix3 q n a) = x (ix3 q n (row 2 (i (ix2 a 0)))) := by
  show x _ = x _
  congr 1
  have e : ∀ (h : 0 < 1), GatherDims.siIdx byTurn3 (ix3 q n a) ⟨0, h⟩ = (ix2 a 0) := fun _ => by
    funext c
    refine Fin.ext ?_
    fin_cases c
    · exact congrArg (fun X : Fin 3 => ((ix3 q n a) X).val) (show _ = (2 : Fin 3) by decide)
    · rfl
  funext c
  refine Fin.ext ?_
  fin_cases c
  · refine (Nat.zero_add _).trans ?_
    exact congrArg (fun X : Fin 3 => ((ix3 q n a) X).val) (show _ = (0 : Fin 3) by decide)
  · refine (Nat.zero_add _).trans ?_
    exact congrArg (fun X : Fin 3 => ((ix3 q n a) X).val) (show _ = (1 : Fin 3) by decide)
  · simp [GatherDims.operandIdx, GatherDims.start, GatherDims.batchCoord, GatherDims.offCoord, Shape.kept, row, List.finRange_succ, List.filter_cons]
    rw [← e Nat.one_pos]
    rfl

/-- Rows of a table of vertices at the rows an index array of chosen faces names. -/
theorem gather_vertex3 (x : (⟨2, ![10000, 3]⟩ : Shape).Idx → α) (i : IVec ⟨4, ![4096, 20, 3, 1]⟩ 32) (q : Fin 4096) (n : Fin 20) (a b : Fin 3) :
    Host.gather byVertex3 x i (ix4 q n a b) = x (ix2 (row 9999 (i (ix4 q n a 0))) b) := by
  show x _ = x _
  congr 1
  have e : ∀ (h : 0 < 1), GatherDims.siIdx byVertex3 (ix4 q n a b) ⟨0, h⟩ = (ix4 q n a 0) := fun _ => by
    funext c
    refine Fin.ext ?_
    fin_cases c
    · exact congrArg (fun X : Fin 4 => ((ix4 q n a b) X).val) (show _ = (0 : Fin 4) by decide)
    · exact congrArg (fun X : Fin 4 => ((ix4 q n a b) X).val) (show _ = (1 : Fin 4) by decide)
    · exact congrArg (fun X : Fin 4 => ((ix4 q n a b) X).val) (show _ = (2 : Fin 4) by decide)
    · rfl
  funext c
  refine Fin.ext ?_
  fin_cases c
  · simp [GatherDims.operandIdx, GatherDims.start, GatherDims.batchCoord, GatherDims.offCoord, Shape.kept, row, List.finRange_succ, List.filter_cons]
    rw [← e Nat.one_pos]
    rfl
  · refine (Nat.zero_add _).trans ?_
    exact congrArg (fun X : Fin 4 => ((ix4 q n a b) X).val) (show _ = (3 : Fin 4) by decide)

end Cert.Proof.Value

end
-- ==== Proof.Plain.lean ====
/-
  The loss in plain words: the edges of the faces, when an edge of a face meets an edge of another, and how often.
-/
module

public import proofs.«01_k».proof.Proof.Gathers
public import Idealize.ShloMosaic.Lib.IdealHost
public import Idealize.ShloMosaic.Lib.Pointwise.Reduce

@[expose] public section

noncomputable section

namespace Cert.Proof.Value

open Idealize.ShloMosaic

/-- A table of vertices, and a table of faces. -/
abbrev Vertices : Type := FVec Ideal ⟨2, ![10000, 3]⟩ .f32
abbrev Faces : Type := IVec ⟨2, ![4096, 3]⟩ 32

/-- Every corner names a vertex. -/
def Named (f : Faces) : Prop := ∀ x, (f x).toNat < 10000

/-- The corner after `a`. -/
def next (a : Fin 3) : Fin 3 := a + 1

/-- Coordinate `k` of corner `a` of face `w`. -/
def point (v : Vertices) (f : Faces) (w : Fin 4096) (a k : Fin 3) : EReal := v (ix2 (row 9999 (f (ix2 w a))) k)

/-- Coordinate `k` of edge `a` of face `w`. -/
def edge (v : Vertices) (f : Faces) (w : Fin 4096) (a k : Fin 3) : EReal := point v f w (next a) k - point v f w a k

/-- The coordinates of a face's centre. -/
def centre (v : Vertices) (f : Faces) (w : Fin 4096) (k : Fin 3) : EReal :=
  Ideal.div (0 + ∑ a : Fin 3, point v f w a k) (Ideal.ofBits .f32 0x40400000#32)

/-- The squared distance of two centres. -/
def apart (v : Vertices) (f : Faces) (q w : Fin 4096) : EReal :=
  0 + ∑ k : Fin 3, (centre v f q k - centre v f w k) * (centre v f q k - centre v f w k)

/-- The cross product. -/
def cross (e n : Fin 3 → EReal) : Fin 3 → EReal := ![e 1 * n 2 - e 2 * n 1, e 2 * n 0 - e 0 * n 2, e 0 * n 1 - e 1 * n 0]

/-- The scalar product, its products added in order. -/
def dot (a b : Fin 3 → EReal) : EReal := a 0 * b 0 + a 1 * b 1 + a 2 * b 2

/-- The parameter of the crossing along the neighbour's edge, and along the own edge. -/
def along (e n x : Fin 3 → EReal) : EReal := Ideal.div (dot (cross e n) x) (dot (cross e n) e)

open Classical in
/-- Whether edge `e` meets the neighbour's edge `n`, `x` being the own edge of the neighbour's edge's number. -/
def meets (e n x : Fin 3 → EReal) : Bool :=
  decide (0 ≤ along e n n) && decide (along e n n ≤ 1) && decide (0 ≤ along e n x) && decide (along e n x ≤ 1)

/-- How many edges of face `w` edge `j` of face `q` meets. -/
def count (v : Vertices) (f : Faces) (q w : Fin 4096) (j : Fin 3) : ℕ :=
  ∑ a : Fin 3, if meets (edge v f q j) (edge v f w a) (edge v f q a) then 1 else 0

/-- How many edges of the faces `w` the edges of face `q` meet. -/
def total (v : Vertices) (f : Faces) (q : Fin 4096) (w : Fin 20 → Fin 4096) : ℕ := ∑ n : Fin 20, ∑ j : Fin 3, count v f q (w n) j

/-- The loss, `w q` being the faces that face `q` is compared with. -/
def lossOf (v : Vertices) (f : Faces) (p : FVec Ideal ⟨1, ![4096]⟩ .f32) (w : Fin 4096 → Fin 20 → Fin 4096) : EReal :=
  ∑ q : Fin 4096, p (ix1 q) * ((total v f q (w q) : ℝ) : EReal)

/-- A word below ten thousand is not moved when negative words are. -/
theorem wrap_word {w : BitVec 32} {n : ℕ} (hn : n ≤ 10000) (h : w.toNat < n) (c : BitVec 32) :
    Scalar.select (IntOp.cmpi .slt w 0#32) (IntOp.addi w c) w = w := by
  have : IntOp.cmpi .slt w 0#32 = 0#1 := by
    simp only [IntOp.cmpi, BitVec.slt_eq_decide, BitVec.toInt_eq_toNat_cond, BitVec.toNat_ofNat, Nat.reducePow, Nat.reduceMod]
    rw [decide_eq_false (by split <;> omega)]
    rfl
  rw [this]
  rfl

theorem row_val {w : BitVec 32} {n : ℕ} (hn : n ≤ 9999) (h : w.toNat ≤ n) : (row n w).val = w.toNat := by
  simp only [row, BitVec.toInt_eq_toNat_cond]
  split <;> omega

variable (v : Vertices) (f g : Faces)

/-- A table of faces with every negative word moved up by the number of rows. -/
abbrev wrapped (hb : (⟨0, ![]⟩ : Shape).BroadcastsInDim ⟨2, ![4096, 3]⟩ ![]) : Faces :=
  select (cmpi .slt f (broadcastInDim ⟨2, ![4096, 3]⟩ ![] hb (constantI ⟨0, ![]⟩ 32 0#32)))
    (addi f (broadcastInDim ⟨2, ![4096, 3]⟩ ![] hb (constantI ⟨0, ![]⟩ 32 10000#32))) f

theorem wrapped_eq (h : Named f) (hb) : wrapped f hb = f := by
  funext x
  show Scalar.select (IntOp.cmpi .slt (f x) 0#32) (IntOp.addi (f x) 10000#32) (f x) = f x
  exact wrap_word le_rfl (h x) _

theorem gathered (hb) (q : Fin 4096) (a k : Fin 3) :
    Host.gather byVertex v
      (broadcastInDim ⟨3, ![4096, 3, 1]⟩ ![0, 1] hb f) (ix3 q a k) = point v f q a k := by
  rw [gather_vertex]
  unfold point
  congr 3
  pointwise

/-- The table of the next corners. -/
abbrev nextWords (T : IVec ⟨1, ![3]⟩ 32) (hb : (⟨0, ![]⟩ : Shape).BroadcastsInDim ⟨1, ![3]⟩ ![]) : IVec ⟨1, ![3]⟩ 32 :=
  select (cmpi .slt T (broadcastInDim ⟨1, ![3]⟩ ![] hb (constantI ⟨0, ![]⟩ 32 0#32)))
    (addi T (broadcastInDim ⟨1, ![3]⟩ ![] hb (constantI ⟨0, ![]⟩ 32 3#32))) T

theorem next_word (T : IVec ⟨1, ![3]⟩ 32) (hT : ∀ a, T (ix1 a) = BitVec.ofNat 32 (next a).val) (hb) (hc) (a : Fin 3) :
    row 2 (broadcastInDim ⟨2, ![3, 1]⟩ ![0] hc (nextWords T hb) (ix2 a 0)) = next a := by
  have e : broadcastInDim ⟨2, ![3, 1]⟩ ![0] hc (nextWords T hb) (ix2 a 0) = nextWords T hb (ix1 a) := by pointwise
  rw [e]
  show row 2 (Scalar.select (IntOp.cmpi .slt (T (ix1 a)) 0#32) (IntOp.addi (T (ix1 a)) 3#32) (T (ix1 a))) = _
  rw [hT]
  clear e
  revert a
  decide

theorem turned (T : IVec ⟨1, ![3]⟩ 32) (hT : ∀ a, T (ix1 a) = BitVec.ofNat 32 (next a).val) (hb) (hc) :
    Host.gather byTurn f
      (broadcastInDim ⟨2, ![3, 1]⟩ ![0] hc (nextWords T hb)) = fun j => f (ix2 (j 0) (next (j 1))) := by
  funext j
  obtain ⟨q, a, rfl⟩ : ∃ q a, j = ix2 q a := ⟨j 0, j 1, eq_ix2 j⟩
  rw [gather_turn, next_word T hT]
  rfl

theorem Named.turned (h : Named f) : Named fun j => f (ix2 (j 0) (next (j 1))) := fun _ => h _

/-- The edges of all faces, as the programs compute them. -/
theorem edges_eq (h : Named f) (T : IVec ⟨1, ![3]⟩ 32) (hT : ∀ a, T (ix1 a) = BitVec.ofNat 32 (next a).val) (hb) (hc) (hd) (he) (q : Fin 4096) (a k : Fin 3) :
    subf (F := Ideal) (φ := .f32)
      (Host.gather byVertex v
        (broadcastInDim ⟨3, ![4096, 3, 1]⟩ ![0, 1] hb
          (wrapped (Host.gather byTurn f
            (broadcastInDim ⟨2, ![3, 1]⟩ ![0] hc (nextWords T hd))) he)))
      (Host.gather byVertex v
        (broadcastInDim ⟨3, ![4096, 3, 1]⟩ ![0, 1] hb (wrapped f he))) (ix3 q a k) = edge v f q a k := by
  rw [turned f T hT, wrapped_eq _ h.turned, wrapped_eq _ h]
  show Host.gather _ v _ _ - Host.gather _ v _ _ = _
  rw [gathered, gathered]
  rfl

/-- The centres of all faces, as the programs compute them. -/
theorem centres_eq (h : Named f) (hb) (he) (hr) (hs) (hz) (q : Fin 4096) (k : Fin 3) :
    Host.divf (F := Ideal) (φ := .f32) (Host.reduceAdd (F := Ideal) (t := ⟨2, ![4096, 3]⟩) (axes := [1])
      (Host.gather byVertex v
        (broadcastInDim ⟨3, ![4096, 3, 1]⟩ ![0, 1] hb (wrapped f he))) (constant ⟨0, ![]⟩ .f32 0x00000000#32) hr hs)
      (broadcastInDim ⟨2, ![4096, 3]⟩ ![] hz (constant ⟨0, ![]⟩ .f32 0x40400000#32)) (ix2 q k) = centre v f q k := by
  rw [wrapped_eq _ h]
  have hG := gathered v f hb q
  generalize Host.gather byVertex v (broadcastInDim ⟨3, ![4096, 3, 1]⟩ ![0, 1] hb f) = G at hG ⊢
  refine congrArg (fun x => Ideal.div x (Ideal.ofBits .f32 0x40400000#32)) ?_
  simp only [← hG]
  rw [ValueIdx.hostReduceAdd_apply, Ideal.hostReduceAdd_r3_a1]
  exact congrArg (· + _) Ideal.ofBits_zero_f32

/-- A table of neighbours with every negative word moved up by the number of faces. -/
abbrev wrappedN (I : IVec ⟨2, ![4096, 20]⟩ 32) (hb : (⟨0, ![]⟩ : Shape).BroadcastsInDim ⟨2, ![4096, 20]⟩ ![]) : IVec ⟨2, ![4096, 20]⟩ 32 :=
  select (cmpi .slt I (broadcastInDim ⟨2, ![4096, 20]⟩ ![] hb (constantI ⟨0, ![]⟩ 32 0#32)))
    (addi I (broadcastInDim ⟨2, ![4096, 20]⟩ ![] hb (constantI ⟨0, ![]⟩ 32 4096#32))) I

/-- The faces of the neighbours. -/
def nbrFaces (I : IVec ⟨2, ![4096, 20]⟩ 32) : IVec ⟨3, ![4096, 20, 3]⟩ 32 := fun j => f (ix2 (row 4095 (I (ix2 (j 0) (j 1)))) (j 2))

theorem nbrFaces_eq (I : IVec ⟨2, ![4096, 20]⟩ 32) (hI : ∀ x, (I x).toNat < 4096) (hb) (hc) :
    Host.gather byFace f (broadcastInDim ⟨3, ![4096, 20, 1]⟩ ![0, 1] hc (wrappedN I hb)) = nbrFaces f I := by
  funext j
  obtain ⟨q, n, a, rfl⟩ : ∃ q n a, j = ix3 q n a := ⟨j 0, j 1, j 2, eq_ix3 j⟩
  have e : wrappedN I hb = I := funext fun x => wrap_word (by decide) (hI x) _
  rw [gather_face, e]
  show _ = f (ix2 (row 4095 (I (ix2 q n))) a)
  congr 3
  pointwise

theorem turned3 (g : IVec ⟨3, ![4096, 20, 3]⟩ 32) (T : IVec ⟨1, ![3]⟩ 32) (hT : ∀ a, T (ix1 a) = BitVec.ofNat 32 (next a).val) (hb) (hc) :
    Host.gather byTurn3 g
      (broadcastInDim ⟨2, ![3, 1]⟩ ![0] hc (nextWords T hb)) = fun j => g (ix3 (j 0) (j 1) (next (j 2))) := by
  funext j
  obtain ⟨q, n, a, rfl⟩ : ∃ q n a, j = ix3 q n a := ⟨j 0, j 1, j 2, eq_ix3 j⟩
  rw [gather_turn3, next_word T hT]
  rfl

/-- A table of faces of neighbours with every negative word moved up by the number of rows. -/
abbrev wrapped3 (g : IVec ⟨3, ![4096, 20, 3]⟩ 32) (hb : (⟨0, ![]⟩ : Shape).BroadcastsInDim ⟨3, ![4096, 20, 3]⟩ ![]) : IVec ⟨3, ![4096, 20, 3]⟩ 32 :=
  select (cmpi .slt g (broadcastInDim ⟨3, ![4096, 20, 3]⟩ ![] hb (constantI ⟨0, ![]⟩ 32 0#32)))
    (addi g (broadcastInDim ⟨3, ![4096, 20, 3]⟩ ![] hb (constantI ⟨0, ![]⟩ 32 10000#32))) g

theorem wrapped3_eq (g : IVec ⟨3, ![4096, 20, 3]⟩ 32) (h : ∀ x, (g x).toNat < 10000) (hb) : wrapped3 g hb = g :=
  funext fun x => wrap_word le_rfl (h x) _

theorem gathered3 (g : IVec ⟨3, ![4096, 20, 3]⟩ 32) (hb) (q : Fin 4096) (n : Fin 20) (a k : Fin 3) :
    Host.gather byVertex3 v (broadcastInDim ⟨4, ![4096, 20, 3, 1]⟩ ![0, 1, 2] hb g) (ix4 q n a k) = v (ix2 (row 9999 (g (ix3 q n a))) k) := by
  rw [gather_vertex3]
  congr 3
  pointwise

/-- The edges of the neighbours, as the reference computes them. -/
theorem nbr_edges_eq (h : Named f) (I : IVec ⟨2, ![4096, 20]⟩ 32) (hI : ∀ x, (I x).toNat < 4096)
    (T : IVec ⟨1, ![3]⟩ 32) (hT : ∀ a, T (ix1 a) = BitVec.ofNat 32 (next a).val) (hb) (hc) (hd) (he) (hg) (hi) (q : Fin 4096) (n : Fin 20) (a k : Fin 3) :
    subf (F := Ideal) (φ := .f32)
      (Host.gather byVertex3 v (broadcastInDim ⟨4, ![4096, 20, 3, 1]⟩ ![0, 1, 2] hb
        (wrapped3 (Host.gather byTurn3 (Host.gather byFace f (broadcastInDim ⟨3, ![4096, 20, 1]⟩ ![0, 1] hc (wrappedN I hd)))
          (broadcastInDim ⟨2, ![3, 1]⟩ ![0] he (nextWords T hg))) hi)))
      (Host.gather byVertex3 v (broadcastInDim ⟨4, ![4096, 20, 3, 1]⟩ ![0, 1, 2] hb
        (wrapped3 (Host.gather byFace f (broadcastInDim ⟨3, ![4096, 20, 1]⟩ ![0, 1] hc (wrappedN I hd))) hi))) (ix4 q n a k)
      = edge v f (row 4095 (I (ix2 q n))) a k := by
  have h3 : ∀ x, (nbrFaces f I x).toNat < 10000 := fun _ => h _
  rw [nbrFaces_eq f I hI, turned3 _ T hT, wrapped3_eq (nbrFaces f I) h3, wrapped3_eq _ (fun _ => h3 _)]
  show Host.gather _ v _ _ - Host.gather _ v _ _ = _
  rw [gathered3, gathered3]
  rfl

end Cert.Proof.Value

end
-- ==== Proof.Tally.lean ====
/-
  The count of the crossings, as the reference computes it: a mask of one-bit words, widened, added up as words and read as a number.
-/
module

public import proofs.«01_k».proof.Proof.Plain
public import Idealize.ShloMosaic.Lib.Pointwise.Tactic
public import Idealize.ShloMosaic.Lib.Pointwise.Reduce
public import Idealize.ShloMosaic.Lib.IdealHost
public import Mathlib.Data.BitVec

@[expose] public section

set_option maxRecDepth 16384

noncomputable section

namespace Cert.Proof.Value

open Idealize.ShloMosaic

/-- Words added up in order are their sum. -/
theorem foldl_addi {ι : Type} (g : ι → BitVec 32) (l : List ι) (r : BitVec 32) :
    l.foldl (fun r n => IntOp.addi r (g n)) r = r + (l.map g).sum := by
  induction l generalizing r with
  | nil => simp
  | cons n l ih =>
    rw [List.foldl_cons, ih, List.map_cons, List.sum_cons, ← add_assoc]
    rfl

/-- A host's sum of words along two axes. -/
theorem reduce_addi (x : IVec ⟨3, ![4096, 20, 3]⟩ 32) (h : (⟨3, ![4096, 20, 3]⟩ : Shape).ReducesTo [1, 2] ⟨1, ![4096]⟩) (hu) (q : Fin 4096) :
    Host.reduce IntOp.addi x (constantI ⟨0, ![]⟩ 32 0#32) h hu (ix1 q) = ∑ n : Fin 20, ∑ a : Fin 3, x (ix3 q n a) := by
  unfold Host.reduce
  rw [foldl_addi]
  refine (zero_add _).trans (Eq.trans ?_ (h.sum_fiber_r3_a12 (ix1 q) x))
  rw [← List.sum_toFinset _ ((List.nodup_finRange _).filter _)]
  refine Finset.sum_equiv (Shape.rowMajor _).symm (fun n => ?_) (fun n _ => rfl)
  simp

/-- The number of ones of a mask, as a number. -/
theorem tally {M : IVec ⟨3, ![4096, 20, 3]⟩ 1} (b : Fin 20 → Fin 3 → Bool) (q : Fin 4096)
    (hM : ∀ n a, M (ix3 q n a) = BitVec.ofBool (b n a)) (hw) (h : (⟨3, ![4096, 20, 3]⟩ : Shape).ReducesTo [1, 2] ⟨1, ![4096]⟩) (hu) :
    sitofp (F := Ideal) .f32 (Host.reduce IntOp.addi (extui 32 M hw) (constantI ⟨0, ![]⟩ 32 0#32) h hu) (ix1 q)
      = (((∑ n, ∑ a, if b n a then 1 else 0 : ℕ) : ℝ) : EReal) := by
  show (((Host.reduce IntOp.addi (extui 32 M hw) (constantI ⟨0, ![]⟩ 32 0#32) h hu (ix1 q)).toInt : ℝ) : EReal) = _
  rw [reduce_addi]
  have e : ∀ n a, extui 32 M hw (ix3 q n a) = ((if b n a then 1 else 0 : ℕ) : BitVec 32) := fun n a => by
    show (M (ix3 q n a)).setWidth 32 = _
    rw [hM]
    cases b n a <;> rfl
  simp only [e]
  have le : (∑ n : Fin 20, ∑ a : Fin 3, if b n a then 1 else 0 : ℕ) ≤ 60 := by
    refine (Finset.sum_le_sum fun n _ => Finset.sum_le_sum fun a _ => show (if b n a then 1 else 0) ≤ 1 by split <;> omega).trans ?_
    simp
  have s : (∑ n : Fin 20, ∑ a : Fin 3, ((if b n a then 1 else 0 : ℕ) : BitVec 32)) = ((∑ n : Fin 20, ∑ a : Fin 3, if b n a then 1 else 0 : ℕ) : BitVec 32) := by
    simp only [Nat.cast_sum]
  rw [s]
  generalize (∑ n : Fin 20, ∑ a : Fin 3, if b n a then 1 else 0 : ℕ) = N at le
  have t : ((N : BitVec 32)).toInt = N := by
    rw [BitVec.natCast_eq_ofNat, BitVec.toInt_eq_toNat_cond, BitVec.toNat_ofNat]
    omega
  rw [t]
  simp

/-- The sums of an array of vectors' products with another's. -/
abbrev dots (C N : FVec Ideal ⟨4, ![4096, 20, 3, 3]⟩ .f32) (h : (⟨4, ![4096, 20, 3, 3]⟩ : Shape).ReducesTo [3] ⟨3, ![4096, 20, 3]⟩) (hu : 0 < (⟨0, ![]⟩ : Shape).numel) :
    FVec Ideal ⟨3, ![4096, 20, 3]⟩ .f32 :=
  Host.reduceAdd (mulf C N) (constant ⟨0, ![]⟩ .f32 0x00000000#32) h hu

theorem dots_eq {C N : FVec Ideal ⟨4, ![4096, 20, 3, 3]⟩ .f32} (h) (hu) {q : Fin 4096} {n : Fin 20} {a : Fin 3} {c x : Fin 3 → EReal}
    (hC : ∀ k, C (ix4 q n a k) = c k) (hN : ∀ k, N (ix4 q n a k) = x k) : dots C N h hu (ix3 q n a) = dot c x := by
  unfold dots
  rw [ValueIdx.hostReduceAdd_apply, Ideal.hostReduceAdd_r4_a3, Fin.sum_univ_three]
  show Ideal.ofBits .f32 0x00000000#32 + (C (ix4 q n a 0) * N (ix4 q n a 0) + C (ix4 q n a 1) * N (ix4 q n a 1) + C (ix4 q n a 2) * N (ix4 q n a 2)) = _
  rw [Ideal.ofBits_zero_f32, zero_add, hC, hC, hC, hN, hN, hN]
  rfl

/-- The mask of the crossings, from the arrays of cross products, of the neighbours' edges, of the own edge and of the own edges. -/
abbrev mask (C N E T : FVec Ideal ⟨4, ![4096, 20, 3, 3]⟩ .f32) (h : (⟨4, ![4096, 20, 3, 3]⟩ : Shape).ReducesTo [3] ⟨3, ![4096, 20, 3]⟩) (hu : 0 < (⟨0, ![]⟩ : Shape).numel)
    (hb : (⟨0, ![]⟩ : Shape).BroadcastsInDim ⟨3, ![4096, 20, 3]⟩ ![]) : IVec ⟨3, ![4096, 20, 3]⟩ 1 :=
  andi (andi (andi
    (cmpf .oge (Host.divf (dots C N h hu) (dots C E h hu)) (broadcastInDim ⟨3, ![4096, 20, 3]⟩ ![] hb (constant ⟨0, ![]⟩ .f32 0x00000000#32)))
    (cmpf .ole (Host.divf (dots C N h hu) (dots C E h hu)) (broadcastInDim ⟨3, ![4096, 20, 3]⟩ ![] hb (constant ⟨0, ![]⟩ .f32 0x3F800000#32))))
    (cmpf .oge (Host.divf (dots C T h hu) (dots C E h hu)) (broadcastInDim ⟨3, ![4096, 20, 3]⟩ ![] hb (constant ⟨0, ![]⟩ .f32 0x00000000#32))))
    (cmpf .ole (Host.divf (dots C T h hu) (dots C E h hu)) (broadcastInDim ⟨3, ![4096, 20, 3]⟩ ![] hb (constant ⟨0, ![]⟩ .f32 0x3F800000#32)))

theorem andi_ofBool (a b : Bool) : IntOp.andi (BitVec.ofBool a) (BitVec.ofBool b) = BitVec.ofBool (a && b) := by
  cases a <;> cases b <;> rfl

theorem mask_eq {C N E T : FVec Ideal ⟨4, ![4096, 20, 3, 3]⟩ .f32} (h) (hu) (hb) {q : Fin 4096} {n : Fin 20} {a : Fin 3} {e m x : Fin 3 → EReal}
    (hC : ∀ k, C (ix4 q n a k) = cross e m k) (hN : ∀ k, N (ix4 q n a k) = m k) (hE : ∀ k, E (ix4 q n a k) = e k) (hT : ∀ k, T (ix4 q n a k) = x k) :
    mask C N E T h hu hb (ix3 q n a) = BitVec.ofBool (meets e m x) := by
  have t : Host.divf (dots C N h hu) (dots C E h hu) (ix3 q n a) = along e m m := congrArg₂ Ideal.div (dots_eq h hu hC hN) (dots_eq h hu hC hE)
  have u : Host.divf (dots C T h hu) (dots C E h hu) (ix3 q n a) = along e m x := congrArg₂ Ideal.div (dots_eq h hu hC hT) (dots_eq h hu hC hE)
  show IntOp.andi (IntOp.andi (IntOp.andi
    (Ideal.cmp .oge (Host.divf (dots C N h hu) (dots C E h hu) (ix3 q n a)) (Ideal.ofBits .f32 0x00000000#32))
    (Ideal.cmp .ole (Host.divf (dots C N h hu) (dots C E h hu) (ix3 q n a)) (Ideal.ofBits .f32 0x3F800000#32)))
    (Ideal.cmp .oge (Host.divf (dots C T h hu) (dots C E h hu) (ix3 q n a)) (Ideal.ofBits .f32 0x00000000#32)))
    (Ideal.cmp .ole (Host.divf (dots C T h hu) (dots C E h hu) (ix3 q n a)) (Ideal.ofBits .f32 0x3F800000#32)) = _
  rw [t, u, Ideal.ofBits_zero_f32, Ideal.ofBits_one_f32]
  simp only [Ideal.cmp, andi_ofBool]
  unfold meets
  congr

end Cert.Proof.Value

end
-- ==== Proof.Cross.lean ====
/-
  The TensorCore kernel's loss: the marks of the crossings of every face's three edges with its sixty neighbours' edges, weighted and added up.
-/
module

public import proofs.«01_k».proof.Proof.Region
public import proofs.«01_k».proof.Proof.Tally
public import Idealize.ShloMosaic.Lib.Pointwise.Reshape
public import Idealize.ShloMosaic.Lib.Pointwise.Blocks

@[expose] public section

set_option maxRecDepth 16384

noncomputable section

namespace Cert.Proof.Value

open Cert.KernelIdeal Cert.KernelIdeal.Gen Cert.Proof.Knn
open Idealize.ShloMosaic

/-- One where the edges meet, else zero. -/
def mark (e n x : Fin 3 → EReal) : EReal := if meets e n x then 1 else 0

theorem marked (e n x : Fin 3 → EReal) : (Scalar.select (IntOp.andi (IntOp.andi (IntOp.andi
    (Ideal.cmp .oge (along e n n) 0) (Ideal.cmp .ole (along e n n) 1)) (Ideal.cmp .oge (along e n x) 0)) (Ideal.cmp .ole (along e n x) 1)) 1 0 : EReal) = mark e n x := by
  simp only [Ideal.cmp, andi_ofBool]
  unfold mark meets
  generalize decide (0 ≤ along e n n) = a, decide (along e n n ≤ 1) = b, decide (0 ≤ along e n x) = c, decide (along e n x ≤ 1) = d
  cases a <;> cases b <;> cases c <;> cases d <;> rfl

variable (x0 x1 x2 : Vec Ideal S4096x60 .f32) (x3 x4 x5 : Vec Ideal S4096x3 .f32) (x6 x7 x8 : Vec Ideal S4096x60 .f32) (x9 : Vec Ideal S4096x1 .f32)

/-- The three coordinates of a vector kept in three arrays. -/
def vec3 {s : Shape} (a b c : FVec Ideal s .f32) (j : s.Idx) : Fin 3 → EReal := ![a j, b j, c j]

theorem count1_at (q : Fin 4096) (c : Fin 60) : count1 x0 x1 x2 x3 x4 x5 x6 x7 x8 x9 (ix2 q c)
    = (mark (vec3 x3 x4 x5 (ix2 q 0)) (vec3 x0 x1 x2 (ix2 q c)) (vec3 x6 x7 x8 (ix2 q c)) : EReal) := by
  rw [← marked]
  unfold count1 k1_pay17 k1_pay16 k1_pay15 k1_pay14 k1_pay13 k1_pay12 k1_pay11 k1_pay10 k1_pay9 k1_pay8 k1_pay7 k1_pay6 k1_pay5 k1_pay4 k1_pay3 k1_pay2
  pointwise
  rfl

theorem count2_at (q : Fin 4096) (c : Fin 60) : count2 x0 x1 x2 x3 x4 x5 x6 x7 x8 x9 (ix2 q c)
    = (mark (vec3 x3 x4 x5 (ix2 q 0)) (vec3 x0 x1 x2 (ix2 q c)) (vec3 x6 x7 x8 (ix2 q c))
      + mark (vec3 x3 x4 x5 (ix2 q 1)) (vec3 x0 x1 x2 (ix2 q c)) (vec3 x6 x7 x8 (ix2 q c)) : EReal) := by
  rw [← count1_at x0 x1 x2 x3 x4 x5 x6 x7 x8 x9, ← marked]
  unfold count2
  generalize count1 x0 x1 x2 x3 x4 x5 x6 x7 x8 x9 = C
  unfold k1_pay25 k1_pay24 k1_pay23 k1_pay22 k1_pay21 k1_pay20 k1_pay19 k1_pay18 k1_pay7 k1_pay6 k1_pay5 k1_pay4 k1_pay3 k1_pay2
  pointwise
  rfl

theorem loss_at (j : S1x1.Idx) : loss x0 x1 x2 x3 x4 x5 x6 x7 x8 x9 j
    = (∑ q : Fin 4096, ∑ c : Fin 60, (mark (vec3 x3 x4 x5 (ix2 q 0)) (vec3 x0 x1 x2 (ix2 q c)) (vec3 x6 x7 x8 (ix2 q c))
      + mark (vec3 x3 x4 x5 (ix2 q 1)) (vec3 x0 x1 x2 (ix2 q c)) (vec3 x6 x7 x8 (ix2 q c))
      + mark (vec3 x3 x4 x5 (ix2 q 2)) (vec3 x0 x1 x2 (ix2 q c)) (vec3 x6 x7 x8 (ix2 q c))) * x9 (ix2 q 0) : EReal) := by
  simp only [← count2_at x0 x1 x2 x3 x4 x5 x6 x7 x8 x9]
  simp only [← marked]
  unfold loss
  generalize count2 x0 x1 x2 x3 x4 x5 x6 x7 x8 x9 = C
  unfold k1_pay1 k1_pay31 k1_pay30 k1_pay29 k1_pay28 k1_pay27 k1_pay26 k1_pay7 k1_pay6 k1_pay5 k1_pay4 k1_pay3 k1_pay2
  pointwise
  rfl

end Cert.Proof.Value

end
-- ==== Proof.Total.lean ====
/-
  The TensorCore kernel's loss as the loss in plain words.
-/
module

public import proofs.«01_k».proof.Proof.Cross
public import Mathlib.Logic.Equiv.Fin.Basic

@[expose] public section

set_option maxRecDepth 16384

noncomputable section

namespace Cert.Proof.Value

open Cert.KernelIdeal Cert.KernelIdeal.Gen Cert.Proof.Knn
open Idealize.ShloMosaic

/-- The column of edge `a` of neighbour `n`. -/
def col (n : Fin 20) (a : Fin 3) : Fin 60 := ⟨3 * n.val + a.val, by omega⟩

theorem sum_cols (g : Fin 60 → ℕ) : ∑ c, g c = ∑ n : Fin 20, ∑ a : Fin 3, g (col n a) := by
  rw [← Fintype.sum_prod_type']
  refine (Fintype.sum_equiv (finProdFinEquiv : Fin 20 × Fin 3 ≃ Fin 60) _ _ fun x => ?_).symm
  congr 1
  exact Fin.ext (Nat.add_comm _ _)

/-- A weight may be multiplied to a sum of counts, or to each of them. -/
theorem sum_weighted {ι : Type} (s : Finset ι) (k : ι → ℕ) (P : EReal) : ∑ i ∈ s, ((k i : ℝ) : EReal) * P = (((∑ i ∈ s, k i : ℕ) : ℝ) : EReal) * P := by
  classical
  induction s using Finset.induction_on with
  | empty => simp
  | insert i s hi ih =>
    rw [Finset.sum_insert hi, Finset.sum_insert hi, ih, ← EReal.right_distrib_of_nonneg (EReal.coe_nonneg.2 (Nat.cast_nonneg _)) (EReal.coe_nonneg.2 (Nat.cast_nonneg _)),
      Nat.cast_add, EReal.coe_add]

theorem mark_cast (e n x : Fin 3 → EReal) : mark e n x = (((if meets e n x then 1 else 0 : ℕ) : ℝ) : EReal) := by
  unfold mark
  cases meets e n x <;> simp

variable {x0 x1 x2 : Vec Ideal S4096x60 .f32} {x3 x4 x5 : Vec Ideal S4096x3 .f32} {x6 x7 x8 : Vec Ideal S4096x60 .f32} {x9 : Vec Ideal S4096x1 .f32}
  {v : Vertices} {f : Faces} {p : FVec Ideal ⟨1, ![4096]⟩ .f32} {w : Fin 4096 → Fin 20 → Fin 4096}

theorem loss_total (hn : ∀ q n a, vec3 x0 x1 x2 (ix2 q (col n a)) = edge v f (w q n) a) (he : ∀ q j, vec3 x3 x4 x5 (ix2 q j) = edge v f q j)
    (ht : ∀ q n a, vec3 x6 x7 x8 (ix2 q (col n a)) = edge v f q a) (hp : ∀ q, x9 (ix2 q 0) = p (ix1 q)) (j : S1x1.Idx) :
    loss x0 x1 x2 x3 x4 x5 x6 x7 x8 x9 j = lossOf v f p w := by
  rw [loss_at]
  refine Finset.sum_congr rfl fun q _ => ?_
  have h (c : Fin 60) : (mark (vec3 x3 x4 x5 (ix2 q 0)) (vec3 x0 x1 x2 (ix2 q c)) (vec3 x6 x7 x8 (ix2 q c))
      + mark (vec3 x3 x4 x5 (ix2 q 1)) (vec3 x0 x1 x2 (ix2 q c)) (vec3 x6 x7 x8 (ix2 q c))
      + mark (vec3 x3 x4 x5 (ix2 q 2)) (vec3 x0 x1 x2 (ix2 q c)) (vec3 x6 x7 x8 (ix2 q c)) : EReal)
      = (((∑ j : Fin 3, if meets (vec3 x3 x4 x5 (ix2 q j)) (vec3 x0 x1 x2 (ix2 q c)) (vec3 x6 x7 x8 (ix2 q c)) then 1 else 0 : ℕ) : ℝ) : EReal) := by
    rw [Fin.sum_univ_three]
    simp only [mark_cast, Nat.cast_add, EReal.coe_add]
  simp only [h]
  rw [sum_weighted, sum_cols, mul_comm]
  refine congrArg₂ (fun (x : EReal) (k : ℕ) => x * ((k : ℝ) : EReal)) (hp q) ?_
  unfold total count
  simp only [hn, he, ht]
  exact Finset.sum_congr rfl fun n _ => Finset.sum_comm

end Cert.Proof.Value

end
-- ==== Proof.Own.lean ====
/-
  What the TensorCore call reads beside the SparseCore call's results: the own edges, the own edges for every neighbour, the weights.
-/
module

public import proofs.«01_k».proof.Proof.Ends
public import proofs.«01_k».proof.Proof.Plain
public import proofs.«01_k».proof.Proof.Total
public import Idealize.ShloMosaic.Lib.Pointwise.Reshape

@[expose] public section

set_option maxRecDepth 16384

noncomputable section

namespace Cert.Proof.Value

open Cert.KernelIdeal Cert.KernelIdeal.Gen Cert.Proof.Knn
open Idealize.ShloMosaic Idealize.ShloMosaic.TcCoe

variable (V W : Valuation τ sig (Elt Ideal))

/-- The table of the next corners. -/
abbrev corners : IVec S3 32 := fun i => lit0 (S3.rowMajor i)

theorem corners_eq (a : Fin 3) : corners (ix1 a) = BitVec.ofNat 32 (next a).val := by
  revert a
  decide

theorem a_table : (StableHlo.after opsA V main_c : IVec S3 32) = corners := by
  unfold opsA
  after_results_simp
  rfl

theorem b1_turned : (StableHlo.after opsB1 V main_v42 : FVec Ideal S4096x3x3 .f32) = Host.gather byVertex (V main_arg0 : Vertices)
    (broadcastInDim S4096x3x1 ![0, 1] bcast_S4096x3_S4096x3x1_0_1 (wrapped (Host.gather byTurn (V main_arg1 : Faces)
      (broadcastInDim S3x1 ![0] bcast_S3_S3x1_0 (nextWords (V main_c) bcast_S_S3))) bcast_S_S4096x3)) := by
  unfold opsB1
  after_results_simp
  rfl

theorem b1_words : (StableHlo.after opsB1 V main_v48 : IVec S4096x3x1 32) =
    broadcastInDim S4096x3x1 ![0, 1] bcast_S4096x3_S4096x3x1_0_1 (wrapped (V main_arg1) bcast_S_S4096x3) := by
  unfold opsB1
  after_results_simp

theorem b2_edges : (StableHlo.after opsB2 W main_v50 : FVec Ideal S4096x3x3 .f32) =
    subf (F := Ideal) (φ := .f32) (W main_v42 : FVec Ideal S4096x3x3 .f32) (Host.gather byVertex (W main_arg0 : Vertices) (W main_v48 : IVec S4096x3x1 32)) := by
  unfold opsB2
  after_results_simp
  rfl

theorem own_edges (h : Named (V main_arg1)) (hT : V main_c = corners) (q : Fin 4096) (a k : Fin 3) :
    (StableHlo.after opsB2 (StableHlo.after opsB1 V) main_v50 : FVec Ideal S4096x3x3 .f32) (ix3 q a k) = edge (V main_arg0) (V main_arg1) q a k := by
  rw [b2_edges, b1_turned, b1_words, show StableHlo.after opsB1 V main_arg0 = V main_arg0 from StableHlo.after_of_writes_sub opsB1 V opsB1_writes (by decide), hT]
  exact edges_eq _ _ h _ corners_eq _ _ _ _ q a k

theorem comp0 (E : FVec Ideal S4096x3x3 .f32) (hs) (hc) (q : Fin 4096) (a : Fin 3) :
    shapeCast S4096x3 (extractStridedSlice S4096x3x1 ![0, 0, 0] E hs) hc (ix2 q a) = E (ix3 q a 0) := by pointwise
theorem comp1 (E : FVec Ideal S4096x3x3 .f32) (hs) (hc) (q : Fin 4096) (a : Fin 3) :
    shapeCast S4096x3 (extractStridedSlice S4096x3x1 ![0, 0, 1] E hs) hc (ix2 q a) = E (ix3 q a 1) := by pointwise
theorem comp2 (E : FVec Ideal S4096x3x3 .f32) (hs) (hc) (q : Fin 4096) (a : Fin 3) :
    shapeCast S4096x3 (extractStridedSlice S4096x3x1 ![0, 0, 2] E hs) hc (ix2 q a) = E (ix3 q a 2) := by pointwise

theorem b2_x (q : Fin 4096) (a : Fin 3) : (StableHlo.after opsB2 W main_v52 : FVec Ideal S4096x3 .f32) (ix2 q a) = (StableHlo.after opsB2 W main_v50 : FVec Ideal S4096x3x3 .f32) (ix3 q a 0) := by
  unfold opsB2
  after_results_simp
  exact comp0 _ _ _ q a
theorem b2_y (q : Fin 4096) (a : Fin 3) : (StableHlo.after opsB2 W main_v54 : FVec Ideal S4096x3 .f32) (ix2 q a) = (StableHlo.after opsB2 W main_v50 : FVec Ideal S4096x3x3 .f32) (ix3 q a 1) := by
  unfold opsB2
  after_results_simp
  exact comp1 _ _ _ q a
theorem b2_z (q : Fin 4096) (a : Fin 3) : (StableHlo.after opsB2 W main_v56 : FVec Ideal S4096x3 .f32) (ix2 q a) = (StableHlo.after opsB2 W main_v50 : FVec Ideal S4096x3x3 .f32) (ix3 q a 2) := by
  unfold opsB2
  after_results_simp
  exact comp2 _ _ _ q a

theorem spread (E : FVec Ideal S4096x3 .f32) (ha) (hb) (hc) (q : Fin 4096) (n : Fin 20) (a : Fin 3) :
    shapeCast S4096x60 (broadcastInDim S1x4096x20x3 ![0, 1, 2, 3] hb (shapeCast S1x4096x1x3 E ha)) hc (ix2 q (col n a)) = E (ix2 q a) := by
  pointwise
  have e (h) : (⟨(col n a).val % 3, h⟩ : Fin 3) = a := Fin.ext (by show (3 * n.val + a.val) % 3 = a.val; omega)
  rw [e]

theorem b2_tx (q : Fin 4096) (n : Fin 20) (a : Fin 3) : (StableHlo.after opsB2 W main_v59 : FVec Ideal S4096x60 .f32) (ix2 q (col n a)) = (StableHlo.after opsB2 W main_v52 : FVec Ideal S4096x3 .f32) (ix2 q a) := by
  unfold opsB2
  after_results_simp
  exact spread _ _ _ _ q n a
theorem b2_ty (q : Fin 4096) (n : Fin 20) (a : Fin 3) : (StableHlo.after opsB2 W main_v62 : FVec Ideal S4096x60 .f32) (ix2 q (col n a)) = (StableHlo.after opsB2 W main_v54 : FVec Ideal S4096x3 .f32) (ix2 q a) := by
  unfold opsB2
  after_results_simp
  exact spread _ _ _ _ q n a
theorem b2_tz (q : Fin 4096) (n : Fin 20) (a : Fin 3) : (StableHlo.after opsB2 W main_v65 : FVec Ideal S4096x60 .f32) (ix2 q (col n a)) = (StableHlo.after opsB2 W main_v56 : FVec Ideal S4096x3 .f32) (ix2 q a) := by
  unfold opsB2
  after_results_simp
  exact spread _ _ _ _ q n a

theorem b2_probs (q : Fin 4096) : (StableHlo.after opsB2 W main_v66 : FVec Ideal S4096x1 .f32) (ix2 q 0) = (W main_arg2 : FVec Ideal S4096 .f32) (ix1 q) := by
  unfold opsB2
  after_results_simp
  pointwise

end Cert.Proof.Value

end
-- ==== Proof.SortOrder.lean ====
/-
  The sort of sixteen lanes by counted ranks, on extended reals: it permutes the lanes and orders the keys. And the one
  multiset of smallest elements: what a run of compare-exchanges keeps is determined by what it drops.
-/
module

public import proofs.«01_k».proof.Proof.Sort
public import Idealize.ShloMosaic.PureOps.Ideal
public import Mathlib.Data.Multiset.Count
public import Mathlib.Data.Multiset.Basic
public import Mathlib.Data.Fintype.Card
public import Mathlib.Data.Fin.Rev

@[expose] public section

noncomputable section

namespace Cert.Proof.Knn

open Cert.KernelIdeal Cert.KernelIdeal.Gen

open Idealize.ShloMosaic

/-- A part of a multiset that is as large as `A` and no greater than the rest is `A`, when `A` is below what it leaves. -/
theorem least_unique {α κ : Type} [LinearOrder κ] (key : α → κ) {P P' A B : Multiset α} (e : P + P' = A + B)
    (c : P.card = A.card) (h1 : ∀ x ∈ P, ∀ y ∈ P', key x ≤ key y) (h2 : ∀ a ∈ A, ∀ b ∈ B, key a < key b) : P = A := by
  classical
  by_contra hne
  have hPA : ¬ P ≤ A := fun h => hne (Multiset.eq_of_le_of_card_le h (le_of_eq c.symm))
  have hAP : ¬ A ≤ P := fun h => hne (Multiset.eq_of_le_of_card_le h (le_of_eq c)).symm
  rw [Multiset.le_iff_count] at hPA hAP
  push Not at hPA hAP
  obtain ⟨x, hx⟩ := hPA
  obtain ⟨y, hy⟩ := hAP
  have ex := congrArg (Multiset.count x) e
  have ey := congrArg (Multiset.count y) e
  rw [Multiset.count_add, Multiset.count_add] at ex ey
  have hxP : x ∈ P := Multiset.count_pos.1 (by omega)
  have hxB : x ∈ B := Multiset.count_pos.1 (by omega)
  have hyA : y ∈ A := Multiset.count_pos.1 (by omega)
  have hyP : y ∈ P' := Multiset.count_pos.1 (by omega)
  exact absurd (h1 x hxP y hyP) (not_le.2 (h2 y hyA x hxB))

/-- The lanes of a vector. -/
def bag {α : Type} (f : S16.Idx → α) : Multiset α := (Finset.univ : Finset (Fin 16)).val.map fun w => f (ix 16 w.val)

theorem card_bag {α : Type} (f : S16.Idx → α) : (bag f).card = 16 := by
  unfold bag
  rw [Multiset.card_map]
  rfl

theorem mem_bag {α : Type} {f : S16.Idx → α} {a : α} : a ∈ bag f ↔ ∃ w : Fin 16, f (ix 16 w.val) = a := by
  unfold bag
  rw [Multiset.mem_map]
  exact ⟨fun ⟨w, _, h⟩ => ⟨w, h⟩, fun ⟨w, h⟩ => ⟨w, Finset.mem_univ w, h⟩⟩

theorem bag_perm {α : Type} (f g : S16.Idx → α) (σ : Equiv.Perm (Fin 16)) (h : ∀ w : Fin 16, g (ix 16 w.val) = f (ix 16 (σ w).val)) : bag g = bag f := by
  unfold bag
  conv_rhs => rw [← Multiset.map_univ_val_equiv σ, Multiset.map_map]
  exact Multiset.map_congr rfl fun w _ => h w

theorem bag_rev {α : Type} (f : S16.Idx → α) : bag (rev f) = bag f :=
  bag_perm f (rev f) Fin.revPerm fun w => by
    have hw := w.isLt
    show f (ix 16 (15 - (ix 16 w.val 0).val)) = f (ix 16 (Fin.rev w).val)
    rw [ix_val, Fin.val_rev]
    congr 2
    omega

/-! ## Ranks -/

/-- Lane `k` sorts before lane `x`. -/
def before (key : FVec Ideal S16 .f32) (k x : ℕ) : Prop :=
  key (ix 16 k) < key (ix 16 x) ∨ key (ix 16 k) = key (ix 16 x) ∧ k < x

open Classical in
/-- The number of lanes that sort before lane `x`. -/
def pos (key : FVec Ideal S16 .f32) (n x : ℕ) : ℕ := ((Finset.range n).filter fun k => before key k x).card

theorem bit_or {a b : Bool} : IntOp.ori (BitVec.ofBool a) (BitVec.ofBool b) = BitVec.ofBool (a || b) := by cases a <;> cases b <;> rfl
theorem bit_and {a b : Bool} : IntOp.andi (BitVec.ofBool a) (BitVec.ofBool b) = BitVec.ofBool (a && b) := by cases a <;> cases b <;> rfl
theorem bit_one {a : Bool} : BitVec.ofBool a = 1#1 ↔ a = true := by cases a <;> decide

theorem lane_gt {t x : ℕ} (ht : t < 16) (hx : x < 16) : (BitVec.slt (Scf.iv 0#32 1#32 t) (lanes (ix 16 x))) = decide (t < x) := by
  have e1 : Scf.iv 0#32 1#32 t = BitVec.ofNat 32 t := by
    apply BitVec.eq_of_toNat_eq
    simp only [Scf.iv, BitVec.toNat_add, BitVec.toNat_mul, BitVec.toNat_ofNat]
    omega
  have e2 : lanes (ix 16 x) = BitVec.ofNat 32 x := by
    show BitVec.ofNat 32 (0 * 16 + (ix 16 x 0).val) = _
    rw [ix_val, Nat.mod_eq_of_lt hx, Nat.zero_mul, Nat.zero_add]
  rw [e1, e2, Bool.eq_iff_iff, BitVec.slt_iff_toInt_lt, decide_eq_true_iff, BitVec.toInt_eq_toNat_of_lt, BitVec.toInt_eq_toNat_of_lt,
    BitVec.toNat_ofNat, BitVec.toNat_ofNat, Nat.mod_eq_of_lt (by omega), Nat.mod_eq_of_lt (by omega)]
  · exact Int.ofNat_lt
  · rw [BitVec.toNat_ofNat]; omega
  · rw [BitVec.toNat_ofNat]; omega

theorem rank_eq (key : FVec Ideal S16 .f32) {n x : ℕ} (hn : n ≤ 16) (hx : x < 16) : rank key n (ix 16 x) = BitVec.ofNat 32 (pos key n x) := by
  classical
  induction n with
  | zero => rfl
  | succ n ih =>
    have hc : (ori (cmpf .olt (fun _ => key (ix 16 n)) key) (andi (cmpf .oeq (fun _ => key (ix 16 n)) key)
        (cmpi .sgt lanes (broadcast S16 (Scf.iv 0#32 1#32 n)))) (ix 16 x) = 1#1) ↔ before key n x := by
      show IntOp.ori (BitVec.ofBool (decide (key (ix 16 n) < key (ix 16 x)))) (IntOp.andi (BitVec.ofBool (decide (key (ix 16 n) = key (ix 16 x))))
        (BitVec.ofBool (BitVec.slt (Scf.iv 0#32 1#32 n) (lanes (ix 16 x))))) = 1#1 ↔ _
      rw [lane_gt (by omega) hx, bit_and, bit_or, bit_one, Bool.or_eq_true, Bool.and_eq_true, decide_eq_true_iff, decide_eq_true_iff, decide_eq_true_iff]
      rfl
    show (rank key n (ix 16 x)) + (if _ = 1#1 then 1#32 else 0#32) = _
    rw [if_congr hc rfl rfl, ih (by omega)]
    have hp : pos key (n + 1) x = pos key n x + if before key n x then 1 else 0 := by
      unfold pos
      rw [Finset.range_add_one, Finset.filter_insert]
      split
      · rw [Finset.card_insert_of_notMem (by simp)]
      · rfl
    rw [hp]
    split
    · rw [BitVec.ofNat_add]
    · simp

theorem before_trans {key : FVec Ideal S16 .f32} {a b c : ℕ} (h1 : before key a b) (h2 : before key b c) : before key a c := by
  unfold before at *
  rcases h1 with h1 | ⟨h1, h1'⟩ <;> rcases h2 with h2 | ⟨h2, h2'⟩
  · exact Or.inl (h1.trans h2)
  · exact Or.inl (h2 ▸ h1)
  · exact Or.inl (h1 ▸ h2)
  · exact Or.inr ⟨h1.trans h2, by omega⟩

theorem not_before (key : FVec Ideal S16 .f32) (a : ℕ) : ¬ before key a a := by
  rintro (h | ⟨-, h⟩)
  · exact lt_irrefl _ h
  · omega

theorem pos_lt {key : FVec Ideal S16 .f32} {a b : ℕ} (ha : a < 16) (h : before key a b) : pos key 16 a < pos key 16 b := by
  classical
  unfold pos
  refine Finset.card_lt_card ((Finset.ssubset_iff_of_subset ?_).2 ⟨a, ?_, ?_⟩)
  · intro k hk
    rw [Finset.mem_filter] at hk ⊢
    exact ⟨hk.1, before_trans hk.2 h⟩
  · rw [Finset.mem_filter]
    exact ⟨Finset.mem_range.2 ha, h⟩
  · rw [Finset.mem_filter]
    exact fun h => not_before key a h.2

theorem pos_bound (key : FVec Ideal S16 .f32) {a : ℕ} (ha : a < 16) : pos key 16 a < 16 := by
  classical
  unfold pos
  refine lt_of_lt_of_eq (Finset.card_lt_card (s := (Finset.range 16).filter fun k => before key k a) (t := Finset.range 16)
    ((Finset.ssubset_iff_of_subset (Finset.filter_subset _ _)).2 ⟨a, Finset.mem_range.2 ha, ?_⟩)) (Finset.card_range 16)
  rw [Finset.mem_filter]
  exact fun h => not_before key a h.2

theorem pos_inj (key : FVec Ideal S16 .f32) {a b : ℕ} (ha : a < 16) (hb : b < 16) (h : pos key 16 a = pos key 16 b) : a = b := by
  by_contra hne
  have : before key a b ∨ before key b a := by
    unfold before
    rcases lt_trichotomy (key (ix 16 a)) (key (ix 16 b)) with h | h | h
    · exact Or.inl (Or.inl h)
    · rcases Nat.lt_or_gt_of_ne hne with h' | h'
      · exact Or.inl (Or.inr ⟨h, h'⟩)
      · exact Or.inr (Or.inr ⟨h.symm, h'⟩)
    · exact Or.inr (Or.inl h)
  rcases this with h' | h'
  · exact absurd (pos_lt ha h') (by omega)
  · exact absurd (pos_lt hb h') (by omega)

theorem foldl_hit {α : Type} (p : ℕ → Prop) [DecidablePred p] (v : ℕ → α) (l : List ℕ) (k : ℕ) (hk : k ∈ l) (h : ∀ j ∈ l, p j ↔ j = k) (a : α) :
    l.foldl (fun a j => if p j then v j else a) a = v k := by
  induction l using List.reverseRecOn with
  | nil => exact absurd hk List.not_mem_nil
  | append_singleton l j ih =>
    rw [List.foldl_append, List.foldl_cons, List.foldl_nil]
    by_cases hj : j = k
    · subst hj
      rw [if_pos ((h j (by simp)).2 rfl)]
    · rw [if_neg fun hp => hj ((h j (by simp)).1 hp)]
      refine ih ?_ fun i hi => h i (by simp [hi])
      rcases List.mem_append.1 hk with hk | hk
      · exact hk
      · exact absurd (List.mem_singleton.1 hk).symm hj

/-- The sort is a permutation of the lanes that orders the keys. -/
theorem sort_perm (key : FVec Ideal S16 .f32) : ∃ σ : Equiv.Perm (Fin 16),
    (∀ (α : Type) (v : S16.Idx → α) (w : Fin 16), place (rank key 16) v (ix 16 w.val) = v (ix 16 (σ w).val))
    ∧ ∀ i j : Fin 16, i ≤ j → key (ix 16 (σ i).val) ≤ key (ix 16 (σ j).val) := by
  have hinj : Function.Injective fun x : Fin 16 => (⟨pos key 16 x.val, pos_bound key x.isLt⟩ : Fin 16) := fun a b h =>
    Fin.ext (pos_inj key a.isLt b.isLt (Fin.mk.inj_iff.1 h))
  let τ : Equiv.Perm (Fin 16) := Equiv.ofBijective _ (Finite.injective_iff_bijective.1 hinj)
  have hτ : ∀ w : Fin 16, pos key 16 (τ.symm w).val = w.val := fun w => congrArg Fin.val (τ.apply_symm_apply w)
  have hrank : ∀ x < 16, (rank key 16 (ix 16 x)).toNat = pos key 16 x := by
    intro x hx
    have := pos_bound key hx
    rw [rank_eq key le_rfl hx, BitVec.toNat_ofNat, Nat.mod_eq_of_lt (by omega)]
  refine ⟨τ.symm, fun α v w => ?_, fun i j hij => ?_⟩
  · unfold place
    refine foldl_hit _ (fun k => v (ix 16 k)) (List.range 16) (τ.symm w).val (List.mem_range.2 (τ.symm w).isLt) (fun j hj => ?_) _
    have hj := List.mem_range.1 hj
    rw [hrank j hj, ix_val, Nat.mod_eq_of_lt w.isLt]
    constructor
    · intro h
      exact pos_inj key hj (τ.symm w).isLt (h.trans (hτ w).symm)
    · rintro rfl
      exact hτ w
  · by_contra hlt
    have := pos_lt (key := key) (τ.symm j).isLt (Or.inl (not_le.1 hlt) : before key (τ.symm j).val (τ.symm i).val)
    rw [hτ, hτ] at this
    exact absurd hij (not_le.2 this)

theorem bag_sortV {α : Type} (key : FVec Ideal S16 .f32) (v : S16.Idx → α) : bag (sortV key v) = bag v := by
  obtain ⟨σ, h, -⟩ := sort_perm key
  exact bag_perm v _ σ fun w => h α v w

theorem bag_sortK (key : FVec Ideal S16 .f32) : bag (sortK key) = bag key := bag_sortV key key

theorem bag_pair {α : Type} (key : FVec Ideal S16 .f32) (v : S16.Idx → α) :
    bag (fun x => (sortK key x, sortV key v x)) = bag fun x => (key x, v x) := by
  obtain ⟨σ, h, -⟩ := sort_perm key
  exact bag_perm _ _ σ fun w => Prod.ext (h _ key w) (h α v w)

theorem sortK_mono (key : FVec Ideal S16 .f32) (i j : Fin 16) (h : i ≤ j) : sortK key (ix 16 i.val) ≤ sortK key (ix 16 j.val) := by
  obtain ⟨σ, h1, h2⟩ := sort_perm key
  have e : ∀ w : Fin 16, sortK key (ix 16 w.val) = key (ix 16 (σ w).val) := fun w => h1 _ key w
  rw [e, e]
  exact h2 i j h

theorem rev_anti (key : FVec Ideal S16 .f32) (hm : ∀ i j : Fin 16, i ≤ j → key (ix 16 i.val) ≤ key (ix 16 j.val)) (i j : Fin 16) (h : i ≤ j) :
    rev key (ix 16 j.val) ≤ rev key (ix 16 i.val) := by
  have hi := i.isLt
  have hj := j.isLt
  have h' : i.val ≤ j.val := h
  have := hm ⟨15 - j.val, by omega⟩ ⟨15 - i.val, by omega⟩ (by show 15 - j.val ≤ 15 - i.val; omega)
  show key (ix 16 (15 - (ix 16 j.val 0).val)) ≤ key (ix 16 (15 - (ix 16 i.val 0).val))
  rw [ix_val, ix_val, Nat.mod_eq_of_lt hi, Nat.mod_eq_of_lt hj]
  exact this

/-- Ascending lanes against descending ones: every smaller one is below every larger one. -/
theorem halves (a b : FVec Ideal S16 .f32) (ha : ∀ i j : Fin 16, i ≤ j → a (ix 16 i.val) ≤ a (ix 16 j.val))
    (hb : ∀ i j : Fin 16, i ≤ j → b (ix 16 j.val) ≤ b (ix 16 i.val)) (i j : Fin 16) :
    min (a (ix 16 i.val)) (b (ix 16 i.val)) ≤ max (a (ix 16 j.val)) (b (ix 16 j.val)) := by
  rcases le_total i j with h | h
  · exact (min_le_left _ _).trans ((ha i j h).trans (le_max_left _ _))
  · exact (min_le_right _ _).trans ((hb j i h).trans (le_max_right _ _))

end Cert.Proof.Knn

end
-- ==== Proof.Keep.lean ====
/-
  What the running best thirty-two keep, on extended reals: they and what the merges dropped are all the candidates seen,
  nothing dropped is nearer than anything kept, and the kept ones are in order.
-/
module

public import proofs.«01_k».proof.Proof.Model
public import proofs.«01_k».proof.Proof.SortOrder
public import Mathlib.Algebra.BigOperators.Group.Finset.Basic

@[expose] public section

noncomputable section

namespace Cert.Proof.Knn

open Cert.KernelIdeal Cert.KernelIdeal.Gen

open Idealize.ShloMosaic

abbrev Keys : Type := FVec Ideal S16 .f32
abbrev Pair : Type := EReal × BitVec 32

/-- The lanes of two vectors, paired. -/
abbrev bag2 (k : Keys) (i : IVec S16 32) : Multiset Pair := bag fun x => ((k x, i x) : Pair)

/-- The lanes ascend. -/
def Mono (k : Keys) : Prop := ∀ i j : Fin 16, i ≤ j → k (ix 16 i.val) ≤ k (ix 16 j.val)

theorem infinity : (Scalar.ofBits (F := Ideal) .f32 0x7F800000#32) = (⊤ : EReal) := by
  show Ideal.ofBits .f32 0x7F800000#32 = ⊤
  simp [Ideal.ofBits, Ideal.ieee]

theorem ole_one {x y : EReal} : (BitVec.ofBool (decide (x ≤ y)) = 1#1) ↔ x ≤ y := by rw [bit_one, decide_eq_true_iff]

theorem low_apply (a b : Keys) (x : S16.Idx) : lowK a b x = min (a x) (b x) := by
  show (if BitVec.ofBool (decide (a x ≤ b x)) = 1#1 then a x else b x) = _
  by_cases h : a x ≤ b x
  · rw [if_pos (ole_one.2 h)]; exact (min_eq_left h).symm
  · rw [if_neg fun e => h (ole_one.1 e)]; exact (min_eq_right (not_le.1 h).le).symm

theorem high_apply (a b : Keys) (x : S16.Idx) : highK a b x = max (a x) (b x) := by
  show (if BitVec.ofBool (decide (a x ≤ b x)) = 1#1 then b x else a x) = _
  by_cases h : a x ≤ b x
  · rw [if_pos (ole_one.2 h)]; exact (max_eq_right h).symm
  · rw [if_neg fun e => h (ole_one.1 e)]; exact (max_eq_left (not_le.1 h).le).symm

theorem bag_sum {α : Type} (f : S16.Idx → α) : bag f = ∑ w : Fin 16, ({f (ix 16 w.val)} : Multiset α) := by
  unfold bag
  show _ = (Multiset.map (fun w : Fin 16 => ({f (ix 16 w.val)} : Multiset α)) Finset.univ.val).sum
  exact ((congrArg Multiset.sum (Multiset.map_map (fun a : α => ({a} : Multiset α)) (fun w : Fin 16 => f (ix 16 w.val)) Finset.univ.val)).symm.trans
    (Multiset.sum_map_singleton _)).symm

/-- A compare-exchange of all lanes keeps the pairs. -/
theorem bag_exchange (a b : Keys) (u v : IVec S16 32) :
    bag2 (lowK a b) (lowI a b u v) + bag2 (highK a b) (highI a b u v) = bag2 a u + bag2 b v := by
  unfold bag2
  rw [bag_sum, bag_sum, bag_sum, bag_sum, ← Finset.sum_add_distrib, ← Finset.sum_add_distrib]
  refine Finset.sum_congr rfl fun w _ => ?_
  unfold lowK lowI highK highI
  by_cases h : (cmpf (F := Ideal) .ole a b (ix 16 w.val)) = 1#1
  · have e : ∀ {α : Type} (p q : S16.Idx → α), select (cmpf (F := Ideal) .ole a b) p q (ix 16 w.val) = p (ix 16 w.val) := fun p q => if_pos h
    simp only [e]
  · have e : ∀ {α : Type} (p q : S16.Idx → α), select (cmpf (F := Ideal) .ole a b) p q (ix 16 w.val) = q (ix 16 w.val) := fun p q => if_neg h
    simp only [e]
    exact add_comm _ _

theorem bag_rev2 (k : Keys) (i : IVec S16 32) : bag2 (rev k) (rev i) = bag2 k i := bag_rev fun x => ((k x, i x) : Pair)

theorem mem_bag2 {k : Keys} {i : IVec S16 32} {p : Pair} (h : p ∈ bag2 k i) : ∃ w : Fin 16, p.1 = k (ix 16 w.val) := by
  obtain ⟨w, e⟩ := mem_bag.1 h
  exact ⟨w, by rw [← e]⟩

theorem bag2_mem (k : Keys) (i : IVec S16 32) (w : Fin 16) : ((k (ix 16 w.val), i (ix 16 w.val)) : Pair) ∈ bag2 k i := mem_bag.2 ⟨w, rfl⟩

theorem mem_sorted {k : Keys} (w : Fin 16) : ∃ x : Fin 16, sortK k (ix 16 w.val) = k (ix 16 x.val) := by
  obtain ⟨σ, h, -⟩ := sort_perm k
  exact ⟨σ w, h _ k w⟩

/-- The kept pairs and the dropped ones. -/
structure Kept (s : Best Ideal) (all : Multiset Pair) : Prop where
  parts : ∃ R : Multiset Pair, bag2 s.1 s.2.1 + bag2 s.2.2.1 s.2.2.2 + R = all
    ∧ (∀ i : Fin 16, ∀ r ∈ R, s.1 (ix 16 i.val) ≤ r.1) ∧ ∀ i : Fin 16, ∀ r ∈ R, s.2.2.1 (ix 16 i.val) ≤ r.1
  lo : Mono s.1
  hi : Mono s.2.2.1
  le : ∀ i j : Fin 16, s.1 (ix 16 i.val) ≤ s.2.2.1 (ix 16 j.val)

theorem kept_start : Kept ((inf16, broadcast S16 0#32, inf16, broadcast S16 0#32) : Best Ideal) (bag2 inf16 (broadcast S16 0#32) + bag2 inf16 (broadcast S16 0#32)) where
  parts := ⟨0, add_zero _, fun _ r h => absurd h (Multiset.notMem_zero r), fun _ r h => absurd h (Multiset.notMem_zero r)⟩
  lo := fun _ _ _ => le_refl _
  hi := fun _ _ _ => le_refl _
  le := fun _ _ => le_refl _

theorem kept_step {s : Best Ideal} {all : Multiset Pair} (h : Kept s all) (ck : Keys) (ci : IVec S16 32) :
    Kept (mergeStep s ck ci) (all + bag2 ck ci) := by
  obtain ⟨L, LI, H, HI⟩ := s
  obtain ⟨⟨R, eR, hLR, hHR⟩, hL, hH, hLH⟩ := h
  dsimp only at eR hLR hHR hL hH hLH
  set c := rev (sortK ck) with hc
  set civ := rev (sortV ck ci) with hciv
  set hk := lowK H c with hhk
  set hiv := lowI H c HI civ with hhiv
  set rk := rev (sortK hk) with hrk
  set ri := rev (sortV hk hiv) with hri
  have eS : mergeStep (L, LI, H, HI) ck ci
      = (sortK (lowK L rk), sortV (lowK L rk) (lowI L rk LI ri), sortK (highK L rk), sortV (highK L rk) (highI L rk LI ri)) := rfl
  have anti : ∀ k : Keys, ∀ i j : Fin 16, i ≤ j → rev (sortK k) (ix 16 j.val) ≤ rev (sortK k) (ix 16 i.val) :=
    fun k i j h => rev_anti (sortK k) (sortK_mono k) i j h
  have e1 : bag2 c civ = bag2 ck ci := (bag_rev2 _ _).trans (bag_pair ck ci)
  have e2 : bag2 rk ri = bag2 hk hiv := (bag_rev2 _ _).trans (bag_pair hk hiv)
  have e3 : bag2 (sortK (lowK L rk)) (sortV (lowK L rk) (lowI L rk LI ri)) + bag2 (sortK (highK L rk)) (sortV (highK L rk) (highI L rk LI ri))
      = bag2 L LI + bag2 hk hiv := by
    rw [← e2, ← bag_exchange L rk LI ri]
    exact congrArg₂ (· + ·) (bag_pair _ _) (bag_pair _ _)
  have e4 := bag_exchange H c HI civ
  rw [e1] at e4
  have kept : ∀ p ∈ bag2 L LI + bag2 hk hiv, ∀ r ∈ R + bag2 (highK H c) (highI H c HI civ), p.1 ≤ r.1 := by
    intro p hp r hr
    rcases Multiset.mem_add.1 hp with hp | hp
    · obtain ⟨i, ei⟩ := mem_bag2 hp
      rw [ei]
      rcases Multiset.mem_add.1 hr with hr | hr
      · exact hLR i r hr
      · obtain ⟨j, ej⟩ := mem_bag2 hr
        rw [ej, high_apply]
        exact (hLH i j).trans (le_max_left _ _)
    · obtain ⟨i, ei⟩ := mem_bag2 hp
      rw [ei, hhk, low_apply]
      rcases Multiset.mem_add.1 hr with hr | hr
      · exact (min_le_left _ _).trans (hHR i r hr)
      · obtain ⟨j, ej⟩ := mem_bag2 hr
        rw [ej, high_apply]
        exact halves H c hH (anti ck) i j
  rw [eS]
  refine ⟨⟨R + bag2 (highK H c) (highI H c HI civ), ?_, fun i r hr => ?_, fun i r hr => ?_⟩, sortK_mono _, sortK_mono _, fun i j => ?_⟩
  · show bag2 _ _ + bag2 _ _ + (R + _) = _
    rw [e3, ← eR]
    calc bag2 L LI + bag2 hk hiv + (R + bag2 (highK H c) (highI H c HI civ))
        = bag2 L LI + R + (bag2 (lowK H c) (lowI H c HI civ) + bag2 (highK H c) (highI H c HI civ)) := add_add_add_comm _ _ _ _
      _ = bag2 L LI + R + (bag2 H HI + bag2 ck ci) := by rw [e4]
      _ = bag2 L LI + bag2 H HI + (R + bag2 ck ci) := add_add_add_comm _ _ _ _
      _ = bag2 L LI + bag2 H HI + R + bag2 ck ci := (add_assoc _ _ _).symm
  · refine kept (sortK (lowK L rk) (ix 16 i.val), sortV (lowK L rk) (lowI L rk LI ri) (ix 16 i.val)) ?_ r hr
    rw [← e3]
    exact Multiset.mem_add.2 (Or.inl (bag2_mem _ _ i))
  · refine kept (sortK (highK L rk) (ix 16 i.val), sortV (highK L rk) (highI L rk LI ri) (ix 16 i.val)) ?_ r hr
    rw [← e3]
    exact Multiset.mem_add.2 (Or.inr (bag2_mem _ _ i))
  · show sortK (lowK L rk) (ix 16 i.val) ≤ sortK (highK L rk) (ix 16 j.val)
    obtain ⟨x, ex⟩ := mem_sorted (k := lowK L rk) i
    obtain ⟨y, ey⟩ := mem_sorted (k := highK L rk) j
    rw [ex, ey, low_apply, high_apply]
    exact halves L rk hL (anti hk) x y

/-- Everything seen after `n` chunks. -/
def seen (D : FVec Ideal S4096 .f32) : ℕ → Multiset Pair
  | 0 => bag2 inf16 (broadcast S16 0#32) + bag2 inf16 (broadcast S16 0#32)
  | n + 1 => seen D n + bag2 (chunkK D n) (chunkI D n)

theorem kept_best (D : FVec Ideal S4096 .f32) (n : ℕ) : Kept (best D n) (seen D n) := by
  induction n with
  | zero => exact kept_start
  | succ n ih => exact kept_step ih _ _

/-! ## What was seen -/

/-- The `i`th candidate with its distance, padded. -/
def cand (D : FVec Ideal S4096 .f32) (i : ℕ) : Pair := match (hits D 4096)[i]? with
  | some n => (D (ix 4096 n), BitVec.ofNat 32 n)
  | none => (⊤, 0#32)

theorem bag_range {α : Type} (f : S16.Idx → α) : bag f = (Multiset.range 16).map fun n => f (ix 16 n) := rfl

theorem chunk_bag (D : FVec Ideal S4096 .f32) (j : ℕ) : bag2 (chunkK D j) (chunkI D j) = (Multiset.range 16).map fun n => cand D (16 * j + n) := by
  unfold bag2
  rw [bag_range]
  refine Multiset.map_congr rfl fun n hn => ?_
  have hn := Multiset.mem_range.1 hn
  unfold chunkK chunkI cand
  rw [ix_val, Nat.mod_eq_of_lt hn]
  cases (hits D 4096)[16 * j + n]? with
  | none => exact Prod.ext infinity rfl
  | some m => rfl

theorem seen_eq (D : FVec Ideal S4096 .f32) (n : ℕ) : seen D n = seen D 0 + (Multiset.range (16 * n)).map (cand D) := by
  induction n with
  | zero => exact (add_zero _).symm
  | succ n ih =>
    show seen D n + _ = _
    rw [ih, chunk_bag, add_assoc]
    congr 1
    have e : Multiset.range (16 * (n + 1)) = Multiset.range (16 * n) + (Multiset.range 16).map (16 * n + ·) := by
      show ((List.range (16 * n + 16) : List ℕ) : Multiset ℕ) = _
      rw [List.range_add]
      rfl
    rw [e, Multiset.map_add, Multiset.map_map]
    rfl

/-- Everything seen at the end: the candidates, and otherwise only infinite distances. -/
theorem seen_all (D : FVec Ideal S4096 .f32) : ∃ B : Multiset Pair, seen D (chunks D) = Multiset.map (fun n => ((D (ix 4096 n), BitVec.ofNat 32 n) : Pair)) (hits D 4096 : Multiset ℕ) + B
    ∧ ∀ b ∈ B, b.1 = ⊤ := by
  set l := (hits D 4096).length with hl
  have hle : l ≤ 16 * chunks D := by unfold chunks; omega
  obtain ⟨r, hr⟩ := Nat.exists_eq_add_of_le hle
  refine ⟨seen D 0 + ((Multiset.range r).map (l + ·)).map (cand D), ?_, ?_⟩
  · rw [seen_eq, hr]
    have e : Multiset.range (l + r) = Multiset.range l + (Multiset.range r).map (l + ·) := by
      show ((List.range (l + r) : List ℕ) : Multiset ℕ) = _
      rw [List.range_add]
      rfl
    have e' : (Multiset.range l).map (cand D) = Multiset.map (fun n => ((D (ix 4096 n), BitVec.ofNat 32 n) : Pair)) (hits D 4096 : Multiset ℕ) := by
      show ((List.map (cand D) (List.range l) : List Pair) : Multiset Pair) = ((List.map _ (hits D 4096) : List Pair) : Multiset Pair)
      congr 1
      refine List.ext_getElem (by simp [hl]) fun i h1 h2 => ?_
      rw [List.getElem_map, List.getElem_map, List.getElem_range]
      unfold cand
      rw [List.getElem?_eq_getElem (by simpa using h2)]
    rw [e, Multiset.map_add, e', add_left_comm]
  · intro b hb
    rcases Multiset.mem_add.1 hb with hb | hb
    · rcases Multiset.mem_add.1 hb with hb | hb <;>
      · obtain ⟨w, e⟩ := mem_bag2 hb
        rw [e]
        exact infinity
    · rw [Multiset.map_map] at hb
      obtain ⟨k, -, e⟩ := Multiset.mem_map.1 hb
      rw [← e]
      show (cand D (l + k)).1 = ⊤
      unfold cand
      rw [List.getElem?_eq_none (by omega)]

end Cert.Proof.Knn

end
-- ==== Proof.Choose.lean ====
/-
  The twenty chosen faces, on extended reals: when twenty centroids are strictly nearer than all others, all of them are
  under the threshold, and the chosen faces are those twenty.
-/
module

public import proofs.«01_k».proof.Proof.Keep

@[expose] public section

noncomputable section

namespace Cert.Proof.Knn

open Cert.KernelIdeal Cert.KernelIdeal.Gen

open Idealize.ShloMosaic

variable (D : FVec Ideal S4096 .f32)

/-- `N` are the twenty nearest, strictly nearer than all others. -/
structure Nearest (N : Finset ℕ) : Prop where
  card : N.card = 20
  lt : ∀ n ∈ N, n < 4096
  near : ∀ n ∈ N, ∀ m < 4096, m ∉ N → D (ix 4096 n) < D (ix 4096 m)

/-! ## The threshold -/

theorem accA_some {n x : ℕ} (hn : n ≤ 64) (hx : x < 16) : accA D n (ix 16 x) = (⊤ : EReal)
    ∨ ∃ p < 4096, p % 64 < 32 ∧ p % 16 = x ∧ accA D n (ix 16 x) = D (ix 4096 p) := by
  induction n with
  | zero => exact Or.inl infinity
  | succ n ih =>
    have hv : (ix 16 x 0).val = x := by rw [ix_val, Nat.mod_eq_of_lt hx]
    have e : accA D (n + 1) (ix 16 x) = min (min (accA D n (ix 16 x)) (D (ix 4096 (64 * n + (ix 16 x 0).val)))) (D (ix 4096 (64 * n + 16 + (ix 16 x 0).val))) := rfl
    rw [hv] at e
    rw [e]
    rcases min_choice (min (accA D n (ix 16 x)) (D (ix 4096 (64 * n + x)))) (D (ix 4096 (64 * n + 16 + x))) with h | h
    · rw [h]
      rcases min_choice (accA D n (ix 16 x)) (D (ix 4096 (64 * n + x))) with h | h
      · rw [h]; exact ih (by omega)
      · rw [h]; exact Or.inr ⟨64 * n + x, by omega, by omega, by omega, rfl⟩
    · rw [h]; exact Or.inr ⟨64 * n + 16 + x, by omega, by omega, by omega, rfl⟩

theorem accB_some {n x : ℕ} (hn : n ≤ 64) (hx : x < 16) : accB D n (ix 16 x) = (⊤ : EReal)
    ∨ ∃ p < 4096, ¬ p % 64 < 32 ∧ p % 16 = x ∧ accB D n (ix 16 x) = D (ix 4096 p) := by
  induction n with
  | zero => exact Or.inl infinity
  | succ n ih =>
    have hv : (ix 16 x 0).val = x := by rw [ix_val, Nat.mod_eq_of_lt hx]
    have e : accB D (n + 1) (ix 16 x) = min (min (accB D n (ix 16 x)) (D (ix 4096 (64 * n + 32 + (ix 16 x 0).val)))) (D (ix 4096 (64 * n + 48 + (ix 16 x 0).val))) := rfl
    rw [hv] at e
    rw [e]
    rcases min_choice (min (accB D n (ix 16 x)) (D (ix 4096 (64 * n + 32 + x)))) (D (ix 4096 (64 * n + 48 + x))) with h | h
    · rw [h]
      rcases min_choice (accB D n (ix 16 x)) (D (ix 4096 (64 * n + 32 + x))) with h | h
      · rw [h]; exact ih (by omega)
      · rw [h]; exact Or.inr ⟨64 * n + 32 + x, by omega, by omega, by omega, rfl⟩
    · rw [h]; exact Or.inr ⟨64 * n + 48 + x, by omega, by omega, by omega, rfl⟩

open Classical in
/-- The lanes at most `t`. -/
def beneath (k : Keys) (t : EReal) : Finset (Fin 16) := Finset.univ.filter fun w => k (ix 16 w.val) ≤ t

open Classical in
theorem card_beneath (k : Keys) (t : EReal) : (beneath k t).card = ((bag k).filter fun v => v ≤ t).card := by
  unfold bag beneath
  rw [Multiset.filter_map, Multiset.card_map]
  rfl

theorem bag_fst (k : Keys) (i : IVec S16 32) : (bag2 k i).map Prod.fst = bag k := by
  unfold bag2 bag
  rw [Multiset.map_map]
  rfl

theorem bag_halves (a b : Keys) : bag (lowK a b) + bag (highK a b) = bag a + bag b := by
  have h := congrArg (Multiset.map Prod.fst) (bag_exchange a b (broadcast S16 0#32) (broadcast S16 0#32))
  rw [Multiset.map_add, Multiset.map_add, bag_fst, bag_fst, bag_fst, bag_fst] at h
  exact h

/-- At least twenty of the thirty-two minima are under the threshold. -/
theorem many_beneath : 20 ≤ (beneath (accA D 64) (thr D)).card + (beneath (accB D 64) (thr D)).card := by
  classical
  set a := sortK (accA D 64) with ha
  set b := rev (sortK (accB D 64)) with hb
  have hup : maximumf a b = highK a b := funext fun x => (high_apply a b x).symm
  have ht : tops D = sortK (highK a b) := by rw [← hup]; rfl
  have am : Mono a := sortK_mono _
  have bm : ∀ i j : Fin 16, i ≤ j → b (ix 16 j.val) ≤ b (ix 16 i.val) := rev_anti _ (sortK_mono _)
  have thr_eq' : thr D = sortK (highK a b) (ix 16 (3 : Fin 16).val) := by rw [← ht]; rfl
  have e : bag (accA D 64) + bag (accB D 64) = bag (lowK a b) + bag (tops D) := by
    rw [ht, bag_sortK, bag_halves, ha, hb, bag_rev, bag_sortK, bag_sortK]
  have h1 : (beneath (lowK a b) (thr D)).card = 16 := by
    have : beneath (lowK a b) (thr D) = Finset.univ := by
      unfold beneath
      rw [Finset.filter_eq_self]
      intro w _
      obtain ⟨x, ex⟩ := mem_sorted (k := highK a b) 3
      rw [thr_eq', ex, low_apply, high_apply]
      exact halves a b am bm w x
    rw [this]
    rfl
  have h2 : 4 ≤ (beneath (tops D) (thr D)).card := by
    have h4 : ((Finset.univ : Finset (Fin 16)).filter fun w => w ≤ 3).card = 4 := by decide
    rw [← h4]
    refine Finset.card_le_card fun w hw => ?_
    have hw := (Finset.mem_filter.1 hw).2
    unfold beneath
    rw [Finset.mem_filter]
    refine ⟨Finset.mem_univ _, ?_⟩
    rw [thr_eq', ht]
    exact sortK_mono _ w 3 hw
  rw [card_beneath, card_beneath, ← Multiset.card_add, ← Multiset.filter_add, e, Multiset.filter_add, Multiset.card_add, ← card_beneath, ← card_beneath]
  omega

variable {D}

/-- The nearest are under the threshold. -/
theorem Nearest.le_thr {N : Finset ℕ} (h : Nearest D N) {n : ℕ} (hn : n ∈ N) : D (ix 4096 n) ≤ thr D := by
  classical
  by_contra hlt
  have hlt := not_le.1 hlt
  have hN : ∀ p < 4096, D (ix 4096 p) ≤ thr D → p ∈ N.erase n := by
    intro p hp hD
    rw [Finset.mem_erase]
    have : D (ix 4096 p) < D (ix 4096 n) := lt_of_le_of_lt hD hlt
    refine ⟨?_, ?_⟩
    · rintro rfl
      exact lt_irrefl _ this
    · by_contra hp'
      exact lt_asymm this (h.near n hn p hp hp')
  have hA : ∀ w : Fin 16, ∃ p, w ∈ beneath (accA D 64) (thr D) → (p ∈ (N.erase n).filter fun p => p % 64 < 32) ∧ p % 16 = w.val := by
    intro w
    by_cases hw : w ∈ beneath (accA D 64) (thr D)
    · have hw' := (Finset.mem_filter.1 hw).2
      rcases accA_some D (n := 64) le_rfl w.isLt with e | ⟨p, hp, h1, h2, e⟩
      · rw [e] at hw'
        exact absurd (lt_of_le_of_lt hw' hlt) (not_lt.2 le_top)
      · rw [e] at hw'
        exact ⟨p, fun _ => ⟨Finset.mem_filter.2 ⟨hN p hp hw', h1⟩, h2⟩⟩
    · exact ⟨0, fun h => absurd h hw⟩
  have hB : ∀ w : Fin 16, ∃ p, w ∈ beneath (accB D 64) (thr D) → (p ∈ (N.erase n).filter fun p => ¬ p % 64 < 32) ∧ p % 16 = w.val := by
    intro w
    by_cases hw : w ∈ beneath (accB D 64) (thr D)
    · have hw' := (Finset.mem_filter.1 hw).2
      rcases accB_some D (n := 64) le_rfl w.isLt with e | ⟨p, hp, h1, h2, e⟩
      · rw [e] at hw'
        exact absurd (lt_of_le_of_lt hw' hlt) (not_lt.2 le_top)
      · rw [e] at hw'
        exact ⟨p, fun _ => ⟨Finset.mem_filter.2 ⟨hN p hp hw', h1⟩, h2⟩⟩
    · exact ⟨0, fun h => absurd h hw⟩
  choose fA hfA using hA
  choose fB hfB using hB
  have cA : (beneath (accA D 64) (thr D)).card ≤ ((N.erase n).filter fun p => p % 64 < 32).card :=
    Finset.card_le_card_of_injOn fA (fun w hw => (hfA w hw).1) fun w hw w' hw' e => Fin.ext (by
      rw [← (hfA w hw).2, ← (hfA w' hw').2, e])
  have cB : (beneath (accB D 64) (thr D)).card ≤ ((N.erase n).filter fun p => ¬ p % 64 < 32).card :=
    Finset.card_le_card_of_injOn fB (fun w hw => (hfB w hw).1) fun w hw w' hw' e => Fin.ext (by
      rw [← (hfB w hw).2, ← (hfB w' hw').2, e])
  have := Finset.card_filter_add_card_filter_not (s := N.erase n) (fun p => p % 64 < 32)
  have c := Finset.card_erase_of_mem hn
  have m := many_beneath D
  have hc := h.card
  omega

theorem Nearest.hit {N : Finset ℕ} (h : Nearest D N) {n : ℕ} (hn : n ∈ N) : n ∈ hits D 4096 := by
  unfold hits
  rw [List.mem_filter]
  refine ⟨List.mem_range.2 (h.lt n hn), ?_⟩
  show ((BitVec.ofBool (decide (D (ix 4096 n) ≤ thr D))) == 1#1) = true
  rw [beq_iff_eq]
  exact ole_one.2 (h.le_thr hn)

/-! ## The chosen faces -/

/-- The distance of the `n`th chosen face. -/
def pickKey (D : FVec Ideal S4096 .f32) (n : ℕ) : EReal :=
  if n < 16 then (best D (chunks D)).1 (ix 16 n) else (best D (chunks D)).2.2.1 (ix 16 (n - 16))

theorem split_best (D : FVec Ideal S4096 .f32) : bag2 (best D (chunks D)).1 (best D (chunks D)).2.1 + bag2 (best D (chunks D)).2.2.1 (best D (chunks D)).2.2.2
    = (Multiset.range 20).map (fun n => ((pickKey D n, pick D n) : Pair))
      + (Multiset.range 12).map fun n => (((best D (chunks D)).2.2.1 (ix 16 (n + 4)), (best D (chunks D)).2.2.2 (ix 16 (n + 4))) : Pair) := by
  have e20 : Multiset.range 20 = Multiset.range 16 + (Multiset.range 4).map (16 + ·) := rfl
  have e16 : Multiset.range 16 = Multiset.range 4 + (Multiset.range 12).map (· + 4) := rfl
  have h1 : bag2 (best D (chunks D)).1 (best D (chunks D)).2.1 = (Multiset.range 16).map (fun n => ((pickKey D n, pick D n) : Pair)) := by
    unfold bag2
    rw [bag_range]
    refine Multiset.map_congr rfl fun n hn => ?_
    have hn := Multiset.mem_range.1 hn
    unfold pickKey pick
    rw [if_pos hn, if_pos hn]
    rfl
  have h2 : bag2 (best D (chunks D)).2.2.1 (best D (chunks D)).2.2.2 = (Multiset.range 4).map (fun n => ((pickKey D (16 + n), pick D (16 + n)) : Pair))
      + (Multiset.range 12).map fun n => (((best D (chunks D)).2.2.1 (ix 16 (n + 4)), (best D (chunks D)).2.2.2 (ix 16 (n + 4))) : Pair) := by
    unfold bag2
    rw [bag_range, e16, Multiset.map_add, Multiset.map_map]
    congr 1
  rw [h1, h2, e20, Multiset.map_add, Multiset.map_map, add_assoc]
  rfl

/-- The chosen faces are the twenty nearest. -/
theorem Nearest.picks {N : Finset ℕ} (h : Nearest D N) : (Multiset.range 20).map (pick D) = N.val.map (BitVec.ofNat 32) := by
  classical
  obtain ⟨⟨R, eR, hLR, hHR⟩, hL, hH, hLH⟩ := kept_best D (chunks D)
  obtain ⟨B, eB, hB⟩ := seen_all D
  let f : ℕ → Pair := fun n => (D (ix 4096 n), BitVec.ofNat 32 n)
  have hnd : (hits D 4096).Nodup := List.Nodup.filter _ List.nodup_range
  have hle : N.val ≤ (hits D 4096 : Multiset ℕ) := (Multiset.le_iff_subset N.nodup).2 fun n hn => h.hit hn
  have hrest : ∀ n ∈ (hits D 4096 : Multiset ℕ) - N.val, n < 4096 ∧ n ∉ N := by
    intro n hn
    refine ⟨hits_lt D (Multiset.mem_coe.1 (Multiset.mem_of_le (Multiset.sub_le_self _ _) hn)), fun hN => ?_⟩
    have := Multiset.count_pos.2 hn
    rw [Multiset.count_sub] at this
    have h1 := Multiset.nodup_iff_count_le_one.1 (show (hits D 4096 : Multiset ℕ).Nodup from hnd) n
    have h2 := Multiset.count_pos.2 (show n ∈ N.val from hN)
    omega
  have htop : ∀ n ∈ N, D (ix 4096 n) < ⊤ := by
    intro n hn
    obtain ⟨m, hm, hmN⟩ : ∃ m < 4096, m ∉ N := by
      by_contra hall
      push Not at hall
      have : (Finset.range 4096).card ≤ N.card := Finset.card_le_card fun m hm => hall m (Finset.mem_range.1 hm)
      rw [Finset.card_range, h.card] at this
      omega
    exact lt_of_lt_of_le (h.near n hn m hm hmN) le_top
  rw [split_best] at eR
  have key : (Multiset.range 20).map (fun n => ((pickKey D n, pick D n) : Pair)) = N.val.map f := by
    refine least_unique (Prod.fst : Pair → EReal) (P' := (Multiset.range 12).map (fun n => (((best D (chunks D)).2.2.1 (ix 16 (n + 4)), (best D (chunks D)).2.2.2 (ix 16 (n + 4))) : Pair)) + R)
      (B := ((hits D 4096 : Multiset ℕ) - N.val).map f + B) ?_ ?_ ?_ ?_
    · rw [← add_assoc, eR, eB, ← add_assoc, ← Multiset.map_add, add_tsub_cancel_of_le hle]
    · rw [Multiset.card_map, Multiset.card_map, Multiset.card_range]
      exact h.card.symm
    · intro x hx y hy
      obtain ⟨n, hn, rfl⟩ := Multiset.mem_map.1 hx
      have hn := Multiset.mem_range.1 hn
      show pickKey D n ≤ y.1
      unfold pickKey
      rcases Multiset.mem_add.1 hy with hy | hy
      · obtain ⟨k, hk, rfl⟩ := Multiset.mem_map.1 hy
        have hk := Multiset.mem_range.1 hk
        show _ ≤ (best D (chunks D)).2.2.1 (ix 16 (k + 4))
        split
        · rename_i h16
          exact hLH ⟨n, h16⟩ ⟨k + 4, by omega⟩
        · exact hH ⟨n - 16, by omega⟩ ⟨k + 4, by omega⟩ (by show n - 16 ≤ k + 4; omega)
      · split
        · rename_i h16
          exact hLR ⟨n, h16⟩ y hy
        · exact hHR ⟨n - 16, by omega⟩ y hy
    · intro a ha b hb
      obtain ⟨n, hn, rfl⟩ := Multiset.mem_map.1 ha
      rcases Multiset.mem_add.1 hb with hb | hb
      · obtain ⟨m, hm, rfl⟩ := Multiset.mem_map.1 hb
        exact h.near n hn m (hrest m hm).1 (hrest m hm).2
      · rw [hB b hb]
        exact htop n hn
  have := congrArg (Multiset.map Prod.snd) key
  rw [Multiset.map_map, Multiset.map_map] at this
  exact this

end Cert.Proof.Knn

end
-- ==== Proof.Ranks.lean ====
/-
  The reference's choice: the greatest scores of a row in order, and the faces they are at.
-/
module

public import proofs.«01_k».proof.Proof.Choose
public import proofs.«01_k».proof.Proof.Plain
public import Idealize.ShloMosaic.Lib.SortFacts
public import Idealize.ShloMosaic.Lib.Pointwise.Tactic

@[expose] public section

set_option maxRecDepth 16384

noncomputable section

namespace Cert.Proof.Value

open Idealize.ShloMosaic

/-- The scores of all pairs of faces. -/
abbrev Scores : Type := FVec Ideal ⟨2, ![4096, 4096]⟩ .f32

variable (X : Scores) (q : Fin 4096)

/-- The faces by falling score. -/
def ranked : Fin 4096 → Fin 4096 :=
  sortedFrom fun k k' => FloatOps.cmpfTotal (F := Ideal) (φ := .f32) .gt (X (ix2 q k)) (X (ix2 q k')) == 1#1

theorem along_eq (j k : Fin 4096) : (ix2 q j : (⟨2, ![4096, 4096]⟩ : Shape).Idx).along 1 k = ix2 q k := by
  funext a
  fin_cases a <;> rfl

theorem sort_at (j : Fin 4096) : sortedFrom (fun k k' => FloatOps.cmpfTotal (F := Ideal) (φ := .f32) .gt
      (X ((ix2 q j : (⟨2, ![4096, 4096]⟩ : Shape).Idx).along 1 k)) (X ((ix2 q j : (⟨2, ![4096, 4096]⟩ : Shape).Idx).along 1 k')) == 1#1) j = ranked X q j := by
  unfold ranked
  refine congrArg (fun f => sortedFrom f j) ?_
  funext k k'
  exact congrArg₂ (fun a b => FloatOps.cmpfTotal (F := Ideal) (φ := .f32) .gt (X a) (X b) == 1#1) (along_eq q j k) (along_eq q j k')

variable {m : ℕ} (hm : m ≤ 4096) (h : (⟨2, ![4096, 4096]⟩ : Shape).Slices (fun _ => 0) ⟨2, ![4096, m]⟩)

theorem slice_at {α : Type} (x : (⟨2, ![4096, 4096]⟩ : Shape).Idx → α) (n : Fin m) :
    extractStridedSlice ⟨2, ![4096, m]⟩ (fun _ => 0) x h (ix2 q n) = x (ix2 q (n.castLE hm)) := by
  unfold extractStridedSlice
  congr 1
  funext a
  fin_cases a <;> exact Fin.ext (Nat.zero_add _)

theorem sort_values (y : (⟨2, ![4096, 4096]⟩ : Shape).Idx → BitVec 32) (j : Fin 4096) :
    (Host.sort2 ⟨2, ![4096, 4096]⟩ 1 (fun l r => FloatOps.cmpfTotal (F := Ideal) (φ := .f32) .gt l.1 r.1) X y).1 (ix2 q j) = X (ix2 q (ranked X q j)) := by
  unfold Host.sort2
  rw [dif_pos (by decide)]
  exact congrArg X ((along_eq q _ _).trans (congrArg (ix2 q) (sort_at X q _)))

theorem sort_indices (y : (⟨2, ![4096, 4096]⟩ : Shape).Idx → BitVec 32) (j : Fin 4096) :
    (Host.sort2 ⟨2, ![4096, 4096]⟩ 1 (fun l r => FloatOps.cmpfTotal (F := Ideal) (φ := .f32) .gt l.1 r.1) X y).2 (ix2 q j) = y (ix2 q (ranked X q j)) := by
  unfold Host.sort2
  rw [dif_pos (by decide)]
  exact congrArg y ((along_eq q _ _).trans (congrArg (ix2 q) (sort_at X q _)))

theorem topK_values (n : Fin m) :
    (Host.topK ⟨2, ![4096, m]⟩ 1 (FloatOps.cmpfTotal (F := Ideal) (φ := .f32) .gt) X h).1 (ix2 q n) = X (ix2 q (ranked X q (n.castLE hm))) := by
  dsimp only [Host.topK]
  exact (slice_at q hm h _ n).trans (sort_values X q _ _)

theorem topK_indices (n : Fin m) :
    (Host.topK ⟨2, ![4096, m]⟩ 1 (FloatOps.cmpfTotal (F := Ideal) (φ := .f32) .gt) X h).2 (ix2 q n) = BitVec.ofNat 32 (ranked X q (n.castLE hm)).val := by
  dsimp only [Host.topK]
  refine (slice_at q hm h _ n).trans ((sort_indices X q _ _).trans ?_)
  generalize ranked X q (n.castLE hm) = w
  rw [dif_pos (by decide)]
  rfl

open Classical in
theorem before_eq : (fun k k' => FloatOps.cmpfTotal (F := Ideal) (φ := .f32) .gt (X (ix2 q k)) (X (ix2 q k')) == 1#1)
    = fun k k' => decide ((X (ix2 q k') : EReal) < X (ix2 q k)) := by
  funext k k'
  show (Ideal.cmp .ogt (X (ix2 q k)) (X (ix2 q k')) == 1#1) = _
  unfold Ideal.cmp
  by_cases e : (X (ix2 q k') : EReal) < X (ix2 q k) <;> simp [e]

theorem ranked_falls (i j : Fin 4096) (hij : i ≤ j) : (X (ix2 q (ranked X q j)) : EReal) ≤ X (ix2 q (ranked X q i)) := by
  classical
  rcases hij.eq_or_lt with rfl | hij
  · exact le_rfl
  have t := sortedFrom_noInversion (fun k k' => decide ((X (ix2 q k') : EReal) < X (ix2 q k))) (fun k k' => decide ((X (ix2 q k') : EReal) < X (ix2 q k)))
    (fun a b e => by simp only [decide_eq_true_eq] at e; simp only [decide_eq_false_iff_not, not_lt]; exact e.le) (fun _ _ e => e)
    (fun a b c e e' => by simp only [decide_eq_false_iff_not, not_lt] at e e' ⊢; exact e.trans e') i j hij
  have r : ranked X q = sortedFrom fun k k' => decide ((X (ix2 q k') : EReal) < X (ix2 q k)) := by
    unfold ranked
    rw [before_eq]
  rw [← r] at t
  simpa using t

theorem ranked_injective : Function.Injective (ranked X q) := sortedFrom_injective _
theorem ranked_surjective : Function.Surjective (ranked X q) := sortedFrom_surjective _

/-- The twenty faces of greatest score. -/
def first : Finset ℕ := Finset.univ.image fun n : Fin 20 => (ranked X q (n.castLE (by decide))).val

variable {X q}

/-- They are the nearest faces, if the scores are the distances' negatives and the twentieth is above the twenty-first. -/
theorem first_nearest {D : FVec Ideal ⟨1, ![4096]⟩ .f32} {A : Fin 4096 → EReal} (hD : ∀ w : Fin 4096, D (Knn.ix 4096 w.val) = A w)
    (hX : ∀ w, X (ix2 q w) = (-(A w) : EReal)) (gap : (X (ix2 q (ranked X q 20)) : EReal) < X (ix2 q (ranked X q 19))) : Knn.Nearest D (first X q) where
  card := by
    unfold first
    rw [Finset.card_image_of_injective _ fun a b e => Fin.castLE_injective _ (ranked_injective X q (Fin.ext e))]
    rfl
  lt n hn := by
    obtain ⟨k, -, rfl⟩ := Finset.mem_image.1 hn
    exact (ranked X q _).isLt
  near n hn m hm hmn := by
    obtain ⟨k, -, rfl⟩ := Finset.mem_image.1 hn
    obtain ⟨l, hl⟩ := ranked_surjective X q ⟨m, hm⟩
    have ge : 20 ≤ l.val := by
      by_contra c
      refine hmn (Finset.mem_image.2 ⟨⟨l.val, by omega⟩, Finset.mem_univ _, ?_⟩)
      exact congrArg Fin.val hl
    have a : (X (ix2 q (ranked X q l)) : EReal) ≤ X (ix2 q (ranked X q 20)) := ranked_falls X q 20 l ge
    have b : (X (ix2 q (ranked X q 19)) : EReal) ≤ X (ix2 q (ranked X q (k.castLE (by decide)))) := ranked_falls X q _ 19 (Fin.le_def.2 (by have := k.isLt; show k.val ≤ 19; omega))
    have c : (X (ix2 q (ranked X q l)) : EReal) < X (ix2 q (ranked X q (k.castLE (by decide)))) := (a.trans_lt gap).trans_le b
    rw [hX, hX, EReal.neg_lt_neg_iff, hl] at c
    have e := hD ⟨m, hm⟩
    rw [hD, e]
    exact c

/-- What is added up over the kernel's choice and over the reference's is the same. -/
theorem sum_picks {D : FVec Ideal ⟨1, ![4096]⟩ .f32} (n : Knn.Nearest D (first X q)) (G : BitVec 32 → ℕ) :
    ∑ i : Fin 20, G (Knn.pick D i.val) = ∑ i : Fin 20, G (BitVec.ofNat 32 (ranked X q (i.castLE (by decide))).val) := by
  have e := congrArg (fun s => (s.map G).sum) n.picks
  simp only [Multiset.map_map] at e
  rw [← Finset.sum_range fun i => G (Knn.pick D i)]
  refine Eq.trans e ?_
  show ∑ i ∈ first X q, G (BitVec.ofNat 32 i) = _
  unfold first
  rw [Finset.sum_image fun a _ b _ e => Fin.castLE_injective _ (ranked_injective X q (Fin.ext e))]

end Cert.Proof.Value

end
-- ==== Proof.Feed.lean ====
/-
  What the SparseCore call reads, in plain words, and so what it leaves.
-/
module

public import proofs.«01_k».proof.Proof.Vals
public import proofs.«01_k».proof.Proof.Plain
public import proofs.«01_k».proof.Proof.Ranks
public import Idealize.ShloMosaic.Lib.Pointwise.Reshape

@[expose] public section

set_option maxRecDepth 16384

noncomputable section

namespace Cert.Proof.Value

open Cert.KernelIdeal Cert.KernelIdeal.Gen Cert.Proof.Knn
open Idealize.ShloMosaic Idealize.ShloMosaic.TcCoe

variable (V : Valuation τ sig (Elt Ideal))

theorem column0 (C : FVec Ideal S4096x3 .f32) (hs : S4096x3.Slices ![0, 0] S4096x1) (hc : S4096x1.ShapeCasts S4096) (w : Fin 4096) :
    shapeCast S4096 (extractStridedSlice S4096x1 ![0, 0] C hs) hc (ix1 w) = C (ix2 w 0) := by pointwise
theorem column1 (C : FVec Ideal S4096x3 .f32) (hs : S4096x3.Slices ![0, 1] S4096x1) (hc : S4096x1.ShapeCasts S4096) (w : Fin 4096) :
    shapeCast S4096 (extractStridedSlice S4096x1 ![0, 1] C hs) hc (ix1 w) = C (ix2 w 1) := by pointwise
theorem column2 (C : FVec Ideal S4096x3 .f32) (hs : S4096x3.Slices ![0, 2] S4096x1) (hc : S4096x1.ShapeCasts S4096) (w : Fin 4096) :
    shapeCast S4096 (extractStridedSlice S4096x1 ![0, 2] C hs) hc (ix1 w) = C (ix2 w 2) := by pointwise

theorem feed_cx (h : Named (V main_arg1)) (w : Fin 4096) : (StableHlo.after opsA V main_v11 : FVec Ideal S4096 .f32) (ix1 w) = centre (V main_arg0) (V main_arg1) w 0 := by
  unfold opsA
  after_results_simp
  exact (column0 _ _ _ w).trans (centres_eq _ _ h _ _ _ _ _ w 0)
theorem feed_cy (h : Named (V main_arg1)) (w : Fin 4096) : (StableHlo.after opsA V main_v13 : FVec Ideal S4096 .f32) (ix1 w) = centre (V main_arg0) (V main_arg1) w 1 := by
  unfold opsA
  after_results_simp
  exact (column1 _ _ _ w).trans (centres_eq _ _ h _ _ _ _ _ w 1)
theorem feed_cz (h : Named (V main_arg1)) (w : Fin 4096) : (StableHlo.after opsA V main_v15 : FVec Ideal S4096 .f32) (ix1 w) = centre (V main_arg0) (V main_arg1) w 2 := by
  unfold opsA
  after_results_simp
  exact (column2 _ _ _ w).trans (centres_eq _ _ h _ _ _ _ _ w 2)

theorem feed_vx (i : Fin 10000) : (StableHlo.after opsA V main_v17 : FVec Ideal S10000 .f32) (ix1 i) = (V main_arg0 : Vertices) (ix2 i 0) := by
  unfold opsA
  after_results_simp
  pointwise
theorem feed_vy (i : Fin 10000) : (StableHlo.after opsA V main_v19 : FVec Ideal S10000 .f32) (ix1 i) = (V main_arg0 : Vertices) (ix2 i 1) := by
  unfold opsA
  after_results_simp
  pointwise
theorem feed_vz (i : Fin 10000) : (StableHlo.after opsA V main_v21 : FVec Ideal S10000 .f32) (ix1 i) = (V main_arg0 : Vertices) (ix2 i 2) := by
  unfold opsA
  after_results_simp
  pointwise

theorem feed_fa (w : Fin 4096) : (StableHlo.after opsA V main_v23 : IVec S4096 32) (ix1 w) = (V main_arg1 : Faces) (ix2 w 0) := by
  unfold opsA
  after_results_simp
  pointwise
theorem feed_fb (w : Fin 4096) : (StableHlo.after opsA V main_v25 : IVec S4096 32) (ix1 w) = (V main_arg1 : Faces) (ix2 w 1) := by
  unfold opsA
  after_results_simp
  pointwise
theorem feed_fc (w : Fin 4096) : (StableHlo.after opsA V main_v27 : IVec S4096 32) (ix1 w) = (V main_arg1 : Faces) (ix2 w 2) := by
  unfold opsA
  after_results_simp
  pointwise

theorem ix_eq {n : ℕ} [NeZero n] (w : Fin n) : ix n w.val = ix1 w := by
  funext a
  fin_cases a
  exact Fin.ext (Nat.mod_eq_of_lt w.isLt)

theorem ix_row {n : ℕ} (hn : n ≤ 9999) {u : BitVec 32} (hu : u.toNat ≤ n) : ix (n + 1) u.toNat = ix1 (row n u) :=
  (congrArg (ix (n + 1)) (row_val hn hu).symm).trans (ix_eq _)

/-- The square of a difference of extended reals, turned round. -/
theorem sq_turn (a b : EReal) : (a - b) * (a - b) = (b - a) * (b - a) := by
  by_cases e : a = b
  · rw [e]
  have h1 : a ≠ ⊥ ∨ b ≠ ⊥ := by
    by_contra c
    simp only [not_or, not_not] at c
    exact e (c.1.trans c.2.symm)
  have h2 : a ≠ ⊤ ∨ b ≠ ⊤ := by
    by_contra c
    simp only [not_or, not_not] at c
    exact e (c.1.trans c.2.symm)
  have t : b - a = -(a - b) := by
    rw [EReal.neg_sub h1 h2, add_comm]
    rfl
  rw [t, neg_mul_neg]

variable {I : In Ideal} {v : Vertices} {f : Faces}

/-- The call reads the centres, the vertices and the faces. -/
structure Told (I : In Ideal) (v : Vertices) (f : Faces) : Prop where
  cx : ∀ w, I.cx (ix1 w) = centre v f w 0
  cy : ∀ w, I.cy (ix1 w) = centre v f w 1
  cz : ∀ w, I.cz (ix1 w) = centre v f w 2
  vx : ∀ i, I.vx (ix1 i) = v (ix2 i 0)
  vy : ∀ i, I.vy (ix1 i) = v (ix2 i 1)
  vz : ∀ i, I.vz (ix1 i) = v (ix2 i 2)
  fa : ∀ w, I.fa (ix1 w) = f (ix2 w 0)
  fb : ∀ w, I.fb (ix1 w) = f (ix2 w 1)
  fc : ∀ w, I.fc (ix1 w) = f (ix2 w 2)

theorem told_of (W : Valuation τ sig (Elt Ideal))
    (hcx : ∀ w, (W main_v11 : FVec Ideal S4096 .f32) (ix1 w) = centre v f w 0)
    (hcy : ∀ w, (W main_v13 : FVec Ideal S4096 .f32) (ix1 w) = centre v f w 1)
    (hcz : ∀ w, (W main_v15 : FVec Ideal S4096 .f32) (ix1 w) = centre v f w 2)
    (hvx : ∀ i, (W main_v17 : FVec Ideal S10000 .f32) (ix1 i) = v (ix2 i 0))
    (hvy : ∀ i, (W main_v19 : FVec Ideal S10000 .f32) (ix1 i) = v (ix2 i 1))
    (hvz : ∀ i, (W main_v21 : FVec Ideal S10000 .f32) (ix1 i) = v (ix2 i 2))
    (hfa : ∀ w, (W main_v23 : IVec S4096 32) (ix1 w) = f (ix2 w 0))
    (hfb : ∀ w, (W main_v25 : IVec S4096 32) (ix1 w) = f (ix2 w 1))
    (hfc : ∀ w, (W main_v27 : IVec S4096 32) (ix1 w) = f (ix2 w 2)) : Told (inOf W) v f :=
  ⟨hcx, hcy, hcz, hvx, hvy, hvz, hfa, hfb, hfc⟩

theorem told (h : Named (V main_arg1)) : Told (inOf (StableHlo.after opsA V)) (V main_arg0) (V main_arg1) :=
  told_of _ (feed_cx V h) (feed_cy V h) (feed_cz V h) (feed_vx V) (feed_vy V) (feed_vz V) (feed_fa V) (feed_fb V) (feed_fc V)

/-- The distances the call ranks by. -/
theorem Told.dist (t : Told I v f) (q w : Fin 4096) : I.D q.val (ix 4096 w.val) = apart v f q w := by
  unfold apart
  rw [zero_add, Fin.sum_univ_three]
  unfold In.D away
  rw [ix_eq w, ix_eq q, t.cx, t.cy, t.cz]
  show ((I.cx (ix1 w) : EReal) - centre v f q 0) * (I.cx (ix1 w) - centre v f q 0) + (I.cy (ix1 w) - centre v f q 1) * (I.cy (ix1 w) - centre v f q 1)
    + (I.cz (ix1 w) - centre v f q 2) * (I.cz (ix1 w) - centre v f q 2) = _
  rw [t.cx, t.cy, t.cz, sq_turn (centre v f w 0), sq_turn (centre v f w 1), sq_turn (centre v f w 2)]

theorem corner_eq {c : IVec S4096 32} {X : FVec Ideal S10000 .f32} {a k : Fin 3} (h : Named f) (hc : ∀ w, c (ix1 w) = f (ix2 w a)) (hX : ∀ i, X (ix1 i) = v (ix2 i k))
    {u : BitVec 32} (hu : u.toNat < 4096) : corner c X u = point v f (row 4095 u) a k := by
  have e : ix 4096 u.toNat = ix1 (row 4095 u) := ix_row (by decide) (Nat.le_of_lt_succ hu)
  unfold corner point
  rw [e, hc]
  have e' : ix 10000 (f (ix2 (row 4095 u) a)).toNat = ix1 (row 9999 (f (ix2 (row 4095 u) a))) := ix_row le_rfl (Nat.le_of_lt_succ (h _))
  rw [e', hX]

theorem Told.edge (t : Told I v f) (h : Named f) {X : FVec Ideal S10000 .f32} {k : Fin 3} (hX : ∀ i, X (ix1 i) = v (ix2 i k)) {u : BitVec 32} (hu : u.toNat < 4096) (a : Fin 3) :
    I.edge X u a.val = Value.edge v f (row 4095 u) a k := by
  unfold In.edge Value.edge
  rw [corner_eq h t.fa hX hu, corner_eq h t.fb hX hu, corner_eq h t.fc hX hu]
  fin_cases a <;> rfl

/-- The column of edge `a` of neighbour `n` of what the call leaves. -/
theorem Told.out (t : Told I v f) (h : Named f) {X : FVec Ideal S10000 .f32} {k : Fin 3} (hX : ∀ i, X (ix1 i) = v (ix2 i k)) (q : Fin 4096)
    (hp : ∀ n < 20, (pick (I.D q.val) n).toNat < 4096) (n : Fin 20) (a : Fin 3) (hc : 3 * n.val + a.val < 60) :
    I.out X (ix2 q ⟨3 * n.val + a.val, hc⟩) = Value.edge v f (row 4095 (pick (I.D q.val) n.val)) a k := by
  show I.edge X (pick (I.D q.val) ((3 * n.val + a.val) / 3)) ((3 * n.val + a.val) % 3) = _
  rw [show (3 * n.val + a.val) / 3 = n.val by omega, show (3 * n.val + a.val) % 3 = a.val by omega]
  exact t.edge h hX (hp n.val n.isLt) a

end Cert.Proof.Value

end
-- ==== Proof.Result.lean ====
/-
  The result of the TensorCore call, from the contents of the arrays when it begins.
-/
module

public import proofs.«01_k».proof.Proof.Vals
public import Idealize.ShloMosaic.Lib.Pipeline.ValueKit

@[expose] public section

set_option maxRecDepth 16384

noncomputable section

namespace Cert.Proof.Value

open Cert.KernelIdeal Cert.KernelIdeal.Gen Cert.Proof.Knn
open Idealize.ShloMosaic Idealize.ShloMosaic.TcCoe

variable (V : Dev nD → Valuation τ sig (Elt Ideal)) (c : Dev nD)

/-- Every window's block is at the origin. -/
theorem at_origin : ∀ t : Fin cfg1.N, win1_0.index t = ![0, 0] ∧ win1_1.index t = ![0, 0] ∧ win1_2.index t = ![0, 0] ∧ win1_3.index t = ![0, 0] ∧ win1_4.index t = ![0, 0]
    ∧ win1_5.index t = ![0, 0] ∧ win1_6.index t = ![0, 0] ∧ win1_7.index t = ![0, 0] ∧ win1_8.index t = ![0, 0] ∧ win1_9.index t = ![0, 0] :=
  (by decide +kernel : ∀ t : Fin grid1.N, _)

theorem blk0 : (blk (V c) c 0 t1_0 : Vec Ideal S4096x60 .f32) = V c main_v28_0 := by
  blk_ext! [blk, at_origin t1_0]
theorem blk1 : (blk (V c) c 1 t1_0 : Vec Ideal S4096x60 .f32) = V c main_v28_1 := by
  blk_ext! [blk, at_origin t1_0]
theorem blk2 : (blk (V c) c 2 t1_0 : Vec Ideal S4096x60 .f32) = V c main_v28_2 := by
  blk_ext! [blk, at_origin t1_0]
theorem blk3 : (blk (V c) c 3 t1_0 : Vec Ideal S4096x3 .f32) = V c main_v52 := by
  blk_ext! [blk, at_origin t1_0]
theorem blk4 : (blk (V c) c 4 t1_0 : Vec Ideal S4096x3 .f32) = V c main_v54 := by
  blk_ext! [blk, at_origin t1_0]
theorem blk5 : (blk (V c) c 5 t1_0 : Vec Ideal S4096x3 .f32) = V c main_v56 := by
  blk_ext! [blk, at_origin t1_0]
theorem blk6 : (blk (V c) c 6 t1_0 : Vec Ideal S4096x60 .f32) = V c main_v59 := by
  blk_ext! [blk, at_origin t1_0]
theorem blk7 : (blk (V c) c 7 t1_0 : Vec Ideal S4096x60 .f32) = V c main_v62 := by
  blk_ext! [blk, at_origin t1_0]
theorem blk8 : (blk (V c) c 8 t1_0 : Vec Ideal S4096x60 .f32) = V c main_v65 := by
  blk_ext! [blk, at_origin t1_0]
theorem blk9 : (blk (V c) c 9 t1_0 : Vec Ideal S4096x1 .f32) = V c main_v66 := by
  blk_ext! [blk, at_origin t1_0]

theorem result_eq (j : S1x1.Idx) : (Pipeline.afterRegion (dats V 0 c) (V c) main_v67 : FVec Ideal S1x1 .f32) j =
    loss (V c main_v28_0) (V c main_v28_1) (V c main_v28_2) (V c main_v52) (V c main_v54) (V c main_v56) (V c main_v59) (V c main_v62) (V c main_v65) (V c main_v66) j := by
  have e := Pipeline.afterRegion_arr (dats V 0 c) (V c) launch1.win.arr_inj 10
  refine (congrFun e j).trans ?_
  refine congrFun ((dats V 0 c).arrAt_eq_of_after_last 10 t1_0 (by decide +kernel) _ fun j => ?_) j
  blk_simp
  rw [show (dats V 0 c).after 10 t1_0 = _ from after_10 (V c) c t1_0]
  frame_out
  rw [blk0, blk1, blk2, blk3, blk4, blk5, blk6, blk7, blk8, blk9]

end Cert.Proof.Value

end
-- ==== Proof.KerLoss.lean ====
/-
  The kernel's loss, from its arguments: the crossings with the faces it picks, weighted and added up.
-/
module

public import proofs.«01_k».proof.Proof.Own
public import proofs.«01_k».proof.Proof.Feed
public import proofs.«01_k».proof.Proof.Result

@[expose] public section

set_option maxRecDepth 16384

noncomputable section

namespace Cert.Proof.Value

open Cert.KernelIdeal Cert.KernelIdeal.Gen Cert.Proof.Knn
open Idealize.ShloMosaic Idealize.ShloMosaic.TcCoe

variable (m : (ℓ : Loc nD τ sig) → Buf (Elt Ideal) ℓ) (d : Dev nD)

/-- The kernel's arguments. -/
abbrev argV : Vertices := m (d, dr main_arg0)
abbrev argF : Faces := m (d, dr main_arg1)
abbrev argP : FVec Ideal S4096 .f32 := m (d, dr main_arg2)

theorem vk_arg0 : VK m d (dr main_arg0) = argV m d := (called_of_not_mem _ _ _ _ (by decide)).trans (VA_off m d (by decide))
theorem vk_arg1 : VK m d (dr main_arg1) = argF m d := (called_of_not_mem _ _ _ _ (by decide)).trans (VA_off m d (by decide))
theorem vk_arg2 : VK m d (dr main_arg2) = argP m d := (called_of_not_mem _ _ _ _ (by decide)).trans (VA_off m d (by decide))
theorem vk_table : VK m d (dr main_c) = corners := (called_of_not_mem _ _ _ _ (by decide)).trans (a_table (V0 m d))

variable (h : Named (argF m d))

include h in
theorem j_told : Told (J m d) (argV m d) (argF m d) := told (V0 m d) h

include h in
theorem vb_own (q : Fin 4096) (a k : Fin 3) : (VB m d (dr main_v50) : FVec Ideal S4096x3x3 .f32) (ix3 q a k) = edge (argV m d) (argF m d) q a k := by
  have e := own_edges (VK m d) (by rw [vk_arg1]; exact h) (vk_table m d) q a k
  rw [vk_arg0, vk_arg1] at e
  exact e

theorem three_coords {s : Shape} {a b c : FVec Ideal s .f32} {j : s.Idx} {g : Fin 3 → EReal} (ha : a j = g 0) (hb : b j = g 1) (hc : c j = g 2) : vec3 a b c j = g := by
  funext k
  unfold vec3
  fin_cases k
  · exact ha
  · exact hb
  · exact hc

include h in
/-- The kernel's loss, from its arguments. -/
theorem ker_loss (hp : ∀ (q : Fin 4096), ∀ n < 20, (pick ((J m d).D q.val) n).toNat < 4096) (j : S_.Idx) :
    (VD m d (dr main_v68) : FVec Ideal S_ .f32) j
      = lossOf (argV m d) (argF m d) (argP m d) fun q n => row 4095 (pick ((J m d).D q.val) n.val) := by
  have e0 : (VD m d (dr main_v68) : FVec Ideal S_ .f32) j = (VC m d (dr main_v67) : FVec Ideal S1x1 .f32) (ix2 0 0) := by
    unfold VD opsC
    after_results_simp
    pointwise
  rw [e0]
  refine (result_eq (VB m) d (ix2 0 0)).trans ?_
  have t := j_told m d h
  have n0 : VB m d (dr main_v28_0) = (J m d).out (J m d).vx := (VB_off m d (by decide) (by decide)).trans (called_0 _ _ _ _)
  have n1 : VB m d (dr main_v28_1) = (J m d).out (J m d).vy := (VB_off m d (by decide) (by decide)).trans (called_1 _ _ _ _)
  have n2 : VB m d (dr main_v28_2) = (J m d).out (J m d).vz := (VB_off m d (by decide) (by decide)).trans (called_2 _ _ _ _)
  have o := vb_own m d h
  refine loss_total (fun q n a => three_coords ?_ ?_ ?_) (fun q j => three_coords ?_ ?_ ?_) (fun q n a => three_coords ?_ ?_ ?_) (fun q => ?_) _
  · exact (congrFun n0 _).trans (t.out h t.vx q (hp q) n a _)
  · exact (congrFun n1 _).trans (t.out h t.vy q (hp q) n a _)
  · exact (congrFun n2 _).trans (t.out h t.vz q (hp q) n a _)
  · exact (b2_x _ q j).trans (o q j 0)
  · exact (b2_y _ q j).trans (o q j 1)
  · exact (b2_z _ q j).trans (o q j 2)
  · exact ((b2_tx _ q n a).trans (b2_x _ q a)).trans (o q a 0)
  · exact ((b2_ty _ q n a).trans (b2_y _ q a)).trans (o q a 1)
  · exact ((b2_tz _ q n a).trans (b2_z _ q a)).trans (o q a 2)
  · refine (b2_probs _ q).trans (congrFun ?_ (ix1 q))
    exact (StableHlo.after_of_writes_sub opsB1 _ opsB1_writes (by decide)).trans (vk_arg2 m d)

end Cert.Proof.Value

end
-- ==== Proof.Ref.lean ====
/-
  The reference's program as a list of operations, and its run: it ends with every array at these operations' results, and every counter at zero.
-/
module

public import proofs.«01_k».proof.Proof.Gen.ReferenceIdeal
public import Idealize.ShloMosaic.Lib.StableHlo.RunHlo
public import Idealize.ShloMosaic.Lib.StableHlo.Run
public import Idealize.ShloMosaic.Lib.Pipeline.Regions
public import Idealize.ShloMosaic.Lib.Quiescent

@[expose] public section

set_option maxRecDepth 16384

noncomputable section

namespace Cert.Proof.Ref

open Cert.ReferenceIdeal Cert.ReferenceIdeal.Gen

open Idealize.ShloMosaic Idealize.ShloMosaic.TcCoe
open Idealize.SL.Sem

variable {F : FTy → Type} [FloatOps F]

/-- The first sixty operations. -/
def r0 : List (HloOp τ sig (Elt F)) :=
  [ StableHlo.nullary main_c (fun i => lit0 (S3.rowMajor i)),
    StableHlo.nullary main_c_0 (constantI S_ 32 0#32),
    StableHlo.unary main_c_0 main_v0 (broadcastInDim S4096x3 ![] bcast_S_S4096x3 : (⟨S_, .i32⟩ : BufTy).Contents (Elt F) → (⟨S4096x3, .i32⟩ : BufTy).Contents (Elt F)),
    StableHlo.binary main_arg1 main_v0 main_v1 (cmpi .slt : (⟨S4096x3, .i32⟩ : BufTy).Contents (Elt F) → (⟨S4096x3, .i32⟩ : BufTy).Contents (Elt F) → (⟨S4096x3, .i1⟩ : BufTy).Contents (Elt F)),
    StableHlo.nullary main_c_1 (constantI S_ 32 10000#32),
    StableHlo.unary main_c_1 main_v2 (broadcastInDim S4096x3 ![] bcast_S_S4096x3 : (⟨S_, .i32⟩ : BufTy).Contents (Elt F) → (⟨S4096x3, .i32⟩ : BufTy).Contents (Elt F)),
    StableHlo.binary main_arg1 main_v2 main_v3 (addi : (⟨S4096x3, .i32⟩ : BufTy).Contents (Elt F) → (⟨S4096x3, .i32⟩ : BufTy).Contents (Elt F) → (⟨S4096x3, .i32⟩ : BufTy).Contents (Elt F)),
    StableHlo.ternary main_v1 main_v3 main_arg1 main_v4 (select : (⟨S4096x3, .i1⟩ : BufTy).Contents (Elt F) → (⟨S4096x3, .i32⟩ : BufTy).Contents (Elt F) → (⟨S4096x3, .i32⟩ : BufTy).Contents (Elt F) → (⟨S4096x3, .i32⟩ : BufTy).Contents (Elt F)),
    StableHlo.unary main_v4 main_v5 (broadcastInDim S4096x3x1 ![0, 1] bcast_S4096x3_S4096x3x1_0_1 : (⟨S4096x3, .i32⟩ : BufTy).Contents (Elt F) → (⟨S4096x3x1, .i32⟩ : BufTy).Contents (Elt F)),
    StableHlo.binary main_arg0 main_v5 main_v6 ((fun x i => Host.gather gather_S10000x3_S4096x3x1_S4096x3x3_2_0_n_n_0_2_13 x i) : (⟨S10000x3, .f32⟩ : BufTy).Contents (Elt F) → (⟨S4096x3x1, .i32⟩ : BufTy).Contents (Elt F) → (⟨S4096x3x3, .f32⟩ : BufTy).Contents (Elt F)),
    StableHlo.nullary main_cst (constant S_ .f32 0x00000000#32),
    StableHlo.binary main_v6 main_cst main_v7 ((fun x v => Host.reduceAdd x v reducesTo_S4096x3x3_S4096x3_d1 h_S_) : (⟨S4096x3x3, .f32⟩ : BufTy).Contents (Elt F) → (⟨S_, .f32⟩ : BufTy).Contents (Elt F) → (⟨S4096x3, .f32⟩ : BufTy).Contents (Elt F)),
    StableHlo.nullary main_cst_2 (constant S_ .f32 0x40400000#32),
    StableHlo.unary main_cst_2 main_v8 (broadcastInDim S4096x3 ![] bcast_S_S4096x3 : (⟨S_, .f32⟩ : BufTy).Contents (Elt F) → (⟨S4096x3, .f32⟩ : BufTy).Contents (Elt F)),
    StableHlo.binary main_v7 main_v8 main_v9 (Host.divf : (⟨S4096x3, .f32⟩ : BufTy).Contents (Elt F) → (⟨S4096x3, .f32⟩ : BufTy).Contents (Elt F) → (⟨S4096x3, .f32⟩ : BufTy).Contents (Elt F)),
    StableHlo.unary main_v9 main_v10 (broadcastInDim S4096x1x3 ![0, 2] bcast_S4096x3_S4096x1x3_0_2 : (⟨S4096x3, .f32⟩ : BufTy).Contents (Elt F) → (⟨S4096x1x3, .f32⟩ : BufTy).Contents (Elt F)),
    StableHlo.unary main_v9 main_v11 (broadcastInDim S1x4096x3 ![1, 2] bcast_S4096x3_S1x4096x3_1_2 : (⟨S4096x3, .f32⟩ : BufTy).Contents (Elt F) → (⟨S1x4096x3, .f32⟩ : BufTy).Contents (Elt F)),
    StableHlo.unary main_v10 main_v12 (broadcastInDim S4096x4096x3 ![0, 1, 2] bcast_S4096x1x3_S4096x4096x3_0_1_2 : (⟨S4096x1x3, .f32⟩ : BufTy).Contents (Elt F) → (⟨S4096x4096x3, .f32⟩ : BufTy).Contents (Elt F)),
    StableHlo.unary main_v11 main_v13 (broadcastInDim S4096x4096x3 ![0, 1, 2] bcast_S1x4096x3_S4096x4096x3_0_1_2 : (⟨S1x4096x3, .f32⟩ : BufTy).Contents (Elt F) → (⟨S4096x4096x3, .f32⟩ : BufTy).Contents (Elt F)),
    StableHlo.binary main_v12 main_v13 main_v14 (subf : (⟨S4096x4096x3, .f32⟩ : BufTy).Contents (Elt F) → (⟨S4096x4096x3, .f32⟩ : BufTy).Contents (Elt F) → (⟨S4096x4096x3, .f32⟩ : BufTy).Contents (Elt F)),
    StableHlo.binary main_v14 main_v14 main_v15 (mulf : (⟨S4096x4096x3, .f32⟩ : BufTy).Contents (Elt F) → (⟨S4096x4096x3, .f32⟩ : BufTy).Contents (Elt F) → (⟨S4096x4096x3, .f32⟩ : BufTy).Contents (Elt F)),
    StableHlo.nullary main_cst_3 (constant S_ .f32 0x00000000#32),
    StableHlo.binary main_v15 main_cst_3 main_v16 ((fun x v => Host.reduceAdd x v reducesTo_S4096x4096x3_S4096x4096_d2 h_S_) : (⟨S4096x4096x3, .f32⟩ : BufTy).Contents (Elt F) → (⟨S_, .f32⟩ : BufTy).Contents (Elt F) → (⟨S4096x4096, .f32⟩ : BufTy).Contents (Elt F)),
    StableHlo.unary main_v16 main_v17 (Host.negf : (⟨S4096x4096, .f32⟩ : BufTy).Contents (Elt F) → (⟨S4096x4096, .f32⟩ : BufTy).Contents (Elt F)),
    StableHlo.unary main_v17 main_values ((fun x => (Host.topK S4096x20 1 (FloatOps.cmpfTotal .gt) x sliceFits_S4096x4096_S4096x20).1) : (⟨S4096x4096, .f32⟩ : BufTy).Contents (Elt F) → (⟨S4096x20, .f32⟩ : BufTy).Contents (Elt F)),
    StableHlo.unary main_v17 main_indices ((fun x => (Host.topK S4096x20 1 (FloatOps.cmpfTotal .gt) x sliceFits_S4096x4096_S4096x20).2) : (⟨S4096x4096, .f32⟩ : BufTy).Contents (Elt F) → (⟨S4096x20, .i32⟩ : BufTy).Contents (Elt F)),
    StableHlo.nullary main_c_4 (constantI S_ 32 0#32),
    StableHlo.unary main_c_4 main_v18 (broadcastInDim S3 ![] bcast_S_S3 : (⟨S_, .i32⟩ : BufTy).Contents (Elt F) → (⟨S3, .i32⟩ : BufTy).Contents (Elt F)),
    StableHlo.binary main_c main_v18 main_v19 (cmpi .slt : (⟨S3, .i32⟩ : BufTy).Contents (Elt F) → (⟨S3, .i32⟩ : BufTy).Contents (Elt F) → (⟨S3, .i1⟩ : BufTy).Contents (Elt F)),
    StableHlo.nullary main_c_5 (constantI S_ 32 3#32),
    StableHlo.unary main_c_5 main_v20 (broadcastInDim S3 ![] bcast_S_S3 : (⟨S_, .i32⟩ : BufTy).Contents (Elt F) → (⟨S3, .i32⟩ : BufTy).Contents (Elt F)),
    StableHlo.binary main_c main_v20 main_v21 (addi : (⟨S3, .i32⟩ : BufTy).Contents (Elt F) → (⟨S3, .i32⟩ : BufTy).Contents (Elt F) → (⟨S3, .i32⟩ : BufTy).Contents (Elt F)),
    StableHlo.ternary main_v19 main_v21 main_c main_v22 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v22 main_v23 (broadcastInDim S3x1 ![0] bcast_S3_S3x1_0 : (⟨S3, .i32⟩ : BufTy).Contents (Elt F) → (⟨S3x1, .i32⟩ : BufTy).Contents (Elt F)),
    StableHlo.binary main_arg1 main_v23 main_v24 ((fun x i => Host.gather gather_S4096x3_S3x1_S4096x3_0_1_n_n_1_1_40961 x i) : (⟨S4096x3, .i32⟩ : BufTy).Contents (Elt F) → (⟨S3x1, .i32⟩ : BufTy).Contents (Elt F) → (⟨S4096x3, .i32⟩ : BufTy).Contents (Elt F)),
    StableHlo.nullary main_c_6 (constantI S_ 32 0#32),
    StableHlo.unary main_c_6 main_v25 (broadcastInDim S4096x3 ![] bcast_S_S4096x3 : (⟨S_, .i32⟩ : BufTy).Contents (Elt F) → (⟨S4096x3, .i32⟩ : BufTy).Contents (Elt F)),
    StableHlo.binary main_v24 main_v25 main_v26 (cmpi .slt : (⟨S4096x3, .i32⟩ : BufTy).Contents (Elt F) → (⟨S4096x3, .i32⟩ : BufTy).Contents (Elt F) → (⟨S4096x3, .i1⟩ : BufTy).Contents (Elt F)),
    StableHlo.nullary main_c_7 (constantI S_ 32 10000#32),
    StableHlo.unary main_c_7 main_v27 (broadcastInDim S4096x3 ![] bcast_S_S4096x3 : (⟨S_, .i32⟩ : BufTy).Contents (Elt F) → (⟨S4096x3, .i32⟩ : BufTy).Contents (Elt F)),
    StableHlo.binary main_v24 main_v27 main_v28 (addi : (⟨S4096x3, .i32⟩ : BufTy).Contents (Elt F) → (⟨S4096x3, .i32⟩ : BufTy).Contents (Elt F) → (⟨S4096x3, .i32⟩ : BufTy).Contents (Elt F)),
    StableHlo.ternary main_v26 main_v28 main_v24 main_v29 (select : (⟨S4096x3, .i1⟩ : BufTy).Contents (Elt F) → (⟨S4096x3, .i32⟩ : BufTy).Contents (Elt F) → (⟨S4096x3, .i32⟩ : BufTy).Contents (Elt F) → (⟨S4096x3, .i32⟩ : BufTy).Contents (Elt F)),
    StableHlo.unary main_v29 main_v30 (broadcastInDim S4096x3x1 ![0, 1] bcast_S4096x3_S4096x3x1_0_1 : (⟨S4096x3, .i32⟩ : BufTy).Contents (Elt F) → (⟨S4096x3x1, .i32⟩ : BufTy).Contents (Elt F)),
    StableHlo.binary main_arg0 main_v30 main_v31 ((fun x i => Host.gather gather_S10000x3_S4096x3x1_S4096x3x3_2_0_n_n_0_2_13 x i) : (⟨S10000x3, .f32⟩ : BufTy).Contents (Elt F) → (⟨S4096x3x1, .i32⟩ : BufTy).Contents (Elt F) → (⟨S4096x3x3, .f32⟩ : BufTy).Contents (Elt F)),
    StableHlo.nullary main_c_8 (constantI S_ 32 0#32),
    StableHlo.unary main_c_8 main_v32 (broadcastInDim S4096x3 ![] bcast_S_S4096x3 : (⟨S_, .i32⟩ : BufTy).Contents (Elt F) → (⟨S4096x3, .i32⟩ : BufTy).Contents (Elt F)),
    StableHlo.binary main_arg1 main_v32 main_v33 (cmpi .slt : (⟨S4096x3, .i32⟩ : BufTy).Contents (Elt F) → (⟨S4096x3, .i32⟩ : BufTy).Contents (Elt F) → (⟨S4096x3, .i1⟩ : BufTy).Contents (Elt F)),
    StableHlo.nullary main_c_9 (constantI S_ 32 10000#32),
    StableHlo.unary main_c_9 main_v34 (broadcastInDim S4096x3 ![] bcast_S_S4096x3 : (⟨S_, .i32⟩ : BufTy).Contents (Elt F) → (⟨S4096x3, .i32⟩ : BufTy).Contents (Elt F)),
    StableHlo.binary main_arg1 main_v34 main_v35 (addi : (⟨S4096x3, .i32⟩ : BufTy).Contents (Elt F) → (⟨S4096x3, .i32⟩ : BufTy).Contents (Elt F) → (⟨S4096x3, .i32⟩ : BufTy).Contents (Elt F)),
    StableHlo.ternary main_v33 main_v35 main_arg1 main_v36 (select : (⟨S4096x3, .i1⟩ : BufTy).Contents (Elt F) → (⟨S4096x3, .i32⟩ : BufTy).Contents (Elt F) → (⟨S4096x3, .i32⟩ : BufTy).Contents (Elt F) → (⟨S4096x3, .i32⟩ : BufTy).Contents (Elt F)),
    StableHlo.unary main_v36 main_v37 (broadcastInDim S4096x3x1 ![0, 1] bcast_S4096x3_S4096x3x1_0_1 : (⟨S4096x3, .i32⟩ : BufTy).Contents (Elt F) → (⟨S4096x3x1, .i32⟩ : BufTy).Contents (Elt F)),
    StableHlo.binary main_arg0 main_v37 main_v38 ((fun x i => Host.gather gather_S10000x3_S4096x3x1_S4096x3x3_2_0_n_n_0_2_13 x i) : (⟨S10000x3, .f32⟩ : BufTy).Contents (Elt F) → (⟨S4096x3x1, .i32⟩ : BufTy).Contents (Elt F) → (⟨S4096x3x3, .f32⟩ : BufTy).Contents (Elt F)),
    StableHlo.binary main_v31 main_v38 main_v39 (subf : (⟨S4096x3x3, .f32⟩ : BufTy).Contents (Elt F) → (⟨S4096x3x3, .f32⟩ : BufTy).Contents (Elt F) → (⟨S4096x3x3, .f32⟩ : BufTy).Contents (Elt F)),
    StableHlo.nullary main_c_10 (constantI S_ 32 0#32),
    StableHlo.unary main_c_10 main_v40 (broadcastInDim S4096x20 ![] bcast_S_S4096x20 : (⟨S_, .i32⟩ : BufTy).Contents (Elt F) → (⟨S4096x20, .i32⟩ : BufTy).Contents (Elt F)),
    StableHlo.binary main_indices main_v40 main_v41 (cmpi .slt : (⟨S4096x20, .i32⟩ : BufTy).Contents (Elt F) → (⟨S4096x20, .i32⟩ : BufTy).Contents (Elt F) → (⟨S4096x20, .i1⟩ : BufTy).Contents (Elt F)),
    StableHlo.nullary main_c_11 (constantI S_ 32 4096#32),
    StableHlo.unary main_c_11 main_v42 (broadcastInDim S4096x20 ![] bcast_S_S4096x20 : (⟨S_, .i32⟩ : BufTy).Contents (Elt F) → (⟨S4096x20, .i32⟩ : BufTy).Contents (Elt F)),
    StableHlo.binary main_indices main_v42 main_v43 (addi : (⟨S4096x20, .i32⟩ : BufTy).Contents (Elt F) → (⟨S4096x20, .i32⟩ : BufTy).Contents (Elt F) → (⟨S4096x20, .i32⟩ : BufTy).Contents (Elt F)) ]

/-- From there to the first cross product. -/
def r1a : List (HloOp τ sig (Elt F)) :=
  [ StableHlo.ternary main_v41 main_v43 main_indices main_v44 (select : (⟨S4096x20, .i1⟩ : BufTy).Contents (Elt F) → (⟨S4096x20, .i32⟩ : BufTy).Contents (Elt F) → (⟨S4096x20, .i32⟩ : BufTy).Contents (Elt F) → (⟨S4096x20, .i32⟩ : BufTy).Contents (Elt F)),
    StableHlo.unary main_v44 main_v45 (broadcastInDim S4096x20x1 ![0, 1] bcast_S4096x20_S4096x20x1_0_1 : (⟨S4096x20, .i32⟩ : BufTy).Contents (Elt F) → (⟨S4096x20x1, .i32⟩ : BufTy).Contents (Elt F)),
    StableHlo.binary main_arg1 main_v45 main_v46 ((fun x i => Host.gather gather_S4096x3_S4096x20x1_S4096x20x3_2_0_n_n_0_2_13 x i) : (⟨S4096x3, .i32⟩ : BufTy).Contents (Elt F) → (⟨S4096x20x1, .i32⟩ : BufTy).Contents (Elt F) → (⟨S4096x20x3, .i32⟩ : BufTy).Contents (Elt F)),
    StableHlo.nullary main_c_12 (constantI S_ 32 0#32),
    StableHlo.unary main_c_12 main_v47 (broadcastInDim S3 ![] bcast_S_S3 : (⟨S_, .i32⟩ : BufTy).Contents (Elt F) → (⟨S3, .i32⟩ : BufTy).Contents (Elt F)),
    StableHlo.binary main_c main_v47 main_v48 (cmpi .slt : (⟨S3, .i32⟩ : BufTy).Contents (Elt F) → (⟨S3, .i32⟩ : BufTy).Contents (Elt F) → (⟨S3, .i1⟩ : BufTy).Contents (Elt F)),
    StableHlo.nullary main_c_13 (constantI S_ 32 3#32),
    StableHlo.unary main_c_13 main_v49 (broadcastInDim S3 ![] bcast_S_S3 : (⟨S_, .i32⟩ : BufTy).Contents (Elt F) → (⟨S3, .i32⟩ : BufTy).Contents (Elt F)),
    StableHlo.binary main_c main_v49 main_v50 (addi : (⟨S3, .i32⟩ : BufTy).Contents (Elt F) → (⟨S3, .i32⟩ : BufTy).Contents (Elt F) → (⟨S3, .i32⟩ : BufTy).Contents (Elt F)),
    StableHlo.ternary main_v48 main_v50 main_c main_v51 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v51 main_v52 (broadcastInDim S3x1 ![0] bcast_S3_S3x1_0 : (⟨S3, .i32⟩ : BufTy).Contents (Elt F) → (⟨S3x1, .i32⟩ : BufTy).Contents (Elt F)),
    StableHlo.binary main_v46 main_v52 main_v53 ((fun x i => Host.gather gather_S4096x20x3_S3x1_S4096x20x3_01_2_n_n_2_1_4096201 x i) : (⟨S4096x20x3, .i32⟩ : BufTy).Contents (Elt F) → (⟨S3x1, .i32⟩ : BufTy).Contents (Elt F) → (⟨S4096x20x3, .i32⟩ : BufTy).Contents (Elt F)),
    StableHlo.nullary main_c_14 (constantI S_ 32 0#32),
    StableHlo.unary main_c_14 main_v54 (broadcastInDim S4096x20x3 ![] bcast_S_S4096x20x3 : (⟨S_, .i32⟩ : BufTy).Contents (Elt F) → (⟨S4096x20x3, .i32⟩ : BufTy).Contents (Elt F)),
    StableHlo.binary main_v53 main_v54 main_v55 (cmpi .slt : (⟨S4096x20x3, .i32⟩ : BufTy).Contents (Elt F) → (⟨S4096x20x3, .i32⟩ : BufTy).Contents (Elt F) → (⟨S4096x20x3, .i1⟩ : BufTy).Contents (Elt F)),
    StableHlo.nullary main_c_15 (constantI S_ 32 10000#32),
    StableHlo.unary main_c_15 main_v56 (broadcastInDim S4096x20x3 ![] bcast_S_S4096x20x3 : (⟨S_, .i32⟩ : BufTy).Contents (Elt F) → (⟨S4096x20x3, .i32⟩ : BufTy).Contents (Elt F)),
    StableHlo.binary main_v53 main_v56 main_v57 (addi : (⟨S4096x20x3, .i32⟩ : BufTy).Contents (Elt F) → (⟨S4096x20x3, .i32⟩ : BufTy).Contents (Elt F) → (⟨S4096x20x3, .i32⟩ : BufTy).Contents (Elt F)),
    StableHlo.ternary main_v55 main_v57 main_v53 main_v58 (select : (⟨S4096x20x3, .i1⟩ : BufTy).Contents (Elt F) → (⟨S4096x20x3, .i32⟩ : BufTy).Contents (Elt F) → (⟨S4096x20x3, .i32⟩ : BufTy).Contents (Elt F) → (⟨S4096x20x3, .i32⟩ : BufTy).Contents (Elt F)),
    StableHlo.unary main_v58 main_v59 (broadcastInDim S4096x20x3x1 ![0, 1, 2] bcast_S4096x20x3_S4096x20x3x1_0_1_2 : (⟨S4096x20x3, .i32⟩ : BufTy).Contents (Elt F) → (⟨S4096x20x3x1, .i32⟩ : BufTy).Contents (Elt F)),
    StableHlo.binary main_arg0 main_v59 main_v60 ((fun x i => Host.gather gather_S10000x3_S4096x20x3x1_S4096x20x3x3_3_0_n_n_0_3_13 x i) : (⟨S10000x3, .f32⟩ : BufTy).Contents (Elt F) → (⟨S4096x20x3x1, .i32⟩ : BufTy).Contents (Elt F) → (⟨S4096x20x3x3, .f32⟩ : BufTy).Contents (Elt F)),
    StableHlo.nullary main_c_16 (constantI S_ 32 0#32),
    StableHlo.unary main_c_16 main_v61 (broadcastInDim S4096x20x3 ![] bcast_S_S4096x20x3 : (⟨S_, .i32⟩ : BufTy).Contents (Elt F) → (⟨S4096x20x3, .i32⟩ : BufTy).Contents (Elt F)),
    StableHlo.binary main_v46 main_v61 main_v62 (cmpi .slt : (⟨S4096x20x3, .i32⟩ : BufTy).Contents (Elt F) → (⟨S4096x20x3, .i32⟩ : BufTy).Contents (Elt F) → (⟨S4096x20x3, .i1⟩ : BufTy).Contents (Elt F)),
    StableHlo.nullary main_c_17 (constantI S_ 32 10000#32),
    StableHlo.unary main_c_17 main_v63 (broadcastInDim S4096x20x3 ![] bcast_S_S4096x20x3 : (⟨S_, .i32⟩ : BufTy).Contents (Elt F) → (⟨S4096x20x3, .i32⟩ : BufTy).Contents (Elt F)),
    StableHlo.binary main_v46 main_v63 main_v64 (addi : (⟨S4096x20x3, .i32⟩ : BufTy).Contents (Elt F) → (⟨S4096x20x3, .i32⟩ : BufTy).Contents (Elt F) → (⟨S4096x20x3, .i32⟩ : BufTy).Contents (Elt F)),
    StableHlo.ternary main_v62 main_v64 main_v46 main_v65 (select : (⟨S4096x20x3, .i1⟩ : BufTy).Contents (Elt F) → (⟨S4096x20x3, .i32⟩ : BufTy).Contents (Elt F) → (⟨S4096x20x3, .i32⟩ : BufTy).Contents (Elt F) → (⟨S4096x20x3, .i32⟩ : BufTy).Contents (Elt F)),
    StableHlo.unary main_v65 main_v66 (broadcastInDim S4096x20x3x1 ![0, 1, 2] bcast_S4096x20x3_S4096x20x3x1_0_1_2 : (⟨S4096x20x3, .i32⟩ : BufTy).Contents (Elt F) → (⟨S4096x20x3x1, .i32⟩ : BufTy).Contents (Elt F)),
    StableHlo.binary main_arg0 main_v66 main_v67 ((fun x i => Host.gather gather_S10000x3_S4096x20x3x1_S4096x20x3x3_3_0_n_n_0_3_13 x i) : (⟨S10000x3, .f32⟩ : BufTy).Contents (Elt F) → (⟨S4096x20x3x1, .i32⟩ : BufTy).Contents (Elt F) → (⟨S4096x20x3x3, .f32⟩ : BufTy).Contents (Elt F)),
    StableHlo.binary main_v60 main_v67 main_v68 (subf : (⟨S4096x20x3x3, .f32⟩ : BufTy).Contents (Elt F) → (⟨S4096x20x3x3, .f32⟩ : BufTy).Contents (Elt F) → (⟨S4096x20x3x3, .f32⟩ : BufTy).Contents (Elt F)),
    StableHlo.nullary main_cst_18 (constant S_ .f32 0x00000000#32),
    StableHlo.unary main_cst_18 main_v69 (broadcastInDim S4096 ![] bcast_S_S4096 : (⟨S_, .f32⟩ : BufTy).Contents (Elt F) → (⟨S4096, .f32⟩ : BufTy).Contents (Elt F)),
    StableHlo.unary main_v39 main_v70 ((extractStridedSlice S4096x1x3 ![0, 0, 0] · slices_S4096x3x3_S4096x1x3_0_0_0) : (⟨S4096x3x3, .f32⟩ : BufTy).Contents (Elt F) → (⟨S4096x1x3, .f32⟩ : BufTy).Contents (Elt F)),
    StableHlo.reshape main_v70 main_v71 (rfl : (.f32 : EltTy) = .f32) shapeCasts_S4096x1x3_S4096x3,
    StableHlo.unary main_v71 main_v72 (broadcastInDim S4096x1x1x3 ![0, 3] bcast_S4096x3_S4096x1x1x3_0_3 : (⟨S4096x3, .f32⟩ : BufTy).Contents (Elt F) → (⟨S4096x1x1x3, .f32⟩ : BufTy).Contents (Elt F)),
    StableHlo.unary main_v72 main_v73 (broadcastInDim S4096x20x3x3 ![0, 1, 2, 3] bcast_S4096x1x1x3_S4096x20x3x3_0_1_2_3 : (⟨S4096x1x1x3, .f32⟩ : BufTy).Contents (Elt F) → (⟨S4096x20x3x3, .f32⟩ : BufTy).Contents (Elt F)) ]

/-- From the first cross product to the end of the program's second part. -/
def r1b : List (HloOp τ sig (Elt F)) :=
  [ StableHlo.binary main_v74 main_v73 main_v75 (mulf : (⟨S4096x20x3x3, .f32⟩ : BufTy).Contents (Elt F) → (⟨S4096x20x3x3, .f32⟩ : BufTy).Contents (Elt F) → (⟨S4096x20x3x3, .f32⟩ : BufTy).Contents (Elt F)),
    StableHlo.nullary main_cst_19 (constant S_ .f32 0x00000000#32),
    StableHlo.binary main_v75 main_cst_19 main_v76 ((fun x v => Host.reduceAdd x v reducesTo_S4096x20x3x3_S4096x20x3_d3 h_S_) : (⟨S4096x20x3x3, .f32⟩ : BufTy).Contents (Elt F) → (⟨S_, .f32⟩ : BufTy).Contents (Elt F) → (⟨S4096x20x3, .f32⟩ : BufTy).Contents (Elt F)),
    StableHlo.binary main_v74 main_v68 main_v77 (mulf : (⟨S4096x20x3x3, .f32⟩ : BufTy).Contents (Elt F) → (⟨S4096x20x3x3, .f32⟩ : BufTy).Contents (Elt F) → (⟨S4096x20x3x3, .f32⟩ : BufTy).Contents (Elt F)),
    StableHlo.nullary main_cst_20 (constant S_ .f32 0x00000000#32),
    StableHlo.binary main_v77 main_cst_20 main_v78 ((fun x v => Host.reduceAdd x v reducesTo_S4096x20x3x3_S4096x20x3_d3 h_S_) : (⟨S4096x20x3x3, .f32⟩ : BufTy).Contents (Elt F) → (⟨S_, .f32⟩ : BufTy).Contents (Elt F) → (⟨S4096x20x3, .f32⟩ : BufTy).Contents (Elt F)),
    StableHlo.binary main_v78 main_v76 main_v79 (Host.divf : (⟨S4096x20x3, .f32⟩ : BufTy).Contents (Elt F) → (⟨S4096x20x3, .f32⟩ : BufTy).Contents (Elt F) → (⟨S4096x20x3, .f32⟩ : BufTy).Contents (Elt F)),
    StableHlo.unary main_v39 main_v80 (broadcastInDim S4096x1x3x3 ![0, 2, 3] bcast_S4096x3x3_S4096x1x3x3_0_2_3 : (⟨S4096x3x3, .f32⟩ : BufTy).Contents (Elt F) → (⟨S4096x1x3x3, .f32⟩ : BufTy).Contents (Elt F)),
    StableHlo.unary main_v80 main_v81 (broadcastInDim S4096x20x3x3 ![0, 1, 2, 3] bcast_S4096x1x3x3_S4096x20x3x3_0_1_2_3 : (⟨S4096x1x3x3, .f32⟩ : BufTy).Contents (Elt F) → (⟨S4096x20x3x3, .f32⟩ : BufTy).Contents (Elt F)),
    StableHlo.binary main_v74 main_v81 main_v82 (mulf : (⟨S4096x20x3x3, .f32⟩ : BufTy).Contents (Elt F) → (⟨S4096x20x3x3, .f32⟩ : BufTy).Contents (Elt F) → (⟨S4096x20x3x3, .f32⟩ : BufTy).Contents (Elt F)),
    StableHlo.nullary main_cst_21 (constant S_ .f32 0x00000000#32),
    StableHlo.binary main_v82 main_cst_21 main_v83 ((fun x v => Host.reduceAdd x v reducesTo_S4096x20x3x3_S4096x20x3_d3 h_S_) : (⟨S4096x20x3x3, .f32⟩ : BufTy).Contents (Elt F) → (⟨S_, .f32⟩ : BufTy).Contents (Elt F) → (⟨S4096x20x3, .f32⟩ : BufTy).Contents (Elt F)),
    StableHlo.binary main_v83 main_v76 main_v84 (Host.divf : (⟨S4096x20x3, .f32⟩ : BufTy).Contents (Elt F) → (⟨S4096x20x3, .f32⟩ : BufTy).Contents (Elt F) → (⟨S4096x20x3, .f32⟩ : BufTy).Contents (Elt F)),
    StableHlo.nullary main_cst_22 (constant S_ .f32 0x00000000#32),
    StableHlo.unary main_cst_22 main_v85 (broadcastInDim S4096x20x3 ![] bcast_S_S4096x20x3 : (⟨S_, .f32⟩ : BufTy).Contents (Elt F) → (⟨S4096x20x3, .f32⟩ : BufTy).Contents (Elt F)),
    StableHlo.binary main_v79 main_v85 main_v86 (cmpf .oge : (⟨S4096x20x3, .f32⟩ : BufTy).Contents (Elt F) → (⟨S4096x20x3, .f32⟩ : BufTy).Contents (Elt F) → (⟨S4096x20x3, .i1⟩ : BufTy).Contents (Elt F)),
    StableHlo.nullary main_cst_23 (constant S_ .f32 0x3F800000#32),
    StableHlo.unary main_cst_23 main_v87 (broadcastInDim S4096x20x3 ![] bcast_S_S4096x20x3 : (⟨S_, .f32⟩ : BufTy).Contents (Elt F) → (⟨S4096x20x3, .f32⟩ : BufTy).Contents (Elt F)),
    StableHlo.binary main_v79 main_v87 main_v88 (cmpf .ole : (⟨S4096x20x3, .f32⟩ : BufTy).Contents (Elt F) → (⟨S4096x20x3, .f32⟩ : BufTy).Contents (Elt F) → (⟨S4096x20x3, .i1⟩ : BufTy).Contents (Elt F)),
    StableHlo.binary main_v86 main_v88 main_v89 (andi : (⟨S4096x20x3, .i1⟩ : BufTy).Contents (Elt F) → (⟨S4096x20x3, .i1⟩ : BufTy).Contents (Elt F) → (⟨S4096x20x3, .i1⟩ : BufTy).Contents (Elt F)),
    StableHlo.nullary main_cst_24 (constant S_ .f32 0x00000000#32),
    StableHlo.unary main_cst_24 main_v90 (broadcastInDim S4096x20x3 ![] bcast_S_S4096x20x3 : (⟨S_, .f32⟩ : BufTy).Contents (Elt F) → (⟨S4096x20x3, .f32⟩ : BufTy).Contents (Elt F)) ]

/-- From there to the second cross product. -/
def r2a : List (HloOp τ sig (Elt F)) :=
  [ StableHlo.binary main_v84 main_v90 main_v91 (cmpf .oge : (⟨S4096x20x3, .f32⟩ : BufTy).Contents (Elt F) → (⟨S4096x20x3, .f32⟩ : BufTy).Contents (Elt F) → (⟨S4096x20x3, .i1⟩ : BufTy).Contents (Elt F)),
    StableHlo.binary main_v89 main_v91 main_v92 (andi : (⟨S4096x20x3, .i1⟩ : BufTy).Contents (Elt F) → (⟨S4096x20x3, .i1⟩ : BufTy).Contents (Elt F) → (⟨S4096x20x3, .i1⟩ : BufTy).Contents (Elt F)),
    StableHlo.nullary main_cst_25 (constant S_ .f32 0x3F800000#32),
    StableHlo.unary main_cst_25 main_v93 (broadcastInDim S4096x20x3 ![] bcast_S_S4096x20x3 : (⟨S_, .f32⟩ : BufTy).Contents (Elt F) → (⟨S4096x20x3, .f32⟩ : BufTy).Contents (Elt F)),
    StableHlo.binary main_v84 main_v93 main_v94 (cmpf .ole : (⟨S4096x20x3, .f32⟩ : BufTy).Contents (Elt F) → (⟨S4096x20x3, .f32⟩ : BufTy).Contents (Elt F) → (⟨S4096x20x3, .i1⟩ : BufTy).Contents (Elt F)),
    StableHlo.binary main_v92 main_v94 main_v95 (andi : (⟨S4096x20x3, .i1⟩ : BufTy).Contents (Elt F) → (⟨S4096x20x3, .i1⟩ : BufTy).Contents (Elt F) → (⟨S4096x20x3, .i1⟩ : BufTy).Contents (Elt F)),
    StableHlo.unary main_v95 main_v96 ((extui 32 · natLt_1_32) : (⟨S4096x20x3, .i1⟩ : BufTy).Contents (Elt F) → (⟨S4096x20x3, .i32⟩ : BufTy).Contents (Elt F)),
    StableHlo.nullary main_c_26 (constantI S_ 32 0#32),
    StableHlo.binary main_v96 main_c_26 main_v97 ((fun x v => Host.reduce IntOp.addi x v reducesTo_S4096x20x3_S4096_d1_2 h_S_) : (⟨S4096x20x3, .i32⟩ : BufTy).Contents (Elt F) → (⟨S_, .i32⟩ : BufTy).Contents (Elt F) → (⟨S4096, .i32⟩ : BufTy).Contents (Elt F)),
    StableHlo.unary main_v97 main_v98 (sitofp .f32 : (⟨S4096, .i32⟩ : BufTy).Contents (Elt F) → (⟨S4096, .f32⟩ : BufTy).Contents (Elt F)),
    StableHlo.binary main_v69 main_v98 main_v99 (addf : (⟨S4096, .f32⟩ : BufTy).Contents (Elt F) → (⟨S4096, .f32⟩ : BufTy).Contents (Elt F) → (⟨S4096, .f32⟩ : BufTy).Contents (Elt F)),
    StableHlo.unary main_v39 main_v100 ((extractStridedSlice S4096x1x3 ![0, 1, 0] · slices_S4096x3x3_S4096x1x3_0_1_0) : (⟨S4096x3x3, .f32⟩ : BufTy).Contents (Elt F) → (⟨S4096x1x3, .f32⟩ : BufTy).Contents (Elt F)),
    StableHlo.reshape main_v100 main_v101 (rfl : (.f32 : EltTy) = .f32) shapeCasts_S4096x1x3_S4096x3,
    StableHlo.unary main_v101 main_v102 (broadcastInDim S4096x1x1x3 ![0, 3] bcast_S4096x3_S4096x1x1x3_0_3 : (⟨S4096x3, .f32⟩ : BufTy).Contents (Elt F) → (⟨S4096x1x1x3, .f32⟩ : BufTy).Contents (Elt F)),
    StableHlo.unary main_v102 main_v103 (broadcastInDim S4096x20x3x3 ![0, 1, 2, 3] bcast_S4096x1x1x3_S4096x20x3x3_0_1_2_3 : (⟨S4096x1x1x3, .f32⟩ : BufTy).Contents (Elt F) → (⟨S4096x20x3x3, .f32⟩ : BufTy).Contents (Elt F)) ]

/-- Between the second and the third cross product. -/
def r2b : List (HloOp τ sig (Elt F)) :=
  [ StableHlo.binary main_v104 main_v103 main_v105 (mulf : (⟨S4096x20x3x3, .f32⟩ : BufTy).Contents (Elt F) → (⟨S4096x20x3x3, .f32⟩ : BufTy).Contents (Elt F) → (⟨S4096x20x3x3, .f32⟩ : BufTy).Contents (Elt F)),
    StableHlo.nullary main_cst_27 (constant S_ .f32 0x00000000#32),
    StableHlo.binary main_v105 main_cst_27 main_v106 ((fun x v => Host.reduceAdd x v reducesTo_S4096x20x3x3_S4096x20x3_d3 h_S_) : (⟨S4096x20x3x3, .f32⟩ : BufTy).Contents (Elt F) → (⟨S_, .f32⟩ : BufTy).Contents (Elt F) → (⟨S4096x20x3, .f32⟩ : BufTy).Contents (Elt F)),
    StableHlo.binary main_v104 main_v68 main_v107 (mulf : (⟨S4096x20x3x3, .f32⟩ : BufTy).Contents (Elt F) → (⟨S4096x20x3x3, .f32⟩ : BufTy).Contents (Elt F) → (⟨S4096x20x3x3, .f32⟩ : BufTy).Contents (Elt F)),
    StableHlo.nullary main_cst_28 (constant S_ .f32 0x00000000#32),
    StableHlo.binary main_v107 main_cst_28 main_v108 ((fun x v => Host.reduceAdd x v reducesTo_S4096x20x3x3_S4096x20x3_d3 h_S_) : (⟨S4096x20x3x3, .f32⟩ : BufTy).Contents (Elt F) → (⟨S_, .f32⟩ : BufTy).Contents (Elt F) → (⟨S4096x20x3, .f32⟩ : BufTy).Contents (Elt F)),
    StableHlo.binary main_v108 main_v106 main_v109 (Host.divf : (⟨S4096x20x3, .f32⟩ : BufTy).Contents (Elt F) → (⟨S4096x20x3, .f32⟩ : BufTy).Contents (Elt F) → (⟨S4096x20x3, .f32⟩ : BufTy).Contents (Elt F)),
    StableHlo.unary main_v39 main_v110 (broadcastInDim S4096x1x3x3 ![0, 2, 3] bcast_S4096x3x3_S4096x1x3x3_0_2_3 : (⟨S4096x3x3, .f32⟩ : BufTy).Contents (Elt F) → (⟨S4096x1x3x3, .f32⟩ : BufTy).Contents (Elt F)),
    StableHlo.unary main_v110 main_v111 (broadcastInDim S4096x20x3x3 ![0, 1, 2, 3] bcast_S4096x1x3x3_S4096x20x3x3_0_1_2_3 : (⟨S4096x1x3x3, .f32⟩ : BufTy).Contents (Elt F) → (⟨S4096x20x3x3, .f32⟩ : BufTy).Contents (Elt F)),
    StableHlo.binary main_v104 main_v111 main_v112 (mulf : (⟨S4096x20x3x3, .f32⟩ : BufTy).Contents (Elt F) → (⟨S4096x20x3x3, .f32⟩ : BufTy).Contents (Elt F) → (⟨S4096x20x3x3, .f32⟩ : BufTy).Contents (Elt F)),
    StableHlo.nullary main_cst_29 (constant S_ .f32 0x00000000#32),
    StableHlo.binary main_v112 main_cst_29 main_v113 ((fun x v => Host.reduceAdd x v reducesTo_S4096x20x3x3_S4096x20x3_d3 h_S_) : (⟨S4096x20x3x3, .f32⟩ : BufTy).Contents (Elt F) → (⟨S_, .f32⟩ : BufTy).Contents (Elt F) → (⟨S4096x20x3, .f32⟩ : BufTy).Contents (Elt F)),
    StableHlo.binary main_v113 main_v106 main_v114 (Host.divf : (⟨S4096x20x3, .f32⟩ : BufTy).Contents (Elt F) → (⟨S4096x20x3, .f32⟩ : BufTy).Contents (Elt F) → (⟨S4096x20x3, .f32⟩ : BufTy).Contents (Elt F)),
    StableHlo.nullary main_cst_30 (constant S_ .f32 0x00000000#32),
    StableHlo.unary main_cst_30 main_v115 (broadcastInDim S4096x20x3 ![] bcast_S_S4096x20x3 : (⟨S_, .f32⟩ : BufTy).Contents (Elt F) → (⟨S4096x20x3, .f32⟩ : BufTy).Contents (Elt F)),
    StableHlo.binary main_v109 main_v115 main_v116 (cmpf .oge : (⟨S4096x20x3, .f32⟩ : BufTy).Contents (Elt F) → (⟨S4096x20x3, .f32⟩ : BufTy).Contents (Elt F) → (⟨S4096x20x3, .i1⟩ : BufTy).Contents (Elt F)),
    StableHlo.nullary main_cst_31 (constant S_ .f32 0x3F800000#32),
    StableHlo.unary main_cst_31 main_v117 (broadcastInDim S4096x20x3 ![] bcast_S_S4096x20x3 : (⟨S_, .f32⟩ : BufTy).Contents (Elt F) → (⟨S4096x20x3, .f32⟩ : BufTy).Contents (Elt F)),
    StableHlo.binary main_v109 main_v117 main_v118 (cmpf .ole : (⟨S4096x20x3, .f32⟩ : BufTy).Contents (Elt F) → (⟨S4096x20x3, .f32⟩ : BufTy).Contents (Elt F) → (⟨S4096x20x3, .i1⟩ : BufTy).Contents (Elt F)),
    StableHlo.binary main_v116 main_v118 main_v119 (andi : (⟨S4096x20x3, .i1⟩ : BufTy).Contents (Elt F) → (⟨S4096x20x3, .i1⟩ : BufTy).Contents (Elt F) → (⟨S4096x20x3, .i1⟩ : BufTy).Contents (Elt F)),
    StableHlo.nullary main_cst_32 (constant S_ .f32 0x00000000#32),
    StableHlo.unary main_cst_32 main_v120 (broadcastInDim S4096x20x3 ![] bcast_S_S4096x20x3 : (⟨S_, .f32⟩ : BufTy).Contents (Elt F) → (⟨S4096x20x3, .f32⟩ : BufTy).Contents (Elt F)),
    StableHlo.binary main_v114 main_v120 main_v121 (cmpf .oge : (⟨S4096x20x3, .f32⟩ : BufTy).Contents (Elt F) → (⟨S4096x20x3, .f32⟩ : BufTy).Contents (Elt F) → (⟨S4096x20x3, .i1⟩ : BufTy).Contents (Elt F)),
    StableHlo.binary main_v119 main_v121 main_v122 (andi : (⟨S4096x20x3, .i1⟩ : BufTy).Contents (Elt F) → (⟨S4096x20x3, .i1⟩ : BufTy).Contents (Elt F) → (⟨S4096x20x3, .i1⟩ : BufTy).Contents (Elt F)),
    StableHlo.nullary main_cst_33 (constant S_ .f32 0x3F800000#32),
    StableHlo.unary main_cst_33 main_v123 (broadcastInDim S4096x20x3 ![] bcast_S_S4096x20x3 : (⟨S_, .f32⟩ : BufTy).Contents (Elt F) → (⟨S4096x20x3, .f32⟩ : BufTy).Contents (Elt F)),
    StableHlo.binary main_v114 main_v123 main_v124 (cmpf .ole : (⟨S4096x20x3, .f32⟩ : BufTy).Contents (Elt F) → (⟨S4096x20x3, .f32⟩ : BufTy).Contents (Elt F) → (⟨S4096x20x3, .i1⟩ : BufTy).Contents (Elt F)),
    StableHlo.binary main_v122 main_v124 main_v125 (andi : (⟨S4096x20x3, .i1⟩ : BufTy).Contents (Elt F) → (⟨S4096x20x3, .i1⟩ : BufTy).Contents (Elt F) → (⟨S4096x20x3, .i1⟩ : BufTy).Contents (Elt F)),
    StableHlo.unary main_v125 main_v126 ((extui 32 · natLt_1_32) : (⟨S4096x20x3, .i1⟩ : BufTy).Contents (Elt F) → (⟨S4096x20x3, .i32⟩ : BufTy).Contents (Elt F)),
    StableHlo.nullary main_c_34 (constantI S_ 32 0#32),
    StableHlo.binary main_v126 main_c_34 main_v127 ((fun x v => Host.reduce IntOp.addi x v reducesTo_S4096x20x3_S4096_d1_2 h_S_) : (⟨S4096x20x3, .i32⟩ : BufTy).Contents (Elt F) → (⟨S_, .i32⟩ : BufTy).Contents (Elt F) → (⟨S4096, .i32⟩ : BufTy).Contents (Elt F)),
    StableHlo.unary main_v127 main_v128 (sitofp .f32 : (⟨S4096, .i32⟩ : BufTy).Contents (Elt F) → (⟨S4096, .f32⟩ : BufTy).Contents (Elt F)),
    StableHlo.binary main_v99 main_v128 main_v129 (addf : (⟨S4096, .f32⟩ : BufTy).Contents (Elt F) → (⟨S4096, .f32⟩ : BufTy).Contents (Elt F) → (⟨S4096, .f32⟩ : BufTy).Contents (Elt F)),
    StableHlo.unary main_v39 main_v130 ((extractStridedSlice S4096x1x3 ![0, 2, 0] · slices_S4096x3x3_S4096x1x3_0_2_0) : (⟨S4096x3x3, .f32⟩ : BufTy).Contents (Elt F) → (⟨S4096x1x3, .f32⟩ : BufTy).Contents (Elt F)),
    StableHlo.reshape main_v130 main_v131 (rfl : (.f32 : EltTy) = .f32) shapeCasts_S4096x1x3_S4096x3,
    StableHlo.unary main_v131 main_v132 (broadcastInDim S4096x1x1x3 ![0, 3] bcast_S4096x3_S4096x1x1x3_0_3 : (⟨S4096x3, .f32⟩ : BufTy).Contents (Elt F) → (⟨S4096x1x1x3, .f32⟩ : BufTy).Contents (Elt F)),
    StableHlo.unary main_v132 main_v133 (broadcastInDim S4096x20x3x3 ![0, 1, 2, 3] bcast_S4096x1x1x3_S4096x20x3x3_0_1_2_3 : (⟨S4096x1x1x3, .f32⟩ : BufTy).Contents (Elt F) → (⟨S4096x20x3x3, .f32⟩ : BufTy).Contents (Elt F)) ]

/-- From the third cross product to the end of the program's third part. -/
def r2c : List (HloOp τ sig (Elt F)) :=
  [ StableHlo.binary main_v134 main_v133 main_v135 (mulf : (⟨S4096x20x3x3, .f32⟩ : BufTy).Contents (Elt F) → (⟨S4096x20x3x3, .f32⟩ : BufTy).Contents (Elt F) → (⟨S4096x20x3x3, .f32⟩ : BufTy).Contents (Elt F)),
    StableHlo.nullary main_cst_35 (constant S_ .f32 0x00000000#32),
    StableHlo.binary main_v135 main_cst_35 main_v136 ((fun x v => Host.reduceAdd x v reducesTo_S4096x20x3x3_S4096x20x3_d3 h_S_) : (⟨S4096x20x3x3, .f32⟩ : BufTy).Contents (Elt F) → (⟨S_, .f32⟩ : BufTy).Contents (Elt F) → (⟨S4096x20x3, .f32⟩ : BufTy).Contents (Elt F)),
    StableHlo.binary main_v134 main_v68 main_v137 (mulf : (⟨S4096x20x3x3, .f32⟩ : BufTy).Contents (Elt F) → (⟨S4096x20x3x3, .f32⟩ : BufTy).Contents (Elt F) → (⟨S4096x20x3x3, .f32⟩ : BufTy).Contents (Elt F)),
    StableHlo.nullary main_cst_36 (constant S_ .f32 0x00000000#32),
    StableHlo.binary main_v137 main_cst_36 main_v138 ((fun x v => Host.reduceAdd x v reducesTo_S4096x20x3x3_S4096x20x3_d3 h_S_) : (⟨S4096x20x3x3, .f32⟩ : BufTy).Contents (Elt F) → (⟨S_, .f32⟩ : BufTy).Contents (Elt F) → (⟨S4096x20x3, .f32⟩ : BufTy).Contents (Elt F)) ]

/-- The last operations. -/
def r3 : List (HloOp τ sig (Elt F)) :=
  [ StableHlo.binary main_v138 main_v136 main_v139 (Host.divf : (⟨S4096x20x3, .f32⟩ : BufTy).Contents (Elt F) → (⟨S4096x20x3, .f32⟩ : BufTy).Contents (Elt F) → (⟨S4096x20x3, .f32⟩ : BufTy).Contents (Elt F)),
    StableHlo.unary main_v39 main_v140 (broadcastInDim S4096x1x3x3 ![0, 2, 3] bcast_S4096x3x3_S4096x1x3x3_0_2_3 : (⟨S4096x3x3, .f32⟩ : BufTy).Contents (Elt F) → (⟨S4096x1x3x3, .f32⟩ : BufTy).Contents (Elt F)),
    StableHlo.unary main_v140 main_v141 (broadcastInDim S4096x20x3x3 ![0, 1, 2, 3] bcast_S4096x1x3x3_S4096x20x3x3_0_1_2_3 : (⟨S4096x1x3x3, .f32⟩ : BufTy).Contents (Elt F) → (⟨S4096x20x3x3, .f32⟩ : BufTy).Contents (Elt F)),
    StableHlo.binary main_v134 main_v141 main_v142 (mulf : (⟨S4096x20x3x3, .f32⟩ : BufTy).Contents (Elt F) → (⟨S4096x20x3x3, .f32⟩ : BufTy).Contents (Elt F) → (⟨S4096x20x3x3, .f32⟩ : BufTy).Contents (Elt F)),
    StableHlo.nullary main_cst_37 (constant S_ .f32 0x00000000#32),
    StableHlo.binary main_v142 main_cst_37 main_v143 ((fun x v => Host.reduceAdd x v reducesTo_S4096x20x3x3_S4096x20x3_d3 h_S_) : (⟨S4096x20x3x3, .f32⟩ : BufTy).Contents (Elt F) → (⟨S_, .f32⟩ : BufTy).Contents (Elt F) → (⟨S4096x20x3, .f32⟩ : BufTy).Contents (Elt F)),
    StableHlo.binary main_v143 main_v136 main_v144 (Host.divf : (⟨S4096x20x3, .f32⟩ : BufTy).Contents (Elt F) → (⟨S4096x20x3, .f32⟩ : BufTy).Contents (Elt F) → (⟨S4096x20x3, .f32⟩ : BufTy).Contents (Elt F)),
    StableHlo.nullary main_cst_38 (constant S_ .f32 0x00000000#32),
    StableHlo.unary main_cst_38 main_v145 (broadcastInDim S4096x20x3 ![] bcast_S_S4096x20x3 : (⟨S_, .f32⟩ : BufTy).Contents (Elt F) → (⟨S4096x20x3, .f32⟩ : BufTy).Contents (Elt F)),
    StableHlo.binary main_v139 main_v145 main_v146 (cmpf .oge : (⟨S4096x20x3, .f32⟩ : BufTy).Contents (Elt F) → (⟨S4096x20x3, .f32⟩ : BufTy).Contents (Elt F) → (⟨S4096x20x3, .i1⟩ : BufTy).Contents (Elt F)),
    StableHlo.nullary main_cst_39 (constant S_ .f32 0x3F800000#32),
    StableHlo.unary main_cst_39 main_v147 (broadcastInDim S4096x20x3 ![] bcast_S_S4096x20x3 : (⟨S_, .f32⟩ : BufTy).Contents (Elt F) → (⟨S4096x20x3, .f32⟩ : BufTy).Contents (Elt F)),
    StableHlo.binary main_v139 main_v147 main_v148 (cmpf .ole : (⟨S4096x20x3, .f32⟩ : BufTy).Contents (Elt F) → (⟨S4096x20x3, .f32⟩ : BufTy).Contents (Elt F) → (⟨S4096x20x3, .i1⟩ : BufTy).Contents (Elt F)),
    StableHlo.binary main_v146 main_v148 main_v149 (andi : (⟨S4096x20x3, .i1⟩ : BufTy).Contents (Elt F) → (⟨S4096x20x3, .i1⟩ : BufTy).Contents (Elt F) → (⟨S4096x20x3, .i1⟩ : BufTy).Contents (Elt F)),
    StableHlo.nullary main_cst_40 (constant S_ .f32 0x00000000#32),
    StableHlo.unary main_cst_40 main_v150 (broadcastInDim S4096x20x3 ![] bcast_S_S4096x20x3 : (⟨S_, .f32⟩ : BufTy).Contents (Elt F) → (⟨S4096x20x3, .f32⟩ : BufTy).Contents (Elt F)),
    StableHlo.binary main_v144 main_v150 main_v151 (cmpf .oge : (⟨S4096x20x3, .f32⟩ : BufTy).Contents (Elt F) → (⟨S4096x20x3, .f32⟩ : BufTy).Contents (Elt F) → (⟨S4096x20x3, .i1⟩ : BufTy).Contents (Elt F)),
    StableHlo.binary main_v149 main_v151 main_v152 (andi : (⟨S4096x20x3, .i1⟩ : BufTy).Contents (Elt F) → (⟨S4096x20x3, .i1⟩ : BufTy).Contents (Elt F) → (⟨S4096x20x3, .i1⟩ : BufTy).Contents (Elt F)),
    StableHlo.nullary main_cst_41 (constant S_ .f32 0x3F800000#32),
    StableHlo.unary main_cst_41 main_v153 (broadcastInDim S4096x20x3 ![] bcast_S_S4096x20x3 : (⟨S_, .f32⟩ : BufTy).Contents (Elt F) → (⟨S4096x20x3, .f32⟩ : BufTy).Contents (Elt F)),
    StableHlo.binary main_v144 main_v153 main_v154 (cmpf .ole : (⟨S4096x20x3, .f32⟩ : BufTy).Contents (Elt F) → (⟨S4096x20x3, .f32⟩ : BufTy).Contents (Elt F) → (⟨S4096x20x3, .i1⟩ : BufTy).Contents (Elt F)),
    StableHlo.binary main_v152 main_v154 main_v155 (andi : (⟨S4096x20x3, .i1⟩ : BufTy).Contents (Elt F) → (⟨S4096x20x3, .i1⟩ : BufTy).Contents (Elt F) → (⟨S4096x20x3, .i1⟩ : BufTy).Contents (Elt F)),
    StableHlo.unary main_v155 main_v156 ((extui 32 · natLt_1_32) : (⟨S4096x20x3, .i1⟩ : BufTy).Contents (Elt F) → (⟨S4096x20x3, .i32⟩ : BufTy).Contents (Elt F)),
    StableHlo.nullary main_c_42 (constantI S_ 32 0#32),
    StableHlo.binary main_v156 main_c_42 main_v157 ((fun x v => Host.reduce IntOp.addi x v reducesTo_S4096x20x3_S4096_d1_2 h_S_) : (⟨S4096x20x3, .i32⟩ : BufTy).Contents (Elt F) → (⟨S_, .i32⟩ : BufTy).Contents (Elt F) → (⟨S4096, .i32⟩ : BufTy).Contents (Elt F)),
    StableHlo.unary main_v157 main_v158 (sitofp .f32 : (⟨S4096, .i32⟩ : BufTy).Contents (Elt F) → (⟨S4096, .f32⟩ : BufTy).Contents (Elt F)),
    StableHlo.binary main_v129 main_v158 main_v159 (addf : (⟨S4096, .f32⟩ : BufTy).Contents (Elt F) → (⟨S4096, .f32⟩ : BufTy).Contents (Elt F) → (⟨S4096, .f32⟩ : BufTy).Contents (Elt F)),
    StableHlo.binary main_arg2 main_v159 main_v160 (mulf : (⟨S4096, .f32⟩ : BufTy).Contents (Elt F) → (⟨S4096, .f32⟩ : BufTy).Contents (Elt F) → (⟨S4096, .f32⟩ : BufTy).Contents (Elt F)),
    StableHlo.nullary main_cst_43 (constant S_ .f32 0x00000000#32),
    StableHlo.binary main_v160 main_cst_43 main_v161 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)) ]

/-- The cross products of two arrays of vectors. -/
def crossOps (arg0 arg1 : StableHlo.TRef sig ⟨S4096x20x3x3, .f32⟩) (φ : fn_cross.Bufs) : List (HloOp τ sig (Elt F)) :=
  [ StableHlo.TRef.unary arg0 φ.v0 (extractStridedSlice S4096x20x3x1 ![0, 0, 0, 0] · slices_S4096x20x3x3_S4096x20x3x1_0_0_0_0),
    StableHlo.TRef.reshape φ.v0 φ.v1 (rfl : (.f32 : EltTy) = .f32) shapeCasts_S4096x20x3x1_S4096x20x3,
    StableHlo.TRef.unary arg0 φ.v2 (extractStridedSlice S4096x20x3x1 ![0, 0, 0, 1] · slices_S4096x20x3x3_S4096x20x3x1_0_0_0_1),
    StableHlo.TRef.reshape φ.v2 φ.v3 (rfl : (.f32 : EltTy) = .f32) shapeCasts_S4096x20x3x1_S4096x20x3,
    StableHlo.TRef.unary arg0 φ.v4 (extractStridedSlice S4096x20x3x1 ![0, 0, 0, 2] · slices_S4096x20x3x3_S4096x20x3x1_0_0_0_2),
    StableHlo.TRef.reshape φ.v4 φ.v5 (rfl : (.f32 : EltTy) = .f32) shapeCasts_S4096x20x3x1_S4096x20x3,
    StableHlo.TRef.unary arg1 φ.v6 (extractStridedSlice S4096x20x3x1 ![0, 0, 0, 0] · slices_S4096x20x3x3_S4096x20x3x1_0_0_0_0),
    StableHlo.TRef.reshape φ.v6 φ.v7 (rfl : (.f32 : EltTy) = .f32) shapeCasts_S4096x20x3x1_S4096x20x3,
    StableHlo.TRef.unary arg1 φ.v8 (extractStridedSlice S4096x20x3x1 ![0, 0, 0, 1] · slices_S4096x20x3x3_S4096x20x3x1_0_0_0_1),
    StableHlo.TRef.reshape φ.v8 φ.v9 (rfl : (.f32 : EltTy) = .f32) shapeCasts_S4096x20x3x1_S4096x20x3,
    StableHlo.TRef.unary arg1 φ.v10 (extractStridedSlice S4096x20x3x1 ![0, 0, 0, 2] · slices_S4096x20x3x3_S4096x20x3x1_0_0_0_2),
    StableHlo.TRef.reshape φ.v10 φ.v11 (rfl : (.f32 : EltTy) = .f32) shapeCasts_S4096x20x3x1_S4096x20x3,
    StableHlo.TRef.binary φ.v3 φ.v11 φ.v12 mulf,
    StableHlo.TRef.binary φ.v5 φ.v9 φ.v13 mulf,
    StableHlo.TRef.binary φ.v12 φ.v13 φ.v14 subf,
    StableHlo.TRef.binary φ.v5 φ.v7 φ.v15 mulf,
    StableHlo.TRef.binary φ.v1 φ.v11 φ.v16 mulf,
    StableHlo.TRef.binary φ.v15 φ.v16 φ.v17 subf,
    StableHlo.TRef.binary φ.v1 φ.v9 φ.v18 mulf,
    StableHlo.TRef.binary φ.v3 φ.v7 φ.v19 mulf,
    StableHlo.TRef.binary φ.v18 φ.v19 φ.v20 subf,
    StableHlo.TRef.unary φ.v14 φ.v21 (broadcastInDim S1x4096x20x3 ![1, 2, 3] bcast_S4096x20x3_S1x4096x20x3_1_2_3),
    StableHlo.TRef.unary φ.v17 φ.v22 (broadcastInDim S1x4096x20x3 ![1, 2, 3] bcast_S4096x20x3_S1x4096x20x3_1_2_3),
    StableHlo.TRef.unary φ.v20 φ.v23 (broadcastInDim S1x4096x20x3 ![1, 2, 3] bcast_S4096x20x3_S1x4096x20x3_1_2_3),
    StableHlo.TRef.nary ![φ.v21, φ.v22, φ.v23] φ.v24 (fun u => (concatenate S3x4096x20x3 0 [⟨S1x4096x20x3, (u 0 : (⟨S1x4096x20x3, .f32⟩ : BufTy).Contents (Elt F))⟩, ⟨S1x4096x20x3, (u 1 : (⟨S1x4096x20x3, .f32⟩ : BufTy).Contents (Elt F))⟩, ⟨S1x4096x20x3, (u 2 : (⟨S1x4096x20x3, .f32⟩ : BufTy).Contents (Elt F))⟩] concatenates_S1x4096x20x3_S1x4096x20x3_S1x4096x20x3_S3x4096x20x3_d0 : (⟨S3x4096x20x3, .f32⟩ : BufTy).Contents (Elt F))),
    StableHlo.TRef.unary φ.v24 φ.v25 (transpose S4096x20x3x3 [1, 2, 3, 0] · transposes_S3x4096x20x3_S4096x20x3x3_1_2_3_0) ]

abbrev c0 : List (HloOp τ sig (Elt F)) := crossOps (.of main_v73) (.of main_v68) main_call0
abbrev c1 : List (HloOp τ sig (Elt F)) := crossOps (.of main_v103) (.of main_v68) main_call1
abbrev c2 : List (HloOp τ sig (Elt F)) := crossOps (.of main_v133) (.of main_v68) main_call2

abbrev Step : Type 1 := Prog (TpuEff nD τ sig (Elt F) (Pipeline.Sig Λ₀ (Fin 0) fun p => (pcfgs (F := F) p).Adm) .tc) PUnit

theorem body_eq (a b : StableHlo.TRef sig ⟨S4096x20x3x3, .f32⟩) (φ : fn_cross.Bufs) : (fn_cross.body a b φ : Step (F := F)) = StableHlo.seq (crossOps a b φ) := by
  chain_rfl

theorem part0_eq (d : Dev nD) : (main_part0 d : Step (F := F)) = Pipeline.chainK [] (StableHlo.seq r0) := by
  chain_rfl
theorem part1_eq (d : Dev nD) : (main_part1 d : Step (F := F)) = Pipeline.chainK [StableHlo.seq r1a, fn_cross.body (.of main_v73) (.of main_v68) main_call0] (StableHlo.seq r1b) := by
  rewrite [StableHlo.chainK_seq_cons, Pipeline.chainK_cons]
  chain_rfl
theorem part2_eq (d : Dev nD) : (main_part2 d : Step (F := F)) = Pipeline.chainK [StableHlo.seq r2a, fn_cross.body (.of main_v103) (.of main_v68) main_call1, StableHlo.seq r2b, fn_cross.body (.of main_v133) (.of main_v68) main_call2] (StableHlo.seq r2c) := by
  rewrite [StableHlo.chainK_seq_cons, Pipeline.chainK_cons, StableHlo.chainK_seq_cons, Pipeline.chainK_cons]
  chain_rfl
theorem part3_eq (d : Dev nD) : (main_part3 d : Step (F := F)) = Pipeline.chain [StableHlo.seq r3] := by
  rewrite [StableHlo.chain_seq_cons]
  chain_rfl

/-- The program's operations, in order. -/
def lists : List (List (HloOp τ sig (Elt F))) := [r0, r1a, c0, r1b, r2a, c1, r2b, c2, r2c, r3]

theorem main_chain (d : Dev nD) : (main d : Step (F := F)) = Pipeline.chain (lists.map StableHlo.seq) := by
  refine (show (main d : Step (F := F)) = (main_part0 d >>= fun _ => main_part1 d >>= fun _ => main_part2 d >>= fun _ => main_part3 d) from rfl).trans ?_
  refine (Pipeline.chain_of_window (part0_eq d) (Pipeline.chain_of_window (part1_eq d) (Pipeline.chain_of_window (part2_eq d) (part3_eq d)))).trans ?_
  rw [body_eq, body_eq, body_eq]
  rfl

end Cert.Proof.Ref

end
-- ==== Proof.RefRun.lean ====
/-
  The run of the reference's program: what every array holds at its end, and the arguments unchanged.
-/
module

public import proofs.«01_k».proof.Proof.Ref

@[expose] public section

set_option maxRecDepth 16384

noncomputable section

namespace Cert.Proof.Ref

open Cert.ReferenceIdeal Cert.ReferenceIdeal.Gen

open Idealize.ShloMosaic Idealize.ShloMosaic.TcCoe
open Idealize.SL.Sem

variable {F : FTy → Type} [FloatOps F]

/-- Every operation's arrays are the TensorCore's, and none draws a fresh number. -/
theorem r0_sub : ∀ op ∈ (r0 : List (HloOp τ sig (Elt F))), op.bufs ⊆ StableHlo.tcRefs τ sig :=
  List.forall_mem_cons.2 ⟨StableHlo.nullary_bufs_sub ..,
  List.forall_mem_cons.2 ⟨StableHlo.nullary_bufs_sub ..,
  List.forall_mem_cons.2 ⟨StableHlo.unary_bufs_sub ..,
  List.forall_mem_cons.2 ⟨StableHlo.binary_bufs_sub ..,
  List.forall_mem_cons.2 ⟨StableHlo.nullary_bufs_sub ..,
  List.forall_mem_cons.2 ⟨StableHlo.unary_bufs_sub ..,
  List.forall_mem_cons.2 ⟨StableHlo.binary_bufs_sub ..,
  List.forall_mem_cons.2 ⟨StableHlo.ternary_bufs_sub ..,
  List.forall_mem_cons.2 ⟨StableHlo.unary_bufs_sub ..,
  List.forall_mem_cons.2 ⟨StableHlo.binary_bufs_sub ..,
  List.forall_mem_cons.2 ⟨StableHlo.nullary_bufs_sub ..,
  List.forall_mem_cons.2 ⟨StableHlo.binary_bufs_sub ..,
  List.forall_mem_cons.2 ⟨StableHlo.nullary_bufs_sub ..,
  List.forall_mem_cons.2 ⟨StableHlo.unary_bufs_sub ..,
  List.forall_mem_cons.2 ⟨StableHlo.binary_bufs_sub ..,
  List.forall_mem_cons.2 ⟨StableHlo.unary_bufs_sub ..,
  List.forall_mem_cons.2 ⟨StableHlo.unary_bufs_sub ..,
  List.forall_mem_cons.2 ⟨StableHlo.unary_bufs_sub ..,
  List.forall_mem_cons.2 ⟨StableHlo.unary_bufs_sub ..,
  List.forall_mem_cons.2 ⟨StableHlo.binary_bufs_sub ..,
  List.forall_mem_cons.2 ⟨StableHlo.binary_bufs_sub ..,
  List.forall_mem_cons.2 ⟨StableHlo.nullary_bufs_sub ..,
  List.forall_mem_cons.2 ⟨StableHlo.binary_bufs_sub ..,
  List.forall_mem_cons.2 ⟨StableHlo.unary_bufs_sub ..,
  List.forall_mem_cons.2 ⟨StableHlo.unary_bufs_sub ..,
  List.forall_mem_cons.2 ⟨StableHlo.unary_bufs_sub ..,
  List.forall_mem_cons.2 ⟨StableHlo.nullary_bufs_sub ..,
  List.forall_mem_cons.2 ⟨StableHlo.unary_bufs_sub ..,
  List.forall_mem_cons.2 ⟨StableHlo.binary_bufs_sub ..,
  List.forall_mem_cons.2 ⟨StableHlo.nullary_bufs_sub ..,
  List.forall_mem_cons.2 ⟨StableHlo.unary_bufs_sub ..,
  List.forall_mem_cons.2 ⟨StableHlo.binary_bufs_sub ..,
  List.forall_mem_cons.2 ⟨StableHlo.ternary_bufs_sub ..,
  List.forall_mem_cons.2 ⟨StableHlo.unary_bufs_sub ..,
  List.forall_mem_cons.2 ⟨StableHlo.binary_bufs_sub ..,
  List.forall_mem_cons.2 ⟨StableHlo.nullary_bufs_sub ..,
  List.forall_mem_cons.2 ⟨StableHlo.unary_bufs_sub ..,
  List.forall_mem_cons.2 ⟨StableHlo.binary_bufs_sub ..,
  List.forall_mem_cons.2 ⟨StableHlo.nullary_bufs_sub ..,
  List.forall_mem_cons.2 ⟨StableHlo.unary_bufs_sub ..,
  List.forall_mem_cons.2 ⟨StableHlo.binary_bufs_sub ..,
  List.forall_mem_cons.2 ⟨StableHlo.ternary_bufs_sub ..,
  List.forall_mem_cons.2 ⟨StableHlo.unary_bufs_sub ..,
  List.forall_mem_cons.2 ⟨StableHlo.binary_bufs_sub ..,
  List.forall_mem_cons.2 ⟨StableHlo.nullary_bufs_sub ..,
  List.forall_mem_cons.2 ⟨StableHlo.unary_bufs_sub ..,
  List.forall_mem_cons.2 ⟨StableHlo.binary_bufs_sub ..,
  List.forall_mem_cons.2 ⟨StableHlo.nullary_bufs_sub ..,
  List.forall_mem_cons.2 ⟨StableHlo.unary_bufs_sub ..,
  List.forall_mem_cons.2 ⟨StableHlo.binary_bufs_sub ..,
  List.forall_mem_cons.2 ⟨StableHlo.ternary_bufs_sub ..,
  List.forall_mem_cons.2 ⟨StableHlo.unary_bufs_sub ..,
  List.forall_mem_cons.2 ⟨StableHlo.binary_bufs_sub ..,
  List.forall_mem_cons.2 ⟨StableHlo.binary_bufs_sub ..,
  List.forall_mem_cons.2 ⟨StableHlo.nullary_bufs_sub ..,
  List.forall_mem_cons.2 ⟨StableHlo.unary_bufs_sub ..,
  List.forall_mem_cons.2 ⟨StableHlo.binary_bufs_sub ..,
  List.forall_mem_cons.2 ⟨StableHlo.nullary_bufs_sub ..,
  List.forall_mem_cons.2 ⟨StableHlo.unary_bufs_sub ..,
  List.forall_mem_cons.2 ⟨StableHlo.binary_bufs_sub ..,
  fun _ h => nomatch h⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩
theorem r0_fresh : ∀ op ∈ (r0 : List (HloOp τ sig (Elt F))), op.fresh = ∅ := by
  intro _ h; (repeat (cases h with | head => rfl | tail _ h => ?_)); exact nomatch h
theorem r1a_sub : ∀ op ∈ (r1a : List (HloOp τ sig (Elt F))), op.bufs ⊆ StableHlo.tcRefs τ sig :=
  List.forall_mem_cons.2 ⟨StableHlo.ternary_bufs_sub ..,
  List.forall_mem_cons.2 ⟨StableHlo.unary_bufs_sub ..,
  List.forall_mem_cons.2 ⟨StableHlo.binary_bufs_sub ..,
  List.forall_mem_cons.2 ⟨StableHlo.nullary_bufs_sub ..,
  List.forall_mem_cons.2 ⟨StableHlo.unary_bufs_sub ..,
  List.forall_mem_cons.2 ⟨StableHlo.binary_bufs_sub ..,
  List.forall_mem_cons.2 ⟨StableHlo.nullary_bufs_sub ..,
  List.forall_mem_cons.2 ⟨StableHlo.unary_bufs_sub ..,
  List.forall_mem_cons.2 ⟨StableHlo.binary_bufs_sub ..,
  List.forall_mem_cons.2 ⟨StableHlo.ternary_bufs_sub ..,
  List.forall_mem_cons.2 ⟨StableHlo.unary_bufs_sub ..,
  List.forall_mem_cons.2 ⟨StableHlo.binary_bufs_sub ..,
  List.forall_mem_cons.2 ⟨StableHlo.nullary_bufs_sub ..,
  List.forall_mem_cons.2 ⟨StableHlo.unary_bufs_sub ..,
  List.forall_mem_cons.2 ⟨StableHlo.binary_bufs_sub ..,
  List.forall_mem_cons.2 ⟨StableHlo.nullary_bufs_sub ..,
  List.forall_mem_cons.2 ⟨StableHlo.unary_bufs_sub ..,
  List.forall_mem_cons.2 ⟨StableHlo.binary_bufs_sub ..,
  List.forall_mem_cons.2 ⟨StableHlo.ternary_bufs_sub ..,
  List.forall_mem_cons.2 ⟨StableHlo.unary_bufs_sub ..,
  List.forall_mem_cons.2 ⟨StableHlo.binary_bufs_sub ..,
  List.forall_mem_cons.2 ⟨StableHlo.nullary_bufs_sub ..,
  List.forall_mem_cons.2 ⟨StableHlo.unary_bufs_sub ..,
  List.forall_mem_cons.2 ⟨StableHlo.binary_bufs_sub ..,
  List.forall_mem_cons.2 ⟨StableHlo.nullary_bufs_sub ..,
  List.forall_mem_cons.2 ⟨StableHlo.unary_bufs_sub ..,
  List.forall_mem_cons.2 ⟨StableHlo.binary_bufs_sub ..,
  List.forall_mem_cons.2 ⟨StableHlo.ternary_bufs_sub ..,
  List.forall_mem_cons.2 ⟨StableHlo.unary_bufs_sub ..,
  List.forall_mem_cons.2 ⟨StableHlo.binary_bufs_sub ..,
  List.forall_mem_cons.2 ⟨StableHlo.binary_bufs_sub ..,
  List.forall_mem_cons.2 ⟨StableHlo.nullary_bufs_sub ..,
  List.forall_mem_cons.2 ⟨StableHlo.unary_bufs_sub ..,
  List.forall_mem_cons.2 ⟨StableHlo.unary_bufs_sub ..,
  List.forall_mem_cons.2 ⟨StableHlo.reshape_bufs_sub ..,
  List.forall_mem_cons.2 ⟨StableHlo.unary_bufs_sub ..,
  List.forall_mem_cons.2 ⟨StableHlo.unary_bufs_sub ..,
  fun _ h => nomatch h⟩⟩⟩⟩⟩⟩⟩⟩⟩⟩⟩⟩⟩⟩⟩⟩⟩⟩⟩⟩⟩⟩⟩⟩⟩⟩⟩⟩⟩⟩⟩⟩⟩⟩⟩⟩⟩
theorem r1a_fresh : ∀ op ∈ (r1a : List (HloOp τ sig (Elt F))), op.fresh = ∅ := by
  intro _ h; (repeat (cases h with | head => rfl | tail _ h => ?_)); exact nomatch h
theorem r1b_sub : ∀ op ∈ (r1b : List (HloOp τ sig (Elt F))), op.bufs ⊆ StableHlo.tcRefs τ sig :=
  List.forall_mem_cons.2 ⟨StableHlo.binary_bufs_sub ..,
  List.forall_mem_cons.2 ⟨StableHlo.nullary_bufs_sub ..,
  List.forall_mem_cons.2 ⟨StableHlo.binary_bufs_sub ..,
  List.forall_mem_cons.2 ⟨StableHlo.binary_bufs_sub ..,
  List.forall_mem_cons.2 ⟨StableHlo.nullary_bufs_sub ..,
  List.forall_mem_cons.2 ⟨StableHlo.binary_bufs_sub ..,
  List.forall_mem_cons.2 ⟨StableHlo.binary_bufs_sub ..,
  List.forall_mem_cons.2 ⟨StableHlo.unary_bufs_sub ..,
  List.forall_mem_cons.2 ⟨StableHlo.unary_bufs_sub ..,
  List.forall_mem_cons.2 ⟨StableHlo.binary_bufs_sub ..,
  List.forall_mem_cons.2 ⟨StableHlo.nullary_bufs_sub ..,
  List.forall_mem_cons.2 ⟨StableHlo.binary_bufs_sub ..,
  List.forall_mem_cons.2 ⟨StableHlo.binary_bufs_sub ..,
  List.forall_mem_cons.2 ⟨StableHlo.nullary_bufs_sub ..,
  List.forall_mem_cons.2 ⟨StableHlo.unary_bufs_sub ..,
  List.forall_mem_cons.2 ⟨StableHlo.binary_bufs_sub ..,
  List.forall_mem_cons.2 ⟨StableHlo.nullary_bufs_sub ..,
  List.forall_mem_cons.2 ⟨StableHlo.unary_bufs_sub ..,
  List.forall_mem_cons.2 ⟨StableHlo.binary_bufs_sub ..,
  List.forall_mem_cons.2 ⟨StableHlo.binary_bufs_sub ..,
  List.forall_mem_cons.2 ⟨StableHlo.nullary_bufs_sub ..,
  List.forall_mem_cons.2 ⟨StableHlo.unary_bufs_sub ..,
  fun _ h => nomatch h⟩⟩⟩⟩⟩⟩⟩⟩⟩⟩⟩⟩⟩⟩⟩⟩⟩⟩⟩⟩⟩⟩
theorem r1b_fresh : ∀ op ∈ (r1b : List (HloOp τ sig (Elt F))), op.fresh = ∅ := by
  intro _ h; (repeat (cases h with | head => rfl | tail _ h => ?_)); exact nomatch h
theorem r2a_sub : ∀ op ∈ (r2a : List (HloOp τ sig (Elt F))), op.bufs ⊆ StableHlo.tcRefs τ sig :=
  List.forall_mem_cons.2 ⟨StableHlo.binary_bufs_sub ..,
  List.forall_mem_cons.2 ⟨StableHlo.binary_bufs_sub ..,
  List.forall_mem_cons.2 ⟨StableHlo.nullary_bufs_sub ..,
  List.forall_mem_cons.2 ⟨StableHlo.unary_bufs_sub ..,
  List.forall_mem_cons.2 ⟨StableHlo.binary_bufs_sub ..,
  List.forall_mem_cons.2 ⟨StableHlo.binary_bufs_sub ..,
  List.forall_mem_cons.2 ⟨StableHlo.unary_bufs_sub ..,
  List.forall_mem_cons.2 ⟨StableHlo.nullary_bufs_sub ..,
  List.forall_mem_cons.2 ⟨StableHlo.binary_bufs_sub ..,
  List.forall_mem_cons.2 ⟨StableHlo.unary_bufs_sub ..,
  List.forall_mem_cons.2 ⟨StableHlo.binary_bufs_sub ..,
  List.forall_mem_cons.2 ⟨StableHlo.unary_bufs_sub ..,
  List.forall_mem_cons.2 ⟨StableHlo.reshape_bufs_sub ..,
  List.forall_mem_cons.2 ⟨StableHlo.unary_bufs_sub ..,
  List.forall_mem_cons.2 ⟨StableHlo.unary_bufs_sub ..,
  fun _ h => nomatch h⟩⟩⟩⟩⟩⟩⟩⟩⟩⟩⟩⟩⟩⟩⟩
theorem r2a_fresh : ∀ op ∈ (r2a : List (HloOp τ sig (Elt F))), op.fresh = ∅ := by
  intro _ h; (repeat (cases h with | head => rfl | tail _ h => ?_)); exact nomatch h
theorem r2b_sub : ∀ op ∈ (r2b : List (HloOp τ sig (Elt F))), op.bufs ⊆ StableHlo.tcRefs τ sig :=
  List.forall_mem_cons.2 ⟨StableHlo.binary_bufs_sub ..,
  List.forall_mem_cons.2 ⟨StableHlo.nullary_bufs_sub ..,
  List.forall_mem_cons.2 ⟨StableHlo.binary_bufs_sub ..,
  List.forall_mem_cons.2 ⟨StableHlo.binary_bufs_sub ..,
  List.forall_mem_cons.2 ⟨StableHlo.nullary_bufs_sub ..,
  List.forall_mem_cons.2 ⟨StableHlo.binary_bufs_sub ..,
  List.forall_mem_cons.2 ⟨StableHlo.binary_bufs_sub ..,
  List.forall_mem_cons.2 ⟨StableHlo.unary_bufs_sub ..,
  List.forall_mem_cons.2 ⟨StableHlo.unary_bufs_sub ..,
  List.forall_mem_cons.2 ⟨StableHlo.binary_bufs_sub ..,
  List.forall_mem_cons.2 ⟨StableHlo.nullary_bufs_sub ..,
  List.forall_mem_cons.2 ⟨StableHlo.binary_bufs_sub ..,
  List.forall_mem_cons.2 ⟨StableHlo.binary_bufs_sub ..,
  List.forall_mem_cons.2 ⟨StableHlo.nullary_bufs_sub ..,
  List.forall_mem_cons.2 ⟨StableHlo.unary_bufs_sub ..,
  List.forall_mem_cons.2 ⟨StableHlo.binary_bufs_sub ..,
  List.forall_mem_cons.2 ⟨StableHlo.nullary_bufs_sub ..,
  List.forall_mem_cons.2 ⟨StableHlo.unary_bufs_sub ..,
  List.forall_mem_cons.2 ⟨StableHlo.binary_bufs_sub ..,
  List.forall_mem_cons.2 ⟨StableHlo.binary_bufs_sub ..,
  List.forall_mem_cons.2 ⟨StableHlo.nullary_bufs_sub ..,
  List.forall_mem_cons.2 ⟨StableHlo.unary_bufs_sub ..,
  List.forall_mem_cons.2 ⟨StableHlo.binary_bufs_sub ..,
  List.forall_mem_cons.2 ⟨StableHlo.binary_bufs_sub ..,
  List.forall_mem_cons.2 ⟨StableHlo.nullary_bufs_sub ..,
  List.forall_mem_cons.2 ⟨StableHlo.unary_bufs_sub ..,
  List.forall_mem_cons.2 ⟨StableHlo.binary_bufs_sub ..,
  List.forall_mem_cons.2 ⟨StableHlo.binary_bufs_sub ..,
  List.forall_mem_cons.2 ⟨StableHlo.unary_bufs_sub ..,
  List.forall_mem_cons.2 ⟨StableHlo.nullary_bufs_sub ..,
  List.forall_mem_cons.2 ⟨StableHlo.binary_bufs_sub ..,
  List.forall_mem_cons.2 ⟨StableHlo.unary_bufs_sub ..,
  List.forall_mem_cons.2 ⟨StableHlo.binary_bufs_sub ..,
  List.forall_mem_cons.2 ⟨StableHlo.unary_bufs_sub ..,
  List.forall_mem_cons.2 ⟨StableHlo.reshape_bufs_sub ..,
  List.forall_mem_cons.2 ⟨StableHlo.unary_bufs_sub ..,
  List.forall_mem_cons.2 ⟨StableHlo.unary_bufs_sub ..,
  fun _ h => nomatch h⟩⟩⟩⟩⟩⟩⟩⟩⟩⟩⟩⟩⟩⟩⟩⟩⟩⟩⟩⟩⟩⟩⟩⟩⟩⟩⟩⟩⟩⟩⟩⟩⟩⟩⟩⟩⟩
theorem r2b_fresh : ∀ op ∈ (r2b : List (HloOp τ sig (Elt F))), op.fresh = ∅ := by
  intro _ h; (repeat (cases h with | head => rfl | tail _ h => ?_)); exact nomatch h
theorem r2c_sub : ∀ op ∈ (r2c : List (HloOp τ sig (Elt F))), op.bufs ⊆ StableHlo.tcRefs τ sig :=
  List.forall_mem_cons.2 ⟨StableHlo.binary_bufs_sub ..,
  List.forall_mem_cons.2 ⟨StableHlo.nullary_bufs_sub ..,
  List.forall_mem_cons.2 ⟨StableHlo.binary_bufs_sub ..,
  List.forall_mem_cons.2 ⟨StableHlo.binary_bufs_sub ..,
  List.forall_mem_cons.2 ⟨StableHlo.nullary_bufs_sub ..,
  List.forall_mem_cons.2 ⟨StableHlo.binary_bufs_sub ..,
  fun _ h => nomatch h⟩⟩⟩⟩⟩⟩
theorem r2c_fresh : ∀ op ∈ (r2c : List (HloOp τ sig (Elt F))), op.fresh = ∅ := by
  intro _ h; (repeat (cases h with | head => rfl | tail _ h => ?_)); exact nomatch h
theorem r3_sub : ∀ op ∈ (r3 : List (HloOp τ sig (Elt F))), op.bufs ⊆ StableHlo.tcRefs τ sig :=
  List.forall_mem_cons.2 ⟨StableHlo.binary_bufs_sub ..,
  List.forall_mem_cons.2 ⟨StableHlo.unary_bufs_sub ..,
  List.forall_mem_cons.2 ⟨StableHlo.unary_bufs_sub ..,
  List.forall_mem_cons.2 ⟨StableHlo.binary_bufs_sub ..,
  List.forall_mem_cons.2 ⟨StableHlo.nullary_bufs_sub ..,
  List.forall_mem_cons.2 ⟨StableHlo.binary_bufs_sub ..,
  List.forall_mem_cons.2 ⟨StableHlo.binary_bufs_sub ..,
  List.forall_mem_cons.2 ⟨StableHlo.nullary_bufs_sub ..,
  List.forall_mem_cons.2 ⟨StableHlo.unary_bufs_sub ..,
  List.forall_mem_cons.2 ⟨StableHlo.binary_bufs_sub ..,
  List.forall_mem_cons.2 ⟨StableHlo.nullary_bufs_sub ..,
  List.forall_mem_cons.2 ⟨StableHlo.unary_bufs_sub ..,
  List.forall_mem_cons.2 ⟨StableHlo.binary_bufs_sub ..,
  List.forall_mem_cons.2 ⟨StableHlo.binary_bufs_sub ..,
  List.forall_mem_cons.2 ⟨StableHlo.nullary_bufs_sub ..,
  List.forall_mem_cons.2 ⟨StableHlo.unary_bufs_sub ..,
  List.forall_mem_cons.2 ⟨StableHlo.binary_bufs_sub ..,
  List.forall_mem_cons.2 ⟨StableHlo.binary_bufs_sub ..,
  List.forall_mem_cons.2 ⟨StableHlo.nullary_bufs_sub ..,
  List.forall_mem_cons.2 ⟨StableHlo.unary_bufs_sub ..,
  List.forall_mem_cons.2 ⟨StableHlo.binary_bufs_sub ..,
  List.forall_mem_cons.2 ⟨StableHlo.binary_bufs_sub ..,
  List.forall_mem_cons.2 ⟨StableHlo.unary_bufs_sub ..,
  List.forall_mem_cons.2 ⟨StableHlo.nullary_bufs_sub ..,
  List.forall_mem_cons.2 ⟨StableHlo.binary_bufs_sub ..,
  List.forall_mem_cons.2 ⟨StableHlo.unary_bufs_sub ..,
  List.forall_mem_cons.2 ⟨StableHlo.binary_bufs_sub ..,
  List.forall_mem_cons.2 ⟨StableHlo.binary_bufs_sub ..,
  List.forall_mem_cons.2 ⟨StableHlo.nullary_bufs_sub ..,
  List.forall_mem_cons.2 ⟨StableHlo.binary_bufs_sub ..,
  fun _ h => nomatch h⟩⟩⟩⟩⟩⟩⟩⟩⟩⟩⟩⟩⟩⟩⟩⟩⟩⟩⟩⟩⟩⟩⟩⟩⟩⟩⟩⟩⟩⟩
theorem r3_fresh : ∀ op ∈ (r3 : List (HloOp τ sig (Elt F))), op.fresh = ∅ := by
  intro _ h; (repeat (cases h with | head => rfl | tail _ h => ?_)); exact nomatch h
theorem c0_sub : ∀ op ∈ (c0 : List (HloOp τ sig (Elt F))), op.bufs ⊆ StableHlo.tcRefs τ sig :=
  List.forall_mem_cons.2 ⟨StableHlo.unary_bufs_sub ..,
  List.forall_mem_cons.2 ⟨StableHlo.reshape_bufs_sub ..,
  List.forall_mem_cons.2 ⟨StableHlo.unary_bufs_sub ..,
  List.forall_mem_cons.2 ⟨StableHlo.reshape_bufs_sub ..,
  List.forall_mem_cons.2 ⟨StableHlo.unary_bufs_sub ..,
  List.forall_mem_cons.2 ⟨StableHlo.reshape_bufs_sub ..,
  List.forall_mem_cons.2 ⟨StableHlo.unary_bufs_sub ..,
  List.forall_mem_cons.2 ⟨StableHlo.reshape_bufs_sub ..,
  List.forall_mem_cons.2 ⟨StableHlo.unary_bufs_sub ..,
  List.forall_mem_cons.2 ⟨StableHlo.reshape_bufs_sub ..,
  List.forall_mem_cons.2 ⟨StableHlo.unary_bufs_sub ..,
  List.forall_mem_cons.2 ⟨StableHlo.reshape_bufs_sub ..,
  List.forall_mem_cons.2 ⟨StableHlo.binary_bufs_sub ..,
  List.forall_mem_cons.2 ⟨StableHlo.binary_bufs_sub ..,
  List.forall_mem_cons.2 ⟨StableHlo.binary_bufs_sub ..,
  List.forall_mem_cons.2 ⟨StableHlo.binary_bufs_sub ..,
  List.forall_mem_cons.2 ⟨StableHlo.binary_bufs_sub ..,
  List.forall_mem_cons.2 ⟨StableHlo.binary_bufs_sub ..,
  List.forall_mem_cons.2 ⟨StableHlo.binary_bufs_sub ..,
  List.forall_mem_cons.2 ⟨StableHlo.binary_bufs_sub ..,
  List.forall_mem_cons.2 ⟨StableHlo.binary_bufs_sub ..,
  List.forall_mem_cons.2 ⟨StableHlo.unary_bufs_sub ..,
  List.forall_mem_cons.2 ⟨StableHlo.unary_bufs_sub ..,
  List.forall_mem_cons.2 ⟨StableHlo.unary_bufs_sub ..,
  List.forall_mem_cons.2 ⟨StableHlo.nary_bufs_sub ..,
  List.forall_mem_cons.2 ⟨StableHlo.unary_bufs_sub ..,
  fun _ h => nomatch h⟩⟩⟩⟩⟩⟩⟩⟩⟩⟩⟩⟩⟩⟩⟩⟩⟩⟩⟩⟩⟩⟩⟩⟩⟩⟩
theorem c0_fresh : ∀ op ∈ (c0 : List (HloOp τ sig (Elt F))), op.fresh = ∅ := by
  intro _ h; (repeat (cases h with | head => rfl | tail _ h => ?_)); exact nomatch h
theorem c1_sub : ∀ op ∈ (c1 : List (HloOp τ sig (Elt F))), op.bufs ⊆ StableHlo.tcRefs τ sig :=
  List.forall_mem_cons.2 ⟨StableHlo.unary_bufs_sub ..,
  List.forall_mem_cons.2 ⟨StableHlo.reshape_bufs_sub ..,
  List.forall_mem_cons.2 ⟨StableHlo.unary_bufs_sub ..,
  List.forall_mem_cons.2 ⟨StableHlo.reshape_bufs_sub ..,
  List.forall_mem_cons.2 ⟨StableHlo.unary_bufs_sub ..,
  List.forall_mem_cons.2 ⟨StableHlo.reshape_bufs_sub ..,
  List.forall_mem_cons.2 ⟨StableHlo.unary_bufs_sub ..,
  List.forall_mem_cons.2 ⟨StableHlo.reshape_bufs_sub ..,
  List.forall_mem_cons.2 ⟨StableHlo.unary_bufs_sub ..,
  List.forall_mem_cons.2 ⟨StableHlo.reshape_bufs_sub ..,
  List.forall_mem_cons.2 ⟨StableHlo.unary_bufs_sub ..,
  List.forall_mem_cons.2 ⟨StableHlo.reshape_bufs_sub ..,
  List.forall_mem_cons.2 ⟨StableHlo.binary_bufs_sub ..,
  List.forall_mem_cons.2 ⟨StableHlo.binary_bufs_sub ..,
  List.forall_mem_cons.2 ⟨StableHlo.binary_bufs_sub ..,
  List.forall_mem_cons.2 ⟨StableHlo.binary_bufs_sub ..,
  List.forall_mem_cons.2 ⟨StableHlo.binary_bufs_sub ..,
  List.forall_mem_cons.2 ⟨StableHlo.binary_bufs_sub ..,
  List.forall_mem_cons.2 ⟨StableHlo.binary_bufs_sub ..,
  List.forall_mem_cons.2 ⟨StableHlo.binary_bufs_sub ..,
  List.forall_mem_cons.2 ⟨StableHlo.binary_bufs_sub ..,
  List.forall_mem_cons.2 ⟨StableHlo.unary_bufs_sub ..,
  List.forall_mem_cons.2 ⟨StableHlo.unary_bufs_sub ..,
  List.forall_mem_cons.2 ⟨StableHlo.unary_bufs_sub ..,
  List.forall_mem_cons.2 ⟨StableHlo.nary_bufs_sub ..,
  List.forall_mem_cons.2 ⟨StableHlo.unary_bufs_sub ..,
  fun _ h => nomatch h⟩⟩⟩⟩⟩⟩⟩⟩⟩⟩⟩⟩⟩⟩⟩⟩⟩⟩⟩⟩⟩⟩⟩⟩⟩⟩
theorem c1_fresh : ∀ op ∈ (c1 : List (HloOp τ sig (Elt F))), op.fresh = ∅ := by
  intro _ h; (repeat (cases h with | head => rfl | tail _ h => ?_)); exact nomatch h
theorem c2_sub : ∀ op ∈ (c2 : List (HloOp τ sig (Elt F))), op.bufs ⊆ StableHlo.tcRefs τ sig :=
  List.forall_mem_cons.2 ⟨StableHlo.unary_bufs_sub ..,
  List.forall_mem_cons.2 ⟨StableHlo.reshape_bufs_sub ..,
  List.forall_mem_cons.2 ⟨StableHlo.unary_bufs_sub ..,
  List.forall_mem_cons.2 ⟨StableHlo.reshape_bufs_sub ..,
  List.forall_mem_cons.2 ⟨StableHlo.unary_bufs_sub ..,
  List.forall_mem_cons.2 ⟨StableHlo.reshape_bufs_sub ..,
  List.forall_mem_cons.2 ⟨StableHlo.unary_bufs_sub ..,
  List.forall_mem_cons.2 ⟨StableHlo.reshape_bufs_sub ..,
  List.forall_mem_cons.2 ⟨StableHlo.unary_bufs_sub ..,
  List.forall_mem_cons.2 ⟨StableHlo.reshape_bufs_sub ..,
  List.forall_mem_cons.2 ⟨StableHlo.unary_bufs_sub ..,
  List.forall_mem_cons.2 ⟨StableHlo.reshape_bufs_sub ..,
  List.forall_mem_cons.2 ⟨StableHlo.binary_bufs_sub ..,
  List.forall_mem_cons.2 ⟨StableHlo.binary_bufs_sub ..,
  List.forall_mem_cons.2 ⟨StableHlo.binary_bufs_sub ..,
  List.forall_mem_cons.2 ⟨StableHlo.binary_bufs_sub ..,
  List.forall_mem_cons.2 ⟨StableHlo.binary_bufs_sub ..,
  List.forall_mem_cons.2 ⟨StableHlo.binary_bufs_sub ..,
  List.forall_mem_cons.2 ⟨StableHlo.binary_bufs_sub ..,
  List.forall_mem_cons.2 ⟨StableHlo.binary_bufs_sub ..,
  List.forall_mem_cons.2 ⟨StableHlo.binary_bufs_sub ..,
  List.forall_mem_cons.2 ⟨StableHlo.unary_bufs_sub ..,
  List.forall_mem_cons.2 ⟨StableHlo.unary_bufs_sub ..,
  List.forall_mem_cons.2 ⟨StableHlo.unary_bufs_sub ..,
  List.forall_mem_cons.2 ⟨StableHlo.nary_bufs_sub ..,
  List.forall_mem_cons.2 ⟨StableHlo.unary_bufs_sub ..,
  fun _ h => nomatch h⟩⟩⟩⟩⟩⟩⟩⟩⟩⟩⟩⟩⟩⟩⟩⟩⟩⟩⟩⟩⟩⟩⟩⟩⟩⟩
theorem c2_fresh : ∀ op ∈ (c2 : List (HloOp τ sig (Elt F))), op.fresh = ∅ := by
  intro _ h; (repeat (cases h with | head => rfl | tail _ h => ?_)); exact nomatch h

theorem all_sub : ∀ d : Dev nD, (lists (F := F)).flatten.Forall fun op => op.bufs ⊆ StableHlo.tcRefs τ sig := fun _ =>
  List.forall_iff_forall_mem.2 fun op h => by
    obtain ⟨l, hl, h⟩ := List.mem_flatten.1 h
    exact (List.forall_mem_cons (p := fun l => ∀ op ∈ l, op.bufs ⊆ StableHlo.tcRefs τ sig)).2 ⟨r0_sub, List.forall_mem_cons.2 ⟨r1a_sub, List.forall_mem_cons.2 ⟨c0_sub, List.forall_mem_cons.2 ⟨r1b_sub, List.forall_mem_cons.2 ⟨r2a_sub, List.forall_mem_cons.2 ⟨c1_sub, List.forall_mem_cons.2 ⟨r2b_sub, List.forall_mem_cons.2 ⟨c2_sub, List.forall_mem_cons.2 ⟨r2c_sub, List.forall_mem_cons.2 ⟨r3_sub, fun _ h => absurd h List.not_mem_nil⟩⟩⟩⟩⟩⟩⟩⟩⟩⟩ l hl op h
theorem all_fresh : ∀ op ∈ (lists (F := F)).flatten, op.fresh = ∅ := fun op h => by
    obtain ⟨l, hl, h⟩ := List.mem_flatten.1 h
    exact (List.forall_mem_cons (p := fun l => ∀ op ∈ l, op.fresh = ∅)).2 ⟨r0_fresh, List.forall_mem_cons.2 ⟨r1a_fresh, List.forall_mem_cons.2 ⟨c0_fresh, List.forall_mem_cons.2 ⟨r1b_fresh, List.forall_mem_cons.2 ⟨r2a_fresh, List.forall_mem_cons.2 ⟨c1_fresh, List.forall_mem_cons.2 ⟨r2b_fresh, List.forall_mem_cons.2 ⟨c2_fresh, List.forall_mem_cons.2 ⟨r2c_fresh, List.forall_mem_cons.2 ⟨r3_fresh, fun _ h => absurd h List.not_mem_nil⟩⟩⟩⟩⟩⟩⟩⟩⟩⟩ l hl op h

theorem after_append (l₁ l₂ : List (HloOp τ sig (Elt F))) (V : Valuation τ sig (Elt F)) : StableHlo.after (l₁ ++ l₂) V = StableHlo.after l₂ (StableHlo.after l₁ V) := by
  induction l₁ generalizing V with
  | nil => rfl
  | cons _ _ ih => exact ih _

theorem main_eq (d : Dev nD) : (main d : Step (F := F)) = StableHlo.seq lists.flatten := by
  rw [main_chain, show (lists (F := F)).map StableHlo.seq = lists.map StableHlo.seq ++ [] from (List.append_nil _).symm, StableHlo.chain_map_seq_append,
    Pipeline.chain_nil]
  exact bind_pure _

variable (m : (ℓ : Loc nD τ sig) → Buf (Elt F) ℓ) (ρ : Dev nD → PrngReg)

/-- What the arrays hold at the end. -/
def W (d : Dev nD) : Valuation τ sig (Elt F) := StableHlo.after lists.flatten (StableHlo.launchContents m d)

theorem run_main : θ_run (defs (F := F)) (onTc (τ := τ) (main (F := F))) ⟨m, fun _ => 0, ρ⟩
    (fun r => (∀ (d : Dev nD) (b : Ref sig .tc), r.2.mem ((d.tc : Thread nD τ).loc b) = W m d (Proc.devRef .tc b)) ∧ r.2.sem = fun _ => 0) :=
  (θ_run (defs (F := F)) _ _).mono (fun _ h => ⟨h, sem_eq_zero_of_no_sems rfl _⟩)
    (StableHlo.run_seq (by decide +kernel) (by decide +kernel) defs main (fun _ => lists.flatten) main_eq all_sub m ρ (fun _ => all_fresh))

abbrev r0_outs : List (Ref sig .tc) := [main_c, main_c_0, main_v0, main_v1, main_c_1, main_v2, main_v3, main_v4, main_v5, main_v6, main_cst, main_v7, main_cst_2, main_v8, main_v9, main_v10, main_v11, main_v12, main_v13, main_v14, main_v15, main_cst_3, main_v16, main_v17, main_values, main_indices, main_c_4, main_v18, main_v19, main_c_5, main_v20, main_v21, main_v22, main_v23, main_v24, main_c_6, main_v25, main_v26, main_c_7, main_v27, main_v28, main_v29, main_v30, main_v31, main_c_8, main_v32, main_v33, main_c_9, main_v34, main_v35, main_v36, main_v37, main_v38, main_v39, main_c_10, main_v40, main_v41, main_c_11, main_v42, main_v43]
abbrev r1a_outs : List (Ref sig .tc) := [main_v44, main_v45, main_v46, main_c_12, main_v47, main_v48, main_c_13, main_v49, main_v50, main_v51, main_v52, main_v53, main_c_14, main_v54, main_v55, main_c_15, main_v56, main_v57, main_v58, main_v59, main_v60, main_c_16, main_v61, main_v62, main_c_17, main_v63, main_v64, main_v65, main_v66, main_v67, main_v68, main_cst_18, main_v69, main_v70, main_v71, main_v72, main_v73]
abbrev c0_outs : List (Ref sig .tc) := [main_call0_v0, main_call0_v1, main_call0_v2, main_call0_v3, main_call0_v4, main_call0_v5, main_call0_v6, main_call0_v7, main_call0_v8, main_call0_v9, main_call0_v10, main_call0_v11, main_call0_v12, main_call0_v13, main_call0_v14, main_call0_v15, main_call0_v16, main_call0_v17, main_call0_v18, main_call0_v19, main_call0_v20, main_call0_v21, main_call0_v22, main_call0_v23, main_call0_v24, main_v74]
abbrev r1b_outs : List (Ref sig .tc) := [main_v75, main_cst_19, main_v76, main_v77, main_cst_20, main_v78, main_v79, main_v80, main_v81, main_v82, main_cst_21, main_v83, main_v84, main_cst_22, main_v85, main_v86, main_cst_23, main_v87, main_v88, main_v89, main_cst_24, main_v90]
abbrev r2a_outs : List (Ref sig .tc) := [main_v91, main_v92, main_cst_25, main_v93, main_v94, main_v95, main_v96, main_c_26, main_v97, main_v98, main_v99, main_v100, main_v101, main_v102, main_v103]
abbrev c1_outs : List (Ref sig .tc) := [main_call1_v0, main_call1_v1, main_call1_v2, main_call1_v3, main_call1_v4, main_call1_v5, main_call1_v6, main_call1_v7, main_call1_v8, main_call1_v9, main_call1_v10, main_call1_v11, main_call1_v12, main_call1_v13, main_call1_v14, main_call1_v15, main_call1_v16, main_call1_v17, main_call1_v18, main_call1_v19, main_call1_v20, main_call1_v21, main_call1_v22, main_call1_v23, main_call1_v24, main_v104]
abbrev r2b_outs : List (Ref sig .tc) := [main_v105, main_cst_27, main_v106, main_v107, main_cst_28, main_v108, main_v109, main_v110, main_v111, main_v112, main_cst_29, main_v113, main_v114, main_cst_30, main_v115, main_v116, main_cst_31, main_v117, main_v118, main_v119, main_cst_32, main_v120, main_v121, main_v122, main_cst_33, main_v123, main_v124, main_v125, main_v126, main_c_34, main_v127, main_v128, main_v129, main_v130, main_v131, main_v132, main_v133]
abbrev c2_outs : List (Ref sig .tc) := [main_call2_v0, main_call2_v1, main_call2_v2, main_call2_v3, main_call2_v4, main_call2_v5, main_call2_v6, main_call2_v7, main_call2_v8, main_call2_v9, main_call2_v10, main_call2_v11, main_call2_v12, main_call2_v13, main_call2_v14, main_call2_v15, main_call2_v16, main_call2_v17, main_call2_v18, main_call2_v19, main_call2_v20, main_call2_v21, main_call2_v22, main_call2_v23, main_call2_v24, main_v134]
abbrev r2c_outs : List (Ref sig .tc) := [main_v135, main_cst_35, main_v136, main_v137, main_cst_36, main_v138]
abbrev r3_outs : List (Ref sig .tc) := [main_v139, main_v140, main_v141, main_v142, main_cst_37, main_v143, main_v144, main_cst_38, main_v145, main_v146, main_cst_39, main_v147, main_v148, main_v149, main_cst_40, main_v150, main_v151, main_v152, main_cst_41, main_v153, main_v154, main_v155, main_v156, main_c_42, main_v157, main_v158, main_v159, main_v160, main_cst_43, main_v161]

theorem one_sub {W : List (Ref sig .tc)} {r : Ref sig .tc} (h : r ∈ W) : ({Proc.devRef .tc r} : Finset (DevRef τ sig)) ⊆ (W.map (Proc.devRef (τ := τ) .tc)).toFinset :=
  Finset.singleton_subset_iff.2 (List.mem_toFinset.2 (List.mem_map.2 ⟨r, h, rfl⟩))

theorem r0_writes : (r0 (F := F)).Forall fun op => op.writes ⊆ (r0_outs.map (Proc.devRef (τ := τ) .tc)).toFinset :=
  ⟨one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide)⟩
theorem r1a_writes : (r1a (F := F)).Forall fun op => op.writes ⊆ (r1a_outs.map (Proc.devRef (τ := τ) .tc)).toFinset :=
  ⟨one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide)⟩
theorem c0_writes : (c0 (F := F)).Forall fun op => op.writes ⊆ (c0_outs.map (Proc.devRef (τ := τ) .tc)).toFinset :=
  ⟨one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide)⟩
theorem r1b_writes : (r1b (F := F)).Forall fun op => op.writes ⊆ (r1b_outs.map (Proc.devRef (τ := τ) .tc)).toFinset :=
  ⟨one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide)⟩
theorem r2a_writes : (r2a (F := F)).Forall fun op => op.writes ⊆ (r2a_outs.map (Proc.devRef (τ := τ) .tc)).toFinset :=
  ⟨one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide)⟩
theorem c1_writes : (c1 (F := F)).Forall fun op => op.writes ⊆ (c1_outs.map (Proc.devRef (τ := τ) .tc)).toFinset :=
  ⟨one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide)⟩
theorem r2b_writes : (r2b (F := F)).Forall fun op => op.writes ⊆ (r2b_outs.map (Proc.devRef (τ := τ) .tc)).toFinset :=
  ⟨one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide)⟩
theorem c2_writes : (c2 (F := F)).Forall fun op => op.writes ⊆ (c2_outs.map (Proc.devRef (τ := τ) .tc)).toFinset :=
  ⟨one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide)⟩
theorem r2c_writes : (r2c (F := F)).Forall fun op => op.writes ⊆ (r2c_outs.map (Proc.devRef (τ := τ) .tc)).toFinset :=
  ⟨one_sub (by decide), one_sub (by decide), one_sub (by decide), one_sub (by decide), one_sub (by decide), one_sub (by decide)⟩
theorem r3_writes : (r3 (F := F)).Forall fun op => op.writes ⊆ (r3_outs.map (Proc.devRef (τ := τ) .tc)).toFinset :=
  ⟨one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide), one_sub (by decide)⟩

theorem W_eq (d : Dev nD) : W m d = StableHlo.after r3 (StableHlo.after r2c (StableHlo.after c2 (StableHlo.after r2b (StableHlo.after c1 (StableHlo.after r2a (StableHlo.after r1b (StableHlo.after c0 (StableHlo.after r1a (StableHlo.after r0 (StableHlo.launchContents m d)))))))))) := by
  unfold W lists
  simp only [List.flatten_cons, List.flatten_nil, List.append_nil, after_append]

/-- The arguments end as they began. -/
theorem arg_kept (d : Dev nD) {r : Ref sig .tc} (h : r ∈ [main_arg0, main_arg1, main_arg2]) : W m d (Proc.devRef .tc r) = m ((d.tc : Thread nD τ).loc r) := by
  have h' : r ∉ r3_outs ∧ r ∉ r2c_outs ∧ r ∉ c2_outs ∧ r ∉ r2b_outs ∧ r ∉ c1_outs ∧ r ∉ r2a_outs ∧ r ∉ r1b_outs ∧ r ∉ c0_outs ∧ r ∉ r1a_outs ∧ r ∉ r0_outs := by
    revert h; revert r; decide +kernel
  obtain ⟨h0, h1, h2, h3, h4, h5, h6, h7, h8, h9⟩ := h'
  rw [W_eq]
  refine (StableHlo.after_of_writes_sub r3 _ r3_writes h0).trans ?_
  refine (StableHlo.after_of_writes_sub r2c _ r2c_writes h1).trans ?_
  refine (StableHlo.after_of_writes_sub c2 _ c2_writes h2).trans ?_
  refine (StableHlo.after_of_writes_sub r2b _ r2b_writes h3).trans ?_
  refine (StableHlo.after_of_writes_sub c1 _ c1_writes h4).trans ?_
  refine (StableHlo.after_of_writes_sub r2a _ r2a_writes h5).trans ?_
  refine (StableHlo.after_of_writes_sub r1b _ r1b_writes h6).trans ?_
  refine (StableHlo.after_of_writes_sub c0 _ c0_writes h7).trans ?_
  refine (StableHlo.after_of_writes_sub r1a _ r1a_writes h8).trans ?_
  refine (StableHlo.after_of_writes_sub r0 _ r0_writes h9).trans ?_
  rfl

theorem run_ends : θ_run (defs (F := F)) (onTc (τ := τ) (main (F := F))) ⟨m, fun _ => 0, ρ⟩
    (fun r => (∀ c : Dev nD, r.2.mem ((c.tc : Thread nD τ).loc main_v161) = W m c (Proc.devRef .tc main_v161)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run (defs (F := F)) _ _).mono (fun _ h => ⟨fun c => ⟨h.1 c _, (h.1 c _).trans (arg_kept m c (by decide)), (h.1 c _).trans (arg_kept m c (by decide)),
    (h.1 c _).trans (arg_kept m c (by decide))⟩, h.2⟩) (run_main m ρ)

end Cert.Proof.Ref

end
-- ==== Proof.Crosses.lean ====
/-
  The reference's cross products: each of its three calls reads two arrays and leaves their componentwise cross products.
-/
module

public import proofs.«01_k».proof.Proof.Plain
public import proofs.«01_k».proof.Proof.RefRun
public import Idealize.ShloMosaic.Lib.Pointwise.Tactic
public import Idealize.ShloMosaic.Lib.StableHlo.ReadAt

@[expose] public section

set_option maxRecDepth 16384

noncomputable section

namespace Cert.Proof.Value

open Cert.ReferenceIdeal Cert.ReferenceIdeal.Gen Cert.Proof.Ref
open Idealize.ShloMosaic Idealize.ShloMosaic.TcCoe

variable (V : Valuation τ sig (Elt Ideal))

/-- One array of vectors. -/
abbrev Vecs := FVec Ideal S4096x20x3x3 .f32
/-- One array of components. -/
abbrev Comps := FVec Ideal S4096x20x3 .f32
/-- One array of components under a leading axis. -/
abbrev Lifted := FVec Ideal S1x4096x20x3 .f32

/-- The operations of call 0 that compute the components. -/
def comps0 : List (HloOp τ sig (Elt Ideal)) :=
  [ StableHlo.unary main_v73 main_call0_v0 ((extractStridedSlice S4096x20x3x1 ![0, 0, 0, 0] · slices_S4096x20x3x3_S4096x20x3x1_0_0_0_0) : Vecs → FVec Ideal S4096x20x3x1 .f32),
    StableHlo.reshape main_call0_v0 main_call0_v1 (rfl : (.f32 : EltTy) = .f32) shapeCasts_S4096x20x3x1_S4096x20x3,
    StableHlo.unary main_v73 main_call0_v2 ((extractStridedSlice S4096x20x3x1 ![0, 0, 0, 1] · slices_S4096x20x3x3_S4096x20x3x1_0_0_0_1) : Vecs → FVec Ideal S4096x20x3x1 .f32),
    StableHlo.reshape main_call0_v2 main_call0_v3 (rfl : (.f32 : EltTy) = .f32) shapeCasts_S4096x20x3x1_S4096x20x3,
    StableHlo.unary main_v73 main_call0_v4 ((extractStridedSlice S4096x20x3x1 ![0, 0, 0, 2] · slices_S4096x20x3x3_S4096x20x3x1_0_0_0_2) : Vecs → FVec Ideal S4096x20x3x1 .f32),
    StableHlo.reshape main_call0_v4 main_call0_v5 (rfl : (.f32 : EltTy) = .f32) shapeCasts_S4096x20x3x1_S4096x20x3,
    StableHlo.unary main_v68 main_call0_v6 ((extractStridedSlice S4096x20x3x1 ![0, 0, 0, 0] · slices_S4096x20x3x3_S4096x20x3x1_0_0_0_0) : Vecs → FVec Ideal S4096x20x3x1 .f32),
    StableHlo.reshape main_call0_v6 main_call0_v7 (rfl : (.f32 : EltTy) = .f32) shapeCasts_S4096x20x3x1_S4096x20x3,
    StableHlo.unary main_v68 main_call0_v8 ((extractStridedSlice S4096x20x3x1 ![0, 0, 0, 1] · slices_S4096x20x3x3_S4096x20x3x1_0_0_0_1) : Vecs → FVec Ideal S4096x20x3x1 .f32),
    StableHlo.reshape main_call0_v8 main_call0_v9 (rfl : (.f32 : EltTy) = .f32) shapeCasts_S4096x20x3x1_S4096x20x3,
    StableHlo.unary main_v68 main_call0_v10 ((extractStridedSlice S4096x20x3x1 ![0, 0, 0, 2] · slices_S4096x20x3x3_S4096x20x3x1_0_0_0_2) : Vecs → FVec Ideal S4096x20x3x1 .f32),
    StableHlo.reshape main_call0_v10 main_call0_v11 (rfl : (.f32 : EltTy) = .f32) shapeCasts_S4096x20x3x1_S4096x20x3,
    StableHlo.binary main_call0_v3 main_call0_v11 main_call0_v12 (mulf : Comps → Comps → Comps),
    StableHlo.binary main_call0_v5 main_call0_v9 main_call0_v13 (mulf : Comps → Comps → Comps),
    StableHlo.binary main_call0_v12 main_call0_v13 main_call0_v14 (subf : Comps → Comps → Comps),
    StableHlo.binary main_call0_v5 main_call0_v7 main_call0_v15 (mulf : Comps → Comps → Comps),
    StableHlo.binary main_call0_v1 main_call0_v11 main_call0_v16 (mulf : Comps → Comps → Comps),
    StableHlo.binary main_call0_v15 main_call0_v16 main_call0_v17 (subf : Comps → Comps → Comps),
    StableHlo.binary main_call0_v1 main_call0_v9 main_call0_v18 (mulf : Comps → Comps → Comps),
    StableHlo.binary main_call0_v3 main_call0_v7 main_call0_v19 (mulf : Comps → Comps → Comps),
    StableHlo.binary main_call0_v18 main_call0_v19 main_call0_v20 (subf : Comps → Comps → Comps),
    StableHlo.unary main_call0_v14 main_call0_v21 (broadcastInDim S1x4096x20x3 ![1, 2, 3] bcast_S4096x20x3_S1x4096x20x3_1_2_3 : Comps → Lifted),
    StableHlo.unary main_call0_v17 main_call0_v22 (broadcastInDim S1x4096x20x3 ![1, 2, 3] bcast_S4096x20x3_S1x4096x20x3_1_2_3 : Comps → Lifted),
    StableHlo.unary main_call0_v20 main_call0_v23 (broadcastInDim S1x4096x20x3 ![1, 2, 3] bcast_S4096x20x3_S1x4096x20x3_1_2_3 : Comps → Lifted) ]

/-- The operations of call 0 that join the components. -/
def joins0 : List (HloOp τ sig (Elt Ideal)) :=
  [ StableHlo.nary ![main_call0_v21, main_call0_v22, main_call0_v23] main_call0_v24 (fun u => (concatenate S3x4096x20x3 0 [⟨S1x4096x20x3, (u 0 : Lifted)⟩, ⟨S1x4096x20x3, (u 1 : Lifted)⟩, ⟨S1x4096x20x3, (u 2 : Lifted)⟩] concatenates_S1x4096x20x3_S1x4096x20x3_S1x4096x20x3_S3x4096x20x3_d0 : FVec Ideal S3x4096x20x3 .f32)),
    StableHlo.unary main_call0_v24 main_v74 ((transpose S4096x20x3x3 [1, 2, 3, 0] · transposes_S3x4096x20x3_S4096x20x3x3_1_2_3_0) : FVec Ideal S3x4096x20x3 .f32 → Vecs) ]

theorem c0_eq : (c0 : List (HloOp τ sig (Elt Ideal))) = comps0 ++ joins0 := rfl

theorem joins0_0 (q : Fin 4096) (n : Fin 20) (a : Fin 3) : (StableHlo.after joins0 V main_v74 : Vecs) (ix4 q n a 0) = (V main_call0_v21 : Lifted) (ix4 0 q n a) := by
  unfold joins0
  after_results
  pointwise

theorem comps0_0 {E N : Vecs} (hE : V main_v73 = E) (hN : V main_v68 = N) (q : Fin 4096) (n : Fin 20) (a : Fin 3) :
    (StableHlo.after comps0 V main_call0_v21 : Lifted) (ix4 0 q n a) = cross (fun k => E (ix4 q n a k)) (fun k => N (ix4 q n a k)) 0 := by
  subst hE hN
  unfold comps0
  after_reads_at
  rfl

theorem joins0_1 (q : Fin 4096) (n : Fin 20) (a : Fin 3) : (StableHlo.after joins0 V main_v74 : Vecs) (ix4 q n a 1) = (V main_call0_v22 : Lifted) (ix4 0 q n a) := by
  unfold joins0
  after_results
  pointwise

theorem comps0_1 {E N : Vecs} (hE : V main_v73 = E) (hN : V main_v68 = N) (q : Fin 4096) (n : Fin 20) (a : Fin 3) :
    (StableHlo.after comps0 V main_call0_v22 : Lifted) (ix4 0 q n a) = cross (fun k => E (ix4 q n a k)) (fun k => N (ix4 q n a k)) 1 := by
  subst hE hN
  unfold comps0
  after_reads_at
  rfl

theorem joins0_2 (q : Fin 4096) (n : Fin 20) (a : Fin 3) : (StableHlo.after joins0 V main_v74 : Vecs) (ix4 q n a 2) = (V main_call0_v23 : Lifted) (ix4 0 q n a) := by
  unfold joins0
  after_results
  pointwise

theorem comps0_2 {E N : Vecs} (hE : V main_v73 = E) (hN : V main_v68 = N) (q : Fin 4096) (n : Fin 20) (a : Fin 3) :
    (StableHlo.after comps0 V main_call0_v23 : Lifted) (ix4 0 q n a) = cross (fun k => E (ix4 q n a k)) (fun k => N (ix4 q n a k)) 2 := by
  subst hE hN
  unfold comps0
  after_reads_at
  rfl

/-- Call 0 leaves the cross products. -/
theorem cross0 {E N : Vecs} (hE : V main_v73 = E) (hN : V main_v68 = N) (q : Fin 4096) (n : Fin 20) (a k : Fin 3) :
    (StableHlo.after c0 V main_v74 : Vecs) (ix4 q n a k) = cross (fun k => E (ix4 q n a k)) (fun k => N (ix4 q n a k)) k := by
  rw [c0_eq, StableHlo.after_append]
  revert k
  rw [Fin.forall_fin_succ, Fin.forall_fin_two]
  exact ⟨(joins0_0 _ q n a).trans (comps0_0 V hE hN q n a), (joins0_1 _ q n a).trans (comps0_1 V hE hN q n a), (joins0_2 _ q n a).trans (comps0_2 V hE hN q n a)⟩

/-- The operations of call 1 that compute the components. -/
def comps1 : List (HloOp τ sig (Elt Ideal)) :=
  [ StableHlo.unary main_v103 main_call1_v0 ((extractStridedSlice S4096x20x3x1 ![0, 0, 0, 0] · slices_S4096x20x3x3_S4096x20x3x1_0_0_0_0) : Vecs → FVec Ideal S4096x20x3x1 .f32),
    StableHlo.reshape main_call1_v0 main_call1_v1 (rfl : (.f32 : EltTy) = .f32) shapeCasts_S4096x20x3x1_S4096x20x3,
    StableHlo.unary main_v103 main_call1_v2 ((extractStridedSlice S4096x20x3x1 ![0, 0, 0, 1] · slices_S4096x20x3x3_S4096x20x3x1_0_0_0_1) : Vecs → FVec Ideal S4096x20x3x1 .f32),
    StableHlo.reshape main_call1_v2 main_call1_v3 (rfl : (.f32 : EltTy) = .f32) shapeCasts_S4096x20x3x1_S4096x20x3,
    StableHlo.unary main_v103 main_call1_v4 ((extractStridedSlice S4096x20x3x1 ![0, 0, 0, 2] · slices_S4096x20x3x3_S4096x20x3x1_0_0_0_2) : Vecs → FVec Ideal S4096x20x3x1 .f32),
    StableHlo.reshape main_call1_v4 main_call1_v5 (rfl : (.f32 : EltTy) = .f32) shapeCasts_S4096x20x3x1_S4096x20x3,
    StableHlo.unary main_v68 main_call1_v6 ((extractStridedSlice S4096x20x3x1 ![0, 0, 0, 0] · slices_S4096x20x3x3_S4096x20x3x1_0_0_0_0) : Vecs → FVec Ideal S4096x20x3x1 .f32),
    StableHlo.reshape main_call1_v6 main_call1_v7 (rfl : (.f32 : EltTy) = .f32) shapeCasts_S4096x20x3x1_S4096x20x3,
    StableHlo.unary main_v68 main_call1_v8 ((extractStridedSlice S4096x20x3x1 ![0, 0, 0, 1] · slices_S4096x20x3x3_S4096x20x3x1_0_0_0_1) : Vecs → FVec Ideal S4096x20x3x1 .f32),
    StableHlo.reshape main_call1_v8 main_call1_v9 (rfl : (.f32 : EltTy) = .f32) shapeCasts_S4096x20x3x1_S4096x20x3,
    StableHlo.unary main_v68 main_call1_v10 ((extractStridedSlice S4096x20x3x1 ![0, 0, 0, 2] · slices_S4096x20x3x3_S4096x20x3x1_0_0_0_2) : Vecs → FVec Ideal S4096x20x3x1 .f32),
    StableHlo.reshape main_call1_v10 main_call1_v11 (rfl : (.f32 : EltTy) = .f32) shapeCasts_S4096x20x3x1_S4096x20x3,
    StableHlo.binary main_call1_v3 main_call1_v11 main_call1_v12 (mulf : Comps → Comps → Comps),
    StableHlo.binary main_call1_v5 main_call1_v9 main_call1_v13 (mulf : Comps → Comps → Comps),
    StableHlo.binary main_call1_v12 main_call1_v13 main_call1_v14 (subf : Comps → Comps → Comps),
    StableHlo.binary main_call1_v5 main_call1_v7 main_call1_v15 (mulf : Comps → Comps → Comps),
    StableHlo.binary main_call1_v1 main_call1_v11 main_call1_v16 (mulf : Comps → Comps → Comps),
    StableHlo.binary main_call1_v15 main_call1_v16 main_call1_v17 (subf : Comps → Comps → Comps),
    StableHlo.binary main_call1_v1 main_call1_v9 main_call1_v18 (mulf : Comps → Comps → Comps),
    StableHlo.binary main_call1_v3 main_call1_v7 main_call1_v19 (mulf : Comps → Comps → Comps),
    StableHlo.binary main_call1_v18 main_call1_v19 main_call1_v20 (subf : Comps → Comps → Comps),
    StableHlo.unary main_call1_v14 main_call1_v21 (broadcastInDim S1x4096x20x3 ![1, 2, 3] bcast_S4096x20x3_S1x4096x20x3_1_2_3 : Comps → Lifted),
    StableHlo.unary main_call1_v17 main_call1_v22 (broadcastInDim S1x4096x20x3 ![1, 2, 3] bcast_S4096x20x3_S1x4096x20x3_1_2_3 : Comps → Lifted),
    StableHlo.unary main_call1_v20 main_call1_v23 (broadcastInDim S1x4096x20x3 ![1, 2, 3] bcast_S4096x20x3_S1x4096x20x3_1_2_3 : Comps → Lifted) ]

/-- The operations of call 1 that join the components. -/
def joins1 : List (HloOp τ sig (Elt Ideal)) :=
  [ StableHlo.nary ![main_call1_v21, main_call1_v22, main_call1_v23] main_call1_v24 (fun u => (concatenate S3x4096x20x3 0 [⟨S1x4096x20x3, (u 0 : Lifted)⟩, ⟨S1x4096x20x3, (u 1 : Lifted)⟩, ⟨S1x4096x20x3, (u 2 : Lifted)⟩] concatenates_S1x4096x20x3_S1x4096x20x3_S1x4096x20x3_S3x4096x20x3_d0 : FVec Ideal S3x4096x20x3 .f32)),
    StableHlo.unary main_call1_v24 main_v104 ((transpose S4096x20x3x3 [1, 2, 3, 0] · transposes_S3x4096x20x3_S4096x20x3x3_1_2_3_0) : FVec Ideal S3x4096x20x3 .f32 → Vecs) ]

theorem c1_eq : (c1 : List (HloOp τ sig (Elt Ideal))) = comps1 ++ joins1 := rfl

theorem joins1_0 (q : Fin 4096) (n : Fin 20) (a : Fin 3) : (StableHlo.after joins1 V main_v104 : Vecs) (ix4 q n a 0) = (V main_call1_v21 : Lifted) (ix4 0 q n a) := by
  unfold joins1
  after_results
  pointwise

theorem comps1_0 {E N : Vecs} (hE : V main_v103 = E) (hN : V main_v68 = N) (q : Fin 4096) (n : Fin 20) (a : Fin 3) :
    (StableHlo.after comps1 V main_call1_v21 : Lifted) (ix4 0 q n a) = cross (fun k => E (ix4 q n a k)) (fun k => N (ix4 q n a k)) 0 := by
  subst hE hN
  unfold comps1
  after_reads_at
  rfl

theorem joins1_1 (q : Fin 4096) (n : Fin 20) (a : Fin 3) : (StableHlo.after joins1 V main_v104 : Vecs) (ix4 q n a 1) = (V main_call1_v22 : Lifted) (ix4 0 q n a) := by
  unfold joins1
  after_results
  pointwise

theorem comps1_1 {E N : Vecs} (hE : V main_v103 = E) (hN : V main_v68 = N) (q : Fin 4096) (n : Fin 20) (a : Fin 3) :
    (StableHlo.after comps1 V main_call1_v22 : Lifted) (ix4 0 q n a) = cross (fun k => E (ix4 q n a k)) (fun k => N (ix4 q n a k)) 1 := by
  subst hE hN
  unfold comps1
  after_reads_at
  rfl

theorem joins1_2 (q : Fin 4096) (n : Fin 20) (a : Fin 3) : (StableHlo.after joins1 V main_v104 : Vecs) (ix4 q n a 2) = (V main_call1_v23 : Lifted) (ix4 0 q n a) := by
  unfold joins1
  after_results
  pointwise

theorem comps1_2 {E N : Vecs} (hE : V main_v103 = E) (hN : V main_v68 = N) (q : Fin 4096) (n : Fin 20) (a : Fin 3) :
    (StableHlo.after comps1 V main_call1_v23 : Lifted) (ix4 0 q n a) = cross (fun k => E (ix4 q n a k)) (fun k => N (ix4 q n a k)) 2 := by
  subst hE hN
  unfold comps1
  after_reads_at
  rfl

/-- Call 1 leaves the cross products. -/
theorem cross1 {E N : Vecs} (hE : V main_v103 = E) (hN : V main_v68 = N) (q : Fin 4096) (n : Fin 20) (a k : Fin 3) :
    (StableHlo.after c1 V main_v104 : Vecs) (ix4 q n a k) = cross (fun k => E (ix4 q n a k)) (fun k => N (ix4 q n a k)) k := by
  rw [c1_eq, StableHlo.after_append]
  revert k
  rw [Fin.forall_fin_succ, Fin.forall_fin_two]
  exact ⟨(joins1_0 _ q n a).trans (comps1_0 V hE hN q n a), (joins1_1 _ q n a).trans (comps1_1 V hE hN q n a), (joins1_2 _ q n a).trans (comps1_2 V hE hN q n a)⟩

/-- The operations of call 2 that compute the components. -/
def comps2 : List (HloOp τ sig (Elt Ideal)) :=
  [ StableHlo.unary main_v133 main_call2_v0 ((extractStridedSlice S4096x20x3x1 ![0, 0, 0, 0] · slices_S4096x20x3x3_S4096x20x3x1_0_0_0_0) : Vecs → FVec Ideal S4096x20x3x1 .f32),
    StableHlo.reshape main_call2_v0 main_call2_v1 (rfl : (.f32 : EltTy) = .f32) shapeCasts_S4096x20x3x1_S4096x20x3,
    StableHlo.unary main_v133 main_call2_v2 ((extractStridedSlice S4096x20x3x1 ![0, 0, 0, 1] · slices_S4096x20x3x3_S4096x20x3x1_0_0_0_1) : Vecs → FVec Ideal S4096x20x3x1 .f32),
    StableHlo.reshape main_call2_v2 main_call2_v3 (rfl : (.f32 : EltTy) = .f32) shapeCasts_S4096x20x3x1_S4096x20x3,
    StableHlo.unary main_v133 main_call2_v4 ((extractStridedSlice S4096x20x3x1 ![0, 0, 0, 2] · slices_S4096x20x3x3_S4096x20x3x1_0_0_0_2) : Vecs → FVec Ideal S4096x20x3x1 .f32),
    StableHlo.reshape main_call2_v4 main_call2_v5 (rfl : (.f32 : EltTy) = .f32) shapeCasts_S4096x20x3x1_S4096x20x3,
    StableHlo.unary main_v68 main_call2_v6 ((extractStridedSlice S4096x20x3x1 ![0, 0, 0, 0] · slices_S4096x20x3x3_S4096x20x3x1_0_0_0_0) : Vecs → FVec Ideal S4096x20x3x1 .f32),
    StableHlo.reshape main_call2_v6 main_call2_v7 (rfl : (.f32 : EltTy) = .f32) shapeCasts_S4096x20x3x1_S4096x20x3,
    StableHlo.unary main_v68 main_call2_v8 ((extractStridedSlice S4096x20x3x1 ![0, 0, 0, 1] · slices_S4096x20x3x3_S4096x20x3x1_0_0_0_1) : Vecs → FVec Ideal S4096x20x3x1 .f32),
    StableHlo.reshape main_call2_v8 main_call2_v9 (rfl : (.f32 : EltTy) = .f32) shapeCasts_S4096x20x3x1_S4096x20x3,
    StableHlo.unary main_v68 main_call2_v10 ((extractStridedSlice S4096x20x3x1 ![0, 0, 0, 2] · slices_S4096x20x3x3_S4096x20x3x1_0_0_0_2) : Vecs → FVec Ideal S4096x20x3x1 .f32),
    StableHlo.reshape main_call2_v10 main_call2_v11 (rfl : (.f32 : EltTy) = .f32) shapeCasts_S4096x20x3x1_S4096x20x3,
    StableHlo.binary main_call2_v3 main_call2_v11 main_call2_v12 (mulf : Comps → Comps → Comps),
    StableHlo.binary main_call2_v5 main_call2_v9 main_call2_v13 (mulf : Comps → Comps → Comps),
    StableHlo.binary main_call2_v12 main_call2_v13 main_call2_v14 (subf : Comps → Comps → Comps),
    StableHlo.binary main_call2_v5 main_call2_v7 main_call2_v15 (mulf : Comps → Comps → Comps),
    StableHlo.binary main_call2_v1 main_call2_v11 main_call2_v16 (mulf : Comps → Comps → Comps),
    StableHlo.binary main_call2_v15 main_call2_v16 main_call2_v17 (subf : Comps → Comps → Comps),
    StableHlo.binary main_call2_v1 main_call2_v9 main_call2_v18 (mulf : Comps → Comps → Comps),
    StableHlo.binary main_call2_v3 main_call2_v7 main_call2_v19 (mulf : Comps → Comps → Comps),
    StableHlo.binary main_call2_v18 main_call2_v19 main_call2_v20 (subf : Comps → Comps → Comps),
    StableHlo.unary main_call2_v14 main_call2_v21 (broadcastInDim S1x4096x20x3 ![1, 2, 3] bcast_S4096x20x3_S1x4096x20x3_1_2_3 : Comps → Lifted),
    StableHlo.unary main_call2_v17 main_call2_v22 (broadcastInDim S1x4096x20x3 ![1, 2, 3] bcast_S4096x20x3_S1x4096x20x3_1_2_3 : Comps → Lifted),
    StableHlo.unary main_call2_v20 main_call2_v23 (broadcastInDim S1x4096x20x3 ![1, 2, 3] bcast_S4096x20x3_S1x4096x20x3_1_2_3 : Comps → Lifted) ]

/-- The operations of call 2 that join the components. -/
def joins2 : List (HloOp τ sig (Elt Ideal)) :=
  [ StableHlo.nary ![main_call2_v21, main_call2_v22, main_call2_v23] main_call2_v24 (fun u => (concatenate S3x4096x20x3 0 [⟨S1x4096x20x3, (u 0 : Lifted)⟩, ⟨S1x4096x20x3, (u 1 : Lifted)⟩, ⟨S1x4096x20x3, (u 2 : Lifted)⟩] concatenates_S1x4096x20x3_S1x4096x20x3_S1x4096x20x3_S3x4096x20x3_d0 : FVec Ideal S3x4096x20x3 .f32)),
    StableHlo.unary main_call2_v24 main_v134 ((transpose S4096x20x3x3 [1, 2, 3, 0] · transposes_S3x4096x20x3_S4096x20x3x3_1_2_3_0) : FVec Ideal S3x4096x20x3 .f32 → Vecs) ]

theorem c2_eq : (c2 : List (HloOp τ sig (Elt Ideal))) = comps2 ++ joins2 := rfl

theorem joins2_0 (q : Fin 4096) (n : Fin 20) (a : Fin 3) : (StableHlo.after joins2 V main_v134 : Vecs) (ix4 q n a 0) = (V main_call2_v21 : Lifted) (ix4 0 q n a) := by
  unfold joins2
  after_results
  pointwise

theorem comps2_0 {E N : Vecs} (hE : V main_v133 = E) (hN : V main_v68 = N) (q : Fin 4096) (n : Fin 20) (a : Fin 3) :
    (StableHlo.after comps2 V main_call2_v21 : Lifted) (ix4 0 q n a) = cross (fun k => E (ix4 q n a k)) (fun k => N (ix4 q n a k)) 0 := by
  subst hE hN
  unfold comps2
  after_reads_at
  rfl

theorem joins2_1 (q : Fin 4096) (n : Fin 20) (a : Fin 3) : (StableHlo.after joins2 V main_v134 : Vecs) (ix4 q n a 1) = (V main_call2_v22 : Lifted) (ix4 0 q n a) := by
  unfold joins2
  after_results
  pointwise

theorem comps2_1 {E N : Vecs} (hE : V main_v133 = E) (hN : V main_v68 = N) (q : Fin 4096) (n : Fin 20) (a : Fin 3) :
    (StableHlo.after comps2 V main_call2_v22 : Lifted) (ix4 0 q n a) = cross (fun k => E (ix4 q n a k)) (fun k => N (ix4 q n a k)) 1 := by
  subst hE hN
  unfold comps2
  after_reads_at
  rfl

theorem joins2_2 (q : Fin 4096) (n : Fin 20) (a : Fin 3) : (StableHlo.after joins2 V main_v134 : Vecs) (ix4 q n a 2) = (V main_call2_v23 : Lifted) (ix4 0 q n a) := by
  unfold joins2
  after_results
  pointwise

theorem comps2_2 {E N : Vecs} (hE : V main_v133 = E) (hN : V main_v68 = N) (q : Fin 4096) (n : Fin 20) (a : Fin 3) :
    (StableHlo.after comps2 V main_call2_v23 : Lifted) (ix4 0 q n a) = cross (fun k => E (ix4 q n a k)) (fun k => N (ix4 q n a k)) 2 := by
  subst hE hN
  unfold comps2
  after_reads_at
  rfl

/-- Call 2 leaves the cross products. -/
theorem cross2 {E N : Vecs} (hE : V main_v133 = E) (hN : V main_v68 = N) (q : Fin 4096) (n : Fin 20) (a k : Fin 3) :
    (StableHlo.after c2 V main_v134 : Vecs) (ix4 q n a k) = cross (fun k => E (ix4 q n a k)) (fun k => N (ix4 q n a k)) k := by
  rw [c2_eq, StableHlo.after_append]
  revert k
  rw [Fin.forall_fin_succ, Fin.forall_fin_two]
  exact ⟨(joins2_0 _ q n a).trans (comps2_0 V hE hN q n a), (joins2_1 _ q n a).trans (comps2_1 V hE hN q n a), (joins2_2 _ q n a).trans (comps2_2 V hE hN q n a)⟩

end Cert.Proof.Value

end
-- ==== Proof.RefRead.lean ====
/-
  What the reference computes: the faces' edges, the neighbours' edges, and from them the crossings and the loss.
-/
module

public import proofs.«01_k».proof.Proof.Tally
public import proofs.«01_k».proof.Proof.Crosses

@[expose] public section

set_option maxRecDepth 16384

noncomputable section

namespace Cert.Proof.Value

open Cert.ReferenceIdeal Cert.ReferenceIdeal.Gen Cert.Proof.Ref
open Idealize.ShloMosaic Idealize.ShloMosaic.TcCoe

variable (V : Valuation τ sig (Elt Ideal))

theorem table (a : Fin 3) : (fun i => lit0 (S3.rowMajor i) : IVec S3 32) (ix1 a) = BitVec.ofNat 32 (next a).val := by
  revert a
  decide

theorem r0_edges (h : Named (V main_arg1)) (q : Fin 4096) (a k : Fin 3) :
    (StableHlo.after r0 V main_v39 : FVec Ideal S4096x3x3 .f32) (ix3 q a k) = edge (V main_arg0) (V main_arg1) q a k := by
  unfold r0
  after_results_simp
  exact edges_eq _ _ h _ table _ _ _ _ q a k

theorem r0_table : (StableHlo.after r0 V main_c : IVec S3 32) = fun i => lit0 (S3.rowMajor i) := by
  unfold r0
  after_results_simp
  rfl

theorem r0_less : (StableHlo.after r0 V main_v41 : IVec S4096x20 1) =
    cmpi .slt (StableHlo.after r0 V main_indices : IVec S4096x20 32) (broadcastInDim S4096x20 ![] bcast_S_S4096x20 (constantI S_ 32 0#32)) := by
  unfold r0
  after_results_simp

theorem r0_moved : (StableHlo.after r0 V main_v43 : IVec S4096x20 32) =
    addi (StableHlo.after r0 V main_indices : IVec S4096x20 32) (broadcastInDim S4096x20 ![] bcast_S_S4096x20 (constantI S_ 32 4096#32)) := by
  unfold r0
  after_results_simp

theorem r1a_edges {v : Vertices} {f : Faces} {I : IVec S4096x20 32} (h : Named f) (hI : ∀ x, (I x).toNat < 4096) (hv : V main_arg0 = v) (hf : V main_arg1 = f)
    (hT : V main_c = fun i => lit0 (S3.rowMajor i)) (hi : V main_indices = I)
    (h41 : V main_v41 = cmpi .slt I (broadcastInDim S4096x20 ![] bcast_S_S4096x20 (constantI S_ 32 0#32)))
    (h43 : V main_v43 = addi I (broadcastInDim S4096x20 ![] bcast_S_S4096x20 (constantI S_ 32 4096#32))) (q : Fin 4096) (n : Fin 20) (a k : Fin 3) :
    (StableHlo.after r1a V main_v68 : Vecs) (ix4 q n a k) = edge v f (row 4095 (I (ix2 q n))) a k := by
  unfold r1a
  after_results_simp
  rw [hv, hf, hT, hi, h41, h43]
  exact nbr_edges_eq _ _ h _ hI _ table _ _ _ _ _ _ q n a k

theorem r1a_own (q : Fin 4096) (n : Fin 20) (a k : Fin 3) :
    (StableHlo.after r1a V main_v73 : Vecs) (ix4 q n a k) = (V main_v39 : FVec Ideal S4096x3x3 .f32) (ix3 q 0 k) := by
  unfold r1a
  after_reads_at

theorem r1a_zero (q : Fin 4096) : (StableHlo.after r1a V main_v69 : FVec Ideal S4096 .f32) (ix1 q) = (0 : EReal) := by
  unfold r1a
  after_reads_at

theorem r2a_own (q : Fin 4096) (n : Fin 20) (a k : Fin 3) :
    (StableHlo.after r2a V main_v103 : Vecs) (ix4 q n a k) = (V main_v39 : FVec Ideal S4096x3x3 .f32) (ix3 q 1 k) := by
  unfold r2a
  after_reads_at

theorem r2b_own (q : Fin 4096) (n : Fin 20) (a k : Fin 3) :
    (StableHlo.after r2b V main_v133 : Vecs) (ix4 q n a k) = (V main_v39 : FVec Ideal S4096x3x3 .f32) (ix3 q 2 k) := by
  unfold r2b
  after_reads_at

/-- The own edges, for every neighbour. -/
abbrev owns (X : FVec Ideal S4096x3x3 .f32) : Vecs :=
  broadcastInDim S4096x20x3x3 ![0, 1, 2, 3] bcast_S4096x1x3x3_S4096x20x3x3_0_1_2_3 (broadcastInDim S4096x1x3x3 ![0, 2, 3] bcast_S4096x3x3_S4096x1x3x3_0_2_3 X)

theorem owns_eq (X : FVec Ideal S4096x3x3 .f32) (q : Fin 4096) (n : Fin 20) (a k : Fin 3) : owns X (ix4 q n a k) = X (ix3 q a k) := by
  pointwise

/-- The number of crossings, as words and then as numbers. -/
abbrev tallied (C N E : Vecs) (X : FVec Ideal S4096x3x3 .f32) : FVec Ideal S4096 .f32 :=
  sitofp .f32 (Host.reduce IntOp.addi (extui 32 (mask C N E (owns X) reducesTo_S4096x20x3x3_S4096x20x3_d3 h_S_ bcast_S_S4096x20x3) natLt_1_32)
    (constantI S_ 32 0#32) reducesTo_S4096x20x3_S4096_d1_2 h_S_)

theorem count0 : (StableHlo.after r2a (StableHlo.after r1b V) main_v99 : FVec Ideal S4096 .f32) =
    addf (V main_v69 : FVec Ideal S4096 .f32) (tallied (V main_v74) (V main_v68) (V main_v73) (V main_v39)) := by
  unfold r2a r1b
  after_results_simp

theorem count1 : (StableHlo.after r2b V main_v129 : FVec Ideal S4096 .f32) =
    addf (V main_v99 : FVec Ideal S4096 .f32) (tallied (V main_v104) (V main_v68) (V main_v103) (V main_v39)) := by
  unfold r2b
  after_results_simp

theorem count2 : (StableHlo.after r3 (StableHlo.after r2c V) main_v161 : FVec Ideal S_ .f32) =
    Host.reduceAdd (mulf (V main_arg2 : FVec Ideal S4096 .f32) (addf (V main_v129 : FVec Ideal S4096 .f32) (tallied (V main_v134) (V main_v68) (V main_v133) (V main_v39))))
      (constant S_ .f32 0x00000000#32) reducesTo_S4096_S_d0 h_S_ := by
  unfold r3 r2c
  after_results_simp

end Cert.Proof.Value

end
-- ==== Proof.RefLoss.lean ====
/-
  The reference's loss: the crossings with the neighbours that its indices name, weighted and added up.
-/
module

public import proofs.«01_k».proof.Proof.RefRead

@[expose] public section

set_option maxRecDepth 16384

noncomputable section

namespace Cert.Proof.Value

open Cert.ReferenceIdeal Cert.ReferenceIdeal.Gen Cert.Proof.Ref
open Idealize.ShloMosaic Idealize.ShloMosaic.TcCoe

/-- The arrays that the operations after the gathers read and none of them writes. -/
structure Known (v : Vertices) (f : Faces) (p : FVec Ideal S4096 .f32) (w : Fin 4096 → Fin 20 → Fin 4096) (U : Valuation τ sig (Elt Ideal)) : Prop where
  probs : U main_arg2 = p
  own : ∀ q a k, (U main_v39 : FVec Ideal S4096x3x3 .f32) (ix3 q a k) = edge v f q a k
  nbr : ∀ q n a k, (U main_v68 : Vecs) (ix4 q n a k) = edge v f (w q n) a k

variable {v : Vertices} {f : Faces} {p : FVec Ideal S4096 .f32} {w : Fin 4096 → Fin 20 → Fin 4096} {U : Valuation τ sig (Elt Ideal)}

theorem Known.after (h : Known v f p w U) {l : List (HloOp τ sig (Elt Ideal))} {outs : List (Ref sig .tc)}
    (hl : l.Forall fun op => op.writes ⊆ (outs.map (Proc.devRef (τ := τ) .tc)).toFinset)
    (h2 : main_arg2 ∉ outs) (h39 : main_v39 ∉ outs) (h68 : main_v68 ∉ outs) : Known v f p w (StableHlo.after l U) where
  probs := (StableHlo.after_of_writes_sub l U hl h2).trans h.probs
  own q a k := (congrFun (StableHlo.after_of_writes_sub l U hl h39) _).trans (h.own q a k)
  nbr q n a k := (congrFun (StableHlo.after_of_writes_sub l U hl h68) _).trans (h.nbr q n a k)

/-- How often edge `j` of face `q` is met by its neighbours' edges. -/
def met (v : Vertices) (f : Faces) (w : Fin 4096 → Fin 20 → Fin 4096) (j : Fin 3) (q : Fin 4096) : ℕ := ∑ n, count v f q (w q n) j

theorem Known.tallied (h : Known v f p w U) (j : Fin 3) {C E : Vecs} (hE : ∀ q n a k, E (ix4 q n a k) = edge v f q j k)
    (hC : ∀ q n a k, C (ix4 q n a k) = cross (fun k => E (ix4 q n a k)) (fun k => (U main_v68 : Vecs) (ix4 q n a k)) k) (q : Fin 4096) :
    tallied C (U main_v68) E (U main_v39) (ix1 q) = ((met v f w j q : ℝ) : EReal) :=
  tally (fun n a => meets (edge v f q j) (edge v f (w q n) a) (edge v f q a)) q (fun n a => mask_eq _ _ _
    (fun k => by rw [hC]; simp only [hE, h.nbr]) (fun k => h.nbr q n a k) (fun k => hE q n a k) (fun k => (owns_eq _ q n a k).trans (h.own q a k))) _ _ _

theorem step0 (h : Known v f p w U) (h0 : ∀ q, (U main_v69 : FVec Ideal S4096 .f32) (ix1 q) = (0 : EReal))
    (he : ∀ q n a k, (U main_v73 : Vecs) (ix4 q n a k) = edge v f q 0 k) (q : Fin 4096) :
    (StableHlo.after r2a (StableHlo.after r1b (StableHlo.after c0 U)) main_v99 : FVec Ideal S4096 .f32) (ix1 q) = ((met v f w 0 q : ℝ) : EReal) := by
  have k := h.after c0_writes (by decide) (by decide) (by decide)
  have e : StableHlo.after c0 U main_v73 = U main_v73 := StableHlo.after_of_writes_sub c0 U c0_writes (by decide)
  have m : StableHlo.after c0 U main_v68 = U main_v68 := StableHlo.after_of_writes_sub c0 U c0_writes (by decide)
  have z : StableHlo.after c0 U main_v69 = U main_v69 := StableHlo.after_of_writes_sub c0 U c0_writes (by decide)
  have t := k.tallied 0 (C := StableHlo.after c0 U main_v74) (E := StableHlo.after c0 U main_v73) (fun q n a k => (congrFun e _).trans (he q n a k))
    (fun q n a k => cross0 U e.symm m.symm q n a k) q
  rw [count0]
  refine Eq.trans ?_ (zero_add ((met v f w 0 q : ℝ) : EReal))
  exact congrArg₂ (fun x y : EReal => x + y) ((congrFun z _).trans (h0 q)) t

theorem step1 (h : Known v f p w U) (h0 : ∀ q, (U main_v99 : FVec Ideal S4096 .f32) (ix1 q) = ((met v f w 0 q : ℝ) : EReal))
    (he : ∀ q n a k, (U main_v103 : Vecs) (ix4 q n a k) = edge v f q 1 k) (q : Fin 4096) :
    (StableHlo.after r2b (StableHlo.after c1 U) main_v129 : FVec Ideal S4096 .f32) (ix1 q) = ((met v f w 0 q : ℝ) : EReal) + ((met v f w 1 q : ℝ) : EReal) := by
  have k := h.after c1_writes (by decide) (by decide) (by decide)
  have e : StableHlo.after c1 U main_v103 = U main_v103 := StableHlo.after_of_writes_sub c1 U c1_writes (by decide)
  have m : StableHlo.after c1 U main_v68 = U main_v68 := StableHlo.after_of_writes_sub c1 U c1_writes (by decide)
  have z : StableHlo.after c1 U main_v99 = U main_v99 := StableHlo.after_of_writes_sub c1 U c1_writes (by decide)
  have t := k.tallied 1 (C := StableHlo.after c1 U main_v104) (E := StableHlo.after c1 U main_v103) (fun q n a k => (congrFun e _).trans (he q n a k))
    (fun q n a k => cross1 U e.symm m.symm q n a k) q
  rw [count1]
  exact congrArg₂ (fun x y : EReal => x + y) ((congrFun z _).trans (h0 q)) t

theorem total_eq (q : Fin 4096) : (((met v f w 0 q : ℝ) : EReal) + ((met v f w 1 q : ℝ) : EReal)) + ((met v f w 2 q : ℝ) : EReal) = ((total v f q (w q) : ℝ) : EReal) := by
  have e : total v f q (w q) = met v f w 0 q + met v f w 1 q + met v f w 2 q := by
    unfold total met
    rw [Finset.sum_comm, Fin.sum_univ_three]
  rw [e]
  simp only [Nat.cast_add, EReal.coe_add]

theorem step2 (h : Known v f p w U) (h0 : ∀ q, (U main_v129 : FVec Ideal S4096 .f32) (ix1 q) = ((met v f w 0 q : ℝ) : EReal) + ((met v f w 1 q : ℝ) : EReal))
    (he : ∀ q n a k, (U main_v133 : Vecs) (ix4 q n a k) = edge v f q 2 k) (j : S_.Idx) :
    (StableHlo.after r3 (StableHlo.after r2c (StableHlo.after c2 U)) main_v161 : FVec Ideal S_ .f32) j = lossOf v f p w := by
  have k := h.after c2_writes (by decide) (by decide) (by decide)
  have e : StableHlo.after c2 U main_v133 = U main_v133 := StableHlo.after_of_writes_sub c2 U c2_writes (by decide)
  have m : StableHlo.after c2 U main_v68 = U main_v68 := StableHlo.after_of_writes_sub c2 U c2_writes (by decide)
  have z : StableHlo.after c2 U main_v129 = U main_v129 := StableHlo.after_of_writes_sub c2 U c2_writes (by decide)
  have t := k.tallied 2 (C := StableHlo.after c2 U main_v134) (E := StableHlo.after c2 U main_v133) (fun q n a k => (congrFun e _).trans (he q n a k))
    (fun q n a k => cross2 U e.symm m.symm q n a k)
  rw [count2, ValueIdx.hostReduceAdd_apply, Ideal.hostReduceAdd_r1_a0]
  show Ideal.ofBits .f32 0x00000000#32 + _ = _
  rw [Ideal.ofBits_zero_f32, zero_add]
  refine Finset.sum_congr rfl fun q _ => ?_
  refine congrArg₂ (fun x y : EReal => x * y) (congrFun k.probs _) ?_
  refine Eq.trans ?_ (total_eq q)
  exact congrArg₂ (fun x y : EReal => x + y) ((congrFun z _).trans (h0 q)) (t q)

/-- The loss from the arrays before the first cross product. -/
theorem loss_from (h : Known v f p w U) (h0 : ∀ q, (U main_v69 : FVec Ideal S4096 .f32) (ix1 q) = (0 : EReal))
    (he : ∀ q n a k, (U main_v73 : Vecs) (ix4 q n a k) = edge v f q 0 k) (j : S_.Idx) :
    (StableHlo.after r3 (StableHlo.after r2c (StableHlo.after c2 (StableHlo.after r2b (StableHlo.after c1 (StableHlo.after r2a (StableHlo.after r1b (StableHlo.after c0 U))))))) main_v161 : FVec Ideal S_ .f32) j
      = lossOf v f p w := by
  have k1 := (h.after c0_writes (by decide) (by decide) (by decide)).after r1b_writes (by decide) (by decide) (by decide)
  have k2 := k1.after r2a_writes (by decide) (by decide) (by decide)
  have k3 := k2.after c1_writes (by decide) (by decide) (by decide)
  have k4 := k3.after r2b_writes (by decide) (by decide) (by decide)
  exact step2 k4 (step1 k2 (step0 h h0 he) fun q n a k => (r2a_own _ q n a k).trans (k1.own q 1 k)) (fun q n a k => (r2b_own _ q n a k).trans (k3.own q 2 k)) j

/-- The faces that the reference's indices name. -/
def named (I : IVec S4096x20 32) (q : Fin 4096) (n : Fin 20) : Fin 4096 := row 4095 (I (ix2 q n))

/-- The reference's loss, from its arguments and its indices. -/
theorem loss_eq (V : Valuation τ sig (Elt Ideal)) (hf : Named (V main_arg1)) (hI : ∀ x, ((StableHlo.after r0 V main_indices : IVec S4096x20 32) x).toNat < 4096) (j : S_.Idx) :
    (StableHlo.after r3 (StableHlo.after r2c (StableHlo.after c2 (StableHlo.after r2b (StableHlo.after c1 (StableHlo.after r2a (StableHlo.after r1b (StableHlo.after c0
      (StableHlo.after r1a (StableHlo.after r0 V))))))))) main_v161 : FVec Ideal S_ .f32) j
      = lossOf (V main_arg0) (V main_arg1) (V main_arg2) (named (StableHlo.after r0 V main_indices)) := by
  have a0 : StableHlo.after r0 V main_arg0 = V main_arg0 := StableHlo.after_of_writes_sub r0 V r0_writes (by decide)
  have a1 : StableHlo.after r0 V main_arg1 = V main_arg1 := StableHlo.after_of_writes_sub r0 V r0_writes (by decide)
  have a2 : StableHlo.after r0 V main_arg2 = V main_arg2 := StableHlo.after_of_writes_sub r0 V r0_writes (by decide)
  have e39 : StableHlo.after r1a (StableHlo.after r0 V) main_v39 = StableHlo.after r0 V main_v39 := StableHlo.after_of_writes_sub r1a _ r1a_writes (by decide)
  refine loss_from ⟨(StableHlo.after_of_writes_sub r1a _ r1a_writes (by decide)).trans a2, fun q a k => (congrFun e39 _).trans (r0_edges V hf q a k), fun q n a k => ?_⟩
    (r1a_zero _) (fun q n a k => (r1a_own _ q n a k).trans (r0_edges V hf q 0 k)) j
  exact r1a_edges _ hf hI a0 a1 (r0_table V) rfl (r0_less V) (r0_moved V) q n a k

end Cert.Proof.Value

end
-- ==== Proof.Apart.lean ====
/-
  The scores the reference ranks faces by: the distances' negatives.
-/
module

public import proofs.«01_k».proof.Proof.Ranks

@[expose] public section

set_option maxRecDepth 16384

noncomputable section

namespace Cert.Proof.Value

open Idealize.ShloMosaic

/-- The scores of all pairs of faces with centres `C`, as the programs compute them. -/
abbrev scoresOf (C : FVec Ideal ⟨2, ![4096, 3]⟩ .f32) (ha : (⟨2, ![4096, 3]⟩ : Shape).BroadcastsInDim ⟨3, ![4096, 1, 3]⟩ ![0, 2])
    (hb : (⟨2, ![4096, 3]⟩ : Shape).BroadcastsInDim ⟨3, ![1, 4096, 3]⟩ ![1, 2])
    (hc : (⟨3, ![4096, 1, 3]⟩ : Shape).BroadcastsInDim ⟨3, ![4096, 4096, 3]⟩ ![0, 1, 2])
    (hd : (⟨3, ![1, 4096, 3]⟩ : Shape).BroadcastsInDim ⟨3, ![4096, 4096, 3]⟩ ![0, 1, 2])
    (hr : (⟨3, ![4096, 4096, 3]⟩ : Shape).ReducesTo [2] ⟨2, ![4096, 4096]⟩) (hs : 0 < (⟨0, ![]⟩ : Shape).numel) : Scores :=
  Host.negf (F := Ideal) (φ := .f32) (Host.reduceAdd (F := Ideal) (t := ⟨2, ![4096, 4096]⟩) (axes := [2])
    (mulf (subf (broadcastInDim ⟨3, ![4096, 4096, 3]⟩ ![0, 1, 2] hc (broadcastInDim ⟨3, ![4096, 1, 3]⟩ ![0, 2] ha C))
        (broadcastInDim ⟨3, ![4096, 4096, 3]⟩ ![0, 1, 2] hd (broadcastInDim ⟨3, ![1, 4096, 3]⟩ ![1, 2] hb C)))
      (subf (broadcastInDim ⟨3, ![4096, 4096, 3]⟩ ![0, 1, 2] hc (broadcastInDim ⟨3, ![4096, 1, 3]⟩ ![0, 2] ha C))
        (broadcastInDim ⟨3, ![4096, 4096, 3]⟩ ![0, 1, 2] hd (broadcastInDim ⟨3, ![1, 4096, 3]⟩ ![1, 2] hb C))))
    (constant ⟨0, ![]⟩ .f32 0x00000000#32) hr hs)

theorem gap_at (C : FVec Ideal ⟨2, ![4096, 3]⟩ .f32) (ha) (hb) (hc) (hd) (q w : Fin 4096) (k : Fin 3) :
    (subf (F := Ideal) (φ := .f32) (broadcastInDim ⟨3, ![4096, 4096, 3]⟩ ![0, 1, 2] hc (broadcastInDim ⟨3, ![4096, 1, 3]⟩ ![0, 2] ha C))
        (broadcastInDim ⟨3, ![4096, 4096, 3]⟩ ![0, 1, 2] hd (broadcastInDim ⟨3, ![1, 4096, 3]⟩ ![1, 2] hb C)) (ix3 q w k) : EReal)
      = (C (ix2 q k) : EReal) - C (ix2 w k) := by
  pointwise

theorem scores_eq {C : FVec Ideal ⟨2, ![4096, 3]⟩ .f32} {v : Vertices} {f : Faces} (h : ∀ q k, C (ix2 q k) = centre v f q k)
    (ha) (hb) (hc) (hd) (hr) (hs) (q w : Fin 4096) : scoresOf C ha hb hc hd hr hs (ix2 q w) = (-(apart v f q w) : EReal) := by
  have hG := gap_at C ha hb hc hd q w
  unfold scoresOf
  generalize subf (F := Ideal) (φ := .f32) (broadcastInDim ⟨3, ![4096, 4096, 3]⟩ ![0, 1, 2] hc (broadcastInDim ⟨3, ![4096, 1, 3]⟩ ![0, 2] ha C))
        (broadcastInDim ⟨3, ![4096, 4096, 3]⟩ ![0, 1, 2] hd (broadcastInDim ⟨3, ![1, 4096, 3]⟩ ![1, 2] hb C)) = G at hG ⊢
  refine congrArg (fun x : EReal => -x) ?_
  unfold apart
  simp only [← h, ← hG]
  rw [ValueIdx.hostReduceAdd_apply, Ideal.hostReduceAdd_r3_a2]
  exact congrArg (· + _) Ideal.ofBits_zero_f32

end Cert.Proof.Value

end
-- ==== Proof.Same.lean ====
/-
  The kernel's program is the idealized one read at float words: the two texts are the same, so that a run of one is a run of the other.
-/
module

public import proofs.«01_k».proof.Proof.Gen.Kernel
public import proofs.«01_k».proof.Proof.Main

@[expose] public section

set_option maxRecDepth 16384

noncomputable section

namespace Cert.Proof.Same

open Idealize.ShloMosaic Idealize.ShloMosaic.TcCoe Idealize.SL.Sem
open Knn

variable {F : FTy → Type} [FloatOps F]

theorem main_part0_eq (d : Dev Cert.KernelIdeal.nD) : (Cert.Kernel.main_part0 (F := F) d : Step (F := F)) = Pipeline.chainK [StableHlo.seq opsA, Cert.KernelIdeal.sc.run d 0] (StableHlo.seq opsB1) := by
  rewrite [StableHlo.chainK_seq_cons, Pipeline.chainK_cons]
  chain_rfl

theorem knn_same : @Cert.Kernel.cc0_knn F _ Cert.Kernel.Gen.facts = @Cert.KernelIdeal.cc0_knn F _ Cert.KernelIdeal.Gen.facts := rfl

theorem crossing_same : @Cert.Kernel.cc1__crossing_body F _ Cert.Kernel.Gen.facts = @Cert.KernelIdeal.cc1__crossing_body F _ Cert.KernelIdeal.Gen.facts := rfl

theorem body_knn (c : Fin Cert.KernelIdeal.τ.nSC) (s : Fin Cert.KernelIdeal.τ.nSub) :
    Cert.Kernel.defs₀ (F := F) (.scVector c s) 0 () = SparseCore.onTile Cert.KernelIdeal.Facts₀.hcore0 Cert.KernelIdeal.Facts₀.hsub0 (fun c s => atTile (@Cert.Kernel.cc0_knn F _ Cert.Kernel.Gen.facts (crd c s))) PUnit.unit c s := rfl

theorem body_tile0 (c) (s) : Cert.Kernel.defs₀ (F := F) (.scVector c s) 0 () = Cert.KernelIdeal.defs₀ (F := F) (.scVector c s) 0 () := by
  rw [body_knn, knn_same]; rfl

theorem body_tile1 (c) (s) (a) : Cert.Kernel.defs₀ (F := F) (.scVector c s) 1 a = Cert.KernelIdeal.defs₀ (F := F) (.scVector c s) 1 a := by
  rfl

theorem all_labels {γ : Cert.KernelIdeal.Λ₀.Label → Sort*} (f g : (ℓ : Cert.KernelIdeal.Λ₀.Label) → Cert.KernelIdeal.Λ₀.Args ℓ → γ ℓ) (h0 : f 0 () = g 0 ()) (h1 : ∀ a, f 1 a = g 1 a) :
    ∀ ℓ a, f ℓ a = g ℓ a := by
  intro ℓ a
  rcases ℓ with ⟨n, hn⟩
  rcases n with _ | _ | n
  · exact h0
  · exact h1 a
  · exact absurd hn (Nat.not_lt.2 (Nat.le_add_left _ _))

theorem body_tc0 : Cert.Kernel.defs₀ (F := F) .tc 0 () = Cert.KernelIdeal.defs₀ (F := F) .tc 0 () := rfl

theorem body_tc1 : ∀ a, Cert.Kernel.defs₀ (F := F) .tc 1 a = Cert.KernelIdeal.defs₀ (F := F) .tc 1 a
  | (_, _) => rfl

theorem body_seq0 (c) : Cert.Kernel.defs₀ (F := F) (.scScalar c) 0 () = Cert.KernelIdeal.defs₀ (F := F) (.scScalar c) 0 () := rfl

theorem body_seq1 (c) (a) : Cert.Kernel.defs₀ (F := F) (.scScalar c) 1 a = Cert.KernelIdeal.defs₀ (F := F) (.scScalar c) 1 a := rfl

theorem bodies_same : Cert.Kernel.defs₀ (F := F) = Cert.KernelIdeal.defs₀ (F := F) := by
  funext p ℓ a
  rcases p with _ | c | ⟨c, s⟩
  · exact all_labels (Cert.Kernel.defs₀ (F := F) .tc) (Cert.KernelIdeal.defs₀ (F := F) .tc) body_tc0 body_tc1 ℓ a
  · exact all_labels (Cert.Kernel.defs₀ (F := F) (.scScalar c)) (Cert.KernelIdeal.defs₀ (F := F) (.scScalar c)) (body_seq0 c) (body_seq1 c) ℓ a
  · exact all_labels (Cert.Kernel.defs₀ (F := F) (.scVector c s)) (Cert.KernelIdeal.defs₀ (F := F) (.scVector c s)) (body_tile0 c s) (body_tile1 c s) ℓ a

theorem calls_same : Cert.Kernel.sc (F := F) = Cert.KernelIdeal.sc (F := F) := rfl

theorem defs_same : Cert.Kernel.defs (F := F) = Cert.KernelIdeal.defs (F := F) :=
  congrArg (fun D => (Cert.KernelIdeal.sc (F := F)).defs (Pipeline.defs Cert.KernelIdeal.pcfgs D)) bodies_same

theorem main_part1_eq (d : Dev Cert.KernelIdeal.nD) : (Cert.Kernel.main_part1 (F := F) d : Step (F := F))
    = Pipeline.chain [StableHlo.seq opsB2, Prog.lift (.customCall (SparseCore.inner (Pipeline.entry 0)) ()), StableHlo.seq opsC] := by
  rewrite [StableHlo.chain_seq_cons, Pipeline.chain_cons, StableHlo.chain_seq_cons]
  chain_rfl

theorem main_same : (Cert.Kernel.main (F := F) : Dev Cert.KernelIdeal.nD → Step (F := F)) = Cert.KernelIdeal.main := by
  funext d
  exact ((show (Cert.Kernel.main d : Step (F := F)) = ((Cert.Kernel.main_part0 (F := F) d : Step (F := F)) >>= fun _ => (Cert.Kernel.main_part1 (F := F) d : Step (F := F))) from rfl).trans
    (Pipeline.chain_of_window (main_part0_eq d) (main_part1_eq d))).trans (main_eq d).symm

theorem threads_same : Cert.Kernel.threads (F := F) = Cert.KernelIdeal.threads (F := F) :=
  congrArg (fun x => (Cert.KernelIdeal.sc (F := F)).threads x) main_same

/-- What a run of the idealized program ends with, a run of the kernel's ends with. -/
theorem run_same (s : MemSt Cert.KernelIdeal.nD Cert.KernelIdeal.τ Cert.KernelIdeal.sig (Elt F))
    (Q : PUnit × MemSt Cert.KernelIdeal.nD Cert.KernelIdeal.τ Cert.KernelIdeal.sig (Elt F) → Prop)
    (h : θ_run (Cert.KernelIdeal.defs (F := F)) (Cert.KernelIdeal.threads (F := F)) s Q) :
    θ_run (Cert.Kernel.defs (F := F)) (Cert.Kernel.threads (F := F)) s Q := by
  have e : θ_run (Cert.KernelIdeal.defs (F := F)) (Cert.KernelIdeal.threads (F := F)) = θ_run (Cert.Kernel.defs (F := F)) (Cert.Kernel.threads (F := F)) :=
    congr (congrArg θ_run defs_same.symm) threads_same.symm
  exact (congrArg (fun f => f s Q) e).mp h

end Cert.Proof.Same

end
-- ==== Proof.Frames.lean ====
/-
  The frames: each program runs to its end, leaves its arguments as they were, and every counter at zero.
-/
module

public import proofs.«01_k».proof.Proof.Ends
public import proofs.«01_k».proof.Proof.RefRun
public import proofs.«01_k».proof.Proof.Same

@[expose] public section

set_option maxRecDepth 16384

noncomputable section

namespace Cert.Proof

open Idealize.ShloMosaic Idealize.ShloMosaic.TcCoe Idealize.SL.Sem

instance rangeFacts : Cert.Pre_faces_in_range.Facts where
  bcast_S_S4096x3 := by decide

theorem andi_bool (p q : Bool) : IntOp.andi (BitVec.ofBool p) (BitVec.ofBool q) = BitVec.ofBool (p && q) := by
  cases p <;> cases q <;> decide
theorem bool_one (p : Bool) : (BitVec.ofBool p = 1#1) ↔ p = true := by cases p <;> decide

/-- A word between 0 and 10000 by signed comparison is below 10000 by its value. -/
theorem word_range (w : BitVec 32) (e : IntOp.andi (IntOp.cmpi .sge w 0#32) (IntOp.cmpi .slt w 10000#32) = 1#1) : w.toNat < 10000 := by
  simp only [IntOp.cmpi, andi_bool, bool_one, Bool.and_eq_true, BitVec.sle_eq_decide, BitVec.slt_eq_decide, decide_eq_true_eq,
    BitVec.toInt_eq_toNat_cond, BitVec.toNat_ofNat, Nat.reducePow, Nat.reduceMod] at e
  omega

theorem range_of_pre {F : FTy → Type} [FloatOps F] (a : FVec F Cert.KernelIdeal.S10000x3 .f32) (b : IVec Cert.KernelIdeal.S4096x3 32)
    (c : FVec F Cert.KernelIdeal.S4096 .f32) (h : Cert.Pre_faces_in_range.fn a b c = fun _ => 1#1) (x : Cert.KernelIdeal.S4096x3.Idx) : (b x).toNat < 10000 := by
  have e := congrFun h x
  simp only [Cert.Pre_faces_in_range.fn, andi, cmpi, broadcastInDim, constantI] at e
  exact word_range _ e

theorem frame_kernel_ideal : Cert.quiescent_KernelIdeal := fun m g hm =>
  (θ_run Cert.KernelIdeal.defs _ _).mono (fun _ h => ⟨fun c => (h.1 c).2, h.2⟩)
    (Knn.run_ends m g fun d x => range_of_pre _ _ _ (hm d) x)

theorem frame_kernel : Cert.quiescent_Kernel := fun m g hm =>
  Same.run_same _ _ ((θ_run Cert.KernelIdeal.defs _ _).mono (fun _ h => ⟨fun c => (h.1 c).2, h.2⟩)
    (Knn.run_ends (F := Bits) m g fun d x => range_of_pre _ _ _ (hm d) x))

theorem frame_reference : Cert.quiescent_ReferenceIdeal := fun m g _ =>
  (θ_run Cert.ReferenceIdeal.defs _ _).mono (fun _ h => ⟨fun c => (h.1 c).2, h.2⟩) (Ref.run_ends m g)

end Cert.Proof

end
-- ==== Proof.Gap.lean ====
/-
  What the precondition says: every corner names a vertex, and the twentieth nearest face is nearer than the twenty-first.
-/
module

public import proofs.«01_k».proof.Proof.Apart
public import proofs.«01_k».proof.Proof.Frames
public import proofs.«01_k».proof.Pre_nearest_set_apart
public import Idealize.ShloMosaic.Lib.Pointwise.Reshape

@[expose] public section

set_option maxRecDepth 16384

noncomputable section

namespace Cert.Proof

instance apartFacts : Cert.Pre_nearest_set_apart.Facts where
  bcast_S_S4096x3 := by decide
  bcast_S4096x3_S4096x3x1_0_1 := by decide
  reducesTo_S4096x3x3_S4096x3_d1 := by decide
  h_S_ := by decide
  bcast_S4096x3_S4096x1x3_0_2 := by decide
  bcast_S4096x3_S1x4096x3_1_2 := by decide
  bcast_S4096x1x3_S4096x4096x3_0_1_2 := by decide
  bcast_S1x4096x3_S4096x4096x3_0_1_2 := by decide
  reducesTo_S4096x4096x3_S4096x4096_d2 := by decide
  sliceFits_S4096x4096_S4096x21 := by decide
  slices_S4096x21_S4096x1_0_19 := by decide
  shapeCasts_S4096x1_S4096 := by decide
  slices_S4096x21_S4096x1_0_20 := by decide
  bcast_S4096_S4096x1_0 := by decide
  bcast_S4096x1_S4096x3_0_1 := by decide
  gather_S10000x3_S4096x3x1_S4096x3x3_2_0_n_n_0_2_13_wf := by decide

end Cert.Proof

namespace Cert.Proof.Value

open Idealize.ShloMosaic Cert.Pre_nearest_set_apart

/-- The scores as numbers. -/
def scores (v : Vertices) (f : Faces) : Scores := fun j => (-(apart v f (j 0) (j 1)) : EReal)

/-- The centres of all faces, as the programs compute them. -/
abbrev centresOf (v : Vertices) (f : Faces) (hb : (⟨2, ![4096, 3]⟩ : Shape).BroadcastsInDim ⟨3, ![4096, 3, 1]⟩ ![0, 1])
    (he : (⟨0, ![]⟩ : Shape).BroadcastsInDim ⟨2, ![4096, 3]⟩ ![]) (hr : (⟨3, ![4096, 3, 3]⟩ : Shape).ReducesTo [1] ⟨2, ![4096, 3]⟩)
    (hs : 0 < (⟨0, ![]⟩ : Shape).numel) : FVec Ideal ⟨2, ![4096, 3]⟩ .f32 :=
  Host.divf (F := Ideal) (φ := .f32) (Host.reduceAdd (F := Ideal) (t := ⟨2, ![4096, 3]⟩) (axes := [1])
      (Host.gather byVertex v
        (broadcastInDim ⟨3, ![4096, 3, 1]⟩ ![0, 1] hb (wrapped f he))) (constant ⟨0, ![]⟩ .f32 0x00000000#32) hr hs)
      (broadcastInDim ⟨2, ![4096, 3]⟩ ![] he (constant ⟨0, ![]⟩ .f32 0x40400000#32))

theorem scoresOf_centres {v : Vertices} {f : Faces} (h : Named f) (hb) (he) (hr) (hs) (ka) (kb) (kc) (kd) (kr) (ks) :
    scoresOf (centresOf v f hb he hr hs) ka kb kc kd kr ks = scores v f := by
  funext j
  obtain ⟨q, w, rfl⟩ : ∃ q w, j = ix2 q w := ⟨j 0, j 1, eq_ix2 j⟩
  exact scores_eq (fun q k => centres_eq v f h hb he hr hs he q k) _ _ _ _ _ _ q w

theorem fn_eq (v : Vertices) (f : Faces) (p : FVec Ideal S4096 .f32) : fn v f p = fn_part1 (F := Ideal) f
    (scoresOf (centresOf v f Facts.bcast_S4096x3_S4096x3x1_0_1 Facts.bcast_S_S4096x3 Facts.reducesTo_S4096x3x3_S4096x3_d1 Facts.h_S_) Facts.bcast_S4096x3_S4096x1x3_0_2
      Facts.bcast_S4096x3_S1x4096x3_1_2 Facts.bcast_S4096x1x3_S4096x4096x3_0_1_2 Facts.bcast_S1x4096x3_S4096x4096x3_0_1_2 Facts.reducesTo_S4096x4096x3_S4096x4096_d2 Facts.h_S_)
    (Host.topK S4096x21 1 (FloatOps.cmpfTotal (F := Ideal) (φ := .f32) .gt)
      (scoresOf (centresOf v f Facts.bcast_S4096x3_S4096x3x1_0_1 Facts.bcast_S_S4096x3 Facts.reducesTo_S4096x3x3_S4096x3_d1 Facts.h_S_) Facts.bcast_S4096x3_S4096x1x3_0_2
      Facts.bcast_S4096x3_S1x4096x3_1_2 Facts.bcast_S4096x1x3_S4096x4096x3_0_1_2 Facts.bcast_S1x4096x3_S4096x4096x3_0_1_2 Facts.reducesTo_S4096x4096x3_S4096x4096_d2 Facts.h_S_)
      Facts.sliceFits_S4096x4096_S4096x21).1 := rfl

theorem part1_at (f : Faces) (X : Scores) (B : FVec Ideal S4096x21 .f32) (q : Fin 4096) (a : Fin 3) : fn_part1 (F := Ideal) f X B (ix2 q a) =
    IntOp.andi (IntOp.andi (IntOp.cmpi .sge (f (ix2 q a)) 0#32) (IntOp.cmpi .slt (f (ix2 q a)) 10000#32)) (Ideal.cmp .ogt (B (ix2 q 19)) (B (ix2 q 20))) := by
  unfold fn_part1
  pointwise
  rfl

theorem andi_one {a b : BitVec 1} (h : IntOp.andi a b = 1#1) : a = 1#1 ∧ b = 1#1 := by
  revert a b
  decide

variable {v : Vertices} {f : Faces} {p : FVec Ideal S4096 .f32}

theorem named_of_pre (h : fn v f p = fun _ => 1#1) : Named f := fun x => by
  obtain ⟨q, a, rfl⟩ : ∃ q a, x = ix2 q a := ⟨x 0, x 1, eq_ix2 x⟩
  have e := congrFun h (ix2 q a)
  rw [fn_eq, part1_at] at e
  exact word_range _ (andi_one e).1

theorem gap_of_pre (h : fn v f p = fun _ => 1#1) (q : Fin 4096) :
    (scores v f (ix2 q (ranked (scores v f) q 20)) : EReal) < scores v f (ix2 q (ranked (scores v f) q 19)) := by
  have e := congrFun h (ix2 q 0)
  rw [fn_eq, part1_at, scoresOf_centres (named_of_pre h), topK_values _ q (by decide), topK_values _ q (by decide)] at e
  have t := (andi_one e).2
  unfold Ideal.cmp at t
  rw [bool_one] at t
  exact of_decide_eq_true t

end Cert.Proof.Value

end
-- ==== Proof.RefTop.lean ====
/-
  The reference's loss: its indices are the faces of greatest score.
-/
module

public import proofs.«01_k».proof.Proof.RefLoss
public import proofs.«01_k».proof.Proof.Gap

@[expose] public section

set_option maxRecDepth 16384

noncomputable section

namespace Cert.Proof.Value

open Cert.ReferenceIdeal Cert.ReferenceIdeal.Gen Cert.Proof.Ref
open Idealize.ShloMosaic Idealize.ShloMosaic.TcCoe

/-- The faces of greatest score, as words. -/
def best (v : Vertices) (f : Faces) (q : Fin 4096) (n : Fin 20) : BitVec 32 := BitVec.ofNat 32 (ranked (scores v f) q (n.castLE (by decide))).val

theorem best_lt (v : Vertices) (f : Faces) (q : Fin 4096) (n : Fin 20) : (best v f q n).toNat < 4096 := by
  unfold best
  rw [BitVec.toNat_ofNat]
  exact (Nat.mod_le _ _).trans_lt (ranked _ q _).isLt

variable (V : Valuation τ sig (Elt Ideal))

theorem r0_indices (h : Named (V main_arg1)) (q : Fin 4096) (n : Fin 20) :
    (StableHlo.after r0 V main_indices : IVec S4096x20 32) (ix2 q n) = best (V main_arg0) (V main_arg1) q n := by
  unfold r0
  after_results_simp
  refine (topK_indices _ q (by decide) _ n).trans ?_
  unfold best
  rw [← scoresOf_centres h bcast_S4096x3_S4096x3x1_0_1 bcast_S_S4096x3 reducesTo_S4096x3x3_S4096x3_d1 h_S_ bcast_S4096x3_S4096x1x3_0_2 bcast_S4096x3_S1x4096x3_1_2
    bcast_S4096x1x3_S4096x4096x3_0_1_2 bcast_S1x4096x3_S4096x4096x3_0_1_2 reducesTo_S4096x4096x3_S4096x4096_d2 h_S_]
  rfl

/-- The reference's loss, from its arguments. -/
theorem ref_loss (h : Named (V main_arg1)) (j : S_.Idx) :
    (StableHlo.after r3 (StableHlo.after r2c (StableHlo.after c2 (StableHlo.after r2b (StableHlo.after c1 (StableHlo.after r2a (StableHlo.after r1b (StableHlo.after c0
      (StableHlo.after r1a (StableHlo.after r0 V))))))))) main_v161 : FVec Ideal S_ .f32) j
      = lossOf (V main_arg0) (V main_arg1) (V main_arg2) fun q n => row 4095 (best (V main_arg0) (V main_arg1) q n) := by
  refine (loss_eq V h (fun x => ?_) j).trans ?_
  · obtain ⟨q, n, rfl⟩ : ∃ q n, x = ix2 q n := ⟨x 0, x 1, eq_ix2 x⟩
    rw [r0_indices V h]
    exact best_lt _ _ q n
  · refine congrArg (lossOf _ _ _) ?_
    funext q n
    exact congrArg (row 4095) (r0_indices V h q n)

end Cert.Proof.Value

end
-- ==== Proof.Equal.lean ====
/-
  The kernel's loss is the reference's: both add up the same crossings, over the same twenty faces in another order.
-/
module

public import proofs.«01_k».proof.Proof.KerLoss
public import proofs.«01_k».proof.Proof.RefTop

@[expose] public section

set_option maxRecDepth 16384

noncomputable section

namespace Cert.Proof.Knn

open Idealize.ShloMosaic

/-- The choice names faces. -/
theorem Nearest.pick_lt {D : FVec Ideal ⟨1, ![4096]⟩ .f32} {N : Finset ℕ} (h : Nearest D N) {n : ℕ} (hn : n < 20) : (pick D n).toNat < 4096 := by
  have e : pick D n ∈ (Multiset.range 20).map (pick D) := Multiset.mem_map.2 ⟨n, Multiset.mem_range.2 hn, rfl⟩
  rw [h.picks] at e
  obtain ⟨k, hk, e⟩ := Multiset.mem_map.1 e
  rw [← e, BitVec.toNat_ofNat]
  exact (Nat.mod_le _ _).trans_lt (h.lt k hk)

end Cert.Proof.Knn

namespace Cert.Proof.Value

open Cert.Proof.Knn Idealize.ShloMosaic Idealize.ShloMosaic.TcCoe

variable (m : (ℓ : Loc Cert.KernelIdeal.nD Cert.KernelIdeal.τ Cert.KernelIdeal.sig) → Buf (Elt Ideal) ℓ) (d : Dev Cert.KernelIdeal.nD)

/-- The twenty faces of greatest score are the nearest of what the kernel measures. -/
theorem nearest (h : Cert.Pre_nearest_set_apart.fn (argV m d) (argF m d) (argP m d) = fun _ => 1#1) (q : Fin 4096) :
    Nearest ((J m d).D q.val) (first (scores (argV m d) (argF m d)) q) :=
  first_nearest (fun w => (j_told m d (named_of_pre h)).dist q w) (fun _ => rfl) (gap_of_pre h q)

theorem loss_best (h : Cert.Pre_nearest_set_apart.fn (argV m d) (argF m d) (argP m d) = fun _ => 1#1) :
    (lossOf (argV m d) (argF m d) (argP m d) fun q n => row 4095 (pick ((J m d).D q.val) n.val))
      = lossOf (argV m d) (argF m d) (argP m d) fun q n => row 4095 (best (argV m d) (argF m d) q n) := by
  unfold lossOf
  refine Finset.sum_congr rfl fun q _ => ?_
  have e : total (argV m d) (argF m d) q (fun n => row 4095 (pick ((J m d).D q.val) n.val))
      = total (argV m d) (argF m d) q fun n => row 4095 (best (argV m d) (argF m d) q n) :=
    sum_picks (nearest m d h q) fun u => ∑ j : Fin 3, count (argV m d) (argF m d) q (row 4095 u) j
  rw [e]

theorem ker_loss_best (h : Cert.Pre_nearest_set_apart.fn (argV m d) (argF m d) (argP m d) = fun _ => 1#1) (j : Cert.KernelIdeal.S_.Idx) :
    (VD m d (dr Cert.KernelIdeal.main_v68) : FVec Ideal Cert.KernelIdeal.S_ .f32) j
      = lossOf (argV m d) (argF m d) (argP m d) fun q n => row 4095 (best (argV m d) (argF m d) q n) := by
  exact (ker_loss m d (named_of_pre h) (fun q n hn => (nearest m d h q).pick_lt hn) j).trans (loss_best m d h)

end Cert.Proof.Value

namespace Cert.Proof

open Idealize.ShloMosaic Idealize.ShloMosaic.TcCoe Idealize.SL.Sem

theorem good_of_pre (m : (ℓ : Loc Cert.KernelIdeal.nD Cert.KernelIdeal.τ Cert.KernelIdeal.sig) → Buf (Elt Ideal) ℓ) (h : Cert.Pre_KernelIdeal_nearest_set_apart m) : Knn.Good m :=
  fun d x => Value.named_of_pre (h d) x

theorem frame_kernel_apart : Cert.quiescent_KernelIdeal_pre_nearest_set_apart := fun m g hm =>
  (θ_run Cert.KernelIdeal.defs _ _).mono (fun _ h => ⟨fun c => (h.1 c).2, h.2⟩) (Knn.run_ends m g (good_of_pre m hm))

theorem frame_reference_apart : Cert.quiescent_ReferenceIdeal_pre_nearest_set_apart := fun m g _ =>
  (θ_run Cert.ReferenceIdeal.defs _ _).mono (fun _ h => ⟨fun c => (h.1 c).2, h.2⟩) (Ref.run_ends m g)

theorem equal_results : Cert.algebraic_KernelIdeal_ReferenceIdeal_pre_nearest_set_apart := fun m g m' g' hm ha =>
  ⟨fun c => Knn.VD m c (Knn.dr Cert.KernelIdeal.main_v68),
    (θ_run Cert.KernelIdeal.defs _ _).mono (fun _ h c => h.1 c) (Knn.run_ends m g (good_of_pre m hm)),
    (θ_run Cert.ReferenceIdeal.defs _ _).mono (fun _ h c => ⟨(h.1 c).1.trans (by
      obtain ⟨a0, a1, a2⟩ := ha c
      have n := Value.named_of_pre (hm c)
      funext j
      refine Eq.trans ?_ (Value.ker_loss_best m c (hm c) j).symm
      rw [Ref.W_eq]
      refine (Value.ref_loss (StableHlo.launchContents m' c) (by rw [← a1] at n; exact n) j).trans ?_
      show Value.lossOf (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) (fun q n => Value.row 4095
          (Value.best (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1)) q n)) = _
      rw [a0, a1, a2]), (h.1 c).2⟩) (Ref.run_ends m' g')⟩

end Cert.Proof

end
-- ==== Proof.lean ====
module

public import proofs.«01_k».proof.Proof.Equal

@[expose] public section

noncomputable section

namespace Cert.Proof

theorem claim : Cert.Claim :=
  ⟨Cert.Kernel.Gen.facts, Cert.KernelIdeal.Gen.facts, Cert.ReferenceIdeal.Gen.facts, rangeFacts, apartFacts,
    frame_kernel, frame_kernel_ideal, frame_kernel_apart, frame_reference, frame_reference_apart, trivial, equal_results⟩

end Cert.Proof

end
